-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1RefIdeal (m : (ℓ : Loc Cert.Norm1RefIdeal.nD Cert.Norm1RefIdeal.τ Cert.Norm1RefIdeal.sig) → Buf (Elt Ideal) ℓ) : Prop :=
  True

def Pre_Norm2 (m : (ℓ : Loc Cert.Norm2.nD Cert.Norm2.τ Cert.Norm2.sig) → Buf (Elt Bits) ℓ) : Prop :=
  True

def Pre_Norm2Ideal (m : (ℓ : Loc Cert.Norm2Ideal.nD Cert.Norm2Ideal.τ Cert.Norm2Ideal.sig) → Buf (Elt Ideal) ℓ) : Prop :=
  True

def Pre_Norm2RefIdeal (m : (ℓ : Loc Cert.Norm2RefIdeal.nD Cert.Norm2RefIdeal.τ Cert.Norm2RefIdeal.sig) → Buf (Elt Ideal) ℓ) : Prop :=
  True

def Pre_QuantAttn (m : (ℓ : Loc Cert.QuantAttn.nD Cert.QuantAttn.τ Cert.QuantAttn.sig) → Buf (Elt Bits) ℓ) : Prop :=
  True

def Pre_QuantAttnIdeal (m : (ℓ : Loc Cert.QuantAttnIdeal.nD Cert.QuantAttnIdeal.τ Cert.QuantAttnIdeal.sig) → Buf (Elt Ideal) ℓ) : Prop :=
  True

def Pre_QuantAttnRefIdeal (m : (ℓ : Loc Cert.QuantAttnRefIdeal.nD Cert.QuantAttnRefIdeal.τ Cert.QuantAttnRefIdeal.sig) → Buf (Elt Ideal) ℓ) : Prop :=
  True

def Pre_QuantAct (m : (ℓ : Loc Cert.QuantAct.nD Cert.QuantAct.τ Cert.QuantAct.sig) → Buf (Elt Bits) ℓ) : Prop :=
  True

def Pre_QuantActIdeal (m : (ℓ : Loc Cert.QuantActIdeal.nD Cert.QuantActIdeal.τ Cert.QuantActIdeal.sig) → Buf (Elt Ideal) ℓ) : Prop :=
  True

def Pre_QuantActRefIdeal (m : (ℓ : Loc Cert.QuantActRefIdeal.nD Cert.QuantActRefIdeal.τ Cert.QuantActRefIdeal.sig) → Buf (Elt Ideal) ℓ) : Prop :=
  True

def Pre_RopeKv (m : (ℓ : Loc Cert.RopeKv.nD Cert.RopeKv.τ Cert.RopeKv.sig) → Buf (Elt Bits) ℓ) : Prop :=
  True

def Pre_RopeKvIdeal (m : (ℓ : Loc Cert.RopeKvIdeal.nD Cert.RopeKvIdeal.τ Cert.RopeKvIdeal.sig) → Buf (Elt Ideal) ℓ) : Prop :=
  True

def Pre_RopeKvRefIdeal (m : (ℓ : Loc Cert.RopeKvRefIdeal.nD Cert.RopeKvRefIdeal.τ Cert.RopeKvRefIdeal.sig) → Buf (Elt Ideal) ℓ) : Prop :=
  True

def Pre_Attn [hPre_prefix_fits : Cert.Pre_prefix_fits.Facts] (m : (ℓ : Loc Cert.Attn.nD Cert.Attn.τ Cert.Attn.sig) → Buf (Elt Bits) ℓ) : Prop :=
  ∀ c : Dev Cert.Attn.nD,
    (Cert.Pre_prefix_fits.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3)) (m ((c.tc : Thread Cert.Attn.nD Cert.Attn.τ).loc Cert.Attn.main_arg4)) (m ((c.tc : Thread Cert.Attn.nD Cert.Attn.τ).loc Cert.Attn.main_arg5)) (m ((c.tc : Thread Cert.Attn.nD Cert.Attn.τ).loc Cert.Attn.main_arg6)) (m ((c.tc : Thread Cert.Attn.nD Cert.Attn.τ).loc Cert.Attn.main_arg7))) = (fun _ => 1#1)

def Pre_AttnIdeal [hPre_prefix_fits : Cert.Pre_prefix_fits.Facts] (m : (ℓ : Loc Cert.AttnIdeal.nD Cert.AttnIdeal.τ Cert.AttnIdeal.sig) → Buf (Elt Ideal) ℓ) : Prop :=
  ∀ c : Dev Cert.AttnIdeal.nD,
    (Cert.Pre_prefix_fits.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))) = (fun _ => 1#1)

def Pre_AttnRefIdeal [hPre_prefix_fits : Cert.Pre_prefix_fits.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_prefix_fits.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))) = (fun _ => 1#1)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3)
      ∧ r.2.mem ((c.tc : Thread Cert.OProj.nD Cert.OProj.τ).loc Cert.OProj.main_arg4) = m ((c.tc : Thread Cert.OProj.nD Cert.OProj.τ).loc Cert.OProj.main_arg4)
      ∧ r.2.mem ((c.tc : Thread Cert.OProj.nD Cert.OProj.τ).loc Cert.OProj.main_arg5) = m ((c.tc : Thread Cert.OProj.nD Cert.OProj.τ).loc Cert.OProj.main_arg5))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
      ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
      ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2)
      ∧ r.2.mem ((c.tc : Thread Cert.OProjRefIdeal.nD Cert.OProjRefIdeal.τ).loc Cert.OProjRefIdeal.main_arg3) = m ((c.tc : Thread Cert.OProjRefIdeal.nD Cert.OProjRefIdeal.τ).loc Cert.OProjRefIdeal.main_arg3)
      ∧ r.2.mem ((c.tc : Thread Cert.OProjRefIdeal.nD Cert.OProjRefIdeal.τ).loc Cert.OProjRefIdeal.main_arg4) = m ((c.tc : Thread Cert.OProjRefIdeal.nD Cert.OProjRefIdeal.τ).loc Cert.OProjRefIdeal.main_arg4)
      ∧ r.2.mem ((c.tc : Thread Cert.OProjRefIdeal.nD Cert.OProjRefIdeal.τ).loc Cert.OProjRefIdeal.main_arg5) = m ((c.tc : Thread Cert.OProjRefIdeal.nD Cert.OProjRefIdeal.τ).loc Cert.OProjRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1))
      ∧ r.2.sem = fun _ => 0)

def quiescent_Norm1RefIdeal [hNorm1RefIdeal : Cert.Norm1RefIdeal.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1))
      ∧ r.2.sem = fun _ => 0)

def quiescent_Norm2 [hNorm2 : Cert.Norm2.Facts] : Prop :=
  ∀ (m : (ℓ : Loc Cert.Norm2.nD Cert.Norm2.τ Cert.Norm2.sig) → Buf (Elt Bits) ℓ) (g : Dev Cert.Norm2.nD → PrngReg), Pre_Norm2 m →
    θ_run (Cert.Norm2.defs (F := Bits)) (onTc (τ := Cert.Norm2.τ) (Cert.Norm2.main (F := Bits))) ⟨m, fun _ => 0, g⟩ (fun r => (∀ c : Dev Cert.Norm2.nD,
      r.2.mem ((c.tc : Thread Cert.Norm2.nD Cert.Norm2.τ).loc Cert.Norm2.main_arg0) = m ((c.tc : Thread Cert.Norm2.nD Cert.Norm2.τ).loc Cert.Norm2.main_arg0)
      ∧ r.2.mem ((c.tc : Thread Cert.Norm2.nD Cert.Norm2.τ).loc Cert.Norm2.main_arg1) = m ((c.tc : Thread Cert.Norm2.nD Cert.Norm2.τ).loc Cert.Norm2.main_arg1))
      ∧ r.2.sem = fun _ => 0)

def quiescent_Norm2Ideal [hNorm2Ideal : Cert.Norm2Ideal.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1))
      ∧ r.2.sem = fun _ => 0)

def quiescent_Norm2RefIdeal [hNorm2RefIdeal : Cert.Norm2RefIdeal.Facts] : Prop :=
  ∀ (m : (ℓ : Loc Cert.Norm2RefIdeal.nD Cert.Norm2RefIdeal.τ Cert.Norm2RefIdeal.sig) → Buf (Elt Ideal) ℓ) (g : Dev Cert.Norm2RefIdeal.nD → PrngReg), Pre_Norm2RefIdeal m →
    θ_run (Cert.Norm2RefIdeal.defs (F := Ideal)) (onTc (τ := Cert.Norm2RefIdeal.τ) (Cert.Norm2RefIdeal.main (F := Ideal))) ⟨m, fun _ => 0, g⟩ (fun r => (∀ c : Dev Cert.Norm2RefIdeal.nD,
      r.2.mem ((c.tc : Thread Cert.Norm2RefIdeal.nD Cert.Norm2RefIdeal.τ).loc Cert.Norm2RefIdeal.main_arg0) = m ((c.tc : Thread Cert.Norm2RefIdeal.nD Cert.Norm2RefIdeal.τ).loc Cert.Norm2RefIdeal.main_arg0)
      ∧ r.2.mem ((c.tc : Thread Cert.Norm2RefIdeal.nD Cert.Norm2RefIdeal.τ).loc Cert.Norm2RefIdeal.main_arg1) = m ((c.tc : Thread Cert.Norm2RefIdeal.nD Cert.Norm2RefIdeal.τ).loc Cert.Norm2RefIdeal.main_arg1))
      ∧ r.2.sem = fun _ => 0)

def quiescent_QuantAttn [hQuantAttn : Cert.QuantAttn.Facts] : Prop :=
  ∀ (m : (ℓ : Loc Cert.QuantAttn.nD Cert.QuantAttn.τ Cert.QuantAttn.sig) → Buf (Elt Bits) ℓ) (g : Dev Cert.QuantAttn.nD → PrngReg), Pre_QuantAttn m →
    θ_run (Cert.QuantAttn.defs (F := Bits)) (onTc (τ := Cert.QuantAttn.τ) (Cert.QuantAttn.main (F := Bits))) ⟨m, fun _ => 0, g⟩ (fun r => (∀ c : Dev Cert.QuantAttn.nD,
      r.2.mem ((c.tc : Thread Cert.QuantAttn.nD Cert.QuantAttn.τ).loc Cert.QuantAttn.main_arg0) = m ((c.tc : Thread Cert.QuantAttn.nD Cert.QuantAttn.τ).loc Cert.QuantAttn.main_arg0))
      ∧ r.2.sem = fun _ => 0)

def quiescent_QuantAttnIdeal [hQuantAttnIdeal : Cert.QuantAttnIdeal.Facts] : Prop :=
  ∀ (m : (ℓ : Loc Cert.QuantAttnIdeal.nD Cert.QuantAttnIdeal.τ Cert.QuantAttnIdeal.sig) → Buf (Elt Ideal) ℓ) (g : Dev Cert.QuantAttnIdeal.nD → PrngReg), Pre_QuantAttnIdeal m →
    θ_run (Cert.QuantAttnIdeal.defs (F := Ideal)) (onTc (τ := Cert.QuantAttnIdeal.τ) (Cert.QuantAttnIdeal.main (F := Ideal))) ⟨m, fun _ => 0, g⟩ (fun r => (∀ c : Dev Cert.QuantAttnIdeal.nD,
      r.2.mem ((c.tc : Thread Cert.QuantAttnIdeal.nD Cert.QuantAttnIdeal.τ).loc Cert.QuantAttnIdeal.main_arg0) = m ((c.tc : Thread Cert.QuantAttnIdeal.nD Cert.QuantAttnIdeal.τ).loc Cert.QuantAttnIdeal.main_arg0))
      ∧ r.2.sem = fun _ => 0)

def quiescent_QuantAttnRefIdeal [hQuantAttnRefIdeal : Cert.QuantAttnRefIdeal.Facts] : Prop :=
  ∀ (m : (ℓ : Loc Cert.QuantAttnRefIdeal.nD Cert.QuantAttnRefIdeal.τ Cert.QuantAttnRefIdeal.sig) → Buf (Elt Ideal) ℓ) (g : Dev Cert.QuantAttnRefIdeal.nD → PrngReg), Pre_QuantAttnRefIdeal m →
    θ_run (Cert.QuantAttnRefIdeal.defs (F := Ideal)) (onTc (τ := Cert.QuantAttnRefIdeal.τ) (Cert.QuantAttnRefIdeal.main (F := Ideal))) ⟨m, fun _ => 0, g⟩ (fun r => (∀ c : Dev Cert.QuantAttnRefIdeal.nD,
      r.2.mem ((c.tc : Thread Cert.QuantAttnRefIdeal.nD Cert.QuantAttnRefIdeal.τ).loc Cert.QuantAttnRefIdeal.main_arg0) = m ((c.tc : Thread Cert.QuantAttnRefIdeal.nD Cert.QuantAttnRefIdeal.τ).loc Cert.QuantAttnRefIdeal.main_arg0))
      ∧ r.2.sem = fun _ => 0)

def quiescent_QuantAct [hQuantAct : Cert.QuantAct.Facts] : Prop :=
  ∀ (m : (ℓ : Loc Cert.QuantAct.nD Cert.QuantAct.τ Cert.QuantAct.sig) → Buf (Elt Bits) ℓ) (g : Dev Cert.QuantAct.nD → PrngReg), Pre_QuantAct m →
    θ_run (Cert.QuantAct.defs (F := Bits)) (onTc (τ := Cert.QuantAct.τ) (Cert.QuantAct.main (F := Bits))) ⟨m, fun _ => 0, g⟩ (fun r => (∀ c : Dev Cert.QuantAct.nD,
      r.2.mem ((c.tc : Thread Cert.QuantAct.nD Cert.QuantAct.τ).loc Cert.QuantAct.main_arg0) = m ((c.tc : Thread Cert.QuantAct.nD Cert.QuantAct.τ).loc Cert.QuantAct.main_arg0))
      ∧ r.2.sem = fun _ => 0)

def quiescent_QuantActIdeal [hQuantActIdeal : Cert.QuantActIdeal.Facts] : Prop :=
  ∀ (m : (ℓ : Loc Cert.QuantActIdeal.nD Cert.QuantActIdeal.τ Cert.QuantActIdeal.sig) → Buf (Elt Ideal) ℓ) (g : Dev Cert.QuantActIdeal.nD → PrngReg), Pre_QuantActIdeal m →
    θ_run (Cert.QuantActIdeal.defs (F := Ideal)) (onTc (τ := Cert.QuantActIdeal.τ) (Cert.QuantActIdeal.main (F := Ideal))) ⟨m, fun _ => 0, g⟩ (fun r => (∀ c : Dev Cert.QuantActIdeal.nD,
      r.2.mem ((c.tc : Thread Cert.QuantActIdeal.nD Cert.QuantActIdeal.τ).loc Cert.QuantActIdeal.main_arg0) = m ((c.tc : Thread Cert.QuantActIdeal.nD Cert.QuantActIdeal.τ).loc Cert.QuantActIdeal.main_arg0))
      ∧ r.2.sem = fun _ => 0)

def quiescent_QuantActRefIdeal [hQuantActRefIdeal : Cert.QuantActRefIdeal.Facts] : Prop :=
  ∀ (m : (ℓ : Loc Cert.QuantActRefIdeal.nD Cert.QuantActRefIdeal.τ Cert.QuantActRefIdeal.sig) → Buf (Elt Ideal) ℓ) (g : Dev Cert.QuantActRefIdeal.nD → PrngReg), Pre_QuantActRefIdeal m →
    θ_run (Cert.QuantActRefIdeal.defs (F := Ideal)) (onTc (τ := Cert.QuantActRefIdeal.τ) (Cert.QuantActRefIdeal.main (F := Ideal))) ⟨m, fun _ => 0, g⟩ (fun r => (∀ c : Dev Cert.QuantActRefIdeal.nD,
      r.2.mem ((c.tc : Thread Cert.QuantActRefIdeal.nD Cert.QuantActRefIdeal.τ).loc Cert.QuantActRefIdeal.main_arg0) = m ((c.tc : Thread Cert.QuantActRefIdeal.nD Cert.QuantActRefIdeal.τ).loc Cert.QuantActRefIdeal.main_arg0))
      ∧ r.2.sem = fun _ => 0)

def quiescent_RopeKv [hRopeKv : Cert.RopeKv.Facts] : Prop :=
  ∀ (m : (ℓ : Loc Cert.RopeKv.nD Cert.RopeKv.τ Cert.RopeKv.sig) → Buf (Elt Bits) ℓ) (g : Dev Cert.RopeKv.nD → PrngReg), Pre_RopeKv m →
    θ_run (Cert.RopeKv.defs (F := Bits)) (onTc (τ := Cert.RopeKv.τ) (Cert.RopeKv.main (F := Bits))) ⟨m, fun _ => 0, g⟩ (fun r => (∀ c : Dev Cert.RopeKv.nD,
      r.2.mem ((c.tc : Thread Cert.RopeKv.nD Cert.RopeKv.τ).loc Cert.RopeKv.main_arg0) = m ((c.tc : Thread Cert.RopeKv.nD Cert.RopeKv.τ).loc Cert.RopeKv.main_arg0)
      ∧ r.2.mem ((c.tc : Thread Cert.RopeKv.nD Cert.RopeKv.τ).loc Cert.RopeKv.main_arg1) = m ((c.tc : Thread Cert.RopeKv.nD Cert.RopeKv.τ).loc Cert.RopeKv.main_arg1)
      ∧ r.2.mem ((c.tc : Thread Cert.RopeKv.nD Cert.RopeKv.τ).loc Cert.RopeKv.main_arg2) = m ((c.tc : Thread Cert.RopeKv.nD Cert.RopeKv.τ).loc Cert.RopeKv.main_arg2)
      ∧ r.2.mem ((c.tc : Thread Cert.RopeKv.nD Cert.RopeKv.τ).loc Cert.RopeKv.main_arg3) = m ((c.tc : Thread Cert.RopeKv.nD Cert.RopeKv.τ).loc Cert.RopeKv.main_arg3)
      ∧ r.2.mem ((c.tc : Thread Cert.RopeKv.nD Cert.RopeKv.τ).loc Cert.RopeKv.main_arg4) = m ((c.tc : Thread Cert.RopeKv.nD Cert.RopeKv.τ).loc Cert.RopeKv.main_arg4))
      ∧ r.2.sem = fun _ => 0)

def quiescent_RopeKvIdeal [hRopeKvIdeal : Cert.RopeKvIdeal.Facts] : Prop :=
  ∀ (m : (ℓ : Loc Cert.RopeKvIdeal.nD Cert.RopeKvIdeal.τ Cert.RopeKvIdeal.sig) → Buf (Elt Ideal) ℓ) (g : Dev Cert.RopeKvIdeal.nD → PrngReg), Pre_RopeKvIdeal m →
    θ_run (Cert.RopeKvIdeal.defs (F := Ideal)) (onTc (τ := Cert.RopeKvIdeal.τ) (Cert.RopeKvIdeal.main (F := Ideal))) ⟨m, fun _ => 0, g⟩ (fun r => (∀ c : Dev Cert.RopeKvIdeal.nD,
      r.2.mem ((c.tc : Thread Cert.RopeKvIdeal.nD Cert.RopeKvIdeal.τ).loc Cert.RopeKvIdeal.main_arg0) = m ((c.tc : Thread Cert.RopeKvIdeal.nD Cert.RopeKvIdeal.τ).loc Cert.RopeKvIdeal.main_arg0)
      ∧ r.2.mem ((c.tc : Thread Cert.RopeKvIdeal.nD Cert.RopeKvIdeal.τ).loc Cert.RopeKvIdeal.main_arg1) = m ((c.tc : Thread Cert.RopeKvIdeal.nD Cert.RopeKvIdeal.τ).loc Cert.RopeKvIdeal.main_arg1)
      ∧ r.2.mem ((c.tc : Thread Cert.RopeKvIdeal.nD Cert.RopeKvIdeal.τ).loc Cert.RopeKvIdeal.main_arg2) = m ((c.tc : Thread Cert.RopeKvIdeal.nD Cert.RopeKvIdeal.τ).loc Cert.RopeKvIdeal.main_arg2)
      ∧ r.2.mem ((c.tc : Thread Cert.RopeKvIdeal.nD Cert.RopeKvIdeal.τ).loc Cert.RopeKvIdeal.main_arg3) = m ((c.tc : Thread Cert.RopeKvIdeal.nD Cert.RopeKvIdeal.τ).loc Cert.RopeKvIdeal.main_arg3)
      ∧ r.2.mem ((c.tc : Thread Cert.RopeKvIdeal.nD Cert.RopeKvIdeal.τ).loc Cert.RopeKvIdeal.main_arg4) = m ((c.tc : Thread Cert.RopeKvIdeal.nD Cert.RopeKvIdeal.τ).loc Cert.RopeKvIdeal.main_arg4))
      ∧ r.2.sem = fun _ => 0)

def quiescent_RopeKvRefIdeal [hRopeKvRefIdeal : Cert.RopeKvRefIdeal.Facts] : Prop :=
  ∀ (m : (ℓ : Loc Cert.RopeKvRefIdeal.nD Cert.RopeKvRefIdeal.τ Cert.RopeKvRefIdeal.sig) → Buf (Elt Ideal) ℓ) (g : Dev Cert.RopeKvRefIdeal.nD → PrngReg), Pre_RopeKvRefIdeal m →
    θ_run (Cert.RopeKvRefIdeal.defs (F := Ideal)) (onTc (τ := Cert.RopeKvRefIdeal.τ) (Cert.RopeKvRefIdeal.main (F := Ideal))) ⟨m, fun _ => 0, g⟩ (fun r => (∀ c : Dev Cert.RopeKvRefIdeal.nD,
      r.2.mem ((c.tc : Thread Cert.RopeKvRefIdeal.nD Cert.RopeKvRefIdeal.τ).loc Cert.RopeKvRefIdeal.main_arg0) = m ((c.tc : Thread Cert.RopeKvRefIdeal.nD Cert.RopeKvRefIdeal.τ).loc Cert.RopeKvRefIdeal.main_arg0)
      ∧ r.2.mem ((c.tc : Thread Cert.RopeKvRefIdeal.nD Cert.RopeKvRefIdeal.τ).loc Cert.RopeKvRefIdeal.main_arg1) = m ((c.tc : Thread Cert.RopeKvRefIdeal.nD Cert.RopeKvRefIdeal.τ).loc Cert.RopeKvRefIdeal.main_arg1)
      ∧ r.2.mem ((c.tc : Thread Cert.RopeKvRefIdeal.nD Cert.RopeKvRefIdeal.τ).loc Cert.RopeKvRefIdeal.main_arg2) = m ((c.tc : Thread Cert.RopeKvRefIdeal.nD Cert.RopeKvRefIdeal.τ).loc Cert.RopeKvRefIdeal.main_arg2)
      ∧ r.2.mem ((c.tc : Thread Cert.RopeKvRefIdeal.nD Cert.RopeKvRefIdeal.τ).loc Cert.RopeKvRefIdeal.main_arg3) = m ((c.tc : Thread Cert.RopeKvRefIdeal.nD Cert.RopeKvRefIdeal.τ).loc Cert.RopeKvRefIdeal.main_arg3)
      ∧ r.2.mem ((c.tc : Thread Cert.RopeKvRefIdeal.nD Cert.RopeKvRefIdeal.τ).loc Cert.RopeKvRefIdeal.main_arg4) = m ((c.tc : Thread Cert.RopeKvRefIdeal.nD Cert.RopeKvRefIdeal.τ).loc Cert.RopeKvRefIdeal.main_arg4))
      ∧ r.2.sem = fun _ => 0)

def quiescent_Attn [hAttn : Cert.Attn.Facts] [hPre_prefix_fits : Cert.Pre_prefix_fits.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] [hPre_prefix_fits : Cert.Pre_prefix_fits.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] [hPre_prefix_fits : Cert.Pre_prefix_fits.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)) →
    ∃ (v0 : (c : Dev Cert.GateUpIdeal.nD) → Buf (Elt Ideal) ((c.tc : Thread Cert.GateUpIdeal.nD Cert.GateUpIdeal.τ).loc Cert.GateUpIdeal.main_v1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v1) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v1) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)
      ∧ m' ((c.tc : Thread Cert.OProjRefIdeal.nD Cert.OProjRefIdeal.τ).loc Cert.OProjRefIdeal.main_arg3) = m ((c.tc : Thread Cert.OProjIdeal.nD Cert.OProjIdeal.τ).loc Cert.OProjIdeal.main_arg3)
      ∧ m' ((c.tc : Thread Cert.OProjRefIdeal.nD Cert.OProjRefIdeal.τ).loc Cert.OProjRefIdeal.main_arg4) = m ((c.tc : Thread Cert.OProjIdeal.nD Cert.OProjIdeal.τ).loc Cert.OProjIdeal.main_arg4)
      ∧ m' ((c.tc : Thread Cert.OProjRefIdeal.nD Cert.OProjRefIdeal.τ).loc Cert.OProjRefIdeal.main_arg5) = m ((c.tc : Thread Cert.OProjIdeal.nD Cert.OProjIdeal.τ).loc Cert.OProjIdeal.main_arg5)) →
    ∃ (v0 : (c : Dev Cert.OProjIdeal.nD) → Buf (Elt Ideal) ((c.tc : Thread Cert.OProjIdeal.nD Cert.OProjIdeal.τ).loc Cert.OProjIdeal.main_v1)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v1) = v0 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
          ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
          ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v1) = v0 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2)
          ∧ r.2.mem ((c.tc : Thread Cert.OProjRefIdeal.nD Cert.OProjRefIdeal.τ).loc Cert.OProjRefIdeal.main_arg3) = m' ((c.tc : Thread Cert.OProjRefIdeal.nD Cert.OProjRefIdeal.τ).loc Cert.OProjRefIdeal.main_arg3)
          ∧ r.2.mem ((c.tc : Thread Cert.OProjRefIdeal.nD Cert.OProjRefIdeal.τ).loc Cert.OProjRefIdeal.main_arg4) = m' ((c.tc : Thread Cert.OProjRefIdeal.nD Cert.OProjRefIdeal.τ).loc Cert.OProjRefIdeal.main_arg4)
          ∧ r.2.mem ((c.tc : Thread Cert.OProjRefIdeal.nD Cert.OProjRefIdeal.τ).loc Cert.OProjRefIdeal.main_arg5) = m' ((c.tc : Thread Cert.OProjRefIdeal.nD Cert.OProjRefIdeal.τ).loc Cert.OProjRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v1) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v1) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4))

def preserves_Norm1_Norm1Ideal : Prop :=
  True

def algebraic_Norm1Ideal_Norm1RefIdeal [hNorm1Ideal : Cert.Norm1Ideal.Facts] [hNorm1RefIdeal : Cert.Norm1RefIdeal.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1RefIdeal.nD Cert.Norm1RefIdeal.τ Cert.Norm1RefIdeal.sig) → Buf (Elt Ideal) ℓ) (g' : Dev Cert.Norm1RefIdeal.nD → PrngReg), Pre_Norm1Ideal m →
    (∀ c : Dev Cert.Norm1Ideal.nD,
      m' ((c.tc : Thread Cert.Norm1RefIdeal.nD Cert.Norm1RefIdeal.τ).loc Cert.Norm1RefIdeal.main_arg0) = m ((c.tc : Thread Cert.Norm1Ideal.nD Cert.Norm1Ideal.τ).loc Cert.Norm1Ideal.main_arg0)
      ∧ m' ((c.tc : Thread Cert.Norm1RefIdeal.nD Cert.Norm1RefIdeal.τ).loc Cert.Norm1RefIdeal.main_arg1) = m ((c.tc : Thread Cert.Norm1Ideal.nD Cert.Norm1Ideal.τ).loc Cert.Norm1Ideal.main_arg1)) →
    ∃ (v0 : (c : Dev Cert.Norm1Ideal.nD) → Buf (Elt Ideal) ((c.tc : Thread Cert.Norm1Ideal.nD Cert.Norm1Ideal.τ).loc Cert.Norm1Ideal.main_v1_0)) (v1 : (c : Dev Cert.Norm1Ideal.nD) → Buf (Elt Ideal) ((c.tc : Thread Cert.Norm1Ideal.nD Cert.Norm1Ideal.τ).loc Cert.Norm1Ideal.main_v1_1)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v1_0) = v0 c
          ∧ r.2.mem ((c.tc : Thread Cert.Norm1Ideal.nD Cert.Norm1Ideal.τ).loc Cert.Norm1Ideal.main_v1_1) = v1 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1))
      ∧ θ_run (Cert.Norm1RefIdeal.defs (F := Ideal)) (onTc (τ := Cert.Norm1RefIdeal.τ) (Cert.Norm1RefIdeal.main (F := Ideal))) ⟨m', fun _ => 0, g'⟩ (fun r => ∀ c : Dev Cert.Norm1RefIdeal.nD,
          r.2.mem ((c.tc : Thread Cert.Norm1RefIdeal.nD Cert.Norm1RefIdeal.τ).loc Cert.Norm1RefIdeal.main_v1_0) = v0 c
          ∧ r.2.mem ((c.tc : Thread Cert.Norm1RefIdeal.nD Cert.Norm1RefIdeal.τ).loc Cert.Norm1RefIdeal.main_v1_1) = v1 c
          ∧ r.2.mem ((c.tc : Thread Cert.Norm1RefIdeal.nD Cert.Norm1RefIdeal.τ).loc Cert.Norm1RefIdeal.main_arg0) = m' ((c.tc : Thread Cert.Norm1RefIdeal.nD Cert.Norm1RefIdeal.τ).loc Cert.Norm1RefIdeal.main_arg0)
          ∧ r.2.mem ((c.tc : Thread Cert.Norm1RefIdeal.nD Cert.Norm1RefIdeal.τ).loc Cert.Norm1RefIdeal.main_arg1) = m' ((c.tc : Thread Cert.Norm1RefIdeal.nD Cert.Norm1RefIdeal.τ).loc Cert.Norm1RefIdeal.main_arg1))

def preserves_Norm2_Norm2Ideal : Prop :=
  True

def algebraic_Norm2Ideal_Norm2RefIdeal [hNorm2Ideal : Cert.Norm2Ideal.Facts] [hNorm2RefIdeal : Cert.Norm2RefIdeal.Facts] : Prop :=
  ∀ (m : (ℓ : Loc Cert.Norm2Ideal.nD Cert.Norm2Ideal.τ Cert.Norm2Ideal.sig) → Buf (Elt Ideal) ℓ) (g : Dev Cert.Norm2Ideal.nD → PrngReg)
    (m' : (ℓ : Loc Cert.Norm2RefIdeal.nD Cert.Norm2RefIdeal.τ Cert.Norm2RefIdeal.sig) → Buf (Elt Ideal) ℓ) (g' : Dev Cert.Norm2RefIdeal.nD → PrngReg), Pre_Norm2Ideal m →
    (∀ c : Dev Cert.Norm2Ideal.nD,
      m' ((c.tc : Thread Cert.Norm2RefIdeal.nD Cert.Norm2RefIdeal.τ).loc Cert.Norm2RefIdeal.main_arg0) = m ((c.tc : Thread Cert.Norm2Ideal.nD Cert.Norm2Ideal.τ).loc Cert.Norm2Ideal.main_arg0)
      ∧ m' ((c.tc : Thread Cert.Norm2RefIdeal.nD Cert.Norm2RefIdeal.τ).loc Cert.Norm2RefIdeal.main_arg1) = m ((c.tc : Thread Cert.Norm2Ideal.nD Cert.Norm2Ideal.τ).loc Cert.Norm2Ideal.main_arg1)) →
    ∃ (v0 : (c : Dev Cert.Norm2Ideal.nD) → Buf (Elt Ideal) ((c.tc : Thread Cert.Norm2Ideal.nD Cert.Norm2Ideal.τ).loc Cert.Norm2Ideal.main_v1_0)) (v1 : (c : Dev Cert.Norm2Ideal.nD) → Buf (Elt Ideal) ((c.tc : Thread Cert.Norm2Ideal.nD Cert.Norm2Ideal.τ).loc Cert.Norm2Ideal.main_v1_1)),
      θ_run (Cert.Norm2Ideal.defs (F := Ideal)) (onTc (τ := Cert.Norm2Ideal.τ) (Cert.Norm2Ideal.main (F := Ideal))) ⟨m, fun _ => 0, g⟩ (fun r => ∀ c : Dev Cert.Norm2Ideal.nD,
          r.2.mem ((c.tc : Thread Cert.Norm2Ideal.nD Cert.Norm2Ideal.τ).loc Cert.Norm2Ideal.main_v1_0) = v0 c
          ∧ r.2.mem ((c.tc : Thread Cert.Norm2Ideal.nD Cert.Norm2Ideal.τ).loc Cert.Norm2Ideal.main_v1_1) = v1 c
          ∧ r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
          ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1))
      ∧ θ_run (Cert.Norm2RefIdeal.defs (F := Ideal)) (onTc (τ := Cert.Norm2RefIdeal.τ) (Cert.Norm2RefIdeal.main (F := Ideal))) ⟨m', fun _ => 0, g'⟩ (fun r => ∀ c : Dev Cert.Norm2RefIdeal.nD,
          r.2.mem ((c.tc : Thread Cert.Norm2RefIdeal.nD Cert.Norm2RefIdeal.τ).loc Cert.Norm2RefIdeal.main_v1_0) = v0 c
          ∧ r.2.mem ((c.tc : Thread Cert.Norm2RefIdeal.nD Cert.Norm2RefIdeal.τ).loc Cert.Norm2RefIdeal.main_v1_1) = v1 c
          ∧ r.2.mem ((c.tc : Thread Cert.Norm2RefIdeal.nD Cert.Norm2RefIdeal.τ).loc Cert.Norm2RefIdeal.main_arg0) = m' ((c.tc : Thread Cert.Norm2RefIdeal.nD Cert.Norm2RefIdeal.τ).loc Cert.Norm2RefIdeal.main_arg0)
          ∧ r.2.mem ((c.tc : Thread Cert.Norm2RefIdeal.nD Cert.Norm2RefIdeal.τ).loc Cert.Norm2RefIdeal.main_arg1) = m' ((c.tc : Thread Cert.Norm2RefIdeal.nD Cert.Norm2RefIdeal.τ).loc Cert.Norm2RefIdeal.main_arg1))

def preserves_QuantAttn_QuantAttnIdeal : Prop :=
  True

def algebraic_QuantAttnIdeal_QuantAttnRefIdeal [hQuantAttnIdeal : Cert.QuantAttnIdeal.Facts] [hQuantAttnRefIdeal : Cert.QuantAttnRefIdeal.Facts] : Prop :=
  ∀ (m : (ℓ : Loc Cert.QuantAttnIdeal.nD Cert.QuantAttnIdeal.τ Cert.QuantAttnIdeal.sig) → Buf (Elt Ideal) ℓ) (g : Dev Cert.QuantAttnIdeal.nD → PrngReg)
    (m' : (ℓ : Loc Cert.QuantAttnRefIdeal.nD Cert.QuantAttnRefIdeal.τ Cert.QuantAttnRefIdeal.sig) → Buf (Elt Ideal) ℓ) (g' : Dev Cert.QuantAttnRefIdeal.nD → PrngReg), Pre_QuantAttnIdeal m →
    (∀ c : Dev Cert.QuantAttnIdeal.nD,
      m' ((c.tc : Thread Cert.QuantAttnRefIdeal.nD Cert.QuantAttnRefIdeal.τ).loc Cert.QuantAttnRefIdeal.main_arg0) = m ((c.tc : Thread Cert.QuantAttnIdeal.nD Cert.QuantAttnIdeal.τ).loc Cert.QuantAttnIdeal.main_arg0)) →
    ∃ (v0 : (c : Dev Cert.QuantAttnIdeal.nD) → Buf (Elt Ideal) ((c.tc : Thread Cert.QuantAttnIdeal.nD Cert.QuantAttnIdeal.τ).loc Cert.QuantAttnIdeal.main_v0_0)) (v1 : (c : Dev Cert.QuantAttnIdeal.nD) → Buf (Elt Ideal) ((c.tc : Thread Cert.QuantAttnIdeal.nD Cert.QuantAttnIdeal.τ).loc Cert.QuantAttnIdeal.main_v0_1)),
      θ_run (Cert.QuantAttnIdeal.defs (F := Ideal)) (onTc (τ := Cert.QuantAttnIdeal.τ) (Cert.QuantAttnIdeal.main (F := Ideal))) ⟨m, fun _ => 0, g⟩ (fun r => ∀ c : Dev Cert.QuantAttnIdeal.nD,
          r.2.mem ((c.tc : Thread Cert.QuantAttnIdeal.nD Cert.QuantAttnIdeal.τ).loc Cert.QuantAttnIdeal.main_v0_0) = v0 c
          ∧ r.2.mem ((c.tc : Thread Cert.QuantAttnIdeal.nD Cert.QuantAttnIdeal.τ).loc Cert.QuantAttnIdeal.main_v0_1) = v1 c
          ∧ r.2.mem ((c.tc : Thread Cert.QuantAttnIdeal.nD Cert.QuantAttnIdeal.τ).loc Cert.QuantAttnIdeal.main_arg0) = m ((c.tc : Thread Cert.QuantAttnIdeal.nD Cert.QuantAttnIdeal.τ).loc Cert.QuantAttnIdeal.main_arg0))
      ∧ θ_run (Cert.QuantAttnRefIdeal.defs (F := Ideal)) (onTc (τ := Cert.QuantAttnRefIdeal.τ) (Cert.QuantAttnRefIdeal.main (F := Ideal))) ⟨m', fun _ => 0, g'⟩ (fun r => ∀ c : Dev Cert.QuantAttnRefIdeal.nD,
          r.2.mem ((c.tc : Thread Cert.QuantAttnRefIdeal.nD Cert.QuantAttnRefIdeal.τ).loc Cert.QuantAttnRefIdeal.main_v0_0) = v0 c
          ∧ r.2.mem ((c.tc : Thread Cert.QuantAttnRefIdeal.nD Cert.QuantAttnRefIdeal.τ).loc Cert.QuantAttnRefIdeal.main_v0_1) = v1 c
          ∧ r.2.mem ((c.tc : Thread Cert.QuantAttnRefIdeal.nD Cert.QuantAttnRefIdeal.τ).loc Cert.QuantAttnRefIdeal.main_arg0) = m' ((c.tc : Thread Cert.QuantAttnRefIdeal.nD Cert.QuantAttnRefIdeal.τ).loc Cert.QuantAttnRefIdeal.main_arg0))

def preserves_QuantAct_QuantActIdeal : Prop :=
  True

def algebraic_QuantActIdeal_QuantActRefIdeal [hQuantActIdeal : Cert.QuantActIdeal.Facts] [hQuantActRefIdeal : Cert.QuantActRefIdeal.Facts] : Prop :=
  ∀ (m : (ℓ : Loc Cert.QuantActIdeal.nD Cert.QuantActIdeal.τ Cert.QuantActIdeal.sig) → Buf (Elt Ideal) ℓ) (g : Dev Cert.QuantActIdeal.nD → PrngReg)
    (m' : (ℓ : Loc Cert.QuantActRefIdeal.nD Cert.QuantActRefIdeal.τ Cert.QuantActRefIdeal.sig) → Buf (Elt Ideal) ℓ) (g' : Dev Cert.QuantActRefIdeal.nD → PrngReg), Pre_QuantActIdeal m →
    (∀ c : Dev Cert.QuantActIdeal.nD,
      m' ((c.tc : Thread Cert.QuantActRefIdeal.nD Cert.QuantActRefIdeal.τ).loc Cert.QuantActRefIdeal.main_arg0) = m ((c.tc : Thread Cert.QuantActIdeal.nD Cert.QuantActIdeal.τ).loc Cert.QuantActIdeal.main_arg0)) →
    ∃ (v0 : (c : Dev Cert.QuantActIdeal.nD) → Buf (Elt Ideal) ((c.tc : Thread Cert.QuantActIdeal.nD Cert.QuantActIdeal.τ).loc Cert.QuantActIdeal.main_v0_0)) (v1 : (c : Dev Cert.QuantActIdeal.nD) → Buf (Elt Ideal) ((c.tc : Thread Cert.QuantActIdeal.nD Cert.QuantActIdeal.τ).loc Cert.QuantActIdeal.main_v0_1)),
      θ_run (Cert.QuantActIdeal.defs (F := Ideal)) (onTc (τ := Cert.QuantActIdeal.τ) (Cert.QuantActIdeal.main (F := Ideal))) ⟨m, fun _ => 0, g⟩ (fun r => ∀ c : Dev Cert.QuantActIdeal.nD,
          r.2.mem ((c.tc : Thread Cert.QuantActIdeal.nD Cert.QuantActIdeal.τ).loc Cert.QuantActIdeal.main_v0_0) = v0 c
          ∧ r.2.mem ((c.tc : Thread Cert.QuantActIdeal.nD Cert.QuantActIdeal.τ).loc Cert.QuantActIdeal.main_v0_1) = v1 c
          ∧ r.2.mem ((c.tc : Thread Cert.QuantActIdeal.nD Cert.QuantActIdeal.τ).loc Cert.QuantActIdeal.main_arg0) = m ((c.tc : Thread Cert.QuantActIdeal.nD Cert.QuantActIdeal.τ).loc Cert.QuantActIdeal.main_arg0))
      ∧ θ_run (Cert.QuantActRefIdeal.defs (F := Ideal)) (onTc (τ := Cert.QuantActRefIdeal.τ) (Cert.QuantActRefIdeal.main (F := Ideal))) ⟨m', fun _ => 0, g'⟩ (fun r => ∀ c : Dev Cert.QuantActRefIdeal.nD,
          r.2.mem ((c.tc : Thread Cert.QuantActRefIdeal.nD Cert.QuantActRefIdeal.τ).loc Cert.QuantActRefIdeal.main_v0_0) = v0 c
          ∧ r.2.mem ((c.tc : Thread Cert.QuantActRefIdeal.nD Cert.QuantActRefIdeal.τ).loc Cert.QuantActRefIdeal.main_v0_1) = v1 c
          ∧ r.2.mem ((c.tc : Thread Cert.QuantActRefIdeal.nD Cert.QuantActRefIdeal.τ).loc Cert.QuantActRefIdeal.main_arg0) = m' ((c.tc : Thread Cert.QuantActRefIdeal.nD Cert.QuantActRefIdeal.τ).loc Cert.QuantActRefIdeal.main_arg0))

def preserves_RopeKv_RopeKvIdeal : Prop :=
  True

def algebraic_RopeKvIdeal_RopeKvRefIdeal [hRopeKvIdeal : Cert.RopeKvIdeal.Facts] [hRopeKvRefIdeal : Cert.RopeKvRefIdeal.Facts] : Prop :=
  ∀ (m : (ℓ : Loc Cert.RopeKvIdeal.nD Cert.RopeKvIdeal.τ Cert.RopeKvIdeal.sig) → Buf (Elt Ideal) ℓ) (g : Dev Cert.RopeKvIdeal.nD → PrngReg)
    (m' : (ℓ : Loc Cert.RopeKvRefIdeal.nD Cert.RopeKvRefIdeal.τ Cert.RopeKvRefIdeal.sig) → Buf (Elt Ideal) ℓ) (g' : Dev Cert.RopeKvRefIdeal.nD → PrngReg), Pre_RopeKvIdeal m →
    (∀ c : Dev Cert.RopeKvIdeal.nD,
      m' ((c.tc : Thread Cert.RopeKvRefIdeal.nD Cert.RopeKvRefIdeal.τ).loc Cert.RopeKvRefIdeal.main_arg0) = m ((c.tc : Thread Cert.RopeKvIdeal.nD Cert.RopeKvIdeal.τ).loc Cert.RopeKvIdeal.main_arg0)
      ∧ m' ((c.tc : Thread Cert.RopeKvRefIdeal.nD Cert.RopeKvRefIdeal.τ).loc Cert.RopeKvRefIdeal.main_arg1) = m ((c.tc : Thread Cert.RopeKvIdeal.nD Cert.RopeKvIdeal.τ).loc Cert.RopeKvIdeal.main_arg1)
      ∧ m' ((c.tc : Thread Cert.RopeKvRefIdeal.nD Cert.RopeKvRefIdeal.τ).loc Cert.RopeKvRefIdeal.main_arg2) = m ((c.tc : Thread Cert.RopeKvIdeal.nD Cert.RopeKvIdeal.τ).loc Cert.RopeKvIdeal.main_arg2)
      ∧ m' ((c.tc : Thread Cert.RopeKvRefIdeal.nD Cert.RopeKvRefIdeal.τ).loc Cert.RopeKvRefIdeal.main_arg3) = m ((c.tc : Thread Cert.RopeKvIdeal.nD Cert.RopeKvIdeal.τ).loc Cert.RopeKvIdeal.main_arg3)
      ∧ m' ((c.tc : Thread Cert.RopeKvRefIdeal.nD Cert.RopeKvRefIdeal.τ).loc Cert.RopeKvRefIdeal.main_arg4) = m ((c.tc : Thread Cert.RopeKvIdeal.nD Cert.RopeKvIdeal.τ).loc Cert.RopeKvIdeal.main_arg4)) →
    ∃ (v0 : (c : Dev Cert.RopeKvIdeal.nD) → Buf (Elt Ideal) ((c.tc : Thread Cert.RopeKvIdeal.nD Cert.RopeKvIdeal.τ).loc Cert.RopeKvIdeal.main_v2_0)) (v1 : (c : Dev Cert.RopeKvIdeal.nD) → Buf (Elt Ideal) ((c.tc : Thread Cert.RopeKvIdeal.nD Cert.RopeKvIdeal.τ).loc Cert.RopeKvIdeal.main_v2_1)) (v2 : (c : Dev Cert.RopeKvIdeal.nD) → Buf (Elt Ideal) ((c.tc : Thread Cert.RopeKvIdeal.nD Cert.RopeKvIdeal.τ).loc Cert.RopeKvIdeal.main_v2_2)),
      θ_run (Cert.RopeKvIdeal.defs (F := Ideal)) (onTc (τ := Cert.RopeKvIdeal.τ) (Cert.RopeKvIdeal.main (F := Ideal))) ⟨m, fun _ => 0, g⟩ (fun r => ∀ c : Dev Cert.RopeKvIdeal.nD,
          r.2.mem ((c.tc : Thread Cert.RopeKvIdeal.nD Cert.RopeKvIdeal.τ).loc Cert.RopeKvIdeal.main_v2_0) = v0 c
          ∧ r.2.mem ((c.tc : Thread Cert.RopeKvIdeal.nD Cert.RopeKvIdeal.τ).loc Cert.RopeKvIdeal.main_v2_1) = v1 c
          ∧ r.2.mem ((c.tc : Thread Cert.RopeKvIdeal.nD Cert.RopeKvIdeal.τ).loc Cert.RopeKvIdeal.main_v2_2) = v2 c
          ∧ r.2.mem ((c.tc : Thread Cert.RopeKvIdeal.nD Cert.RopeKvIdeal.τ).loc Cert.RopeKvIdeal.main_arg0) = m ((c.tc : Thread Cert.RopeKvIdeal.nD Cert.RopeKvIdeal.τ).loc Cert.RopeKvIdeal.main_arg0)
          ∧ r.2.mem ((c.tc : Thread Cert.RopeKvIdeal.nD Cert.RopeKvIdeal.τ).loc Cert.RopeKvIdeal.main_arg1) = m ((c.tc : Thread Cert.RopeKvIdeal.nD Cert.RopeKvIdeal.τ).loc Cert.RopeKvIdeal.main_arg1)
          ∧ r.2.mem ((c.tc : Thread Cert.RopeKvIdeal.nD Cert.RopeKvIdeal.τ).loc Cert.RopeKvIdeal.main_arg2) = m ((c.tc : Thread Cert.RopeKvIdeal.nD Cert.RopeKvIdeal.τ).loc Cert.RopeKvIdeal.main_arg2)
          ∧ r.2.mem ((c.tc : Thread Cert.RopeKvIdeal.nD Cert.RopeKvIdeal.τ).loc Cert.RopeKvIdeal.main_arg3) = m ((c.tc : Thread Cert.RopeKvIdeal.nD Cert.RopeKvIdeal.τ).loc Cert.RopeKvIdeal.main_arg3)
          ∧ r.2.mem ((c.tc : Thread Cert.RopeKvIdeal.nD Cert.RopeKvIdeal.τ).loc Cert.RopeKvIdeal.main_arg4) = m ((c.tc : Thread Cert.RopeKvIdeal.nD Cert.RopeKvIdeal.τ).loc Cert.RopeKvIdeal.main_arg4))
      ∧ θ_run (Cert.RopeKvRefIdeal.defs (F := Ideal)) (onTc (τ := Cert.RopeKvRefIdeal.τ) (Cert.RopeKvRefIdeal.main (F := Ideal))) ⟨m', fun _ => 0, g'⟩ (fun r => ∀ c : Dev Cert.RopeKvRefIdeal.nD,
          r.2.mem ((c.tc : Thread Cert.RopeKvRefIdeal.nD Cert.RopeKvRefIdeal.τ).loc Cert.RopeKvRefIdeal.main_v35) = v0 c
          ∧ r.2.mem ((c.tc : Thread Cert.RopeKvRefIdeal.nD Cert.RopeKvRefIdeal.τ).loc Cert.RopeKvRefIdeal.main_v42) = v1 c
          ∧ r.2.mem ((c.tc : Thread Cert.RopeKvRefIdeal.nD Cert.RopeKvRefIdeal.τ).loc Cert.RopeKvRefIdeal.main_v49) = v2 c
          ∧ r.2.mem ((c.tc : Thread Cert.RopeKvRefIdeal.nD Cert.RopeKvRefIdeal.τ).loc Cert.RopeKvRefIdeal.main_arg0) = m' ((c.tc : Thread Cert.RopeKvRefIdeal.nD Cert.RopeKvRefIdeal.τ).loc Cert.RopeKvRefIdeal.main_arg0)
          ∧ r.2.mem ((c.tc : Thread Cert.RopeKvRefIdeal.nD Cert.RopeKvRefIdeal.τ).loc Cert.RopeKvRefIdeal.main_arg1) = m' ((c.tc : Thread Cert.RopeKvRefIdeal.nD Cert.RopeKvRefIdeal.τ).loc Cert.RopeKvRefIdeal.main_arg1)
          ∧ r.2.mem ((c.tc : Thread Cert.RopeKvRefIdeal.nD Cert.RopeKvRefIdeal.τ).loc Cert.RopeKvRefIdeal.main_arg2) = m' ((c.tc : Thread Cert.RopeKvRefIdeal.nD Cert.RopeKvRefIdeal.τ).loc Cert.RopeKvRefIdeal.main_arg2)
          ∧ r.2.mem ((c.tc : Thread Cert.RopeKvRefIdeal.nD Cert.RopeKvRefIdeal.τ).loc Cert.RopeKvRefIdeal.main_arg3) = m' ((c.tc : Thread Cert.RopeKvRefIdeal.nD Cert.RopeKvRefIdeal.τ).loc Cert.RopeKvRefIdeal.main_arg3)
          ∧ r.2.mem ((c.tc : Thread Cert.RopeKvRefIdeal.nD Cert.RopeKvRefIdeal.τ).loc Cert.RopeKvRefIdeal.main_arg4) = m' ((c.tc : Thread Cert.RopeKvRefIdeal.nD Cert.RopeKvRefIdeal.τ).loc Cert.RopeKvRefIdeal.main_arg4))

def preserves_Attn_AttnIdeal : Prop :=
  True

def Claim : Prop :=
  ∃ (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hOProj : Cert.OProj.Facts) (hOProjIdeal : Cert.OProjIdeal.Facts) (hOProjRefIdeal : Cert.OProjRefIdeal.Facts) (hQkv : Cert.Qkv.Facts) (hQkvIdeal : Cert.QkvIdeal.Facts) (hQkvRefIdeal : Cert.QkvRefIdeal.Facts) (hNorm1 : Cert.Norm1.Facts) (hNorm1Ideal : Cert.Norm1Ideal.Facts) (hNorm1RefIdeal : Cert.Norm1RefIdeal.Facts) (hNorm2 : Cert.Norm2.Facts) (hNorm2Ideal : Cert.Norm2Ideal.Facts) (hNorm2RefIdeal : Cert.Norm2RefIdeal.Facts) (hQuantAttn : Cert.QuantAttn.Facts) (hQuantAttnIdeal : Cert.QuantAttnIdeal.Facts) (hQuantAttnRefIdeal : Cert.QuantAttnRefIdeal.Facts) (hQuantAct : Cert.QuantAct.Facts) (hQuantActIdeal : Cert.QuantActIdeal.Facts) (hQuantActRefIdeal : Cert.QuantActRefIdeal.Facts) (hRopeKv : Cert.RopeKv.Facts) (hRopeKvIdeal : Cert.RopeKvIdeal.Facts) (hRopeKvRefIdeal : Cert.RopeKvRefIdeal.Facts) (hAttn : Cert.Attn.Facts) (hAttnIdeal : Cert.AttnIdeal.Facts) (hAttnRefIdeal : Cert.AttnRefIdeal.Facts) (hPre_prefix_fits : Cert.Pre_prefix_fits.Facts),
    quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_OProj (hOProj := hOProj)
    ∧ quiescent_OProjIdeal (hOProjIdeal := hOProjIdeal)
    ∧ quiescent_OProjRefIdeal (hOProjRefIdeal := hOProjRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Norm1 (hNorm1 := hNorm1)
    ∧ quiescent_Norm1Ideal (hNorm1Ideal := hNorm1Ideal)
    ∧ quiescent_Norm1RefIdeal (hNorm1RefIdeal := hNorm1RefIdeal)
    ∧ quiescent_Norm2 (hNorm2 := hNorm2)
    ∧ quiescent_Norm2Ideal (hNorm2Ideal := hNorm2Ideal)
    ∧ quiescent_Norm2RefIdeal (hNorm2RefIdeal := hNorm2RefIdeal)
    ∧ quiescent_QuantAttn (hQuantAttn := hQuantAttn)
    ∧ quiescent_QuantAttnIdeal (hQuantAttnIdeal := hQuantAttnIdeal)
    ∧ quiescent_QuantAttnRefIdeal (hQuantAttnRefIdeal := hQuantAttnRefIdeal)
    ∧ quiescent_QuantAct (hQuantAct := hQuantAct)
    ∧ quiescent_QuantActIdeal (hQuantActIdeal := hQuantActIdeal)
    ∧ quiescent_QuantActRefIdeal (hQuantActRefIdeal := hQuantActRefIdeal)
    ∧ quiescent_RopeKv (hRopeKv := hRopeKv)
    ∧ quiescent_RopeKvIdeal (hRopeKvIdeal := hRopeKvIdeal)
    ∧ quiescent_RopeKvRefIdeal (hRopeKvRefIdeal := hRopeKvRefIdeal)
    ∧ quiescent_Attn (hAttn := hAttn) (hPre_prefix_fits := hPre_prefix_fits)
    ∧ quiescent_AttnIdeal (hAttnIdeal := hAttnIdeal) (hPre_prefix_fits := hPre_prefix_fits)
    ∧ quiescent_AttnRefIdeal (hAttnRefIdeal := hAttnRefIdeal) (hPre_prefix_fits := hPre_prefix_fits)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_OProj_OProjIdeal
    ∧ algebraic_OProjIdeal_OProjRefIdeal (hOProjIdeal := hOProjIdeal) (hOProjRefIdeal := hOProjRefIdeal)
    ∧ preserves_Qkv_QkvIdeal
    ∧ algebraic_QkvIdeal_QkvRefIdeal (hQkvIdeal := hQkvIdeal) (hQkvRefIdeal := hQkvRefIdeal)
    ∧ preserves_Norm1_Norm1Ideal
    ∧ algebraic_Norm1Ideal_Norm1RefIdeal (hNorm1Ideal := hNorm1Ideal) (hNorm1RefIdeal := hNorm1RefIdeal)
    ∧ preserves_Norm2_Norm2Ideal
    ∧ algebraic_Norm2Ideal_Norm2RefIdeal (hNorm2Ideal := hNorm2Ideal) (hNorm2RefIdeal := hNorm2RefIdeal)
    ∧ preserves_QuantAttn_QuantAttnIdeal
    ∧ algebraic_QuantAttnIdeal_QuantAttnRefIdeal (hQuantAttnIdeal := hQuantAttnIdeal) (hQuantAttnRefIdeal := hQuantAttnRefIdeal)
    ∧ preserves_QuantAct_QuantActIdeal
    ∧ algebraic_QuantActIdeal_QuantActRefIdeal (hQuantActIdeal := hQuantActIdeal) (hQuantActRefIdeal := hQuantActRefIdeal)
    ∧ preserves_RopeKv_RopeKvIdeal
    ∧ algebraic_RopeKvIdeal_RopeKvRefIdeal (hRopeKvIdeal := hRopeKvIdeal) (hRopeKvRefIdeal := hRopeKvRefIdeal)
    ∧ preserves_Attn_AttnIdeal
-- ==== Pre_prefix_fits.lean ====
abbrev S1536x2048 : Shape := ⟨2, ![1536, 2048]⟩
abbrev S3x7680x2x128 : Shape := ⟨4, ![3, 7680, 2, 128]⟩
abbrev S3x2x512x128 : Shape := ⟨4, ![3, 2, 512, 128]⟩
abbrev S2 : Shape := ⟨1, ![2]⟩
abbrev S3 : Shape := ⟨1, ![3]⟩
abbrev S_ : Shape := ⟨0, ![]⟩

class Facts : Prop where
  bcast_S_S3 : S_.BroadcastsInDim S3 (![] : Fin 0 → Fin S3.rank)

variable [Facts]

def fn {F : FTy → Type} [FloatOps F] (main_arg0 : FVec F S1536x2048 .bf16) (main_arg1 : FVec F S3x7680x2x128 .fp8e4m3) (main_arg2 : FVec F S3x7680x2x128 .fp8e4m3) (main_arg3 : FVec F S3x2x512x128 .fp8e4m3) (main_arg4 : FVec F S3x2x512x128 .fp8e4m3) (main_arg5 : FVec F S2 .f32) (main_arg6 : FVec F S2 .f32) (main_arg7 : IVec S3 32) : IVec S3 1 :=
  let main_c : IVec S_ 32 := constantI S_ 32 0#32
  let main_v0 : IVec S3 32 := broadcastInDim S3 ![] bcast_S_S3 main_c
  let main_v1 : IVec S3 1 := cmpi .sge main_arg7 main_v0
  let main_c_0 : IVec S_ 32 := constantI S_ 32 7680#32
  let main_v2 : IVec S3 32 := broadcastInDim S3 ![] bcast_S_S3 main_c_0
  let main_v3 : IVec S3 1 := cmpi .sle main_arg7 main_v2
  let main_v4 : IVec S3 1 := andi main_v1 main_v3
  main_v4
-- ==== GateUp.lean ====
abbrev S1536x8192 : Shape := ⟨2, ![1536, 8192]⟩
abbrev S1536x1 : Shape := ⟨2, ![1536, 1]⟩
abbrev S1024x14336 : Shape := ⟨2, ![1024, 14336]⟩
abbrev S64x14336 : Shape := ⟨2, ![64, 14336]⟩
abbrev S14336 : Shape := ⟨1, ![14336]⟩
abbrev S1x14336 : Shape := ⟨2, ![1, 14336]⟩
abbrev S1536x7168 : Shape := ⟨2, ![1536, 7168]⟩
abbrev S1024x256 : Shape := ⟨2, ![1024, 256]⟩
abbrev S64x256 : Shape := ⟨2, ![64, 256]⟩
abbrev S1x256 : Shape := ⟨2, ![1, 256]⟩
abbrev S1536x256 : Shape := ⟨2, ![1536, 256]⟩
abbrev S8192x512 : Shape := ⟨2, ![8192, 512]⟩
abbrev S128x256 : Shape := ⟨2, ![128, 256]⟩
abbrev S512x256 : Shape := ⟨2, ![512, 256]⟩
abbrev S256x512 : Shape := ⟨2, ![256, 512]⟩
abbrev S512x512 : Shape := ⟨2, ![512, 512]⟩
abbrev S512x1 : Shape := ⟨2, ![512, 1]⟩

abbrev nBuf : Space → Nat
  | .hbm => 7
  | .vmem => 18
  | .smem => 0
  | _ => 0

abbrev bufTy : (tb : Table) → Fin (tcTables nBuf tb) → BufTy
  | .hbm, ⟨0, _⟩ => ⟨S1536x8192, .fp8e4m3⟩
  | .hbm, ⟨1, _⟩ => ⟨S1536x1, .f32⟩
  | .hbm, ⟨2, _⟩ => ⟨S1024x14336, .i32⟩
  | .hbm, ⟨3, _⟩ => ⟨S64x14336, .fp8e4m3⟩
  | .hbm, ⟨4, _⟩ => ⟨S14336, .f32⟩
  | .hbm, ⟨5, _⟩ => ⟨S1x14336, .f32⟩
  | .hbm, ⟨6, _⟩ => ⟨S1536x7168, .f32⟩
  | .local _ .vmem, ⟨0, _⟩ => ⟨S1536x8192, .fp8e4m3⟩
  | .local _ .vmem, ⟨1, _⟩ => ⟨S1536x1, .f32⟩
  | .local _ .vmem, ⟨2, _⟩ => ⟨S1024x256, .i32⟩
  | .local _ .vmem, ⟨3, _⟩ => ⟨S1024x256, .i32⟩
  | .local _ .vmem, ⟨4, _⟩ => ⟨S1024x256, .i32⟩
  | .local _ .vmem, ⟨5, _⟩ => ⟨S1024x256, .i32⟩
  | .local _ .vmem, ⟨6, _⟩ => ⟨S64x256, .fp8e4m3⟩
  | .local _ .vmem, ⟨7, _⟩ => ⟨S64x256, .fp8e4m3⟩
  | .local _ .vmem, ⟨8, _⟩ => ⟨S64x256, .fp8e4m3⟩
  | .local _ .vmem, ⟨9, _⟩ => ⟨S64x256, .fp8e4m3⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1536x256, .f32⟩
  | .local _ .vmem, ⟨15, _⟩ => ⟨S1536x256, .f32⟩
  | .local _ .vmem, ⟨16, _⟩ => ⟨S8192x512, .bf16⟩
  | .local _ .vmem, ⟨17, _⟩ => ⟨S64x256, .f32⟩
  | _, _ => ⟨S1536x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![28], ![false]⟩

@[reducible] def k0_t1_loop : Scf.Loop 32 :=
  let c0_i32 : BitVec 32 := 0#32
  let c8_i32 : BitVec 32 := 8#32
  let v5 : BitVec 32 := Scalar.addi c0_i32 c8_i32
  let c1_i32 : BitVec 32 := 1#32
  ⟨c0_i32, v5, c1_i32⟩
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v13 : BitVec 32 := Scalar.muli arg12 c128_i32
  let v14 : Index := Scalar.indexCast v13
  let c0_15 : Index := 0#32
  ![v14.toNat, 0]
def k0_off2 (k0_t1 : Fin k0_t1_loop.trips) (c0_i32_16 : BitVec 32) : Fin 2 → Nat :=
  let c0_i32 : BitVec 32 := 0#32
  let c1_i32 : BitVec 32 := 1#32
  let arg12 : BitVec 32 := Scf.iv c0_i32 c1_i32 k0_t1
  let v25 : BitVec 32 := Scalar.addi c0_i32_16 arg12
  let v26 : Index := Scalar.indexCast v25
  let c0_17 : Index := 0#32
  ![v26.toNat, 0]
def k0_off3 (k0_t1 : Fin k0_t1_loop.trips) (c0_i32_19 : BitVec 32) : Fin 2 → Nat :=
  let c0_i32 : BitVec 32 := 0#32
  let c1_i32 : BitVec 32 := 1#32
  let arg12 : BitVec 32 := Scf.iv c0_i32 c1_i32 k0_t1
  let c128_i32_18 : BitVec 32 := 128#32
  let v31 : BitVec 32 := Scalar.muli arg12 c128_i32_18
  let v32 : BitVec 32 := Scalar.addi c0_i32_19 v31
  let v33 : Index := Scalar.indexCast v32
  let c0_20 : Index := 0#32
  ![v33.toNat, 0]
@[reducible] def k0_t2_loop : Scf.Loop 32 :=
  let c0_i32_8 : BitVec 32 := 0#32
  let c8_i32_9 : BitVec 32 := 8#32
  let v11 : BitVec 32 := Scalar.addi c0_i32_8 c8_i32_9
  let c1_i32_10 : BitVec 32 := 1#32
  ⟨c0_i32_8, v11, c1_i32_10⟩
def k0_off4 (k0_t2 : Fin k0_t2_loop.trips) : Fin 2 → Nat :=
  let c0_i32_8 : BitVec 32 := 0#32
  let c1_i32_10 : BitVec 32 := 1#32
  let arg12 : BitVec 32 := Scf.iv c0_i32_8 c1_i32_10 k0_t2
  let c128_i32 : BitVec 32 := 128#32
  let v13 : BitVec 32 := Scalar.muli arg12 c128_i32
  let v14 : Index := Scalar.indexCast v13
  let c0_15 : Index := 0#32
  ![v14.toNat, 0]
def k0_off5 (k0_t2 : Fin k0_t2_loop.trips) (c0_i32_16 : BitVec 32) : Fin 2 → Nat :=
  let c0_i32_8 : BitVec 32 := 0#32
  let c1_i32_10 : BitVec 32 := 1#32
  let arg12 : BitVec 32 := Scf.iv c0_i32_8 c1_i32_10 k0_t2
  let v25 : BitVec 32 := Scalar.addi c0_i32_16 arg12
  let v26 : Index := Scalar.indexCast v25
  let c0_17 : Index := 0#32
  ![v26.toNat, 0]
def k0_off6 (k0_t2 : Fin k0_t2_loop.trips) (c0_i32_19 : BitVec 32) : Fin 2 → Nat :=
  let c0_i32_8 : BitVec 32 := 0#32
  let c1_i32_10 : BitVec 32 := 1#32
  let arg12 : BitVec 32 := Scf.iv c0_i32_8 c1_i32_10 k0_t2
  let c128_i32_18 : BitVec 32 := 128#32
  let v31 : BitVec 32 := Scalar.muli arg12 c128_i32_18
  let v32 : BitVec 32 := Scalar.addi c0_i32_19 v31
  let v33 : Index := Scalar.indexCast v32
  let c256 : Index := 256#32
  ![v33.toNat, 256]
@[reducible] def k0_t3_loop : Scf.Loop 32 :=
  let c0_i32_12 : BitVec 32 := 0#32
  let c3_i32 : BitVec 32 := 3#32
  let v12 : BitVec 32 := Scalar.addi c0_i32_12 c3_i32
  let c1_i32_13 : BitVec 32 := 1#32
  ⟨c0_i32_12, v12, c1_i32_13⟩
def k0_off7 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v14 : Index := Scalar.indexCast v13
  let c0_15 : Index := 0#32
  ![v14.toNat, 0]
def k0_off8 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v19 : Index := Scalar.indexCast v13
  let c256 : Index := 256#32
  ![v19.toNat, 256]
def k0_off9 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v25 : Index := Scalar.indexCast v13
  let c512 : Index := 512#32
  ![v25.toNat, 512]
def k0_off10 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v31 : Index := Scalar.indexCast v13
  let c768 : Index := 768#32
  ![v31.toNat, 768]
def k0_off11 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v37 : Index := Scalar.indexCast v13
  let c1024 : Index := 1024#32
  ![v37.toNat, 1024]
def k0_off12 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v43 : Index := Scalar.indexCast v13
  let c1280 : Index := 1280#32
  ![v43.toNat, 1280]
def k0_off13 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v49 : Index := Scalar.indexCast v13
  let c1536 : Index := 1536#32
  ![v49.toNat, 1536]
def k0_off14 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v55 : Index := Scalar.indexCast v13
  let c1792 : Index := 1792#32
  ![v55.toNat, 1792]
def k0_off15 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v61 : Index := Scalar.indexCast v13
  let c2048 : Index := 2048#32
  ![v61.toNat, 2048]
def k0_off16 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v67 : Index := Scalar.indexCast v13
  let c2304 : Index := 2304#32
  ![v67.toNat, 2304]
def k0_off17 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v73 : Index := Scalar.indexCast v13
  let c2560 : Index := 2560#32
  ![v73.toNat, 2560]
def k0_off18 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v79 : Index := Scalar.indexCast v13
  let c2816 : Index := 2816#32
  ![v79.toNat, 2816]
def k0_off19 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v85 : Index := Scalar.indexCast v13
  let c3072 : Index := 3072#32
  ![v85.toNat, 3072]
def k0_off20 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v91 : Index := Scalar.indexCast v13
  let c3328 : Index := 3328#32
  ![v91.toNat, 3328]
def k0_off21 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v97 : Index := Scalar.indexCast v13
  let c3584 : Index := 3584#32
  ![v97.toNat, 3584]
def k0_off22 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v103 : Index := Scalar.indexCast v13
  let c3840 : Index := 3840#32
  ![v103.toNat, 3840]
def k0_off23 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v109 : Index := Scalar.indexCast v13
  let c4096 : Index := 4096#32
  ![v109.toNat, 4096]
def k0_off24 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v115 : Index := Scalar.indexCast v13
  let c4352 : Index := 4352#32
  ![v115.toNat, 4352]
def k0_off25 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v121 : Index := Scalar.indexCast v13
  let c4608 : Index := 4608#32
  ![v121.toNat, 4608]
def k0_off26 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v127 : Index := Scalar.indexCast v13
  let c4864 : Index := 4864#32
  ![v127.toNat, 4864]
def k0_off27 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v133 : Index := Scalar.indexCast v13
  let c5120 : Index := 5120#32
  ![v133.toNat, 5120]
def k0_off28 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v139 : Index := Scalar.indexCast v13
  let c5376 : Index := 5376#32
  ![v139.toNat, 5376]
def k0_off29 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v145 : Index := Scalar.indexCast v13
  let c5632 : Index := 5632#32
  ![v145.toNat, 5632]
def k0_off30 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v151 : Index := Scalar.indexCast v13
  let c5888 : Index := 5888#32
  ![v151.toNat, 5888]
def k0_off31 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v157 : Index := Scalar.indexCast v13
  let c6144 : Index := 6144#32
  ![v157.toNat, 6144]
def k0_off32 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v163 : Index := Scalar.indexCast v13
  let c6400 : Index := 6400#32
  ![v163.toNat, 6400]
def k0_off33 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v169 : Index := Scalar.indexCast v13
  let c6656 : Index := 6656#32
  ![v169.toNat, 6656]
def k0_off34 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v175 : Index := Scalar.indexCast v13
  let c6912 : Index := 6912#32
  ![v175.toNat, 6912]
def k0_off35 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v181 : Index := Scalar.indexCast v13
  let c7168 : Index := 7168#32
  ![v181.toNat, 7168]
def k0_off36 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v187 : Index := Scalar.indexCast v13
  let c7424 : Index := 7424#32
  ![v187.toNat, 7424]
def k0_off37 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v193 : Index := Scalar.indexCast v13
  let c7680 : Index := 7680#32
  ![v193.toNat, 7680]
def k0_off38 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v199 : Index := Scalar.indexCast v13
  let c7936 : Index := 7936#32
  ![v199.toNat, 7936]
def k0_off39 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v205 : Index := Scalar.indexCast v13
  let c0_111 : Index := 0#32
  ![v205.toNat, 0]
def k0_off40 (k0_t3 : Fin k0_t3_loop.trips) : Fin 2 → Nat :=
  let c0_i32_12 : BitVec 32 := 0#32
  let c1_i32_13 : BitVec 32 := 1#32
  let arg12 : BitVec 32 := Scf.iv c0_i32_12 c1_i32_13 k0_t3
  let c512_i32 : BitVec 32 := 512#32
  let v13 : BitVec 32 := Scalar.muli arg12 c512_i32
  let v224 : Index := Scalar.indexCast v13
  let c0_116 : Index := 0#32
  ![v224.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c28_i32 : BitVec 32 := 28#32
  let v0 : BitVec 32 := Scalar.addi arg0 c28_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c28_i32 : BitVec 32 := 28#32
  let v0 : BitVec 32 := Scalar.addi arg0 c28_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c28_i32 : BitVec 32 := 28#32
  let v0 : BitVec 32 := Scalar.addi arg0 c28_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1536x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GateUpRefIdeal.lean ====
abbrev S1536x8192 : Shape := ⟨2, ![1536, 8192]⟩
abbrev S1536x1 : Shape := ⟨2, ![1536, 1]⟩
abbrev S1024x14336 : Shape := ⟨2, ![1024, 14336]⟩
abbrev S64x14336 : Shape := ⟨2, ![64, 14336]⟩
abbrev S14336 : Shape := ⟨1, ![14336]⟩
abbrev S1x14336 : Shape := ⟨2, ![1, 14336]⟩
abbrev S1536x7168 : Shape := ⟨2, ![1536, 7168]⟩
abbrev S8192x14336 : Shape := ⟨2, ![8192, 14336]⟩
abbrev S64x1x14336 : Shape := ⟨3, ![64, 1, 14336]⟩
abbrev S64x128x14336 : Shape := ⟨3, ![64, 128, 14336]⟩
abbrev S1536x14336 : Shape := ⟨2, ![1536, 14336]⟩

abbrev nBuf : Space → Nat
  | .hbm => 7
  | .vmem => 6
  | .smem => 0
  | _ => 0

abbrev bufTy : (tb : Table) → Fin (tcTables nBuf tb) → BufTy
  | .hbm, ⟨0, _⟩ => ⟨S1536x8192, .fp8e4m3⟩
  | .hbm, ⟨1, _⟩ => ⟨S1536x1, .f32⟩
  | .hbm, ⟨2, _⟩ => ⟨S1024x14336, .i32⟩
  | .hbm, ⟨3, _⟩ => ⟨S64x14336, .fp8e4m3⟩
  | .hbm, ⟨4, _⟩ => ⟨S14336, .f32⟩
  | .hbm, ⟨5, _⟩ => ⟨S1x14336, .f32⟩
  | .hbm, ⟨6, _⟩ => ⟨S1536x7168, .f32⟩
  | .local _ .vmem, ⟨0, _⟩ => ⟨S1536x8192, .fp8e4m3⟩
  | .local _ .vmem, ⟨1, _⟩ => ⟨S1536x1, .f32⟩
  | .local _ .vmem, ⟨2, _⟩ => ⟨S1024x14336, .i32⟩
  | .local _ .vmem, ⟨3, _⟩ => ⟨S64x14336, .fp8e4m3⟩
  | .local _ .vmem, ⟨4, _⟩ => ⟨S1x14336, .f32⟩
  | .local _ .vmem, ⟨5, _⟩ => ⟨S1536x7168, .f32⟩
  | _, _ => ⟨S1536x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1536x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x14336 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x14336 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x14336 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Down.lean ====
abbrev S1536x7168 : Shape := ⟨2, ![1536, 7168]⟩
abbrev S1536x1 : Shape := ⟨2, ![1536, 1]⟩
abbrev S896x8192 : Shape := ⟨2, ![896, 8192]⟩
abbrev S56x8192 : Shape := ⟨2, ![56, 8192]⟩
abbrev S8192 : Shape := ⟨1, ![8192]⟩
abbrev S1536x8192 : Shape := ⟨2, ![1536, 8192]⟩
abbrev S1x8192 : Shape := ⟨2, ![1, 8192]⟩
abbrev S896x512 : Shape := ⟨2, ![896, 512]⟩
abbrev S56x512 : Shape := ⟨2, ![56, 512]⟩
abbrev S1x512 : Shape := ⟨2, ![1, 512]⟩
abbrev S1536x512 : Shape := ⟨2, ![1536, 512]⟩
abbrev S7168x512 : Shape := ⟨2, ![7168, 512]⟩
abbrev S128x512 : Shape := ⟨2, ![128, 512]⟩
abbrev S64x512 : Shape := ⟨2, ![64, 512]⟩
abbrev S512x256 : Shape := ⟨2, ![512, 256]⟩
abbrev S256x512 : Shape := ⟨2, ![256, 512]⟩
abbrev S512x512 : Shape := ⟨2, ![512, 512]⟩
abbrev S512x1 : Shape := ⟨2, ![512, 1]⟩

abbrev nBuf : Space → Nat
  | .hbm => 8
  | .vmem => 14
  | .smem => 0
  | _ => 0

abbrev bufTy : (tb : Table) → Fin (tcTables nBuf tb) → BufTy
  | .hbm, ⟨0, _⟩ => ⟨S1536x7168, .fp8e4m3⟩
  | .hbm, ⟨1, _⟩ => ⟨S1536x1, .f32⟩
  | .hbm, ⟨2, _⟩ => ⟨S896x8192, .i32⟩
  | .hbm, ⟨3, _⟩ => ⟨S56x8192, .fp8e4m3⟩
  | .hbm, ⟨4, _⟩ => ⟨S8192, .f32⟩
  | .hbm, ⟨5, _⟩ => ⟨S1536x8192, .f32⟩
  | .hbm, ⟨6, _⟩ => ⟨S1x8192, .f32⟩
  | .hbm, ⟨7, _⟩ => ⟨S1536x8192, .bf16⟩
  | .local _ .vmem, ⟨0, _⟩ => ⟨S1536x7168, .fp8e4m3⟩
  | .local _ .vmem, ⟨1, _⟩ => ⟨S1536x1, .f32⟩
  | .local _ .vmem, ⟨2, _⟩ => ⟨S896x512, .i32⟩
  | .local _ .vmem, ⟨3, _⟩ => ⟨S896x512, .i32⟩
  | .local _ .vmem, ⟨4, _⟩ => ⟨S56x512, .fp8e4m3⟩
  | .local _ .vmem, ⟨5, _⟩ => ⟨S56x512, .fp8e4m3⟩
  | .local _ .vmem, ⟨6, _⟩ => ⟨S1x512, .f32⟩
  | .local _ .vmem, ⟨7, _⟩ => ⟨S1x512, .f32⟩
  | .local _ .vmem, ⟨8, _⟩ => ⟨S1536x512, .f32⟩
  | .local _ .vmem, ⟨9, _⟩ => ⟨S1536x512, .f32⟩
  | .local _ .vmem, ⟨10, _⟩ => ⟨S1536x512, .bf16⟩
  | .local _ .vmem, ⟨11, _⟩ => ⟨S1536x512, .bf16⟩
  | .local _ .vmem, ⟨12, _⟩ => ⟨S7168x512, .bf16⟩
  | .local _ .vmem, ⟨13, _⟩ => ⟨S56x512, .f32⟩
  | _, _ => ⟨S1536x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c7_i32 : BitVec 32 := 7#32
  let v5 : BitVec 32 := Scalar.addi c0_i32 c7_i32
  let c1_i32 : BitVec 32 := 1#32
  ⟨c0_i32, v5, c1_i32⟩
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v7 : BitVec 32 := Scalar.muli arg10 c128_i32
  let v8 : Index := Scalar.indexCast v7
  let c0_7 : Index := 0#32
  ![v8.toNat, 0]
def k0_off2 (k0_t1 : Fin k0_t1_loop.trips) (c0_i32_8 : BitVec 32) : Fin 2 → Nat :=
  let c0_i32 : BitVec 32 := 0#32
  let c1_i32 : BitVec 32 := 1#32
  let arg10 : BitVec 32 := Scf.iv c0_i32 c1_i32 k0_t1
  let v19 : BitVec 32 := Scalar.addi c0_i32_8 arg10
  let v20 : Index := Scalar.indexCast v19
  let c0_9 : Index := 0#32
  ![v20.toNat, 0]
def k0_off3 (k0_t1 : Fin k0_t1_loop.trips) (c0_i32_11 : BitVec 32) : Fin 2 → Nat :=
  let c0_i32 : BitVec 32 := 0#32
  let c1_i32 : BitVec 32 := 1#32
  let arg10 : BitVec 32 := Scf.iv c0_i32 c1_i32 k0_t1
  let c128_i32_10 : BitVec 32 := 128#32
  let v25 : BitVec 32 := Scalar.muli arg10 c128_i32_10
  let v26 : BitVec 32 := Scalar.addi c0_i32_11 v25
  let v27 : Index := Scalar.indexCast v26
  let c0_12 : Index := 0#32
  ![v27.toNat, 0]
@[reducible] def k0_t2_loop : Scf.Loop 32 :=
  let c0_i32_4 : BitVec 32 := 0#32
  let c3_i32 : BitVec 32 := 3#32
  let v6 : BitVec 32 := Scalar.addi c0_i32_4 c3_i32
  let c1_i32_5 : BitVec 32 := 1#32
  ⟨c0_i32_4, v6, c1_i32_5⟩
def k0_off4 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v8 : Index := Scalar.indexCast v7
  let c0_7 : Index := 0#32
  ![v8.toNat, 0]
def k0_off5 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v13 : Index := Scalar.indexCast v7
  let c256 : Index := 256#32
  ![v13.toNat, 256]
def k0_off6 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v19 : Index := Scalar.indexCast v7
  let c512 : Index := 512#32
  ![v19.toNat, 512]
def k0_off7 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v25 : Index := Scalar.indexCast v7
  let c768 : Index := 768#32
  ![v25.toNat, 768]
def k0_off8 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v31 : Index := Scalar.indexCast v7
  let c1024 : Index := 1024#32
  ![v31.toNat, 1024]
def k0_off9 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v37 : Index := Scalar.indexCast v7
  let c1280 : Index := 1280#32
  ![v37.toNat, 1280]
def k0_off10 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v43 : Index := Scalar.indexCast v7
  let c1536 : Index := 1536#32
  ![v43.toNat, 1536]
def k0_off11 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v49 : Index := Scalar.indexCast v7
  let c1792 : Index := 1792#32
  ![v49.toNat, 1792]
def k0_off12 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v55 : Index := Scalar.indexCast v7
  let c2048 : Index := 2048#32
  ![v55.toNat, 2048]
def k0_off13 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v61 : Index := Scalar.indexCast v7
  let c2304 : Index := 2304#32
  ![v61.toNat, 2304]
def k0_off14 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v67 : Index := Scalar.indexCast v7
  let c2560 : Index := 2560#32
  ![v67.toNat, 2560]
def k0_off15 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v73 : Index := Scalar.indexCast v7
  let c2816 : Index := 2816#32
  ![v73.toNat, 2816]
def k0_off16 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v79 : Index := Scalar.indexCast v7
  let c3072 : Index := 3072#32
  ![v79.toNat, 3072]
def k0_off17 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v85 : Index := Scalar.indexCast v7
  let c3328 : Index := 3328#32
  ![v85.toNat, 3328]
def k0_off18 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v91 : Index := Scalar.indexCast v7
  let c3584 : Index := 3584#32
  ![v91.toNat, 3584]
def k0_off19 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v97 : Index := Scalar.indexCast v7
  let c3840 : Index := 3840#32
  ![v97.toNat, 3840]
def k0_off20 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v103 : Index := Scalar.indexCast v7
  let c4096 : Index := 4096#32
  ![v103.toNat, 4096]
def k0_off21 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v109 : Index := Scalar.indexCast v7
  let c4352 : Index := 4352#32
  ![v109.toNat, 4352]
def k0_off22 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v115 : Index := Scalar.indexCast v7
  let c4608 : Index := 4608#32
  ![v115.toNat, 4608]
def k0_off23 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v121 : Index := Scalar.indexCast v7
  let c4864 : Index := 4864#32
  ![v121.toNat, 4864]
def k0_off24 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v127 : Index := Scalar.indexCast v7
  let c5120 : Index := 5120#32
  ![v127.toNat, 5120]
def k0_off25 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v133 : Index := Scalar.indexCast v7
  let c5376 : Index := 5376#32
  ![v133.toNat, 5376]
def k0_off26 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v139 : Index := Scalar.indexCast v7
  let c5632 : Index := 5632#32
  ![v139.toNat, 5632]
def k0_off27 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v145 : Index := Scalar.indexCast v7
  let c5888 : Index := 5888#32
  ![v145.toNat, 5888]
def k0_off28 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v151 : Index := Scalar.indexCast v7
  let c6144 : Index := 6144#32
  ![v151.toNat, 6144]
def k0_off29 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v157 : Index := Scalar.indexCast v7
  let c6400 : Index := 6400#32
  ![v157.toNat, 6400]
def k0_off30 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v163 : Index := Scalar.indexCast v7
  let c6656 : Index := 6656#32
  ![v163.toNat, 6656]
def k0_off31 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v169 : Index := Scalar.indexCast v7
  let c6912 : Index := 6912#32
  ![v169.toNat, 6912]
def k0_off32 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v175 : Index := Scalar.indexCast v7
  let c0_91 : Index := 0#32
  ![v175.toNat, 0]
def k0_off33 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v183 : Index := Scalar.indexCast v7
  let c0_94 : Index := 0#32
  ![v183.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S896x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S56x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownRefIdeal.lean ====
abbrev S1536x7168 : Shape := ⟨2, ![1536, 7168]⟩
abbrev S1536x1 : Shape := ⟨2, ![1536, 1]⟩
abbrev S896x8192 : Shape := ⟨2, ![896, 8192]⟩
abbrev S56x8192 : Shape := ⟨2, ![56, 8192]⟩
abbrev S8192 : Shape := ⟨1, ![8192]⟩
abbrev S1536x8192 : Shape := ⟨2, ![1536, 8192]⟩
abbrev S1x8192 : Shape := ⟨2, ![1, 8192]⟩
abbrev S7168x8192 : Shape := ⟨2, ![7168, 8192]⟩
abbrev S56x1x8192 : Shape := ⟨3, ![56, 1, 8192]⟩
abbrev S56x128x8192 : Shape := ⟨3, ![56, 128, 8192]⟩

abbrev nBuf : Space → Nat
  | .hbm => 8
  | .vmem => 7
  | .smem => 0
  | _ => 0

abbrev bufTy : (tb : Table) → Fin (tcTables nBuf tb) → BufTy
  | .hbm, ⟨0, _⟩ => ⟨S1536x7168, .fp8e4m3⟩
  | .hbm, ⟨1, _⟩ => ⟨S1536x1, .f32⟩
  | .hbm, ⟨2, _⟩ => ⟨S896x8192, .i32⟩
  | .hbm, ⟨3, _⟩ => ⟨S56x8192, .fp8e4m3⟩
  | .hbm, ⟨4, _⟩ => ⟨S8192, .f32⟩
  | .hbm, ⟨5, _⟩ => ⟨S1536x8192, .f32⟩
  | .hbm, ⟨6, _⟩ => ⟨S1x8192, .f32⟩
  | .hbm, ⟨7, _⟩ => ⟨S1536x8192, .bf16⟩
  | .local _ .vmem, ⟨0, _⟩ => ⟨S1536x7168, .fp8e4m3⟩
  | .local _ .vmem, ⟨1, _⟩ => ⟨S1536x1, .f32⟩
  | .local _ .vmem, ⟨2, _⟩ => ⟨S896x8192, .i32⟩
  | .local _ .vmem, ⟨3, _⟩ => ⟨S56x8192, .fp8e4m3⟩
  | .local _ .vmem, ⟨4, _⟩ => ⟨S1x8192, .f32⟩
  | .local _ .vmem, ⟨5, _⟩ => ⟨S1536x8192, .f32⟩
  | .local _ .vmem, ⟨6, _⟩ => ⟨S1536x8192, .bf16⟩
  | _, _ => ⟨S1536x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1536x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S896x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S56x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== OProj.lean ====
abbrev S1536x2048 : Shape := ⟨2, ![1536, 2048]⟩
abbrev S1536x1 : Shape := ⟨2, ![1536, 1]⟩
abbrev S256x8192 : Shape := ⟨2, ![256, 8192]⟩
abbrev S16x8192 : Shape := ⟨2, ![16, 8192]⟩
abbrev S8192 : Shape := ⟨1, ![8192]⟩
abbrev S1536x8192 : Shape := ⟨2, ![1536, 8192]⟩
abbrev S1x8192 : Shape := ⟨2, ![1, 8192]⟩
abbrev S256x512 : Shape := ⟨2, ![256, 512]⟩
abbrev S16x512 : Shape := ⟨2, ![16, 512]⟩
abbrev S1x512 : Shape := ⟨2, ![1, 512]⟩
abbrev S1536x512 : Shape := ⟨2, ![1536, 512]⟩
abbrev S2048x512 : Shape := ⟨2, ![2048, 512]⟩
abbrev S128x512 : Shape := ⟨2, ![128, 512]⟩
abbrev S64x512 : Shape := ⟨2, ![64, 512]⟩
abbrev S512x256 : Shape := ⟨2, ![512, 256]⟩
abbrev S512x512 : Shape := ⟨2, ![512, 512]⟩
abbrev S512x1 : Shape := ⟨2, ![512, 1]⟩

abbrev nBuf : Space → Nat
  | .hbm => 8
  | .vmem => 14
  | .smem => 0
  | _ => 0

abbrev bufTy : (tb : Table) → Fin (tcTables nBuf tb) → BufTy
  | .hbm, ⟨0, _⟩ => ⟨S1536x2048, .fp8e4m3⟩
  | .hbm, ⟨1, _⟩ => ⟨S1536x1, .f32⟩
  | .hbm, ⟨2, _⟩ => ⟨S256x8192, .i32⟩
  | .hbm, ⟨3, _⟩ => ⟨S16x8192, .fp8e4m3⟩
  | .hbm, ⟨4, _⟩ => ⟨S8192, .f32⟩
  | .hbm, ⟨5, _⟩ => ⟨S1536x8192, .bf16⟩
  | .hbm, ⟨6, _⟩ => ⟨S1x8192, .f32⟩
  | .hbm, ⟨7, _⟩ => ⟨S1536x8192, .f32⟩
  | .local _ .vmem, ⟨0, _⟩ => ⟨S1536x2048, .fp8e4m3⟩
  | .local _ .vmem, ⟨1, _⟩ => ⟨S1536x1, .f32⟩
  | .local _ .vmem, ⟨2, _⟩ => ⟨S256x512, .i32⟩
  | .local _ .vmem, ⟨3, _⟩ => ⟨S256x512, .i32⟩
  | .local _ .vmem, ⟨4, _⟩ => ⟨S16x512, .fp8e4m3⟩
  | .local _ .vmem, ⟨5, _⟩ => ⟨S16x512, .fp8e4m3⟩
  | .local _ .vmem, ⟨6, _⟩ => ⟨S1x512, .f32⟩
  | .local _ .vmem, ⟨7, _⟩ => ⟨S1x512, .f32⟩
  | .local _ .vmem, ⟨8, _⟩ => ⟨S1536x512, .bf16⟩
  | .local _ .vmem, ⟨9, _⟩ => ⟨S1536x512, .bf16⟩
  | .local _ .vmem, ⟨10, _⟩ => ⟨S1536x512, .f32⟩
  | .local _ .vmem, ⟨11, _⟩ => ⟨S1536x512, .f32⟩
  | .local _ .vmem, ⟨12, _⟩ => ⟨S2048x512, .bf16⟩
  | .local _ .vmem, ⟨13, _⟩ => ⟨S16x512, .f32⟩
  | _, _ => ⟨S1536x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c2_i32 : BitVec 32 := 2#32
  let v5 : BitVec 32 := Scalar.addi c0_i32 c2_i32
  let c1_i32 : BitVec 32 := 1#32
  ⟨c0_i32, v5, c1_i32⟩
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v7 : BitVec 32 := Scalar.muli arg10 c128_i32
  let v8 : Index := Scalar.indexCast v7
  let c0_7 : Index := 0#32
  ![v8.toNat, 0]
def k0_off2 (k0_t1 : Fin k0_t1_loop.trips) (c0_i32_8 : BitVec 32) : Fin 2 → Nat :=
  let c0_i32 : BitVec 32 := 0#32
  let c1_i32 : BitVec 32 := 1#32
  let arg10 : BitVec 32 := Scf.iv c0_i32 c1_i32 k0_t1
  let v19 : BitVec 32 := Scalar.addi c0_i32_8 arg10
  let v20 : Index := Scalar.indexCast v19
  let c0_9 : Index := 0#32
  ![v20.toNat, 0]
def k0_off3 (k0_t1 : Fin k0_t1_loop.trips) (c0_i32_11 : BitVec 32) : Fin 2 → Nat :=
  let c0_i32 : BitVec 32 := 0#32
  let c1_i32 : BitVec 32 := 1#32
  let arg10 : BitVec 32 := Scf.iv c0_i32 c1_i32 k0_t1
  let c128_i32_10 : BitVec 32 := 128#32
  let v25 : BitVec 32 := Scalar.muli arg10 c128_i32_10
  let v26 : BitVec 32 := Scalar.addi c0_i32_11 v25
  let v27 : Index := Scalar.indexCast v26
  let c0_12 : Index := 0#32
  ![v27.toNat, 0]
@[reducible] def k0_t2_loop : Scf.Loop 32 :=
  let c0_i32_4 : BitVec 32 := 0#32
  let c3_i32 : BitVec 32 := 3#32
  let v6 : BitVec 32 := Scalar.addi c0_i32_4 c3_i32
  let c1_i32_5 : BitVec 32 := 1#32
  ⟨c0_i32_4, v6, c1_i32_5⟩
def k0_off4 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v8 : Index := Scalar.indexCast v7
  let c0_7 : Index := 0#32
  ![v8.toNat, 0]
def k0_off5 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v13 : Index := Scalar.indexCast v7
  let c256 : Index := 256#32
  ![v13.toNat, 256]
def k0_off6 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v19 : Index := Scalar.indexCast v7
  let c512 : Index := 512#32
  ![v19.toNat, 512]
def k0_off7 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v25 : Index := Scalar.indexCast v7
  let c768 : Index := 768#32
  ![v25.toNat, 768]
def k0_off8 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v31 : Index := Scalar.indexCast v7
  let c1024 : Index := 1024#32
  ![v31.toNat, 1024]
def k0_off9 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v37 : Index := Scalar.indexCast v7
  let c1280 : Index := 1280#32
  ![v37.toNat, 1280]
def k0_off10 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v43 : Index := Scalar.indexCast v7
  let c1536 : Index := 1536#32
  ![v43.toNat, 1536]
def k0_off11 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v49 : Index := Scalar.indexCast v7
  let c1792 : Index := 1792#32
  ![v49.toNat, 1792]
def k0_off12 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v55 : Index := Scalar.indexCast v7
  let c0_31 : Index := 0#32
  ![v55.toNat, 0]
def k0_off13 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c512_i32 : BitVec 32 := 512#32
  let v7 : BitVec 32 := Scalar.muli arg10 c512_i32
  let v63 : Index := Scalar.indexCast v7
  let c0_34 : Index := 0#32
  ![v63.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OProjRefIdeal.lean ====
abbrev S1536x2048 : Shape := ⟨2, ![1536, 2048]⟩
abbrev S1536x1 : Shape := ⟨2, ![1536, 1]⟩
abbrev S256x8192 : Shape := ⟨2, ![256, 8192]⟩
abbrev S16x8192 : Shape := ⟨2, ![16, 8192]⟩
abbrev S8192 : Shape := ⟨1, ![8192]⟩
abbrev S1536x8192 : Shape := ⟨2, ![1536, 8192]⟩
abbrev S1x8192 : Shape := ⟨2, ![1, 8192]⟩
abbrev S2048x8192 : Shape := ⟨2, ![2048, 8192]⟩
abbrev S16x1x8192 : Shape := ⟨3, ![16, 1, 8192]⟩
abbrev S16x128x8192 : Shape := ⟨3, ![16, 128, 8192]⟩

abbrev nBuf : Space → Nat
  | .hbm => 8
  | .vmem => 7
  | .smem => 0
  | _ => 0

abbrev bufTy : (tb : Table) → Fin (tcTables nBuf tb) → BufTy
  | .hbm, ⟨0, _⟩ => ⟨S1536x2048, .fp8e4m3⟩
  | .hbm, ⟨1, _⟩ => ⟨S1536x1, .f32⟩
  | .hbm, ⟨2, _⟩ => ⟨S256x8192, .i32⟩
  | .hbm, ⟨3, _⟩ => ⟨S16x8192, .fp8e4m3⟩
  | .hbm, ⟨4, _⟩ => ⟨S8192, .f32⟩
  | .hbm, ⟨5, _⟩ => ⟨S1536x8192, .bf16⟩
  | .hbm, ⟨6, _⟩ => ⟨S1x8192, .f32⟩
  | .hbm, ⟨7, _⟩ => ⟨S1536x8192, .f32⟩
  | .local _ .vmem, ⟨0, _⟩ => ⟨S1536x2048, .fp8e4m3⟩
  | .local _ .vmem, ⟨1, _⟩ => ⟨S1536x1, .f32⟩
  | .local _ .vmem, ⟨2, _⟩ => ⟨S256x8192, .i32⟩
  | .local _ .vmem, ⟨3, _⟩ => ⟨S16x8192, .fp8e4m3⟩
  | .local _ .vmem, ⟨4, _⟩ => ⟨S1x8192, .f32⟩
  | .local _ .vmem, ⟨5, _⟩ => ⟨S1536x8192, .bf16⟩
  | .local _ .vmem, ⟨6, _⟩ => ⟨S1536x8192, .f32⟩
  | _, _ => ⟨S1536x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1536x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Qkv.lean ====
abbrev S1536x8192 : Shape := ⟨2, ![1536, 8192]⟩
abbrev S1536x1 : Shape := ⟨2, ![1536, 1]⟩
abbrev S1024x2560 : Shape := ⟨2, ![1024, 2560]⟩
abbrev S64x2560 : Shape := ⟨2, ![64, 2560]⟩
abbrev S2560 : Shape := ⟨1, ![2560]⟩
abbrev S1x2560 : Shape := ⟨2, ![1, 2560]⟩
abbrev S1536x2560 : Shape := ⟨2, ![1536, 2560]⟩
abbrev S1024x512 : Shape := ⟨2, ![1024, 512]⟩
abbrev S64x512 : Shape := ⟨2, ![64, 512]⟩
abbrev S1x512 : Shape := ⟨2, ![1, 512]⟩
abbrev S1536x512 : Shape := ⟨2, ![1536, 512]⟩
abbrev S8192x512 : Shape := ⟨2, ![8192, 512]⟩
abbrev S128x512 : Shape := ⟨2, ![128, 512]⟩
abbrev S512x256 : Shape := ⟨2, ![512, 256]⟩
abbrev S256x512 : Shape := ⟨2, ![256, 512]⟩
abbrev S512x512 : Shape := ⟨2, ![512, 512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S1536x8192, .fp8e4m3⟩
  | .hbm, ⟨1, _⟩ => ⟨S1536x1, .f32⟩
  | .hbm, ⟨2, _⟩ => ⟨S1024x2560, .i32⟩
  | .hbm, ⟨3, _⟩ => ⟨S64x2560, .fp8e4m3⟩
  | .hbm, ⟨4, _⟩ => ⟨S2560, .f32⟩
  | .hbm, ⟨5, _⟩ => ⟨S1x2560, .f32⟩
  | .hbm, ⟨6, _⟩ => ⟨S1536x2560, .f32⟩
  | .local _ .vmem, ⟨0, _⟩ => ⟨S1536x8192, .fp8e4m3⟩
  | .local _ .vmem, ⟨1, _⟩ => ⟨S1536x1, .f32⟩
  | .local _ .vmem, ⟨2, _⟩ => ⟨S1024x512, .i32⟩
  | .local _ .vmem, ⟨3, _⟩ => ⟨S1024x512, .i32⟩
  | .local _ .vmem, ⟨4, _⟩ => ⟨S64x512, .fp8e4m3⟩
  | .local _ .vmem, ⟨5, _⟩ => ⟨S64x512, .fp8e4m3⟩
  | .local _ .vmem, ⟨6, _⟩ => ⟨S1x512, .f32⟩
  | .local _ .vmem, ⟨7, _⟩ => ⟨S1x512, .f32⟩
  | .local _ .vmem, ⟨8, _⟩ => ⟨S1536x512, .f32⟩
  | .local _ .vmem, ⟨9, _⟩ => ⟨S1536x512, .f32⟩
  | .local _ .vmem, ⟨10, _⟩ => ⟨S8192x512, .bf16⟩
  | .local _ .vmem, ⟨11, _⟩ => ⟨S64x512, .f32⟩
  | _, _ => ⟨S1536x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![5], ![false]⟩

@[reducible] def k0_t1_loop : Scf.Loop 32 :=
  let c0_i32 : BitVec 32 := 0#32
  let c8_i32 : BitVec 32 := 8#32
  let v5 : BitVec 32 := Scalar.addi c0_i32 c8_i32
  let c1_i32 : BitVec 32 := 1#32
  ⟨c0_i32, v5, c1_i32⟩
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v7 : BitVec 32 := Scalar.muli arg9 c128_i32
  let v8 : Index := Scalar.indexCast v7
  let c0_7 : Index := 0#32
  ![v8.toNat, 0]
def k0_off2 (k0_t1 : Fin k0_t1_loop.trips) (c0_i32_8 : BitVec 32) : Fin 2 → Nat :=
  let c0_i32 : BitVec 32 := 0#32
  let c1_i32 : BitVec 32 := 1#32
  let arg9 : BitVec 32 := Scf.iv c0_i32 c1_i32 k0_t1
  let v19 : BitVec 32 := Scalar.addi c0_i32_8 arg9
  let v20 : Index := Scalar.indexCast v19
  let c0_9 : Index := 0#32
  ![v20.toNat, 0]
def k0_off3 (k0_t1 : Fin k0_t1_loop.trips) (c0_i32_11 : BitVec 32) : Fin 2 → Nat :=
  let c0_i32 : BitVec 32 := 0#32
  let c1_i32 : BitVec 32 := 1#32
  let arg9 : BitVec 32 := Scf.iv c0_i32 c1_i32 k0_t1
  let c128_i32_10 : BitVec 32 := 128#32
  let v25 : BitVec 32 := Scalar.muli arg9 c128_i32_10
  let v26 : BitVec 32 := Scalar.addi c0_i32_11 v25
  let v27 : Index := Scalar.indexCast v26
  let c0_12 : Index := 0#32
  ![v27.toNat, 0]
@[reducible] def k0_t2_loop : Scf.Loop 32 :=
  let c0_i32_4 : BitVec 32 := 0#32
  let c3_i32 : BitVec 32 := 3#32
  let v6 : BitVec 32 := Scalar.addi c0_i32_4 c3_i32
  let c1_i32_5 : BitVec 32 := 1#32
  ⟨c0_i32_4, v6, c1_i32_5⟩
def k0_off4 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v8 : Index := Scalar.indexCast v7
  let c0_7 : Index := 0#32
  ![v8.toNat, 0]
def k0_off5 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v13 : Index := Scalar.indexCast v7
  let c256 : Index := 256#32
  ![v13.toNat, 256]
def k0_off6 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v19 : Index := Scalar.indexCast v7
  let c512 : Index := 512#32
  ![v19.toNat, 512]
def k0_off7 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v25 : Index := Scalar.indexCast v7
  let c768 : Index := 768#32
  ![v25.toNat, 768]
def k0_off8 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v31 : Index := Scalar.indexCast v7
  let c1024 : Index := 1024#32
  ![v31.toNat, 1024]
def k0_off9 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v37 : Index := Scalar.indexCast v7
  let c1280 : Index := 1280#32
  ![v37.toNat, 1280]
def k0_off10 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v43 : Index := Scalar.indexCast v7
  let c1536 : Index := 1536#32
  ![v43.toNat, 1536]
def k0_off11 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v49 : Index := Scalar.indexCast v7
  let c1792 : Index := 1792#32
  ![v49.toNat, 1792]
def k0_off12 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v55 : Index := Scalar.indexCast v7
  let c2048 : Index := 2048#32
  ![v55.toNat, 2048]
def k0_off13 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v61 : Index := Scalar.indexCast v7
  let c2304 : Index := 2304#32
  ![v61.toNat, 2304]
def k0_off14 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v67 : Index := Scalar.indexCast v7
  let c2560 : Index := 2560#32
  ![v67.toNat, 2560]
def k0_off15 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v73 : Index := Scalar.indexCast v7
  let c2816 : Index := 2816#32
  ![v73.toNat, 2816]
def k0_off16 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v79 : Index := Scalar.indexCast v7
  let c3072 : Index := 3072#32
  ![v79.toNat, 3072]
def k0_off17 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v85 : Index := Scalar.indexCast v7
  let c3328 : Index := 3328#32
  ![v85.toNat, 3328]
def k0_off18 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v91 : Index := Scalar.indexCast v7
  let c3584 : Index := 3584#32
  ![v91.toNat, 3584]
def k0_off19 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v97 : Index := Scalar.indexCast v7
  let c3840 : Index := 3840#32
  ![v97.toNat, 3840]
def k0_off20 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v103 : Index := Scalar.indexCast v7
  let c4096 : Index := 4096#32
  ![v103.toNat, 4096]
def k0_off21 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v109 : Index := Scalar.indexCast v7
  let c4352 : Index := 4352#32
  ![v109.toNat, 4352]
def k0_off22 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v115 : Index := Scalar.indexCast v7
  let c4608 : Index := 4608#32
  ![v115.toNat, 4608]
def k0_off23 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v121 : Index := Scalar.indexCast v7
  let c4864 : Index := 4864#32
  ![v121.toNat, 4864]
def k0_off24 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v127 : Index := Scalar.indexCast v7
  let c5120 : Index := 5120#32
  ![v127.toNat, 5120]
def k0_off25 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v133 : Index := Scalar.indexCast v7
  let c5376 : Index := 5376#32
  ![v133.toNat, 5376]
def k0_off26 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v139 : Index := Scalar.indexCast v7
  let c5632 : Index := 5632#32
  ![v139.toNat, 5632]
def k0_off27 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v145 : Index := Scalar.indexCast v7
  let c5888 : Index := 5888#32
  ![v145.toNat, 5888]
def k0_off28 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v151 : Index := Scalar.indexCast v7
  let c6144 : Index := 6144#32
  ![v151.toNat, 6144]
def k0_off29 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v157 : Index := Scalar.indexCast v7
  let c6400 : Index := 6400#32
  ![v157.toNat, 6400]
def k0_off30 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v163 : Index := Scalar.indexCast v7
  let c6656 : Index := 6656#32
  ![v163.toNat, 6656]
def k0_off31 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v169 : Index := Scalar.indexCast v7
  let c6912 : Index := 6912#32
  ![v169.toNat, 6912]
def k0_off32 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v175 : Index := Scalar.indexCast v7
  let c7168 : Index := 7168#32
  ![v175.toNat, 7168]
def k0_off33 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v181 : Index := Scalar.indexCast v7
  let c7424 : Index := 7424#32
  ![v181.toNat, 7424]
def k0_off34 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v187 : Index := Scalar.indexCast v7
  let c7680 : Index := 7680#32
  ![v187.toNat, 7680]
def k0_off35 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v193 : Index := Scalar.indexCast v7
  let c7936 : Index := 7936#32
  ![v193.toNat, 7936]
def k0_off36 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v199 : Index := Scalar.indexCast v7
  let c0_103 : Index := 0#32
  ![v199.toNat, 0]
def k0_off37 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v7 : BitVec 32 := Scalar.muli arg9 c512_i32
  let v207 : Index := Scalar.indexCast v7
  let c0_106 : Index := 0#32
  ![v207.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QkvRefIdeal.lean ====
abbrev S1536x8192 : Shape := ⟨2, ![1536, 8192]⟩
abbrev S1536x1 : Shape := ⟨2, ![1536, 1]⟩
abbrev S1024x2560 : Shape := ⟨2, ![1024, 2560]⟩
abbrev S64x2560 : Shape := ⟨2, ![64, 2560]⟩
abbrev S2560 : Shape := ⟨1, ![2560]⟩
abbrev S1x2560 : Shape := ⟨2, ![1, 2560]⟩
abbrev S1536x2560 : Shape := ⟨2, ![1536, 2560]⟩
abbrev S8192x2560 : Shape := ⟨2, ![8192, 2560]⟩
abbrev S64x1x2560 : Shape := ⟨3, ![64, 1, 2560]⟩
abbrev S64x128x2560 : Shape := ⟨3, ![64, 128, 2560]⟩

abbrev nBuf : Space → Nat
  | .hbm => 7
  | .vmem => 6
  | .smem => 0
  | _ => 0

abbrev bufTy : (tb : Table) → Fin (tcTables nBuf tb) → BufTy
  | .hbm, ⟨0, _⟩ => ⟨S1536x8192, .fp8e4m3⟩
  | .hbm, ⟨1, _⟩ => ⟨S1536x1, .f32⟩
  | .hbm, ⟨2, _⟩ => ⟨S1024x2560, .i32⟩
  | .hbm, ⟨3, _⟩ => ⟨S64x2560, .fp8e4m3⟩
  | .hbm, ⟨4, _⟩ => ⟨S2560, .f32⟩
  | .hbm, ⟨5, _⟩ => ⟨S1x2560, .f32⟩
  | .hbm, ⟨6, _⟩ => ⟨S1536x2560, .f32⟩
  | .local _ .vmem, ⟨0, _⟩ => ⟨S1536x8192, .fp8e4m3⟩
  | .local _ .vmem, ⟨1, _⟩ => ⟨S1536x1, .f32⟩
  | .local _ .vmem, ⟨2, _⟩ => ⟨S1024x2560, .i32⟩
  | .local _ .vmem, ⟨3, _⟩ => ⟨S64x2560, .fp8e4m3⟩
  | .local _ .vmem, ⟨4, _⟩ => ⟨S1x2560, .f32⟩
  | .local _ .vmem, ⟨5, _⟩ => ⟨S1536x2560, .f32⟩
  | _, _ => ⟨S1536x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1536x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2560 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x2560 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Norm1.lean ====
abbrev S1536x8192 : Shape := ⟨2, ![1536, 8192]⟩
abbrev S8192 : Shape := ⟨1, ![8192]⟩
abbrev S1x8192 : Shape := ⟨2, ![1, 8192]⟩
abbrev S1536x1 : Shape := ⟨2, ![1536, 1]⟩
abbrev S128x8192 : Shape := ⟨2, ![128, 8192]⟩
abbrev S128x1 : Shape := ⟨2, ![128, 1]⟩
abbrev S128 : Shape := ⟨1, ![128]⟩

abbrev nBuf : Space → Nat
  | .hbm => 5
  | .vmem => 7
  | .smem => 0
  | _ => 0

abbrev bufTy : (tb : Table) → Fin (tcTables nBuf tb) → BufTy
  | .hbm, ⟨0, _⟩ => ⟨S1536x8192, .bf16⟩
  | .hbm, ⟨1, _⟩ => ⟨S8192, .f32⟩
  | .hbm, ⟨2, _⟩ => ⟨S1x8192, .f32⟩
  | .hbm, ⟨3, _⟩ => ⟨S1536x8192, .fp8e4m3⟩
  | .hbm, ⟨4, _⟩ => ⟨S1536x1, .f32⟩
  | .local _ .vmem, ⟨0, _⟩ => ⟨S128x8192, .bf16⟩
  | .local _ .vmem, ⟨1, _⟩ => ⟨S128x8192, .bf16⟩
  | .local _ .vmem, ⟨2, _⟩ => ⟨S1x8192, .f32⟩
  | .local _ .vmem, ⟨3, _⟩ => ⟨S128x8192, .fp8e4m3⟩
  | .local _ .vmem, ⟨4, _⟩ => ⟨S128x8192, .fp8e4m3⟩
  | .local _ .vmem, ⟨5, _⟩ => ⟨S128x1, .f32⟩
  | .local _ .vmem, ⟨6, _⟩ => ⟨S128x1, .f32⟩
  | _, _ => ⟨S1536x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Norm1RefIdeal.lean ====
abbrev S1536x8192 : Shape := ⟨2, ![1536, 8192]⟩
abbrev S8192 : Shape := ⟨1, ![8192]⟩
abbrev S1x8192 : Shape := ⟨2, ![1, 8192]⟩
abbrev S1536x1 : Shape := ⟨2, ![1536, 1]⟩
abbrev S1536 : Shape := ⟨1, ![1536]⟩

abbrev nBuf : Space → Nat
  | .hbm => 5
  | .vmem => 4
  | .smem => 0
  | _ => 0

abbrev bufTy : (tb : Table) → Fin (tcTables nBuf tb) → BufTy
  | .hbm, ⟨0, _⟩ => ⟨S1536x8192, .bf16⟩
  | .hbm, ⟨1, _⟩ => ⟨S8192, .f32⟩
  | .hbm, ⟨2, _⟩ => ⟨S1x8192, .f32⟩
  | .hbm, ⟨3, _⟩ => ⟨S1536x8192, .fp8e4m3⟩
  | .hbm, ⟨4, _⟩ => ⟨S1536x1, .f32⟩
  | .local _ .vmem, ⟨0, _⟩ => ⟨S1536x8192, .bf16⟩
  | .local _ .vmem, ⟨1, _⟩ => ⟨S1x8192, .f32⟩
  | .local _ .vmem, ⟨2, _⟩ => ⟨S1536x8192, .fp8e4m3⟩
  | .local _ .vmem, ⟨3, _⟩ => ⟨S1536x1, .f32⟩
  | _, _ => ⟨S1536x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1536x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Norm2.lean ====
abbrev S1536x8192 : Shape := ⟨2, ![1536, 8192]⟩
abbrev S8192 : Shape := ⟨1, ![8192]⟩
abbrev S1x8192 : Shape := ⟨2, ![1, 8192]⟩
abbrev S1536x1 : Shape := ⟨2, ![1536, 1]⟩
abbrev S128x8192 : Shape := ⟨2, ![128, 8192]⟩
abbrev S128x1 : Shape := ⟨2, ![128, 1]⟩
abbrev S128 : Shape := ⟨1, ![128]⟩

abbrev nBuf : Space → Nat
  | .hbm => 5
  | .vmem => 7
  | .smem => 0
  | _ => 0

abbrev bufTy : (tb : Table) → Fin (tcTables nBuf tb) → BufTy
  | .hbm, ⟨0, _⟩ => ⟨S1536x8192, .f32⟩
  | .hbm, ⟨1, _⟩ => ⟨S8192, .f32⟩
  | .hbm, ⟨2, _⟩ => ⟨S1x8192, .f32⟩
  | .hbm, ⟨3, _⟩ => ⟨S1536x8192, .fp8e4m3⟩
  | .hbm, ⟨4, _⟩ => ⟨S1536x1, .f32⟩
  | .local _ .vmem, ⟨0, _⟩ => ⟨S128x8192, .f32⟩
  | .local _ .vmem, ⟨1, _⟩ => ⟨S128x8192, .f32⟩
  | .local _ .vmem, ⟨2, _⟩ => ⟨S1x8192, .f32⟩
  | .local _ .vmem, ⟨3, _⟩ => ⟨S128x8192, .fp8e4m3⟩
  | .local _ .vmem, ⟨4, _⟩ => ⟨S128x8192, .fp8e4m3⟩
  | .local _ .vmem, ⟨5, _⟩ => ⟨S128x1, .f32⟩
  | .local _ .vmem, ⟨6, _⟩ => ⟨S128x1, .f32⟩
  | _, _ => ⟨S1536x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Norm2RefIdeal.lean ====
abbrev S1536x8192 : Shape := ⟨2, ![1536, 8192]⟩
abbrev S8192 : Shape := ⟨1, ![8192]⟩
abbrev S1x8192 : Shape := ⟨2, ![1, 8192]⟩
abbrev S1536x1 : Shape := ⟨2, ![1536, 1]⟩
abbrev S1536 : Shape := ⟨1, ![1536]⟩

abbrev nBuf : Space → Nat
  | .hbm => 5
  | .vmem => 4
  | .smem => 0
  | _ => 0

abbrev bufTy : (tb : Table) → Fin (tcTables nBuf tb) → BufTy
  | .hbm, ⟨0, _⟩ => ⟨S1536x8192, .f32⟩
  | .hbm, ⟨1, _⟩ => ⟨S8192, .f32⟩
  | .hbm, ⟨2, _⟩ => ⟨S1x8192, .f32⟩
  | .hbm, ⟨3, _⟩ => ⟨S1536x8192, .fp8e4m3⟩
  | .hbm, ⟨4, _⟩ => ⟨S1536x1, .f32⟩
  | .local _ .vmem, ⟨0, _⟩ => ⟨S1536x8192, .f32⟩
  | .local _ .vmem, ⟨1, _⟩ => ⟨S1x8192, .f32⟩
  | .local _ .vmem, ⟨2, _⟩ => ⟨S1536x8192, .fp8e4m3⟩
  | .local _ .vmem, ⟨3, _⟩ => ⟨S1536x1, .f32⟩
  | _, _ => ⟨S1536x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1536x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== QuantAttn.lean ====
abbrev S1536x2048 : Shape := ⟨2, ![1536, 2048]⟩
abbrev S1536x1 : Shape := ⟨2, ![1536, 1]⟩
abbrev S128x2048 : Shape := ⟨2, ![128, 2048]⟩
abbrev S128x1 : Shape := ⟨2, ![128, 1]⟩
abbrev S128 : Shape := ⟨1, ![128]⟩

abbrev nBuf : Space → Nat
  | .hbm => 3
  | .vmem => 6
  | .smem => 0
  | _ => 0

abbrev bufTy : (tb : Table) → Fin (tcTables nBuf tb) → BufTy
  | .hbm, ⟨0, _⟩ => ⟨S1536x2048, .f32⟩
  | .hbm, ⟨1, _⟩ => ⟨S1536x2048, .fp8e4m3⟩
  | .hbm, ⟨2, _⟩ => ⟨S1536x1, .f32⟩
  | .local _ .vmem, ⟨0, _⟩ => ⟨S128x2048, .f32⟩
  | .local _ .vmem, ⟨1, _⟩ => ⟨S128x2048, .f32⟩
  | .local _ .vmem, ⟨2, _⟩ => ⟨S128x2048, .fp8e4m3⟩
  | .local _ .vmem, ⟨3, _⟩ => ⟨S128x2048, .fp8e4m3⟩
  | .local _ .vmem, ⟨4, _⟩ => ⟨S128x1, .f32⟩
  | .local _ .vmem, ⟨5, _⟩ => ⟨S128x1, .f32⟩
  | _, _ => ⟨S1536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QuantAttnRefIdeal.lean ====
abbrev S1536x2048 : Shape := ⟨2, ![1536, 2048]⟩
abbrev S1536x1 : Shape := ⟨2, ![1536, 1]⟩
abbrev S1536 : Shape := ⟨1, ![1536]⟩

abbrev nBuf : Space → Nat
  | .hbm => 3
  | .vmem => 3
  | .smem => 0
  | _ => 0

abbrev bufTy : (tb : Table) → Fin (tcTables nBuf tb) → BufTy
  | .hbm, ⟨0, _⟩ => ⟨S1536x2048, .f32⟩
  | .hbm, ⟨1, _⟩ => ⟨S1536x2048, .fp8e4m3⟩
  | .hbm, ⟨2, _⟩ => ⟨S1536x1, .f32⟩
  | .local _ .vmem, ⟨0, _⟩ => ⟨S1536x2048, .f32⟩
  | .local _ .vmem, ⟨1, _⟩ => ⟨S1536x2048, .fp8e4m3⟩
  | .local _ .vmem, ⟨2, _⟩ => ⟨S1536x1, .f32⟩
  | _, _ => ⟨S1536x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1536x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== QuantAct.lean ====
abbrev S1536x7168 : Shape := ⟨2, ![1536, 7168]⟩
abbrev S1536x1 : Shape := ⟨2, ![1536, 1]⟩
abbrev S128x7168 : Shape := ⟨2, ![128, 7168]⟩
abbrev S128x1 : Shape := ⟨2, ![128, 1]⟩
abbrev S128 : Shape := ⟨1, ![128]⟩

abbrev nBuf : Space → Nat
  | .hbm => 3
  | .vmem => 6
  | .smem => 0
  | _ => 0

abbrev bufTy : (tb : Table) → Fin (tcTables nBuf tb) → BufTy
  | .hbm, ⟨0, _⟩ => ⟨S1536x7168, .f32⟩
  | .hbm, ⟨1, _⟩ => ⟨S1536x7168, .fp8e4m3⟩
  | .hbm, ⟨2, _⟩ => ⟨S1536x1, .f32⟩
  | .local _ .vmem, ⟨0, _⟩ => ⟨S128x7168, .f32⟩
  | .local _ .vmem, ⟨1, _⟩ => ⟨S128x7168, .f32⟩
  | .local _ .vmem, ⟨2, _⟩ => ⟨S128x7168, .fp8e4m3⟩
  | .local _ .vmem, ⟨3, _⟩ => ⟨S128x7168, .fp8e4m3⟩
  | .local _ .vmem, ⟨4, _⟩ => ⟨S128x1, .f32⟩
  | .local _ .vmem, ⟨5, _⟩ => ⟨S128x1, .f32⟩
  | _, _ => ⟨S1536x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x7168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x7168 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QuantActRefIdeal.lean ====
abbrev S1536x7168 : Shape := ⟨2, ![1536, 7168]⟩
abbrev S1536x1 : Shape := ⟨2, ![1536, 1]⟩
abbrev S1536 : Shape := ⟨1, ![1536]⟩

abbrev nBuf : Space → Nat
  | .hbm => 3
  | .vmem => 3
  | .smem => 0
  | _ => 0

abbrev bufTy : (tb : Table) → Fin (tcTables nBuf tb) → BufTy
  | .hbm, ⟨0, _⟩ => ⟨S1536x7168, .f32⟩
  | .hbm, ⟨1, _⟩ => ⟨S1536x7168, .fp8e4m3⟩
  | .hbm, ⟨2, _⟩ => ⟨S1536x1, .f32⟩
  | .local _ .vmem, ⟨0, _⟩ => ⟨S1536x7168, .f32⟩
  | .local _ .vmem, ⟨1, _⟩ => ⟨S1536x7168, .fp8e4m3⟩
  | .local _ .vmem, ⟨2, _⟩ => ⟨S1536x1, .f32⟩
  | _, _ => ⟨S1536x7168, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1536x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== RopeKv.lean ====
abbrev S1536x2560 : Shape := ⟨2, ![1536, 2560]⟩
abbrev S3x512x64 : Shape := ⟨3, ![3, 512, 64]⟩
abbrev S2 : Shape := ⟨1, ![2]⟩
abbrev S3x64x512 : Shape := ⟨3, ![3, 64, 512]⟩
abbrev S1536x2048 : Shape := ⟨2, ![1536, 2048]⟩
abbrev S3x2x512x128 : Shape := ⟨4, ![3, 2, 512, 128]⟩
abbrev S512x2560 : Shape := ⟨2, ![512, 2560]⟩
abbrev S1x64x512 : Shape := ⟨3, ![1, 64, 512]⟩
abbrev S512x2048 : Shape := ⟨2, ![512, 2048]⟩
abbrev S1x2x512x128 : Shape := ⟨4, ![1, 2, 512, 128]⟩
abbrev S64x512 : Shape := ⟨2, ![64, 512]⟩
abbrev S128x512 : Shape := ⟨2, ![128, 512]⟩
abbrev S512x128 : Shape := ⟨2, ![512, 128]⟩
abbrev S1 : Shape := ⟨1, ![1]⟩
abbrev S1x1x512x128 : Shape := ⟨4, ![1, 1, 512, 128]⟩

abbrev nBuf : Space → Nat
  | .hbm => 10
  | .vmem => 12
  | .smem => 2
  | _ => 0

abbrev bufTy : (tb : Table) → Fin (tcTables nBuf tb) → BufTy
  | .hbm, ⟨0, _⟩ => ⟨S1536x2560, .f32⟩
  | .hbm, ⟨1, _⟩ => ⟨S3x512x64, .f32⟩
  | .hbm, ⟨2, _⟩ => ⟨S3x512x64, .f32⟩
  | .hbm, ⟨3, _⟩ => ⟨S2, .f32⟩
  | .hbm, ⟨4, _⟩ => ⟨S2, .f32⟩
  | .hbm, ⟨5, _⟩ => ⟨S3x64x512, .f32⟩
  | .hbm, ⟨6, _⟩ => ⟨S3x64x512, .f32⟩
  | .hbm, ⟨7, _⟩ => ⟨S1536x2048, .bf16⟩
  | .hbm, ⟨8, _⟩ => ⟨S3x2x512x128, .fp8e4m3⟩
  | .hbm, ⟨9, _⟩ => ⟨S3x2x512x128, .fp8e4m3⟩
  | .local _ .vmem, ⟨0, _⟩ => ⟨S512x2560, .f32⟩
  | .local _ .vmem, ⟨1, _⟩ => ⟨S512x2560, .f32⟩
  | .local _ .vmem, ⟨2, _⟩ => ⟨S1x64x512, .f32⟩
  | .local _ .vmem, ⟨3, _⟩ => ⟨S1x64x512, .f32⟩
  | .local _ .vmem, ⟨4, _⟩ => ⟨S1x64x512, .f32⟩
  | .local _ .vmem, ⟨5, _⟩ => ⟨S1x64x512, .f32⟩
  | .local _ .vmem, ⟨6, _⟩ => ⟨S512x2048, .bf16⟩
  | .local _ .vmem, ⟨7, _⟩ => ⟨S512x2048, .bf16⟩
  | .local _ .vmem, ⟨8, _⟩ => ⟨S1x2x512x128, .fp8e4m3⟩
  | .local _ .vmem, ⟨9, _⟩ => ⟨S1x2x512x128, .fp8e4m3⟩
  | .local _ .vmem, ⟨10, _⟩ => ⟨S1x2x512x128, .fp8e4m3⟩
  | .local _ .vmem, ⟨11, _⟩ => ⟨S1x2x512x128, .fp8e4m3⟩
  | .local _ .smem, ⟨0, _⟩ => ⟨S2, .f32⟩
  | .local _ .smem, ⟨1, _⟩ => ⟨S2, .f32⟩
  | _, _ => ⟨S1536x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg3_0 : Ref sig .tc := ⟨.smem, 0, rfl⟩
abbrev cc0_stg4_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x512x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x512x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RopeKvRefIdeal.lean ====
abbrev S1536x2560 : Shape := ⟨2, ![1536, 2560]⟩
abbrev S3x512x64 : Shape := ⟨3, ![3, 512, 64]⟩
abbrev S2 : Shape := ⟨1, ![2]⟩
abbrev S3x512x20x128 : Shape := ⟨4, ![3, 512, 20, 128]⟩
abbrev S3x512x16x128 : Shape := ⟨4, ![3, 512, 16, 128]⟩
abbrev S3x512x16x64 : Shape := ⟨4, ![3, 512, 16, 64]⟩
abbrev S3x512x1x64 : Shape := ⟨4, ![3, 512, 1, 64]⟩
abbrev S3x512x2x128 : Shape := ⟨4, ![3, 512, 2, 128]⟩
abbrev S3x512x2x64 : Shape := ⟨4, ![3, 512, 2, 64]⟩
abbrev S1536x2048 : Shape := ⟨2, ![1536, 2048]⟩
abbrev S2x1 : Shape := ⟨2, ![2, 1]⟩
abbrev S1x1x2x1 : Shape := ⟨4, ![1, 1, 2, 1]⟩
abbrev S_ : Shape := ⟨0, ![]⟩
abbrev S3x2x512x128 : Shape := ⟨4, ![3, 2, 512, 128]⟩

abbrev nBuf : Space → Nat
  | .hbm => 69
  | .vmem => 0
  | .smem => 0
  | _ => 0

abbrev bufTy : (tb : Table) → Fin (tcTables nBuf tb) → BufTy
  | .hbm, ⟨0, _⟩ => ⟨S1536x2560, .f32⟩
  | .hbm, ⟨1, _⟩ => ⟨S3x512x64, .f32⟩
  | .hbm, ⟨2, _⟩ => ⟨S3x512x64, .f32⟩
  | .hbm, ⟨3, _⟩ => ⟨S2, .f32⟩
  | .hbm, ⟨4, _⟩ => ⟨S2, .f32⟩
  | .hbm, ⟨5, _⟩ => ⟨S3x512x20x128, .f32⟩
  | .hbm, ⟨6, _⟩ => ⟨S3x512x16x128, .f32⟩
  | .hbm, ⟨7, _⟩ => ⟨S3x512x16x64, .f32⟩
  | .hbm, ⟨8, _⟩ => ⟨S3x512x16x64, .f32⟩
  | .hbm, ⟨9, _⟩ => ⟨S3x512x1x64, .f32⟩
  | .hbm, ⟨10, _⟩ => ⟨S3x512x1x64, .f32⟩
  | .hbm, ⟨11, _⟩ => ⟨S3x512x16x64, .f32⟩
  | .hbm, ⟨12, _⟩ => ⟨S3x512x16x64, .f32⟩
  | .hbm, ⟨13, _⟩ => ⟨S3x512x16x64, .f32⟩
  | .hbm, ⟨14, _⟩ => ⟨S3x512x16x64, .f32⟩
  | .hbm, ⟨15, _⟩ => ⟨S3x512x16x64, .f32⟩
  | .hbm, ⟨16, _⟩ => ⟨S3x512x16x64, .f32⟩
  | .hbm, ⟨17, _⟩ => ⟨S3x512x16x64, .f32⟩
  | .hbm, ⟨18, _⟩ => ⟨S3x512x16x64, .f32⟩
  | .hbm, ⟨19, _⟩ => ⟨S3x512x16x64, .f32⟩
  | .hbm, ⟨20, _⟩ => ⟨S3x512x16x64, .f32⟩
  | .hbm, ⟨21, _⟩ => ⟨S3x512x16x128, .f32⟩
  | .hbm, ⟨22, _⟩ => ⟨S3x512x16x128, .bf16⟩
  | .hbm, ⟨23, _⟩ => ⟨S3x512x2x128, .f32⟩
  | .hbm, ⟨24, _⟩ => ⟨S3x512x2x64, .f32⟩
  | .hbm, ⟨25, _⟩ => ⟨S3x512x2x64, .f32⟩
  | .hbm, ⟨26, _⟩ => ⟨S3x512x1x64, .f32⟩
  | .hbm, ⟨27, _⟩ => ⟨S3x512x1x64, .f32⟩
  | .hbm, ⟨28, _⟩ => ⟨S3x512x2x64, .f32⟩
  | .hbm, ⟨29, _⟩ => ⟨S3x512x2x64, .f32⟩
  | .hbm, ⟨30, _⟩ => ⟨S3x512x2x64, .f32⟩
  | .hbm, ⟨31, _⟩ => ⟨S3x512x2x64, .f32⟩
  | .hbm, ⟨32, _⟩ => ⟨S3x512x2x64, .f32⟩
  | .hbm, ⟨33, _⟩ => ⟨S3x512x2x64, .f32⟩
  | .hbm, ⟨34, _⟩ => ⟨S3x512x2x64, .f32⟩
  | .hbm, ⟨35, _⟩ => ⟨S3x512x2x64, .f32⟩
  | .hbm, ⟨36, _⟩ => ⟨S3x512x2x64, .f32⟩
  | .hbm, ⟨37, _⟩ => ⟨S3x512x2x64, .f32⟩
  | .hbm, ⟨38, _⟩ => ⟨S3x512x2x128, .f32⟩
  | .hbm, ⟨39, _⟩ => ⟨S3x512x2x128, .f32⟩
  | .hbm, ⟨40, _⟩ => ⟨S1536x2048, .bf16⟩
  | .hbm, ⟨41, _⟩ => ⟨S2x1, .f32⟩
  | .hbm, ⟨42, _⟩ => ⟨S1x1x2x1, .f32⟩
  | .hbm, ⟨43, _⟩ => ⟨S3x512x2x128, .f32⟩
  | .hbm, ⟨44, _⟩ => ⟨S3x512x2x128, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S3x512x2x128, .f32⟩
  | .hbm, ⟨49, _⟩ => ⟨S3x512x2x128, .f32⟩
  | .hbm, ⟨50, _⟩ => ⟨S_, .f32⟩
  | .hbm, ⟨51, _⟩ => ⟨S3x512x2x128, .f32⟩
  | .hbm, ⟨52, _⟩ => ⟨S3x512x2x128, .f32⟩
  | .hbm, ⟨53, _⟩ => ⟨S3x512x2x128, .fp8e4m3⟩
  | .hbm, ⟨54, _⟩ => ⟨S3x2x512x128, .fp8e4m3⟩
  | .hbm, ⟨55, _⟩ => ⟨S2x1, .f32⟩
  | .hbm, ⟨56, _⟩ => ⟨S1x1x2x1, .f32⟩
  | .hbm, ⟨57, _⟩ => ⟨S3x512x2x128, .f32⟩
  | .hbm, ⟨58, _⟩ => ⟨S3x512x2x128, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S3x512x2x128, .f32⟩
  | .hbm, ⟨63, _⟩ => ⟨S3x512x2x128, .f32⟩
  | .hbm, ⟨64, _⟩ => ⟨S_, .f32⟩
  | .hbm, ⟨65, _⟩ => ⟨S3x512x2x128, .f32⟩
  | .hbm, ⟨66, _⟩ => ⟨S3x512x2x128, .f32⟩
  | .hbm, ⟨67, _⟩ => ⟨S3x512x2x128, .fp8e4m3⟩
  | .hbm, ⟨68, _⟩ => ⟨S3x2x512x128, .fp8e4m3⟩
  | _, _ => ⟨S1536x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst : Ref sig .tc := ⟨.hbm, 45, rfl⟩
abbrev main_cst_0 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_1 : Ref sig .tc := ⟨.hbm, 59, rfl⟩
abbrev main_cst_2 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Attn.lean ====
abbrev S1536x2048 : Shape := ⟨2, ![1536, 2048]⟩
abbrev S3x7680x2x128 : Shape := ⟨4, ![3, 7680, 2, 128]⟩
abbrev S3x2x512x128 : Shape := ⟨4, ![3, 2, 512, 128]⟩
abbrev S2 : Shape := ⟨1, ![2]⟩
abbrev S3 : Shape := ⟨1, ![3]⟩
abbrev S3x2x7680x128 : Shape := ⟨4, ![3, 2, 7680, 128]⟩
abbrev S512x128 : Shape := ⟨2, ![512, 128]⟩
abbrev S1x1x7680x128 : Shape := ⟨4, ![1, 1, 7680, 128]⟩
abbrev S1x1x512x128 : Shape := ⟨4, ![1, 1, 512, 128]⟩
abbrev S1x512 : Shape := ⟨2, ![1, 512]⟩
abbrev S128x512 : Shape := ⟨2, ![128, 512]⟩
abbrev S1 : Shape := ⟨1, ![1]⟩
abbrev S512x512 : Shape := ⟨2, ![512, 512]⟩
abbrev S512 : Shape := ⟨1, ![512]⟩

abbrev nBuf : Space → Nat
  | .hbm => 10
  | .vmem => 15
  | .smem => 3
  | _ => 0

abbrev bufTy : (tb : Table) → Fin (tcTables nBuf tb) → BufTy
  | .hbm, ⟨0, _⟩ => ⟨S1536x2048, .bf16⟩
  | .hbm, ⟨1, _⟩ => ⟨S3x7680x2x128, .fp8e4m3⟩
  | .hbm, ⟨2, _⟩ => ⟨S3x7680x2x128, .fp8e4m3⟩
  | .hbm, ⟨3, _⟩ => ⟨S3x2x512x128, .fp8e4m3⟩
  | .hbm, ⟨4, _⟩ => ⟨S3x2x512x128, .fp8e4m3⟩
  | .hbm, ⟨5, _⟩ => ⟨S2, .f32⟩
  | .hbm, ⟨6, _⟩ => ⟨S2, .f32⟩
  | .hbm, ⟨7, _⟩ => ⟨S3x2x7680x128, .fp8e4m3⟩
  | .hbm, ⟨8, _⟩ => ⟨S3x2x7680x128, .fp8e4m3⟩
  | .hbm, ⟨9, _⟩ => ⟨S1536x2048, .f32⟩
  | .local _ .vmem, ⟨0, _⟩ => ⟨S512x128, .bf16⟩
  | .local _ .vmem, ⟨1, _⟩ => ⟨S512x128, .bf16⟩
  | .local _ .vmem, ⟨2, _⟩ => ⟨S1x1x7680x128, .fp8e4m3⟩
  | .local _ .vmem, ⟨3, _⟩ => ⟨S1x1x7680x128, .fp8e4m3⟩
  | .local _ .vmem, ⟨4, _⟩ => ⟨S1x1x7680x128, .fp8e4m3⟩
  | .local _ .vmem, ⟨5, _⟩ => ⟨S1x1x7680x128, .fp8e4m3⟩
  | .local _ .vmem, ⟨6, _⟩ => ⟨S1x1x512x128, .fp8e4m3⟩
  | .local _ .vmem, ⟨7, _⟩ => ⟨S1x1x512x128, .fp8e4m3⟩
  | .local _ .vmem, ⟨8, _⟩ => ⟨S1x1x512x128, .fp8e4m3⟩
  | .local _ .vmem, ⟨9, _⟩ => ⟨S1x1x512x128, .fp8e4m3⟩
  | .local _ .vmem, ⟨10, _⟩ => ⟨S512x128, .f32⟩
  | .local _ .vmem, ⟨11, _⟩ => ⟨S512x128, .f32⟩
  | .local _ .vmem, ⟨12, _⟩ => ⟨S1x512, .f32⟩
  | .local _ .vmem, ⟨13, _⟩ => ⟨S1x512, .f32⟩
  | .local _ .vmem, ⟨14, _⟩ => ⟨S128x512, .f32⟩
  | .local _ .smem, ⟨0, _⟩ => ⟨S3, .i32⟩
  | .local _ .smem, ⟨1, _⟩ => ⟨S2, .f32⟩
  | .local _ .smem, ⟨2, _⟩ => ⟨S2, .f32⟩
  | _, _ => ⟨S1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg5_0 : Ref sig .tc := ⟨.smem, 1, rfl⟩
abbrev cc0_stg6_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![3, 16], ![false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v17 : Index := Scalar.indexCast arg0
  ![v17.toNat]
def k0_off2 (i : grid0.Coords) : Fin 1 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let v0 : BitVec 32 := Scalar.divsi arg1 c8_i32
  let c1_i32 : BitVec 32 := 1#32
  let v15 : BitVec 32 := Scalar.subi v0 c1_i32
  let v16 : BitVec 32 := Scalar.select v14 v15 v0
  let v19 : Index := Scalar.indexCast v16
  ![v19.toNat]
@[reducible] def k0_t1_loop (v18 : BitVec 32) : Scf.Loop 32 :=
  let c0_i32_40 : BitVec 32 := 0#32
  let c9_i32 : BitVec 32 := 9#32
  let v85 : BitVec 32 := Scalar.shrui v18 c9_i32
  let v86 : BitVec 32 := Scalar.subi v85 c0_i32_40
  let c1_i32_42 : BitVec 32 := 1#32
  let v88 : BitVec 32 := Scalar.divsi v86 c1_i32_42
  let v89 : BitVec 32 := Scalar.muli v88 c1_i32_42
  let v90 : BitVec 32 := Scalar.addi c0_i32_40 v89
  let c1_i32_43 : BitVec 32 := 1#32
  ⟨c0_i32_40, v90, c1_i32_43⟩

def k0_mult1 (v18 : BitVec 32) (k0_t1 : Fin (k0_t1_loop v18).trips) : BitVec 32 :=
  let c0_i32_40 : BitVec 32 := 0#32
  let c1_i32_43 : BitVec 32 := 1#32
  let arg14 : BitVec 32 := Scf.iv c0_i32_40 c1_i32_43 k0_t1
  let c512_i32_52 : BitVec 32 := 512#32
  let v103 : BitVec 32 := Scalar.muli arg14 c512_i32_52
  v103
def k0_off3 (v18 : BitVec 32) (k0_t1 : Fin (k0_t1_loop v18).trips) : Fin 4 → Nat :=
  let c0_53 : Index := 0#32
  let c0_54 : Index := 0#32
  let c0_i32_40 : BitVec 32 := 0#32
  let c1_i32_43 : BitVec 32 := 1#32
  let arg14 : BitVec 32 := Scf.iv c0_i32_40 c1_i32_43 k0_t1
  let c512_i32_52 : BitVec 32 := 512#32
  let v103 : BitVec 32 := Scalar.muli arg14 c512_i32_52
  let v104 : BitVec 32 := v103
  let v105 : Index := Scalar.indexCast v104
  let c0_55 : Index := 0#32
  ![0, 0, v105.toNat, 0]
@[reducible] def k0_t2_loop (v18 : BitVec 32) : Scf.Loop 32 :=
  let c0_i32_40 : BitVec 32 := 0#32
  let c9_i32 : BitVec 32 := 9#32
  let v85 : BitVec 32 := Scalar.shrui v18 c9_i32
  let v86 : BitVec 32 := Scalar.subi v85 c0_i32_40
  let c1_i32_42 : BitVec 32 := 1#32
  let v88 : BitVec 32 := Scalar.divsi v86 c1_i32_42
  let v89 : BitVec 32 := Scalar.muli v88 c1_i32_42
  let v90 : BitVec 32 := Scalar.addi c0_i32_40 v89
  let v87 : BitVec 32 := Scalar.addi c0_i32_40 v86
  let c1_i32_44 : BitVec 32 := 1#32
  ⟨v90, v87, c1_i32_44⟩
def k0_mult2 (v18 : BitVec 32) (k0_t2 : Fin (k0_t2_loop v18).trips) : BitVec 32 :=
  let c0_i32_40 : BitVec 32 := 0#32
  let c9_i32 : BitVec 32 := 9#32
  let v85 : BitVec 32 := Scalar.shrui v18 c9_i32
  let v86 : BitVec 32 := Scalar.subi v85 c0_i32_40
  let c1_i32_42 : BitVec 32 := 1#32
  let v88 : BitVec 32 := Scalar.divsi v86 c1_i32_42
  let v89 : BitVec 32 := Scalar.muli v88 c1_i32_42
  let v90 : BitVec 32 := Scalar.addi c0_i32_40 v89
  let c1_i32_44 : BitVec 32 := 1#32
  let arg14 : BitVec 32 := Scf.iv v90 c1_i32_44 k0_t2
  let c512_i32_52 : BitVec 32 := 512#32
  let v103 : BitVec 32 := Scalar.muli arg14 c512_i32_52
  v103
def k0_off4 (v18 : BitVec 32) (k0_t2 : Fin (k0_t2_loop v18).trips) : Fin 4 → Nat :=
  let c0_53 : Index := 0#32
  let c0_54 : Index := 0#32
  let c0_i32_40 : BitVec 32 := 0#32
  let c9_i32 : BitVec 32 := 9#32
  let v85 : BitVec 32 := Scalar.shrui v18 c9_i32
  let v86 : BitVec 32 := Scalar.subi v85 c0_i32_40
  let c1_i32_42 : BitVec 32 := 1#32
  let v88 : BitVec 32 := Scalar.divsi v86 c1_i32_42
  let v89 : BitVec 32 := Scalar.muli v88 c1_i32_42
  let v90 : BitVec 32 := Scalar.addi c0_i32_40 v89
  let c1_i32_44 : BitVec 32 := 1#32
  let arg14 : BitVec 32 := Scf.iv v90 c1_i32_44 k0_t2
  let c512_i32_52 : BitVec 32 := 512#32
  let v103 : BitVec 32 := Scalar.muli arg14 c512_i32_52
  let v104 : BitVec 32 := v103
  let v105 : Index := Scalar.indexCast v104
  let c0_55 : Index := 0#32
  ![0, 0, v105.toNat, 0]
def k0_mult3 (v18 : BitVec 32) : BitVec 32 :=
  let c9_i32 : BitVec 32 := 9#32
  let v85 : BitVec 32 := Scalar.shrui v18 c9_i32
  let c512_i32_52 : BitVec 32 := 512#32
  let v103 : BitVec 32 := Scalar.muli v85 c512_i32_52
  v103
def k0_cond1 (v18 : BitVec 32) : BitVec 1 :=
  let c9_i32 : BitVec 32 := 9#32
  let v85 : BitVec 32 := Scalar.shrui v18 c9_i32
  let c512_i32 : BitVec 32 := 512#32
  let v93 : BitVec 32 := Scalar.muli v85 c512_i32
  let v94 : BitVec 1 := Scalar.cmpi .slt v93 v18
  let v95 : BitVec 32 := Scalar.extui v94
  let c0_i32_45 : BitVec 32 := 0#32
  let v96 : BitVec 1 := Scalar.cmpi .ne v95 c0_i32_45
  v96

def k0_off5 (v18 : BitVec 32) : Fin 4 → Nat :=
  let c0_54 : Index := 0#32
  let c0_55 : Index := 0#32
  let c9_i32 : BitVec 32 := 9#32
  let v85 : BitVec 32 := Scalar.shrui v18 c9_i32
  let c512_i32_52 : BitVec 32 := 512#32
  let v103 : BitVec 32 := Scalar.muli v85 c512_i32_52
  let v104 : BitVec 32 := v103
  let v109 : Index := Scalar.indexCast v104
  let c0_56 : Index := 0#32
  ![0, 0, v109.toNat, 0]

def k0_chk1 (v18 : BitVec 32) : Prop :=
  ((k0_t1_loop v18).OK) ∧
  (∀ k0_t1 : Fin (k0_t1_loop v18).trips, 512 ∣ (k0_mult1 v18 k0_t1).toNat) ∧
  (∀ k0_t1 : Fin (k0_t1_loop v18).trips, ∀ a, (k0_off3 v18 k0_t1) a + S1x1x512x128.size a ≤ S1x1x7680x128.size a) ∧
  ((k0_t2_loop v18).OK) ∧
  (∀ k0_t2 : Fin (k0_t2_loop v18).trips, 512 ∣ (k0_mult2 v18 k0_t2).toNat) ∧
  (∀ k0_t2 : Fin (k0_t2_loop v18).trips, ∀ a, (k0_off4 v18 k0_t2) a + S1x1x512x128.size a ≤ S1x1x7680x128.size a) ∧
  (∀ (k0_h1 : k0_cond1 v18 = 1#1), 512 ∣ (k0_mult3 v18).toNat) ∧
  (∀ (k0_h1 : k0_cond1 v18 = 1#1), ∀ a, (k0_off5 v18) a + S1x1x512x128.size a ≤ S1x1x7680x128.size a)
theorem k0_t1_ok : ∀ (v18 : BitVec 32) (k0_hw1 : k0_chk1 v18), (k0_t1_loop v18).OK := fun v18 k0_hw1 => k0_hw1.1
theorem k0_mult1_dvd : ∀ (v18 : BitVec 32) (k0_hw1 : k0_chk1 v18) (k0_t1 : Fin (k0_t1_loop v18).trips), 512 ∣ (k0_mult1 v18 k0_t1).toNat := fun v18 k0_hw1 k0_t1 => k0_hw1.2.1 k0_t1
theorem k0_off3_inb : ∀ (v18 : BitVec 32) (k0_hw1 : k0_chk1 v18) (k0_t1 : Fin (k0_t1_loop v18).trips), ∀ a, (k0_off3 v18 k0_t1) a + S1x1x512x128.size a ≤ S1x1x7680x128.size a := fun v18 k0_hw1 k0_t1 => k0_hw1.2.2.1 k0_t1
theorem k0_t2_ok : ∀ (v18 : BitVec 32) (k0_hw1 : k0_chk1 v18), (k0_t2_loop v18).OK := fun v18 k0_hw1 => k0_hw1.2.2.2.1
theorem k0_mult2_dvd : ∀ (v18 : BitVec 32) (k0_hw1 : k0_chk1 v18) (k0_t2 : Fin (k0_t2_loop v18).trips), 512 ∣ (k0_mult2 v18 k0_t2).toNat := fun v18 k0_hw1 k0_t2 => k0_hw1.2.2.2.2.1 k0_t2
theorem k0_off4_inb : ∀ (v18 : BitVec 32) (k0_hw1 : k0_chk1 v18) (k0_t2 : Fin (k0_t2_loop v18).trips), ∀ a, (k0_off4 v18 k0_t2) a + S1x1x512x128.size a ≤ S1x1x7680x128.size a := fun v18 k0_hw1 k0_t2 => k0_hw1.2.2.2.2.2.1 k0_t2
theorem k0_mult3_dvd : ∀ (v18 : BitVec 32) (k0_hw1 : k0_chk1 v18), ∀ (k0_h1 : k0_cond1 v18 = 1#1), 512 ∣ (k0_mult3 v18).toNat := fun v18 k0_hw1 k0_h1 => k0_hw1.2.2.2.2.2.2.1 k0_h1
theorem k0_off5_inb : ∀ (v18 : BitVec 32) (k0_hw1 : k0_chk1 v18), ∀ (k0_h1 : k0_cond1 v18 = 1#1), ∀ a, (k0_off5 v18) a + S1x1x512x128.size a ≤ S1x1x7680x128.size a := fun v18 k0_hw1 k0_h1 => k0_hw1.2.2.2.2.2.2.2 k0_h1

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x7680x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x7680x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .smem S2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .smem S2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnRefIdeal.lean ====
abbrev S1536x2048 : Shape := ⟨2, ![1536, 2048]⟩
abbrev S3x7680x2x128 : Shape := ⟨4, ![3, 7680, 2, 128]⟩
abbrev S3x2x512x128 : Shape := ⟨4, ![3, 2, 512, 128]⟩
abbrev S2 : Shape := ⟨1, ![2]⟩
abbrev S3 : Shape := ⟨1, ![3]⟩
abbrev S3x512x16x128 : Shape := ⟨4, ![3, 512, 16, 128]⟩
abbrev S3x16x512x128 : Shape := ⟨4, ![3, 16, 512, 128]⟩
abbrev S48x512x128 : Shape := ⟨3, ![48, 512, 128]⟩
abbrev S3x1x1x1 : Shape := ⟨4, ![3, 1, 1, 1]⟩
abbrev S3x2x1x1 : Shape := ⟨4, ![3, 2, 1, 1]⟩
abbrev S3x2x1x1x1 : Shape := ⟨5, ![3, 2, 1, 1, 1]⟩
abbrev S3x2x8x1x1 : Shape := ⟨5, ![3, 2, 8, 1, 1]⟩
abbrev S48x1x1 : Shape := ⟨3, ![48, 1, 1]⟩
abbrev S3x2x7680x128 : Shape := ⟨4, ![3, 2, 7680, 128]⟩
abbrev S3x2x1x7680x128 : Shape := ⟨5, ![3, 2, 1, 7680, 128]⟩
abbrev S3x2x8x7680x128 : Shape := ⟨5, ![3, 2, 8, 7680, 128]⟩
abbrev S48x7680x128 : Shape := ⟨3, ![48, 7680, 128]⟩
abbrev S3x2x1x512x128 : Shape := ⟨5, ![3, 2, 1, 512, 128]⟩
abbrev S3x2x8x512x128 : Shape := ⟨5, ![3, 2, 8, 512, 128]⟩
abbrev S1x2x1x1 : Shape := ⟨4, ![1, 2, 1, 1]⟩
abbrev S48x512x7680 : Shape := ⟨3, ![48, 512, 7680]⟩
abbrev S48x512x512 : Shape := ⟨3, ![48, 512, 512]⟩
abbrev S48x512 : Shape := ⟨2, ![48, 512]⟩
abbrev S48x512x1 : Shape := ⟨3, ![48, 512, 1]⟩

abbrev nBuf : Space → Nat
  | .hbm => 41
  | .vmem => 9
  | .smem => 0
  | _ => 0

abbrev bufTy : (tb : Table) → Fin (tcTables nBuf tb) → BufTy
  | .hbm, ⟨0, _⟩ => ⟨S1536x2048, .bf16⟩
  | .hbm, ⟨1, _⟩ => ⟨S3x7680x2x128, .fp8e4m3⟩
  | .hbm, ⟨2, _⟩ => ⟨S3x7680x2x128, .fp8e4m3⟩
  | .hbm, ⟨3, _⟩ => ⟨S3x2x512x128, .fp8e4m3⟩
  | .hbm, ⟨4, _⟩ => ⟨S3x2x512x128, .fp8e4m3⟩
  | .hbm, ⟨5, _⟩ => ⟨S2, .f32⟩
  | .hbm, ⟨6, _⟩ => ⟨S2, .f32⟩
  | .hbm, ⟨7, _⟩ => ⟨S3, .i32⟩
  | .hbm, ⟨8, _⟩ => ⟨S3x512x16x128, .bf16⟩
  | .hbm, ⟨9, _⟩ => ⟨S3x16x512x128, .bf16⟩
  | .hbm, ⟨10, _⟩ => ⟨S48x512x128, .bf16⟩
  | .hbm, ⟨11, _⟩ => ⟨S3x1x1x1, .i32⟩
  | .hbm, ⟨12, _⟩ => ⟨S3x2x1x1, .i32⟩
  | .hbm, ⟨13, _⟩ => ⟨S3x2x1x1x1, .i32⟩
  | .hbm, ⟨14, _⟩ => ⟨S3x2x8x1x1, .i32⟩
  | .hbm, ⟨15, _⟩ => ⟨S48x1x1, .i32⟩
  | .hbm, ⟨16, _⟩ => ⟨S3x2x7680x128, .fp8e4m3⟩
  | .hbm, ⟨17, _⟩ => ⟨S3x2x1x7680x128, .fp8e4m3⟩
  | .hbm, ⟨18, _⟩ => ⟨S3x2x8x7680x128, .fp8e4m3⟩
  | .hbm, ⟨19, _⟩ => ⟨S48x7680x128, .fp8e4m3⟩
  | .hbm, ⟨20, _⟩ => ⟨S3x2x7680x128, .fp8e4m3⟩
  | .hbm, ⟨21, _⟩ => ⟨S3x2x1x7680x128, .fp8e4m3⟩
  | .hbm, ⟨22, _⟩ => ⟨S3x2x8x7680x128, .fp8e4m3⟩
  | .hbm, ⟨23, _⟩ => ⟨S48x7680x128, .fp8e4m3⟩
  | .hbm, ⟨24, _⟩ => ⟨S3x2x1x512x128, .fp8e4m3⟩
  | .hbm, ⟨25, _⟩ => ⟨S3x2x8x512x128, .fp8e4m3⟩
  | .hbm, ⟨26, _⟩ => ⟨S48x512x128, .fp8e4m3⟩
  | .hbm, ⟨27, _⟩ => ⟨S3x2x1x512x128, .fp8e4m3⟩
  | .hbm, ⟨28, _⟩ => ⟨S3x2x8x512x128, .fp8e4m3⟩
  | .hbm, ⟨29, _⟩ => ⟨S48x512x128, .fp8e4m3⟩
  | .hbm, ⟨30, _⟩ => ⟨S1x2x1x1, .f32⟩
  | .hbm, ⟨31, _⟩ => ⟨S3x2x1x1, .f32⟩
  | .hbm, ⟨32, _⟩ => ⟨S3x2x1x1x1, .f32⟩
  | .hbm, ⟨33, _⟩ => ⟨S3x2x8x1x1, .f32⟩
  | .hbm, ⟨34, _⟩ => ⟨S48x1x1, .f32⟩
  | .hbm, ⟨35, _⟩ => ⟨S1x2x1x1, .f32⟩
  | .hbm, ⟨36, _⟩ => ⟨S3x2x1x1, .f32⟩
  | .hbm, ⟨37, _⟩ => ⟨S3x2x1x1x1, .f32⟩
  | .hbm, ⟨38, _⟩ => ⟨S3x2x8x1x1, .f32⟩
  | .hbm, ⟨39, _⟩ => ⟨S48x1x1, .f32⟩
  | .hbm, ⟨40, _⟩ => ⟨S1536x2048, .f32⟩
  | .local _ .vmem, ⟨0, _⟩ => ⟨S48x512x128, .bf16⟩
  | .local _ .vmem, ⟨1, _⟩ => ⟨S48x7680x128, .fp8e4m3⟩
  | .local _ .vmem, ⟨2, _⟩ => ⟨S48x7680x128, .fp8e4m3⟩
  | .local _ .vmem, ⟨3, _⟩ => ⟨S48x512x128, .fp8e4m3⟩
  | .local _ .vmem, ⟨4, _⟩ => ⟨S48x512x128, .fp8e4m3⟩
  | .local _ .vmem, ⟨5, _⟩ => ⟨S48x1x1, .f32⟩
  | .local _ .vmem, ⟨6, _⟩ => ⟨S48x1x1, .f32⟩
  | .local _ .vmem, ⟨7, _⟩ => ⟨S48x1x1, .i32⟩
  | .local _ .vmem, ⟨8, _⟩ => ⟨S1536x2048, .f32⟩
  | _, _ => ⟨S1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S48x512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x7680x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x7680x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x512x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x512x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S48x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S48x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S48x1x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.AttnPre.lean ====
/-
  The prefix lengths the precondition allows, 0 to 7680, are the ones the attention call's reads of the cached keys and
  values stay inside for: its frames, from the precondition.
-/
module
public import proofs.«01_k».proof.Defs
public import proofs.«01_k».proof.Proof.Gen.Attn.Frame
public import proofs.«01_k».proof.Proof.Gen.AttnIdeal.Frame
public import Idealize.ShloMosaic.Lib.Pointwise
@[expose] public section
noncomputable section
namespace Cert.AttnIdeal.Pre
open Idealize.ShloMosaic Cert.AttnIdeal Cert.AttnIdeal.Gen

/-- The number of whole key blocks of a prefix. -/
theorem shr9 (w : BitVec 32) (h : w.toNat ≤ 7680) : Scalar.shrui w 9#32 = BitVec.ofNat 32 (w.toNat / 512) := by
  apply BitVec.eq_of_toNat_eq
  simp [Scalar.shrui, IntOp.shrui, Nat.shiftRight_eq_div_pow]
  try omega

/-- A prefix that fits keeps every read of the cache inside it. -/
theorem chk_of (w : BitVec 32) (h : w.toNat ≤ 7680) : k0_chk1 w := by
  have hn := shr9 w h
  have h15 : w.toNat / 512 = 15 → w = 7680#32 := fun h' => BitVec.eq_of_toNat_eq (by simp; omega)
  have hlt : w.toNat / 512 < 16 := by omega
  generalize hg : w.toNat / 512 = n at hn h15 hlt
  unfold k0_chk1 k0_off5 k0_mult3 k0_mult1 k0_mult2 k0_off3 k0_off4 k0_t1_loop k0_t2_loop
  dsimp only
  have hc : k0_cond1 w = 1#1 → n < 15 := fun h1 => by
    by_contra hge
    obtain rfl := h15 (by omega)
    exact absurd h1 (by decide +kernel)
  rw [hn]
  clear hn h15 hg
  have hc' : ∀ P : Prop, (n < 15 → P) → k0_cond1 w = 1#1 → P := fun P f h1 => f (hc h1)
  interval_cases n <;>
  refine ⟨by decide +kernel, by decide +kernel, by decide +kernel, by decide +kernel, by decide +kernel, by decide +kernel, hc' _ (by decide +kernel), hc' _ (by decide +kernel)⟩

/-- The loop over whole key blocks runs once for each. -/
theorem t1_trips (w : BitVec 32) (h : w.toNat ≤ 7680) : (k0_t1_loop w).trips = w.toNat / 512 := by
  have hlt : w.toNat / 512 < 16 := by omega
  unfold k0_t1_loop
  dsimp only
  rw [shr9 w h]
  revert hlt
  generalize w.toNat / 512 = n
  intro hlt
  interval_cases n <;> decide +kernel

/-- The second loop over whole key blocks is empty. -/
theorem t2_trips (w : BitVec 32) (h : w.toNat ≤ 7680) : (k0_t2_loop w).trips = 0 := by
  have hlt : w.toNat / 512 < 16 := by omega
  unfold k0_t2_loop
  dsimp only
  rw [shr9 w h]
  revert hlt
  generalize w.toNat / 512 = n
  intro hlt
  interval_cases n <;> decide +kernel

/-- The two comparisons of the precondition, on a word. -/
theorem word_le (w : BitVec 32)
    (h : IntOp.andi (IntOp.cmpi CmpIPredicate.sge w 0#32) (IntOp.cmpi CmpIPredicate.sle w 7680#32) = 1#1) : w.toNat ≤ 7680 := by
  have hb : ∀ a b : Bool, IntOp.andi (BitVec.ofBool a) (BitVec.ofBool b) = 1#1 → a = true ∧ b = true := by decide
  obtain ⟨h1, h2⟩ := hb _ _ h
  have h1' : (0#32).toInt ≤ w.toInt := by simpa [BitVec.sle] using h1
  have h2' : w.toInt ≤ (7680#32).toInt := by simpa [BitVec.sle] using h2
  have e0 : (0#32 : BitVec 32).toInt = 0 := by decide
  have e1 : (7680#32 : BitVec 32).toInt = 7680 := by decide
  rw [e0] at h1'
  rw [e1] at h2'
  have hc := BitVec.toInt_eq_toNat_cond w
  split at hc <;> omega

/-- The predicate's side condition. -/
theorem facts : Cert.Pre_prefix_fits.Facts := ⟨by decide⟩

variable [Cert.Pre_prefix_fits.Facts]

/-- What the precondition says of each prefix length. -/
theorem word_of (m : (ℓ : Loc nD τ sig) → Buf (Elt Ideal) ℓ) (h : Pre_AttnIdeal m) (c : Dev nD) (j : S3.Idx) :
    BitVec.toNat (m ((c.tc : Thread nD τ).loc main_arg7) j) ≤ 7680 := by
  have := congrFun (h c) j
  unfold Cert.Pre_prefix_fits.fn at this
  dsimp only at this
  pointwise [] at this
  exact word_le _ this

/-- What the precondition says of each prefix length, over the machine's words. -/
theorem word_of_bits (m : (ℓ : Loc Cert.Attn.nD Cert.Attn.τ Cert.Attn.sig) → Buf (Elt Bits) ℓ) (h : Pre_Attn m)
    (c : Dev Cert.Attn.nD) (j : Cert.Attn.S3.Idx) :
    BitVec.toNat (m ((c.tc : Thread Cert.Attn.nD Cert.Attn.τ).loc Cert.Attn.main_arg7) j) ≤ 7680 := by
  have := congrFun (h c) j
  unfold Cert.Pre_prefix_fits.fn at this
  dsimp only at this
  pointwise [] at this
  exact word_le _ this

/-- No block's place depends on a prefix length. -/
theorem ok (m : (ℓ : Loc nD τ sig) → Buf (Elt Ideal) ℓ) : Ok m := trivial

/-- No block's place depends on a prefix length, over the machine's words. -/
theorem ok_bits (m : (ℓ : Loc Cert.Attn.nD Cert.Attn.τ Cert.Attn.sig) → Buf (Elt Bits) ℓ) : Cert.Attn.Gen.Ok m := trivial

/-- The call's own side condition, from the precondition. -/
theorem hyps (m : (ℓ : Loc nD τ sig) → Buf (Elt Ideal) ℓ) (h : Pre_AttnIdeal m) : Hyps m (ok m) := by
  refine Hyps.of fun c t => ?_
  refine chk_of _ ?_
  have g : ∀ j, BitVec.toNat (tbl m 0 j) ≤ 7680 := fun j => by
    have e : tbl m 0 = m (((0 : Dev nD).tc : Thread nD τ).loc main_arg7) := V_main_arg7 m 0
    rw [e]
    exact word_of m h 0 j
  exact (congrArg BitVec.toNat (View.readAt_apply _ _ _)).trans_le (g _)

/-- The call's own side condition, from the precondition, over the machine's words. -/
theorem hyps_bits (m : (ℓ : Loc Cert.Attn.nD Cert.Attn.τ Cert.Attn.sig) → Buf (Elt Bits) ℓ) (h : Pre_Attn m) :
    Cert.Attn.Gen.Hyps m (ok_bits m) := by
  refine Cert.Attn.Gen.Hyps.of fun c t => ?_
  refine chk_of _ ?_
  have g : ∀ j, BitVec.toNat (Cert.Attn.Gen.tbl m 0 j) ≤ 7680 := fun j => by
    have e : Cert.Attn.Gen.tbl m 0 = m (((0 : Dev Cert.Attn.nD).tc : Thread Cert.Attn.nD Cert.Attn.τ).loc Cert.Attn.main_arg7) :=
      Cert.Attn.Gen.V_main_arg7 m 0
    rw [e]
    exact word_of_bits m h 0 j
  exact (congrArg BitVec.toNat (View.readAt_apply _ _ _)).trans_le (g _)

end Cert.AttnIdeal.Pre

end
-- ==== Proof.GateUpIdealRun.lean ====
/-
  The run of `GateUpIdeal`'s kernel at one grid point. The matmul loop reads the dequantised weights from a scratch buffer
  that the two loops before it fill whole, so what it stores does not depend on what that buffer held before: the
  pieces are named here over junk, and the body's triple is proved for any prior contents.
-/
module

public import proofs.«01_k».proof.Proof.Gen.GateUpIdeal.Frame.Runs

@[expose] public section

-- membership in a rectangle of production extents (`View.cover_of_tiled`): the elaborator's structural look
-- recurses once per coordinate of the long axes
set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One trip of the matmul loop depends on the weight scratch only through what is read from it. -/
theorem trip_k0_t3_congr (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x256 .i32) (harg3 : arg3.IsWhole) (arg4 : Memref sig .tc .vmem S1024x256 .i32) (harg4 : arg4.IsWhole) (arg5 : Memref sig .tc .vmem S64x256 .fp8e4m3) (harg5 : arg5.IsWhole) (arg6 : Memref sig .tc .vmem S64x256 .fp8e4m3) (harg6 : arg6.IsWhole) (arg7 : Memref sig .tc .vmem S1x256 .f32) (harg7 : arg7.IsWhole) (arg8 : Memref sig .tc .vmem S1x256 .f32) (harg8 : arg8.IsWhole) (arg9 : Memref sig .tc .vmem S1536x256 .f32) (harg9 : arg9.IsWhole) (arg10 : Memref sig .tc .vmem S8192x512 .bf16) (harg10 : arg10.IsWhole) (arg11 : Memref sig .tc .vmem S64x256 .f32) (harg11 : arg11.IsWhole) (X_arg1 : BufTy.Contents (Elt F) arg1.view.ty) (X_arg2 : BufTy.Contents (Elt F) arg2.view.ty) (X_arg7 : BufTy.Contents (Elt F) arg7.view.ty) (X_arg8 : BufTy.Contents (Elt F) arg8.view.ty) (f f' : BufTy.Contents (Elt F) arg10.view.ty)
    (h : arg10.view.read (Elt F) f = arg10.view.read (Elt F) f') (k : Fin k0_t3_loop.trips) :
    tripL_k0_t3 (F := F) Variants.none c none i arg1 harg1 arg2 harg2 arg3 harg3 arg4 harg4 arg5 harg5 arg6 harg6 arg7 harg7 arg8 harg8 arg9 harg9 arg10 harg10 arg11 harg11 X_arg1 X_arg2 X_arg7 X_arg8 f k = tripL_k0_t3 (F := F) Variants.none c none i arg1 harg1 arg2 harg2 arg3 harg3 arg4 harg4 arg5 harg5 arg6 harg6 arg7 harg7 arg8 harg8 arg9 harg9 arg10 harg10 arg11 harg11 X_arg1 X_arg2 X_arg7 X_arg8 f' k := by
  unfold tripL_k0_t3 trip_k0_t3
  sl_unfold_words
  dsimp only
  simp only [View.readAt_eq_ld _ f, View.readAt_eq_ld _ f', h]

/-- So do the pieces of the trips before `n`. -/
theorem pb_k0_t3_congr (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x256 .i32) (harg3 : arg3.IsWhole) (arg4 : Memref sig .tc .vmem S1024x256 .i32) (harg4 : arg4.IsWhole) (arg5 : Memref sig .tc .vmem S64x256 .fp8e4m3) (harg5 : arg5.IsWhole) (arg6 : Memref sig .tc .vmem S64x256 .fp8e4m3) (harg6 : arg6.IsWhole) (arg7 : Memref sig .tc .vmem S1x256 .f32) (harg7 : arg7.IsWhole) (arg8 : Memref sig .tc .vmem S1x256 .f32) (harg8 : arg8.IsWhole) (arg9 : Memref sig .tc .vmem S1536x256 .f32) (harg9 : arg9.IsWhole) (arg10 : Memref sig .tc .vmem S8192x512 .bf16) (harg10 : arg10.IsWhole) (arg11 : Memref sig .tc .vmem S64x256 .f32) (harg11 : arg11.IsWhole) (X_arg1 : BufTy.Contents (Elt F) arg1.view.ty) (X_arg2 : BufTy.Contents (Elt F) arg2.view.ty) (X_arg7 : BufTy.Contents (Elt F) arg7.view.ty) (X_arg8 : BufTy.Contents (Elt F) arg8.view.ty) (f f' : BufTy.Contents (Elt F) arg10.view.ty)
    (h : arg10.view.read (Elt F) f = arg10.view.read (Elt F) f') : ∀ n : ℕ,
    pb_k0_t3 (F := F) Variants.none c none i arg1 harg1 arg2 harg2 arg3 harg3 arg4 harg4 arg5 harg5 arg6 harg6 arg7 harg7 arg8 harg8 arg9 harg9 arg10 harg10 arg11 harg11 X_arg1 X_arg2 X_arg7 X_arg8 f n = pb_k0_t3 (F := F) Variants.none c none i arg1 harg1 arg2 harg2 arg3 harg3 arg4 harg4 arg5 harg5 arg6 harg6 arg7 harg7 arg8 harg8 arg9 harg9 arg10 harg10 arg11 harg11 X_arg1 X_arg2 X_arg7 X_arg8 f' n
  | 0 => rfl
  | n + 1 => by
    rw [pb_k0_t3.eq_2, pb_k0_t3.eq_2, pb_k0_t3_congr c i arg1 harg1 arg2 harg2 arg3 harg3 arg4 harg4 arg5 harg5 arg6 harg6 arg7 harg7 arg8 harg8 arg9 harg9 arg10 harg10 arg11 harg11 X_arg1 X_arg2 X_arg7 X_arg8 f f' h n]
    unfold pb_k0_t3Step
    split
    · rw [trip_k0_t3_congr c i arg1 harg1 arg2 harg2 arg3 harg3 arg4 harg4 arg5 harg5 arg6 harg6 arg7 harg7 arg8 harg8 arg9 harg9 arg10 harg10 arg11 harg11 X_arg1 X_arg2 X_arg7 X_arg8 f f' h]
    · rfl

/-- Over stores that fill the weight scratch, what it held before does not matter. -/
theorem pb_k0_t3_writes (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x256 .i32) (harg3 : arg3.IsWhole) (arg4 : Memref sig .tc .vmem S1024x256 .i32) (harg4 : arg4.IsWhole) (arg5 : Memref sig .tc .vmem S64x256 .fp8e4m3) (harg5 : arg5.IsWhole) (arg6 : Memref sig .tc .vmem S64x256 .fp8e4m3) (harg6 : arg6.IsWhole) (arg7 : Memref sig .tc .vmem S1x256 .f32) (harg7 : arg7.IsWhole) (arg8 : Memref sig .tc .vmem S1x256 .f32) (harg8 : arg8.IsWhole) (arg9 : Memref sig .tc .vmem S1536x256 .f32) (harg9 : arg9.IsWhole) (arg10 : Memref sig .tc .vmem S8192x512 .bf16) (harg10 : arg10.IsWhole) (arg11 : Memref sig .tc .vmem S64x256 .f32) (harg11 : arg11.IsWhole) (X_arg1 : BufTy.Contents (Elt F) arg1.view.ty) (X_arg2 : BufTy.Contents (Elt F) arg2.view.ty) (X_arg7 : BufTy.Contents (Elt F) arg7.view.ty) (X_arg8 : BufTy.Contents (Elt F) arg8.view.ty) (f : BufTy.Contents (Elt F) arg10.view.ty)
    (L : List (View.Piece (Elt F) S8192x512 .bf16)) (h : ∀ y, ∃ p ∈ L, y ∈ p.1.set) (n : ℕ) :
    pb_k0_t3 (F := F) Variants.none c none i arg1 harg1 arg2 harg2 arg3 harg3 arg4 harg4 arg5 harg5 arg6 harg6 arg7 harg7 arg8 harg8 arg9 harg9 arg10 harg10 arg11 harg11 X_arg1 X_arg2 X_arg7 X_arg8 (arg10.view.writes (Elt F) f L) n
      = pb_k0_t3 (F := F) Variants.none c none i arg1 harg1 arg2 harg2 arg3 harg3 arg4 harg4 arg5 harg5 arg6 harg6 arg7 harg7 arg8 harg8 arg9 harg9 arg10 harg10 arg11 harg11 X_arg1 X_arg2 X_arg7 X_arg8 (arg10.view.writes (Elt F) arg10.view.junk L) n :=
  pb_k0_t3_congr c i arg1 harg1 arg2 harg2 arg3 harg3 arg4 harg4 arg5 harg5 arg6 harg6 arg7 harg7 arg8 harg8 arg9 harg9 arg10 harg10 arg11 harg11 X_arg1 X_arg2 X_arg7 X_arg8 _ _ (View.read_writes_of_cover _ _ _ _ L h) n

/-- The stores of the dequantising loops into the weight scratch, last first. -/
def weightPieces (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x256 .i32) (harg3 : arg3.IsWhole) (arg4 : Memref sig .tc .vmem S1024x256 .i32) (harg4 : arg4.IsWhole) (arg5 : Memref sig .tc .vmem S64x256 .fp8e4m3) (harg5 : arg5.IsWhole) (arg6 : Memref sig .tc .vmem S64x256 .fp8e4m3) (harg6 : arg6.IsWhole) (arg7 : Memref sig .tc .vmem S1x256 .f32) (harg7 : arg7.IsWhole) (arg8 : Memref sig .tc .vmem S1x256 .f32) (harg8 : arg8.IsWhole) (arg9 : Memref sig .tc .vmem S1536x256 .f32) (harg9 : arg9.IsWhole) (arg10 : Memref sig .tc .vmem S8192x512 .bf16) (harg10 : arg10.IsWhole) (arg11 : Memref sig .tc .vmem S64x256 .f32) (harg11 : arg11.IsWhole)
    (x0 : Vec F S1536x8192 .fp8e4m3) (x1 : Vec F S1536x1 .f32) (x2 : Vec F S1024x256 .i32) (x3 : Vec F S1024x256 .i32) (x4 : Vec F S64x256 .fp8e4m3) (x5 : Vec F S64x256 .fp8e4m3) (x6 : Vec F S1x256 .f32) (x7 : Vec F S1x256 .f32) : List (View.Piece (Elt F) S8192x512 .bf16) :=
  pb_k0_t2 (F := F) Variants.none c none i arg1 harg1 arg2 harg2 arg3 harg3 arg4 harg4 arg5 harg5 arg6 harg6 arg7 harg7 arg8 harg8 arg9 harg9 arg10 harg10 arg11 harg11 (harg4.unread x3) (arg11.view.writes (Elt F) arg11.view.junk [⟨Rect.unit ![0, 0] S64x256.size inb_S64x256_S64x256_0_0, k0_pay3 (arg6.view.readAt (Elt F) (Rect.unit ![0, 0] S64x256.size inb_S64x256_S64x256_0_0).toLoadRect (harg6.unread x5))⟩, ⟨Rect.unit ![0, 0] S64x256.size inb_S64x256_S64x256_0_0, k0_pay1 (arg5.view.readAt (Elt F) (Rect.unit ![0, 0] S64x256.size inb_S64x256_S64x256_0_0).toLoadRect (harg5.unread x4))⟩]) (Scf.trips k0_t2_loop.lb k0_t2_loop.ub k0_t2_loop.st) ++
    pb_k0_t1 (F := F) Variants.none c none i arg1 harg1 arg2 harg2 arg3 harg3 arg4 harg4 arg5 harg5 arg6 harg6 arg7 harg7 arg8 harg8 arg9 harg9 arg10 harg10 arg11 harg11 (harg3.unread x2) (arg11.view.writes (Elt F) arg11.view.junk [⟨Rect.unit ![0, 0] S64x256.size inb_S64x256_S64x256_0_0, k0_pay1 (arg5.view.readAt (Elt F) (Rect.unit ![0, 0] S64x256.size inb_S64x256_S64x256_0_0).toLoadRect (harg5.unread x4))⟩]) (Scf.trips k0_t1_loop.lb k0_t1_loop.ub k0_t1_loop.st)

/-- They fill it. -/
theorem weightPieces_cover (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x256 .i32) (harg3 : arg3.IsWhole) (arg4 : Memref sig .tc .vmem S1024x256 .i32) (harg4 : arg4.IsWhole) (arg5 : Memref sig .tc .vmem S64x256 .fp8e4m3) (harg5 : arg5.IsWhole) (arg6 : Memref sig .tc .vmem S64x256 .fp8e4m3) (harg6 : arg6.IsWhole) (arg7 : Memref sig .tc .vmem S1x256 .f32) (harg7 : arg7.IsWhole) (arg8 : Memref sig .tc .vmem S1x256 .f32) (harg8 : arg8.IsWhole) (arg9 : Memref sig .tc .vmem S1536x256 .f32) (harg9 : arg9.IsWhole) (arg10 : Memref sig .tc .vmem S8192x512 .bf16) (harg10 : arg10.IsWhole) (arg11 : Memref sig .tc .vmem S64x256 .f32) (harg11 : arg11.IsWhole)
    (x0 : Vec F S1536x8192 .fp8e4m3) (x1 : Vec F S1536x1 .f32) (x2 : Vec F S1024x256 .i32) (x3 : Vec F S1024x256 .i32) (x4 : Vec F S64x256 .fp8e4m3) (x5 : Vec F S64x256 .fp8e4m3) (x6 : Vec F S1x256 .f32) (x7 : Vec F S1x256 .f32) (y : S8192x512.Idx) :
    ∃ pc ∈ weightPieces c i arg1 harg1 arg2 harg2 arg3 harg3 arg4 harg4 arg5 harg5 arg6 harg6 arg7 harg7 arg8 harg8 arg9 harg9 arg10 harg10 arg11 harg11 x0 x1 x2 x3 x4 x5 x6 x7, y ∈ pc.1.set :=
  View.cover_of_tiledL (weightPieces c i arg1 harg1 arg2 harg2 arg3 harg3 arg4 harg4 arg5 harg5 arg6 harg6 arg7 harg7 arg8 harg8 arg9 harg9 arg10 harg10 arg11 harg11 x0 x1 x2 x3 x4 x5 x6 x7) S128x256.size (by sl_kernel_rfl) y

/-- The stores of the matmul loop into the output block, last first. -/
def outPieces (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x256 .i32) (harg3 : arg3.IsWhole) (arg4 : Memref sig .tc .vmem S1024x256 .i32) (harg4 : arg4.IsWhole) (arg5 : Memref sig .tc .vmem S64x256 .fp8e4m3) (harg5 : arg5.IsWhole) (arg6 : Memref sig .tc .vmem S64x256 .fp8e4m3) (harg6 : arg6.IsWhole) (arg7 : Memref sig .tc .vmem S1x256 .f32) (harg7 : arg7.IsWhole) (arg8 : Memref sig .tc .vmem S1x256 .f32) (harg8 : arg8.IsWhole) (arg9 : Memref sig .tc .vmem S1536x256 .f32) (harg9 : arg9.IsWhole) (arg10 : Memref sig .tc .vmem S8192x512 .bf16) (harg10 : arg10.IsWhole) (arg11 : Memref sig .tc .vmem S64x256 .f32) (harg11 : arg11.IsWhole)
    (x0 : Vec F S1536x8192 .fp8e4m3) (x1 : Vec F S1536x1 .f32) (x2 : Vec F S1024x256 .i32) (x3 : Vec F S1024x256 .i32) (x4 : Vec F S64x256 .fp8e4m3) (x5 : Vec F S64x256 .fp8e4m3) (x6 : Vec F S1x256 .f32) (x7 : Vec F S1x256 .f32) : List (View.Piece (Elt F) S1536x256 .f32) :=
  pb_k0_t3 (F := F) Variants.none c none i arg1 harg1 arg2 harg2 arg3 harg3 arg4 harg4 arg5 harg5 arg6 harg6 arg7 harg7 arg8 harg8 arg9 harg9 arg10 harg10 arg11 harg11 (harg1.unread x0) (harg2.unread x1) (harg7.unread x6) (harg8.unread x7) (arg10.view.writes (Elt F) arg10.view.junk (weightPieces c i arg1 harg1 arg2 harg2 arg3 harg3 arg4 harg4 arg5 harg5 arg6 harg6 arg7 harg7 arg8 harg8 arg9 harg9 arg10 harg10 arg11 harg11 x0 x1 x2 x3 x4 x5 x6 x7)) (Scf.trips k0_t3_loop.lb k0_t3_loop.ub k0_t3_loop.st)

/-- The same stores, whatever the weight scratch held before the dequantising loops. -/
theorem outPieces_eq (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x256 .i32) (harg3 : arg3.IsWhole) (arg4 : Memref sig .tc .vmem S1024x256 .i32) (harg4 : arg4.IsWhole) (arg5 : Memref sig .tc .vmem S64x256 .fp8e4m3) (harg5 : arg5.IsWhole) (arg6 : Memref sig .tc .vmem S64x256 .fp8e4m3) (harg6 : arg6.IsWhole) (arg7 : Memref sig .tc .vmem S1x256 .f32) (harg7 : arg7.IsWhole) (arg8 : Memref sig .tc .vmem S1x256 .f32) (harg8 : arg8.IsWhole) (arg9 : Memref sig .tc .vmem S1536x256 .f32) (harg9 : arg9.IsWhole) (arg10 : Memref sig .tc .vmem S8192x512 .bf16) (harg10 : arg10.IsWhole) (arg11 : Memref sig .tc .vmem S64x256 .f32) (harg11 : arg11.IsWhole)
    (x0 : Vec F S1536x8192 .fp8e4m3) (x1 : Vec F S1536x1 .f32) (x2 : Vec F S1024x256 .i32) (x3 : Vec F S1024x256 .i32) (x4 : Vec F S64x256 .fp8e4m3) (x5 : Vec F S64x256 .fp8e4m3) (x6 : Vec F S1x256 .f32) (x7 : Vec F S1x256 .f32) (f : BufTy.Contents (Elt F) arg10.view.ty) :
    pb_k0_t3 (F := F) Variants.none c none i arg1 harg1 arg2 harg2 arg3 harg3 arg4 harg4 arg5 harg5 arg6 harg6 arg7 harg7 arg8 harg8 arg9 harg9 arg10 harg10 arg11 harg11 (harg1.unread x0) (harg2.unread x1) (harg7.unread x6) (harg8.unread x7) (arg10.view.writes (Elt F) f (weightPieces c i arg1 harg1 arg2 harg2 arg3 harg3 arg4 harg4 arg5 harg5 arg6 harg6 arg7 harg7 arg8 harg8 arg9 harg9 arg10 harg10 arg11 harg11 x0 x1 x2 x3 x4 x5 x6 x7)) (Scf.trips k0_t3_loop.lb k0_t3_loop.ub k0_t3_loop.st)
      = outPieces c i arg1 harg1 arg2 harg2 arg3 harg3 arg4 harg4 arg5 harg5 arg6 harg6 arg7 harg7 arg8 harg8 arg9 harg9 arg10 harg10 arg11 harg11 x0 x1 x2 x3 x4 x5 x6 x7 :=
  pb_k0_t3_writes c i arg1 harg1 arg2 harg2 arg3 harg3 arg4 harg4 arg5 harg5 arg6 harg6 arg7 harg7 arg8 harg8 arg9 harg9 arg10 harg10 arg11 harg11 _ _ _ _ f _ (weightPieces_cover c i arg1 harg1 arg2 harg2 arg3 harg3 arg4 harg4 arg5 harg5 arg6 harg6 arg7 harg7 arg8 harg8 arg9 harg9 arg10 harg10 arg11 harg11 x0 x1 x2 x3 x4 x5 x6 x7) _

set_option maxHeartbeats 4000000 in
/-- On whole staging buffers the body runs and leaves the inputs as they were, the scratch at some contents, and the
    output block with `outPieces` written. -/
theorem kernelRun0_A (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x256 .i32) (harg3 : arg3.IsWhole) (arg4 : Memref sig .tc .vmem S1024x256 .i32) (harg4 : arg4.IsWhole) (arg5 : Memref sig .tc .vmem S64x256 .fp8e4m3) (harg5 : arg5.IsWhole) (arg6 : Memref sig .tc .vmem S64x256 .fp8e4m3) (harg6 : arg6.IsWhole) (arg7 : Memref sig .tc .vmem S1x256 .f32) (harg7 : arg7.IsWhole) (arg8 : Memref sig .tc .vmem S1x256 .f32) (harg8 : arg8.IsWhole) (arg9 : Memref sig .tc .vmem S1536x256 .f32) (harg9 : arg9.IsWhole) (arg10 : Memref sig .tc .vmem S8192x512 .bf16) (harg10 : arg10.IsWhole) (arg11 : Memref sig .tc .vmem S64x256 .f32) (harg11 : arg11.IsWhole)
    (x0 : Vec F S1536x8192 .fp8e4m3) (x1 : Vec F S1536x1 .f32) (x2 : Vec F S1024x256 .i32) (x3 : Vec F S1024x256 .i32) (x4 : Vec F S64x256 .fp8e4m3) (x5 : Vec F S64x256 .fp8e4m3) (x6 : Vec F S1x256 .f32) (x7 : Vec F S1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f (outPieces c i arg1 harg1 arg2 harg2 arg3 harg3 arg4 harg4 arg5 harg5 arg6 harg6 arg7 harg7 arg8 harg8 arg9 harg9 arg10 harg10 arg11 harg11 x0 x1 x2 x3 x4 x5 x6 x7)) ∗ (∃ d, owns (c : Thread nD τ) arg10 fullShare d) ∗ (∃ d, owns (c : Thread nD τ) arg11 fullShare d)) -∗ K ⟨⟩))
          ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11) K := by
  intro E K
  simp only [cc0_gate_up_eq_skeleton]; unfold cc0_gate_up_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists f8
    rw [← outPieces_eq c i arg1 harg1 arg2 harg2 arg3 harg3 arg4 harg4 arg5 harg5 arg6 harg6 arg7 harg7 arg8 harg8 arg9 harg9 arg10 harg10 arg11 harg11 x0 x1 x2 x3 x4 x5 x6 x7 fs0]
    iexact H8
  isplitl [HS0]
  · iexists _, _; isplitr; swap; · iexact HS0
    ipureintro; rfl
  iexists _, _; isplitr; swap; · iexact HS1
  ipureintro; rfl

end Cert.GateUpIdeal.Gen

end
-- ==== Proof.GateUpIdealFrame.lean ====
/-
  The frame of `GateUpIdeal` over the run of `GateUpIdealRun`: what the outputs hold point by point, the body obligation, the run.
-/
module

public import proofs.«01_k».proof.Proof.GateUpIdealRun
public import Idealize.ShloMosaic.Lib.Claim

@[expose] public section

-- membership in a rectangle of production extents (`View.cover_of_tiled`): the elaborator's structural look
-- recurses once per coordinate of the long axes
set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 8 tile its block (3 stores of `S512x256`, checked by the kernel's evaluation: Lib/Ring.lean `Piece.tiledL`, linear in the pieces, through a loop's `@[irreducible]` trip theorem too), so they cover it. -/
theorem cover0_A_8 (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x256 .i32) (harg3 : arg3.IsWhole) (arg4 : Memref sig .tc .vmem S1024x256 .i32) (harg4 : arg4.IsWhole) (arg5 : Memref sig .tc .vmem S64x256 .fp8e4m3) (harg5 : arg5.IsWhole) (arg6 : Memref sig .tc .vmem S64x256 .fp8e4m3) (harg6 : arg6.IsWhole) (arg7 : Memref sig .tc .vmem S1x256 .f32) (harg7 : arg7.IsWhole) (arg8 : Memref sig .tc .vmem S1x256 .f32) (harg8 : arg8.IsWhole) (arg9 : Memref sig .tc .vmem S1536x256 .f32) (harg9 : arg9.IsWhole) (arg10 : Memref sig .tc .vmem S8192x512 .bf16) (harg10 : arg10.IsWhole) (arg11 : Memref sig .tc .vmem S64x256 .f32) (harg11 : arg11.IsWhole)
    (x0 : Vec F S1536x8192 .fp8e4m3) (x1 : Vec F S1536x1 .f32) (x2 : Vec F S1024x256 .i32) (x3 : Vec F S1024x256 .i32) (x4 : Vec F S64x256 .fp8e4m3) (x5 : Vec F S64x256 .fp8e4m3) (x6 : Vec F S1x256 .f32) (x7 : Vec F S1x256 .f32) (y : S1536x256.Idx) :
    ∃ pc ∈ (outPieces c i arg1 harg1 arg2 harg2 arg3 harg3 arg4 harg4 arg5 harg5 arg6 harg6 arg7 harg7 arg8 harg8 arg9 harg9 arg10 harg10 arg11 harg11 x0 x1 x2 x3 x4 x5 x6 x7), y ∈ pc.1.set :=
  View.cover_of_tiledL (outPieces c i arg1 harg1 arg2 harg2 arg3 harg3 arg4 harg4 arg5 harg5 arg6 harg6 arg7 harg7 arg8 harg8 arg9 harg9 arg10 harg10 arg11 harg11 x0 x1 x2 x3 x4 x5 x6 x7) S512x256.size (by sl_kernel_rfl) y

/-- What the run leaves in output 8's staging buffer: its pieces read back over junk. -/
def out0_A_8 (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x256 .i32) (harg3 : arg3.IsWhole) (arg4 : Memref sig .tc .vmem S1024x256 .i32) (harg4 : arg4.IsWhole) (arg5 : Memref sig .tc .vmem S64x256 .fp8e4m3) (harg5 : arg5.IsWhole) (arg6 : Memref sig .tc .vmem S64x256 .fp8e4m3) (harg6 : arg6.IsWhole) (arg7 : Memref sig .tc .vmem S1x256 .f32) (harg7 : arg7.IsWhole) (arg8 : Memref sig .tc .vmem S1x256 .f32) (harg8 : arg8.IsWhole) (arg9 : Memref sig .tc .vmem S1536x256 .f32) (harg9 : arg9.IsWhole) (arg10 : Memref sig .tc .vmem S8192x512 .bf16) (harg10 : arg10.IsWhole) (arg11 : Memref sig .tc .vmem S64x256 .f32) (harg11 : arg11.IsWhole)
    (x0 : Vec F S1536x8192 .fp8e4m3) (x1 : Vec F S1536x1 .f32) (x2 : Vec F S1024x256 .i32) (x3 : Vec F S1024x256 .i32) (x4 : Vec F S64x256 .fp8e4m3) (x5 : Vec F S64x256 .fp8e4m3) (x6 : Vec F S1x256 .f32) (x7 : Vec F S1x256 .f32) : Vec F S1536x256 .f32 :=
  VO0_8.read (Elt F) (VO0_8.writes (Elt F) VO0_8.junk (outPieces c i arg1 harg1 arg2 harg2 arg3 harg3 arg4 harg4 arg5 harg5 arg6 harg6 arg7 harg7 arg8 harg8 arg9 harg9 arg10 harg10 arg11 harg11 x0 x1 x2 x3 x4 x5 x6 x7))

/-! ## What the outputs hold after each point -/

/-- What the outputs' staging buffers hold after the body at point `t`: the run's contents at
    the point's memrefs and input blocks. -/
def outsAt0 (c : Dev nD) (t : Fin cfg0.N) : Vec F S1536x256 .f32 :=
  out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  unfold out0_A_8
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, ⟨%e8, H8⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover0_A_8 c _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_GateUpIdeal`'s statement (Defs.lean) at any `F` — Proof.lean cites it at `Bits`:
    `theorem Cert.Proof.claim : Cert.Claim := ⟨Cert.GateUpIdeal.Gen.facts, fun m ρ _ => Cert.GateUpIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.GateUpIdeal.Gen

end
-- ==== Proof.GateUpFrame.lean ====
/-
  The gate-up call over the machine's words: its program has the text of its ideal program, whose run is proved for every
  reading of the floats.
-/
module

public import proofs.«01_k».proof.Defs
public import proofs.«01_k».proof.Proof.Gen.GateUp
public import proofs.«01_k».proof.Proof.GateUpIdealFrame

@[expose] public section

noncomputable section

namespace Cert.GateUpFrame

open Idealize.ShloMosaic Idealize.SL.Sem

/-- The two programs have one text: their kernels' body tables are equal. -/
theorem defs₀_eq : Cert.GateUp.defs₀ (F := Bits) = Cert.GateUpIdeal.defs₀ (F := Bits) := by
  refine congrArg Defs.onTc ?_
  funext l x
  match l, x with
  | 0, _ => rfl
  | ⟨_ + 1, h⟩, _ => exact absurd h (Nat.not_lt.2 (Nat.le_add_left _ _))

/-- So are their whole body tables. -/
theorem defs_eq : Cert.GateUp.defs (F := Bits) = Cert.GateUpIdeal.defs (F := Bits) :=
  congrArg (Pipeline.defs Cert.GateUpIdeal.pcfgs) defs₀_eq

/-- The program runs and keeps its arguments. -/
theorem frame : Cert.quiescent_GateUp (hGateUp := Cert.GateUp.Gen.facts) := by
  intro m ρ _
  rw [defs_eq]
  exact Cert.GateUpIdeal.Gen.frame (F := Bits) m ρ

end Cert.GateUpFrame

end
-- ==== Proof.Nibble.lean ====
/-
  Arithmetic of the four-bit weight codes, at `Ideal`: the kernel's bit trick (a nibble put into the mantissa of a bf16
  number near 136, then 136 subtracted) and the plain reading (the nibble taken as a signed number) are one value.
-/
module

public import Idealize.ShloMosaic.Lib.BitcastPair
public import Idealize.ShloMosaic.Lib.Pointwise

@[expose] public section

noncomputable section

open Idealize.ShloMosaic

namespace Cert.W4

/-- A nibble as a signed number: the low four bits of `b`, minus sixteen from eight on. -/
def sgn4 (b : BitVec 4) : EReal := ((b.toInt : ℝ) : EReal)

/-- Nibble `j` of the word `w`. -/
def nib (w : BitVec 32) (j : Nat) : BitVec 4 := w.extractLsb' (4 * j) 4

/-- The low half of a word kept from `hi ++ lo` under the mask and the bias is the low half under its own mask. -/
theorem low_half (hi lo : BitVec 16) :
    (((hi ++ lo) &&& 983055#32) ^^^ 1124614920#32).extractLsb' 0 16 = (lo &&& 15#16) ^^^ 0x4308#16 := by
  apply BitVec.eq_of_getLsbD_eq
  intro i h
  have : ∀ i : Fin 16, (983055#32).getLsbD i.val = (15#16).getLsbD i.val
      ∧ (1124614920#32).getLsbD i.val = (0x4308#16).getLsbD i.val := by decide
  obtain ⟨h1, h2⟩ := this ⟨i, h⟩
  simp only at h1 h2
  simp only [BitVec.getLsbD_extractLsb', BitVec.getLsbD_xor, BitVec.getLsbD_and, BitVec.getLsbD_append, h, h1, h2,
    Nat.zero_add, decide_true, Bool.true_and, if_true]

/-- The high half likewise. -/
theorem high_half (hi lo : BitVec 16) :
    (((hi ++ lo) &&& 983055#32) ^^^ 1124614920#32).extractLsb' 16 16 = (hi &&& 15#16) ^^^ 0x4308#16 := by
  apply BitVec.eq_of_getLsbD_eq
  intro i h
  have : ∀ i : Fin 16, (983055#32).getLsbD (16 + i.val) = (15#16).getLsbD i.val
      ∧ (1124614920#32).getLsbD (16 + i.val) = (0x4308#16).getLsbD i.val := by decide
  obtain ⟨h1, h2⟩ := this ⟨i, h⟩
  simp only at h1 h2
  have h3 : ¬ (16 + i < 16) := by omega
  simp only [BitVec.getLsbD_extractLsb', BitVec.getLsbD_xor, BitVec.getLsbD_and, BitVec.getLsbD_append, h, h1, h2, h3,
    decide_true, Bool.true_and, if_false, Nat.add_sub_cancel_left]

/-- The nibble of a shifted and narrowed word. -/
theorem trunc_nib (w : BitVec 32) (j : Nat) (hj : j < 8) :
    (((w.sshiftRight (4 * j)).truncate 16) &&& 15#16) = (nib w j).zeroExtend 16 := by
  apply BitVec.eq_of_getLsbD_eq
  intro i h
  have hm : ∀ i : Fin 16, (15#16).getLsbD i.val = decide (i.val < 4) := by decide
  have h1 := hm ⟨i, h⟩
  simp only at h1
  simp only [nib, BitVec.getLsbD_and, BitVec.truncate_eq_setWidth, BitVec.getLsbD_setWidth, BitVec.getLsbD_sshiftRight,
    BitVec.getLsbD_extractLsb', h1, h, decide_true, Bool.true_and]
  by_cases h4 : i < 4
  · have : 4 * j + i < 32 := by omega
    have h32 : ¬ 32 ≤ i := by omega
    simp [h4, this, h32]
  · simp [h4]

/-- The bf16 number with a nibble in its mantissa, less 136, is the nibble as a signed number. -/
theorem trick : ∀ b : BitVec 4,
    Ideal.ofBits .bf16 ((b.zeroExtend 16) ^^^ 0x4308#16) - Ideal.ofBits .bf16 0x4308#16 = sgn4 b := by
  intro b
  have key : ∀ n : Fin 16, Ideal.ofBits .bf16 (((BitVec.ofFin n : BitVec 4).zeroExtend 16) ^^^ 0x4308#16)
      - Ideal.ofBits .bf16 0x4308#16 = sgn4 (BitVec.ofFin n) := by
    intro n
    fin_cases n <;> · simp [Ideal.ofBits, Ideal.ieee, sgn4, -EReal.coe_mul, ← EReal.coe_sub]; try norm_num
  exact key b.toFin

/-- Reading the trick's words back at sixteen bits, at any index: the mask and the bias act on each half alone. -/
theorem bits_at {s t : Shape} (x : s.Idx → BitVec 16) (h : s.Bitcasts 16 t 32) (h' : t.Bitcasts 32 s 16) (i : s.Idx)
    (h2 : 2 ≤ s.rank) :
    bitcast s 16 (fun j => ((bitcast t 32 x h j) &&& 983055#32) ^^^ 1124614920#32) h' i
      = (x i &&& 15#16) ^^^ 0x4308#16 := by
  have hr : t.rank = s.rank := h.1
  rw [bitcast_32_16]
  generalize hj : h'.srcIdx i (s.row i / 2) _ = j
  have hrow : t.row j = s.row i / 2 := by
    subst hj
    have ht2 : 2 ≤ t.rank := by omega
    simp only [Shape.row, dif_pos ht2]
    exact h'.srcIdx_row _ _ _ _ (by simp [Shape.rowAx]; omega)
  have hi : ∀ a : Fin s.rank, a.val + 2 = s.rank → s.row i = (i a).val := by
    intro a ha
    simp only [Shape.row, dif_pos h2]
    rw [show s.rowAx h2 = a from Fin.ext (by simp [Shape.rowAx]; omega)]
  have hsrc : ∀ (p : Nat) (hp), p = s.row i → h.srcIdx j p hp = i := by
    intro p hp e
    subst e
    funext a
    apply Fin.ext
    by_cases ha : a.val + 2 = s.rank
    · rw [h.srcIdx_row _ _ _ _ ha, hi a ha]
    · rw [h.srcIdx_other _ _ _ _ ha]
      subst hj
      rw [h'.srcIdx_other _ _ _ _ (by simp; omega)]
      rfl
  rw [bitcast_16_32]
  rcases Nat.mod_two_eq_zero_or_one (s.row i) with e | e
  · rw [e, Nat.mul_zero, low_half, hsrc _ _ (by omega)]
  · rw [e, Nat.mul_one, high_half, hsrc _ _ (by omega)]

/-- The kernel's weight element: the words shifted right by `4 j`, narrowed to sixteen bits, put through the bit trick
    and read as bf16, less 136, is nibble `j` of the word as a signed number. -/
theorem weight_at {s t : Shape} (x : s.Idx → BitVec 16) (h : s.Bitcasts 16 t 32) (h' : t.Bitcasts 32 s 16) (i : s.Idx)
    (h2 : 2 ≤ s.rank) (w : BitVec 32) (k : Nat) (hk : k < 8) (hx : x i = (w.sshiftRight (4 * k)).truncate 16) :
    Ideal.ofBits .bf16 (bitcast s 16 (fun j => ((bitcast t 32 x h j) &&& 983055#32) ^^^ 1124614920#32) h' i)
      - Ideal.ofBits .bf16 0x4308#16 = sgn4 (nib w k) := by
  rw [bits_at x h h' i h2, hx, trunc_nib w k hk, trick]

end Cert.W4

end
-- ==== Proof.Spec.lean ====
/-
  Indexing by natural numbers, and the mathematics of a linear layer over 4-bit weights: a weight word holds eight
  signed nibbles (nibble `j` is the weight `j` word-rows further down), each scaled per group of 128 rows.
-/
module

public import proofs.«01_k».proof.Proof.Nibble
public import Idealize.ShloMosaic.Lib.Pointwise
public import Idealize.ShloMosaic.Lib.Pipeline.Value
public import Idealize.ShloMosaic.Lib.Pipeline.ValueKit.Tiles

@[expose] public section

noncomputable section

namespace Cert.W4

open Idealize.ShloMosaic

/-- A matrix at natural-number coordinates; outside, a default. -/
def at2 {α : Type} [Inhabited α] {m n : ℕ} (x : (⟨2, ![m, n]⟩ : Shape).Idx → α) (i j : ℕ) : α :=
  if h : i < m ∧ j < n then x (ix2 ⟨i, h.1⟩ ⟨j, h.2⟩) else default

/-- Inside the matrix, `at2` is its entry. -/
theorem at2_of {α : Type} [Inhabited α] {m n : ℕ} (x : (⟨2, ![m, n]⟩ : Shape).Idx → α) {i j : ℕ} (hi : i < m) (hj : j < n) :
    at2 x i j = x (ix2 ⟨i, hi⟩ ⟨j, hj⟩) := dif_pos ⟨hi, hj⟩

/-- An entry, by `at2`. -/
theorem eq_at2 {α : Type} [Inhabited α] {m n : ℕ} (x : (⟨2, ![m, n]⟩ : Shape).Idx → α) (y : (⟨2, ![m, n]⟩ : Shape).Idx) :
    x y = at2 x (y 0).val (y 1).val := by
  rw [at2_of x (y 0).isLt (y 1).isLt]
  exact congrArg x (eq_ix2 y)

/-- An entry at a pair, by `at2`. -/
theorem ix2_at2 {α : Type} [Inhabited α] {m n : ℕ} (x : (⟨2, ![m, n]⟩ : Shape).Idx → α) (i : Fin m) (j : Fin n) :
    x (ix2 i j) = at2 x i.val j.val := eq_at2 x _

/-- A load of a rectangle, at natural-number coordinates. -/
theorem ld_at2 {Val : EltTy → Type} {e : EltTy} [Inhabited (Val e)] {m n : ℕ} (X : (⟨2, ![m, n]⟩ : Shape).Idx → Val e)
    (o o' a b : ℕ) (h : ∀ c, ![o, o'] c + ![a, b] c ≤ (⟨2, ![m, n]⟩ : Shape).size c) (i j : ℕ) (hi : i < a) (hj : j < b) :
    at2 (α := Val e) (m := a) (n := b) (View.ld (S := ⟨2, ![m, n]⟩) X (Rect.unit (s := ⟨2, ![m, n]⟩) ![o, o'] ![a, b] h)) i j
      = at2 (α := Val e) X (o + i) (o' + j) := by
  have h0 := h 0
  have h1 := h 1
  simp at h0 h1
  rw [at2_of _ hi hj, at2_of _ (by omega) (by omega)]
  refine View.ld_unit_apply_of (S := ⟨2, ![m, n]⟩) X _ _ h _ _ fun c => ?_
  match c with
  | ⟨0, _⟩ => rfl
  | ⟨1, _⟩ => rfl

/-- Weight `(k, n)` of a layer of `8·k8` rows: its signed nibble times the scale of its group of 128 rows. -/
def wt (k8 : ℕ) (w : ℕ → ℕ → BitVec 32) (g : ℕ → ℕ → EReal) (k n : ℕ) : EReal :=
  sgn4 (nib (w (k % k8) n) (k / k8)) * g (k / 128) n

/-- Element `(t, n)` of the layer of `K` rows: the products summed, times the row's and the column's scale. -/
def lin (K k8 : ℕ) (a : ℕ → ℕ → EReal) (s : ℕ → EReal) (w : ℕ → ℕ → BitVec 32) (g : ℕ → ℕ → EReal) (c : ℕ → EReal)
    (t n : ℕ) : EReal :=
  (∑ k ∈ Finset.range K, a t k * wt k8 w g k n) * s t * c n

/-- The product of an activation tile and a weight tile, at an element. -/
def tdot {M K N : ℕ} (a : (⟨2, ![M, K]⟩ : Shape).Idx → EReal) (b : (⟨2, ![K, N]⟩ : Shape).Idx → EReal) (r l : ℕ) : EReal :=
  ∑ q ∈ Finset.range K, at2 a r q * at2 b q l

/-- It, as the sum over the contracted axis. -/
theorem sum_tdot {M K N : ℕ} (a : (⟨2, ![M, K]⟩ : Shape).Idx → EReal) (b : (⟨2, ![K, N]⟩ : Shape).Idx → EReal) (r : Fin M)
    (l : Fin N) : (∑ q : Fin K, a (ix2 r q) * b (ix2 q l)) = tdot a b r.val l.val := by
  rw [tdot, Finset.sum_range]
  exact Finset.sum_congr rfl fun q _ => by rw [ix2_at2 a, ix2_at2 b]

/-- A sum over the first `n` and one over the next `d` are one over the first `n + d`. -/
theorem sum_step (f : ℕ → EReal) (n d : ℕ) :
    (∑ q ∈ Finset.range n, f q) + (∑ q ∈ Finset.range d, f (n + q)) = ∑ q ∈ Finset.range (n + d), f q :=
  (Finset.sum_range_add f n d).symm

/-- A load of a rectangle from column 0, at a pair. -/
theorem ld_ix2 {Val : EltTy → Type} {e : EltTy} [Inhabited (Val e)] {m n : ℕ} (X : (⟨2, ![m, n]⟩ : Shape).Idx → Val e)
    (o o' a b : ℕ) (h : ∀ c, ![o, o'] c + ![a, b] c ≤ (⟨2, ![m, n]⟩ : Shape).size c) (i : Fin a) (j : Fin b) :
    View.ld (S := ⟨2, ![m, n]⟩) X (Rect.unit (s := ⟨2, ![m, n]⟩) ![o, o'] ![a, b] h) (ix2 i j)
      = at2 (α := Val e) X (o + i.val) (o' + j.val) := by
  rw [← ld_at2 X o o' a b h _ _ i.isLt j.isLt]
  exact ix2_at2 (α := Val e) (m := a) (n := b) _ i j

/-- What a dequantising trip stores for nibble `j` of word rows `o …`, the scale row `o'` being that of their group: the
    layer's weights there. -/
theorem wt_piece {k8 N Kg : ℕ} (x : (⟨2, ![k8, N]⟩ : Shape).Idx → BitVec 32) (g : (⟨2, ![Kg, N]⟩ : Shape).Idx → EReal)
    (o o' j R l r : ℕ) (hr : r < 128) (ho : o + 128 ≤ k8) (hR : R = k8 * j + o) (hg : o' * 128 = R) :
    sgn4 (nib (at2 x (o + r) l) j) * at2 g o' l = wt k8 (at2 x) (at2 g) (R + r) l := by
  subst hR
  have e1 : (k8 * j + o + r) % k8 = o + r := by
    rw [Nat.add_assoc, Nat.mul_add_mod, Nat.mod_eq_of_lt (by omega)]
  have e2 : (k8 * j + o + r) / k8 = j := by
    rw [Nat.add_assoc, Nat.mul_add_div (by omega), Nat.div_eq_of_lt (by omega), Nat.add_zero]
  have e3 : (k8 * j + o + r) / 128 = o' := by omega
  rw [wt, e1, e2, e3]

/-- The product of an activation tile and a weight tile loaded from larger matrices, at an element. -/
theorem tdot_ld {M K N m k n : ℕ} (X : (⟨2, ![m, k]⟩ : Shape).Idx → Elt Ideal .fp8e4m3)
    (Y : (⟨2, ![k, n]⟩ : Shape).Idx → Elt Ideal .bf16) (R o r l : ℕ)
    (h : ∀ c, ![R, o] c + ![M, K] c ≤ (⟨2, ![m, k]⟩ : Shape).size c)
    (h' : ∀ c, ![o, 0] c + ![K, N] c ≤ (⟨2, ![k, n]⟩ : Shape).size c) (hr : r < M) (hl : l < N) :
    tdot (M := M) (K := K) (N := N)
        (View.ld (S := ⟨2, ![m, k]⟩) X (Rect.unit (s := ⟨2, ![m, k]⟩) ![R, o] ![M, K] h))
        (View.ld (S := ⟨2, ![k, n]⟩) Y (Rect.unit (s := ⟨2, ![k, n]⟩) ![o, 0] ![K, N] h')) r l
      = ∑ q ∈ Finset.range K, at2 (α := EReal) X (R + r) (o + q) * at2 (α := EReal) Y (o + q) l := by
  refine Finset.sum_congr rfl fun q hq => ?_
  have hq := Finset.mem_range.mp hq
  have e1 := ld_at2 (Val := fun _ => EReal) (e := .f32) X R o M K h r q hr hq
  have e2 := ld_at2 (Val := fun _ => EReal) (e := .f32) Y o 0 K N h' q l hq hl
  rw [Nat.zero_add] at e2
  exact congrArg₂ (· * ·) e1 e2

/-- The gated product of the feed-forward layer: `silu(g) · u`. -/
def gated (g u : EReal) : EReal := g * Ideal.logistic g * u

/-- A vector at a natural-number coordinate; outside, a default. -/
def at1 {α : Type} [Inhabited α] {n : ℕ} (x : (⟨1, ![n]⟩ : Shape).Idx → α) (j : ℕ) : α :=
  if h : j < n then x (ix1 ⟨j, h⟩) else default

/-- Inside the vector, `at1` is its entry. -/
theorem at1_of {α : Type} [Inhabited α] {n : ℕ} (x : (⟨1, ![n]⟩ : Shape).Idx → α) {j : ℕ} (hj : j < n) :
    at1 x j = x (ix1 ⟨j, hj⟩) := dif_pos hj

/-- An element of a layer depends on its row of activations and its column of weights only. -/
theorem lin_congr {K k8 : ℕ} {a a' : ℕ → ℕ → EReal} {s s' : ℕ → EReal} {w w' : ℕ → ℕ → BitVec 32} {g g' : ℕ → ℕ → EReal}
    {c c' : ℕ → EReal} {t t' n n' : ℕ} (h8 : 0 < k8) (ha : ∀ k < K, a t k = a' t' k) (hs : s t = s' t')
    (hw : ∀ k < k8, w k n = w' k n') (hg : ∀ k < K, g (k / 128) n = g' (k / 128) n') (hc : c n = c' n') :
    lin K k8 a s w g c t n = lin K k8 a' s' w' g' c' t' n' := by
  unfold lin
  rw [hs, hc]
  refine congrArg (· * _ * _) (Finset.sum_congr rfl fun k hk => ?_)
  have hk := Finset.mem_range.mp hk
  unfold wt
  rw [ha k hk, hw _ (Nat.mod_lt _ h8), hg k hk]

/-- The gate-up layer: silu of the first half of the columns times the second half. -/
def gateUp {T K k8 kg N : ℕ} (a : (⟨2, ![T, K]⟩ : Shape).Idx → EReal) (s : (⟨2, ![T, 1]⟩ : Shape).Idx → EReal)
    (w : (⟨2, ![k8, N]⟩ : Shape).Idx → BitVec 32) (g : (⟨2, ![kg, N]⟩ : Shape).Idx → EReal) (c : (⟨1, ![N]⟩ : Shape).Idx → EReal)
    (t n : ℕ) : EReal :=
  gated (lin K k8 (at2 a) (fun t => at2 s t 0) (at2 w) (at2 g) (at1 c) t n)
    (lin K k8 (at2 a) (fun t => at2 s t 0) (at2 w) (at2 g) (at1 c) t (N / 2 + n))

end Cert.W4

end
-- ==== Proof.GateUpIdealWeights.lean ====
/-
  What `GateUpIdeal`'s dequantising loops leave in the weight scratch: weight `(k, n)` of the layer at row `k`, column `n`.
-/
module

public import proofs.«01_k».proof.Proof.GateUpIdealRun
public import proofs.«01_k».proof.Proof.Spec

@[expose] public section

noncomputable section

namespace Cert.GateUpIdeal.RefValue

open Cert.GateUpIdeal Cert.GateUpIdeal.Gen Cert.W4
open Idealize.ShloMosaic Idealize.ShloMosaic.TcCoe

/-- Nibble 0 of the words, times the scale. -/
theorem k0_t1_pay0_at (w : Vec Ideal S128x256 .i32) (g : Vec Ideal S1x256 .f32) (r : Fin 128) (l : Fin 256) :
    k0_pay6 (F := Ideal) w g (ix2 r l) = sgn4 (nib (w (ix2 r l)) 0) * g (ix2 0 l) := by
  pointwise [k0_pay6]
  exact congrArg (· * _) (weight_at _ _ _ _ (by decide) _ 0 (by decide) (by simp [trunci, BitVec.sshiftRight_zero]))

/-- Nibble 1 of the words, times the scale. -/
theorem k0_t1_pay1_at (w : Vec Ideal S128x256 .i32) (g : Vec Ideal S1x256 .f32) (r : Fin 128) (l : Fin 256) :
    k0_pay8 (F := Ideal) (k0_pay7 (F := Ideal) w g) (ix2 r l) = sgn4 (nib (w (ix2 r l)) 1) * g (ix2 0 l) := by
  pointwise [k0_pay8, k0_pay7]
  exact congrArg (· * _) (weight_at _ _ _ _ (by decide) _ 1 (by decide) rfl)

/-- Nibble 2 of the words, times the scale. -/
theorem k0_t1_pay2_at (w : Vec Ideal S128x256 .i32) (g : Vec Ideal S1x256 .f32) (r : Fin 128) (l : Fin 256) :
    k0_pay9 (F := Ideal) w g (ix2 r l) = sgn4 (nib (w (ix2 r l)) 2) * g (ix2 0 l) := by
  pointwise [k0_pay9]
  exact congrArg (· * _) (weight_at _ _ _ _ (by decide) _ 2 (by decide) rfl)

/-- Nibble 3 of the words, times the scale. -/
theorem k0_t1_pay3_at (w : Vec Ideal S128x256 .i32) (g : Vec Ideal S1x256 .f32) (r : Fin 128) (l : Fin 256) :
    k0_pay11 (F := Ideal) (k0_pay10 (F := Ideal) w) g (ix2 r l) = sgn4 (nib (w (ix2 r l)) 3) * g (ix2 0 l) := by
  pointwise [k0_pay11, k0_pay10]
  exact congrArg (· * _) (weight_at _ _ _ _ (by decide) _ 3 (by decide) rfl)

/-- Nibble 4 of the words, times the scale. -/
theorem k0_t1_pay4_at (w : Vec Ideal S128x256 .i32) (g : Vec Ideal S1x256 .f32) (r : Fin 128) (l : Fin 256) :
    k0_pay12 (F := Ideal) w g (ix2 r l) = sgn4 (nib (w (ix2 r l)) 4) * g (ix2 0 l) := by
  pointwise [k0_pay12]
  exact congrArg (· * _) (weight_at _ _ _ _ (by decide) _ 4 (by decide) rfl)

/-- Nibble 5 of the words, times the scale. -/
theorem k0_t1_pay5_at (w : Vec Ideal S128x256 .i32) (g : Vec Ideal S1x256 .f32) (r : Fin 128) (l : Fin 256) :
    k0_pay14 (F := Ideal) (k0_pay13 (F := Ideal) w) g (ix2 r l) = sgn4 (nib (w (ix2 r l)) 5) * g (ix2 0 l) := by
  pointwise [k0_pay14, k0_pay13]
  exact congrArg (· * _) (weight_at _ _ _ _ (by decide) _ 5 (by decide) rfl)

/-- Nibble 6 of the words, times the scale. -/
theorem k0_t1_pay6_at (w : Vec Ideal S128x256 .i32) (g : Vec Ideal S1x256 .f32) (r : Fin 128) (l : Fin 256) :
    k0_pay15 (F := Ideal) w g (ix2 r l) = sgn4 (nib (w (ix2 r l)) 6) * g (ix2 0 l) := by
  pointwise [k0_pay15]
  exact congrArg (· * _) (weight_at _ _ _ _ (by decide) _ 6 (by decide) rfl)

/-- Nibble 7 of the words, times the scale. -/
theorem k0_t1_pay7_at (w : Vec Ideal S128x256 .i32) (g : Vec Ideal S1x256 .f32) (r : Fin 128) (l : Fin 256) :
    k0_pay2 (F := Ideal) (k0_pay16 (F := Ideal) w) 983055#32 g (ix2 r l) = sgn4 (nib (w (ix2 r l)) 7) * g (ix2 0 l) := by
  pointwise [k0_pay2, k0_pay16]
  exact congrArg (· * _) (weight_at _ _ _ _ (by decide) _ 7 (by decide) rfl)

/-- Nibble 0 of the words, times the scale. -/
theorem k0_t2_pay0_at (w : Vec Ideal S128x256 .i32) (g : Vec Ideal S1x256 .f32) (r : Fin 128) (l : Fin 256) :
    k0_pay17 (F := Ideal) w g (ix2 r l) = sgn4 (nib (w (ix2 r l)) 0) * g (ix2 0 l) := by
  pointwise [k0_pay17]
  exact congrArg (· * _) (weight_at _ _ _ _ (by decide) _ 0 (by decide) (by simp [trunci, BitVec.sshiftRight_zero]))

/-- Nibble 1 of the words, times the scale. -/
theorem k0_t2_pay1_at (w : Vec Ideal S128x256 .i32) (g : Vec Ideal S1x256 .f32) (r : Fin 128) (l : Fin 256) :
    k0_pay19 (F := Ideal) (k0_pay18 (F := Ideal) w g) (ix2 r l) = sgn4 (nib (w (ix2 r l)) 1) * g (ix2 0 l) := by
  pointwise [k0_pay19, k0_pay18]
  exact congrArg (· * _) (weight_at _ _ _ _ (by decide) _ 1 (by decide) rfl)

/-- Nibble 2 of the words, times the scale. -/
theorem k0_t2_pay2_at (w : Vec Ideal S128x256 .i32) (g : Vec Ideal S1x256 .f32) (r : Fin 128) (l : Fin 256) :
    k0_pay20 (F := Ideal) w g (ix2 r l) = sgn4 (nib (w (ix2 r l)) 2) * g (ix2 0 l) := by
  pointwise [k0_pay20]
  exact congrArg (· * _) (weight_at _ _ _ _ (by decide) _ 2 (by decide) rfl)

/-- Nibble 3 of the words, times the scale. -/
theorem k0_t2_pay3_at (w : Vec Ideal S128x256 .i32) (g : Vec Ideal S1x256 .f32) (r : Fin 128) (l : Fin 256) :
    k0_pay22 (F := Ideal) (k0_pay21 (F := Ideal) w) g (ix2 r l) = sgn4 (nib (w (ix2 r l)) 3) * g (ix2 0 l) := by
  pointwise [k0_pay22, k0_pay21]
  exact congrArg (· * _) (weight_at _ _ _ _ (by decide) _ 3 (by decide) rfl)

/-- Nibble 4 of the words, times the scale. -/
theorem k0_t2_pay4_at (w : Vec Ideal S128x256 .i32) (g : Vec Ideal S1x256 .f32) (r : Fin 128) (l : Fin 256) :
    k0_pay23 (F := Ideal) w g (ix2 r l) = sgn4 (nib (w (ix2 r l)) 4) * g (ix2 0 l) := by
  pointwise [k0_pay23]
  exact congrArg (· * _) (weight_at _ _ _ _ (by decide) _ 4 (by decide) rfl)

/-- Nibble 5 of the words, times the scale. -/
theorem k0_t2_pay5_at (w : Vec Ideal S128x256 .i32) (g : Vec Ideal S1x256 .f32) (r : Fin 128) (l : Fin 256) :
    k0_pay25 (F := Ideal) (k0_pay24 (F := Ideal) w) g (ix2 r l) = sgn4 (nib (w (ix2 r l)) 5) * g (ix2 0 l) := by
  pointwise [k0_pay25, k0_pay24]
  exact congrArg (· * _) (weight_at _ _ _ _ (by decide) _ 5 (by decide) rfl)

/-- Nibble 6 of the words, times the scale. -/
theorem k0_t2_pay6_at (w : Vec Ideal S128x256 .i32) (g : Vec Ideal S1x256 .f32) (r : Fin 128) (l : Fin 256) :
    k0_pay26 (F := Ideal) w g (ix2 r l) = sgn4 (nib (w (ix2 r l)) 6) * g (ix2 0 l) := by
  pointwise [k0_pay26]
  exact congrArg (· * _) (weight_at _ _ _ _ (by decide) _ 6 (by decide) rfl)

/-- Nibble 7 of the words, times the scale. -/
theorem k0_t2_pay7_at (w : Vec Ideal S128x256 .i32) (g : Vec Ideal S1x256 .f32) (r : Fin 128) (l : Fin 256) :
    k0_pay4 (F := Ideal) (k0_pay27 (F := Ideal) w) 983055#32 g (ix2 r l) = sgn4 (nib (w (ix2 r l)) 7) * g (ix2 0 l) := by
  pointwise [k0_pay4, k0_pay27]
  exact congrArg (· * _) (weight_at _ _ _ _ (by decide) _ 7 (by decide) rfl)

/-- The group scales, widened: themselves. -/
theorem k0_pay1_at (v : Vec Ideal S64x256 .fp8e4m3) (r : Fin 64) (l : Fin 256) :
    k0_pay1 (F := Ideal) v (ix2 r l) = v (ix2 r l) := by
  pointwise [k0_pay1]

/-- The group scales, widened: themselves. -/
theorem k0_pay3_at (v : Vec Ideal S64x256 .fp8e4m3) (r : Fin 64) (l : Fin 256) :
    k0_pay3 (F := Ideal) v (ix2 r l) = v (ix2 r l) := by
  pointwise [k0_pay3]

/-- The row offset of chunk `k` of the words. -/
theorem off_word : ∀ k < 8, BitVec.toNat (Scalar.indexCast (Scalar.muli (Scf.iv 0#32 1#32 k) 128#32)) = 128 * k := by
  decide +kernel

/-- The scale row of chunk `k`, nibble `j`. -/
theorem off_scale : ∀ j < 8, ∀ k < 8, BitVec.toNat (Scalar.indexCast (Scalar.addi (BitVec.ofNat 32 (8 * j)) (Scf.iv 0#32 1#32 k)))
    = 8 * j + k := by
  decide +kernel

/-- The row of the weight scratch of chunk `k`, nibble `j`. -/
theorem off_row : ∀ j < 8, ∀ k < 8, BitVec.toNat (Scalar.indexCast
    (Scalar.addi (BitVec.ofNat 32 (1024 * j)) (Scalar.muli (Scf.iv 0#32 1#32 k) 128#32))) = 1024 * j + 128 * k := by
  decide +kernel

/-- The weights of a block: the left half of the columns from the first words, the right half from the second. -/
def weights (x2 x3 : Vec Ideal S1024x256 .i32) (x4 x5 : S64x256.Idx → EReal) (y : S8192x512.Idx) : EReal :=
  if (y 1).val < 256 then wt 1024 (at2 x2) (at2 x4) (y 0).val (y 1).val
  else wt 1024 (at2 x3) (at2 x5) (y 0).val ((y 1).val - 256)

/-- A stored piece of loop `k0_t1` is the block's weights where it lies. -/
theorem k0_t1_piece (x2 x3 : Vec Ideal S1024x256 .i32) (x4 x5 : S64x256.Idx → EReal) (j R o o' : ℕ) (P : S128x256.Idx → EReal)
    (W : S128x256.Idx → BitVec 32) (g : S1x256.Idx → EReal)
    (hP : ∀ r l, P (ix2 r l) = sgn4 (nib (W (ix2 r l)) j) * g (ix2 0 l))
    (hW : ∀ (r : Fin 128) (l : Fin 256), W (ix2 r l) = at2 x2 (o + r.val) l.val)
    (hg : ∀ l : Fin 256, g (ix2 0 l) = at2 x4 o' l.val)
    (hR : R = 1024 * j + o) (ho : o + 128 ≤ 1024) (ho' : o' * 128 = R)
    (h : ∀ a, ![R, 0] a + ![128, 256] a ≤ S8192x512.size a) (q : S128x256.Idx) :
    P q = weights x2 x3 x4 x5 ((Rect.unit (s := S8192x512) ![R, 0] ![128, 256] h).emb q) := by
  obtain ⟨r, l, rfl⟩ : ∃ (r : Fin 128) (l : Fin 256), q = ix2 r l := ⟨q 0, q 1, eq_ix2 q⟩
  rw [hP, hW, hg, wt_piece x2 x4 o o' j R l.val r.val r.isLt ho hR ho']
  rw [show (weights x2 x3 x4 x5 ((Rect.unit (s := S8192x512) ![R, 0] ![128, 256] h).emb (ix2 r l)))
      = weights x2 x3 x4 x5 (ix2 ⟨R + r.val, by have := h 0; simp at this; omega⟩ ⟨0 + l.val, by have := h 1; simp at this; omega⟩) from
      congrArg _ (funext fun a => match a with
        | ⟨0, _⟩ => Fin.ext (by show R + 1 * r.val = R + r.val; omega)
        | ⟨1, _⟩ => Fin.ext (by show 0 + 1 * l.val = 0 + l.val; omega))]
  unfold weights
  rw [if_pos (by show 0 + l.val < 256; omega)]
  show _ = wt 1024 _ _ (R + r.val) (0 + l.val)
  rw [Nat.zero_add]

/-- A stored piece of loop `k0_t2` is the block's weights where it lies. -/
theorem k0_t2_piece (x2 x3 : Vec Ideal S1024x256 .i32) (x4 x5 : S64x256.Idx → EReal) (j R o o' : ℕ) (P : S128x256.Idx → EReal)
    (W : S128x256.Idx → BitVec 32) (g : S1x256.Idx → EReal)
    (hP : ∀ r l, P (ix2 r l) = sgn4 (nib (W (ix2 r l)) j) * g (ix2 0 l))
    (hW : ∀ (r : Fin 128) (l : Fin 256), W (ix2 r l) = at2 x3 (o + r.val) l.val)
    (hg : ∀ l : Fin 256, g (ix2 0 l) = at2 x5 o' l.val)
    (hR : R = 1024 * j + o) (ho : o + 128 ≤ 1024) (ho' : o' * 128 = R)
    (h : ∀ a, ![R, 256] a + ![128, 256] a ≤ S8192x512.size a) (q : S128x256.Idx) :
    P q = weights x2 x3 x4 x5 ((Rect.unit (s := S8192x512) ![R, 256] ![128, 256] h).emb q) := by
  obtain ⟨r, l, rfl⟩ : ∃ (r : Fin 128) (l : Fin 256), q = ix2 r l := ⟨q 0, q 1, eq_ix2 q⟩
  rw [hP, hW, hg, wt_piece x3 x5 o o' j R l.val r.val r.isLt ho hR ho']
  rw [show (weights x2 x3 x4 x5 ((Rect.unit (s := S8192x512) ![R, 256] ![128, 256] h).emb (ix2 r l)))
      = weights x2 x3 x4 x5 (ix2 ⟨R + r.val, by have := h 0; simp at this; omega⟩ ⟨256 + l.val, by have := h 1; simp at this; omega⟩) from
      congrArg _ (funext fun a => match a with
        | ⟨0, _⟩ => Fin.ext (by show R + 1 * r.val = R + r.val; omega)
        | ⟨1, _⟩ => Fin.ext (by show 256 + 1 * l.val = 256 + l.val; omega))]
  unfold weights
  rw [if_neg (by show ¬ 256 + l.val < 256; omega)]
  show _ = wt 1024 _ _ (R + r.val) (256 + l.val - 256)
  rw [Nat.add_sub_cancel_left]

/-- The scale scratch as loop `k0_t1` finds it: the group scales. -/
theorem k0_t1_scales (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x256 .i32) (harg3 : arg3.IsWhole) (arg4 : Memref sig .tc .vmem S1024x256 .i32) (harg4 : arg4.IsWhole) (arg5 : Memref sig .tc .vmem S64x256 .fp8e4m3) (harg5 : arg5.IsWhole) (arg6 : Memref sig .tc .vmem S64x256 .fp8e4m3) (harg6 : arg6.IsWhole) (arg7 : Memref sig .tc .vmem S1x256 .f32) (harg7 : arg7.IsWhole) (arg8 : Memref sig .tc .vmem S1x256 .f32) (harg8 : arg8.IsWhole) (arg9 : Memref sig .tc .vmem S1536x256 .f32) (harg9 : arg9.IsWhole) (arg10 : Memref sig .tc .vmem S8192x512 .bf16) (harg10 : arg10.IsWhole) (arg11 : Memref sig .tc .vmem S64x256 .f32) (harg11 : arg11.IsWhole)
    (x0 : Vec Ideal S1536x8192 .fp8e4m3) (x1 : Vec Ideal S1536x1 .f32) (x2 : Vec Ideal S1024x256 .i32) (x3 : Vec Ideal S1024x256 .i32) (x4 : Vec Ideal S64x256 .fp8e4m3) (x5 : Vec Ideal S64x256 .fp8e4m3) (x6 : Vec Ideal S1x256 .f32) (x7 : Vec Ideal S1x256 .f32) :
    arg11.view.read (Elt Ideal) (arg11.view.writes (Elt Ideal) arg11.view.junk [⟨Rect.unit ![0, 0] S64x256.size inb_S64x256_S64x256_0_0, k0_pay1 (arg5.view.readAt (Elt Ideal) (Rect.unit ![0, 0] S64x256.size inb_S64x256_S64x256_0_0).toLoadRect (harg5.unread x4))⟩]) = x4 := by
  funext y
  obtain ⟨r, l, rfl⟩ : ∃ (r : Fin 64) (l : Fin 256), y = ix2 r l := ⟨y 0, y 1, eq_ix2 y⟩
  refine (View.read_writes_cons_hit_of_coords _ _ _ _ _ (ix2 r l) (ix2 r l) fun b => ?_).trans ?_
  · match b with
    | ⟨0, _⟩ => show r.val = 0 + 1 * r.val; omega
    | ⟨1, _⟩ => show l.val = 0 + 1 * l.val; omega
  · refine (k0_pay1_at _ r l).trans ?_
    rw [View.readAt_eq_ld, harg5.read_unread]
    exact congrFun (View.ld_unit_zero (S := S64x256) (by decide) _ x4) (ix2 r l)

/-- Every store of a trip of loop `k0_t1` is the block's weights where it lies. -/
theorem trip_k0_t1_weights (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x256 .i32) (harg3 : arg3.IsWhole) (arg4 : Memref sig .tc .vmem S1024x256 .i32) (harg4 : arg4.IsWhole) (arg5 : Memref sig .tc .vmem S64x256 .fp8e4m3) (harg5 : arg5.IsWhole) (arg6 : Memref sig .tc .vmem S64x256 .fp8e4m3) (harg6 : arg6.IsWhole) (arg7 : Memref sig .tc .vmem S1x256 .f32) (harg7 : arg7.IsWhole) (arg8 : Memref sig .tc .vmem S1x256 .f32) (harg8 : arg8.IsWhole) (arg9 : Memref sig .tc .vmem S1536x256 .f32) (harg9 : arg9.IsWhole) (arg10 : Memref sig .tc .vmem S8192x512 .bf16) (harg10 : arg10.IsWhole) (arg11 : Memref sig .tc .vmem S64x256 .f32) (harg11 : arg11.IsWhole)
    (x2 x3 : Vec Ideal S1024x256 .i32) (x4 x5 : S64x256.Idx → EReal) (XG : BufTy.Contents (Elt Ideal) arg11.view.ty)
    (hG : arg11.view.read (Elt Ideal) XG = x4) (k : Fin k0_t1_loop.trips) :
    ∀ p ∈ tripL_k0_t1 (F := Ideal) Variants.none c none i arg1 harg1 arg2 harg2 arg3 harg3 arg4 harg4 arg5 harg5 arg6 harg6 arg7 harg7 arg8 harg8 arg9 harg9 arg10 harg10 arg11 harg11 (harg3.unread x2) XG k,
      ∀ q : p.1.shape.Idx, p.2 q = weights x2 x3 x4 x5 (p.1.emb q) := by
  have hk : k.val < 8 := Nat.lt_of_lt_of_le k.isLt k0_t1_abs.2.1
  have hg : ∀ (o'' : ℕ) (h) (l : Fin 256), arg11.view.readAt (Elt Ideal)
      (Rect.unit (s := S64x256) ![o'', 0] ![1, 256] h).toLoadRect XG (ix2 0 l) = at2 x4 o'' l.val := fun o'' h l => by
    rw [View.readAt_eq_ld, hG]
    refine (ld_ix2 (Val := Elt Ideal) (e := .f32) x4 o'' 0 1 256 h 0 l).trans ?_
    rw [Nat.zero_add]; rfl
  unfold tripL_k0_t1 trip_k0_t1
  dsimp only
  sl_unfold_words
  dsimp only
  have hW : ∀ (h) (r : Fin 128) (l : Fin 256), arg3.view.readAt (Elt Ideal) (Rect.unit (s := S1024x256)
      ![BitVec.toNat (Scalar.indexCast (Scalar.muli (Scf.iv 0#32 1#32 k.val) 128#32)), 0] ![128, 256] h).toLoadRect
      (harg3.unread x2) (ix2 r l) = at2 x2
        (BitVec.toNat (Scalar.indexCast (Scalar.muli (Scf.iv 0#32 1#32 k.val) 128#32)) + r.val) l.val := fun h r l => by
    rw [View.readAt_eq_ld, harg3.read_unread]
    refine (ld_ix2 (Val := Elt Ideal) (e := .i32) x2 _ 0 128 256 h r l).trans ?_
    rw [Nat.zero_add]
  have ho : BitVec.toNat (Scalar.indexCast (Scalar.muli (Scf.iv 0#32 1#32 k.val) 128#32)) + 128 ≤ 1024 := by
    rw [off_word k.val hk]; omega
  intro p hp
  simp only [List.mem_cons, List.not_mem_nil, or_false] at hp
  rcases hp with rfl | rfl | rfl | rfl | rfl | rfl | rfl | rfl
  · intro q
    refine k0_t1_piece x2 x3 x4 x5 7 _ _ _ _ _ _ (k0_t1_pay7_at _ _) (hW _) (hg _ _) ?_ ho ?_ ?_ q
    · exact ((off_row 7 (by decide) k.val hk).trans (congrArg _ (off_word k.val hk).symm))
    · exact (by rw [off_row 7 (by decide) k.val hk, off_scale 7 (by decide) k.val hk]; omega)
    · intro a
      match a with
      | ⟨0, _⟩ =>
        refine Nat.le_trans (Nat.add_le_add_right (Nat.le_of_eq (off_row 7 (by decide) k.val hk)) 128) ?_
        show 1024 * 7 + 128 * k.val + 128 ≤ 8192
        omega
      | ⟨1, _⟩ => show 0 + 256 ≤ 512; omega
  · intro q
    refine k0_t1_piece x2 x3 x4 x5 6 _ _ _ _ _ _ (k0_t1_pay6_at _ _) (hW _) (hg _ _) ?_ ho ?_ ?_ q
    · exact ((off_row 6 (by decide) k.val hk).trans (congrArg _ (off_word k.val hk).symm))
    · exact (by rw [off_row 6 (by decide) k.val hk, off_scale 6 (by decide) k.val hk]; omega)
    · intro a
      match a with
      | ⟨0, _⟩ =>
        refine Nat.le_trans (Nat.add_le_add_right (Nat.le_of_eq (off_row 6 (by decide) k.val hk)) 128) ?_
        show 1024 * 6 + 128 * k.val + 128 ≤ 8192
        omega
      | ⟨1, _⟩ => show 0 + 256 ≤ 512; omega
  · intro q
    refine k0_t1_piece x2 x3 x4 x5 5 _ _ _ _ _ _ (k0_t1_pay5_at _ _) (hW _) (hg _ _) ?_ ho ?_ ?_ q
    · exact ((off_row 5 (by decide) k.val hk).trans (congrArg _ (off_word k.val hk).symm))
    · exact (by rw [off_row 5 (by decide) k.val hk, off_scale 5 (by decide) k.val hk]; omega)
    · intro a
      match a with
      | ⟨0, _⟩ =>
        refine Nat.le_trans (Nat.add_le_add_right (Nat.le_of_eq (off_row 5 (by decide) k.val hk)) 128) ?_
        show 1024 * 5 + 128 * k.val + 128 ≤ 8192
        omega
      | ⟨1, _⟩ => show 0 + 256 ≤ 512; omega
  · intro q
    refine k0_t1_piece x2 x3 x4 x5 4 _ _ _ _ _ _ (k0_t1_pay4_at _ _) (hW _) (hg _ _) ?_ ho ?_ ?_ q
    · exact ((off_row 4 (by decide) k.val hk).trans (congrArg _ (off_word k.val hk).symm))
    · exact (by rw [off_row 4 (by decide) k.val hk, off_scale 4 (by decide) k.val hk]; omega)
    · intro a
      match a with
      | ⟨0, _⟩ =>
        refine Nat.le_trans (Nat.add_le_add_right (Nat.le_of_eq (off_row 4 (by decide) k.val hk)) 128) ?_
        show 1024 * 4 + 128 * k.val + 128 ≤ 8192
        omega
      | ⟨1, _⟩ => show 0 + 256 ≤ 512; omega
  · intro q
    refine k0_t1_piece x2 x3 x4 x5 3 _ _ _ _ _ _ (k0_t1_pay3_at _ _) (hW _) (hg _ _) ?_ ho ?_ ?_ q
    · exact ((off_row 3 (by decide) k.val hk).trans (congrArg _ (off_word k.val hk).symm))
    · exact (by rw [off_row 3 (by decide) k.val hk, off_scale 3 (by decide) k.val hk]; omega)
    · intro a
      match a with
      | ⟨0, _⟩ =>
        refine Nat.le_trans (Nat.add_le_add_right (Nat.le_of_eq (off_row 3 (by decide) k.val hk)) 128) ?_
        show 1024 * 3 + 128 * k.val + 128 ≤ 8192
        omega
      | ⟨1, _⟩ => show 0 + 256 ≤ 512; omega
  · intro q
    refine k0_t1_piece x2 x3 x4 x5 2 _ _ _ _ _ _ (k0_t1_pay2_at _ _) (hW _) (hg _ _) ?_ ho ?_ ?_ q
    · exact ((off_row 2 (by decide) k.val hk).trans (congrArg _ (off_word k.val hk).symm))
    · exact (by rw [off_row 2 (by decide) k.val hk, off_scale 2 (by decide) k.val hk]; omega)
    · intro a
      match a with
      | ⟨0, _⟩ =>
        refine Nat.le_trans (Nat.add_le_add_right (Nat.le_of_eq (off_row 2 (by decide) k.val hk)) 128) ?_
        show 1024 * 2 + 128 * k.val + 128 ≤ 8192
        omega
      | ⟨1, _⟩ => show 0 + 256 ≤ 512; omega
  · intro q
    refine k0_t1_piece x2 x3 x4 x5 1 _ _ _ _ _ _ (k0_t1_pay1_at _ _) (hW _) (hg _ _) ?_ ho ?_ ?_ q
    · exact ((off_row 1 (by decide) k.val hk).trans (congrArg _ (off_word k.val hk).symm))
    · exact (by rw [off_row 1 (by decide) k.val hk, off_scale 1 (by decide) k.val hk]; omega)
    · intro a
      match a with
      | ⟨0, _⟩ =>
        refine Nat.le_trans (Nat.add_le_add_right (Nat.le_of_eq (off_row 1 (by decide) k.val hk)) 128) ?_
        show 1024 * 1 + 128 * k.val + 128 ≤ 8192
        omega
      | ⟨1, _⟩ => show 0 + 256 ≤ 512; omega
  · intro q
    refine k0_t1_piece x2 x3 x4 x5 0 _ _ _ _ _ _ (k0_t1_pay0_at _ _) (hW _) (hg _ _) ?_ ho ?_ ?_ q
    · exact ((off_row 0 (by decide) k.val hk).trans (congrArg _ (off_word k.val hk).symm))
    · exact (by rw [off_row 0 (by decide) k.val hk, off_scale 0 (by decide) k.val hk]; omega)
    · intro a
      match a with
      | ⟨0, _⟩ =>
        refine Nat.le_trans (Nat.add_le_add_right (Nat.le_of_eq (off_row 0 (by decide) k.val hk)) 128) ?_
        show 1024 * 0 + 128 * k.val + 128 ≤ 8192
        omega
      | ⟨1, _⟩ => show 0 + 256 ≤ 512; omega

/-- So is every store of loop `k0_t1` before trip `n`. -/
theorem pb_k0_t1_weights (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x256 .i32) (harg3 : arg3.IsWhole) (arg4 : Memref sig .tc .vmem S1024x256 .i32) (harg4 : arg4.IsWhole) (arg5 : Memref sig .tc .vmem S64x256 .fp8e4m3) (harg5 : arg5.IsWhole) (arg6 : Memref sig .tc .vmem S64x256 .fp8e4m3) (harg6 : arg6.IsWhole) (arg7 : Memref sig .tc .vmem S1x256 .f32) (harg7 : arg7.IsWhole) (arg8 : Memref sig .tc .vmem S1x256 .f32) (harg8 : arg8.IsWhole) (arg9 : Memref sig .tc .vmem S1536x256 .f32) (harg9 : arg9.IsWhole) (arg10 : Memref sig .tc .vmem S8192x512 .bf16) (harg10 : arg10.IsWhole) (arg11 : Memref sig .tc .vmem S64x256 .f32) (harg11 : arg11.IsWhole)
    (x2 x3 : Vec Ideal S1024x256 .i32) (x4 x5 : S64x256.Idx → EReal) (XG : BufTy.Contents (Elt Ideal) arg11.view.ty)
    (hG : arg11.view.read (Elt Ideal) XG = x4) : ∀ n : ℕ,
    ∀ p ∈ pb_k0_t1 (F := Ideal) Variants.none c none i arg1 harg1 arg2 harg2 arg3 harg3 arg4 harg4 arg5 harg5 arg6 harg6 arg7 harg7 arg8 harg8 arg9 harg9 arg10 harg10 arg11 harg11 (harg3.unread x2) XG n,
      ∀ q : p.1.shape.Idx, p.2 q = weights x2 x3 x4 x5 (p.1.emb q)
  | 0, p, hp, q => absurd hp List.not_mem_nil
  | n + 1, p, hp, q => by
    rw [pb_k0_t1.eq_2] at hp
    unfold pb_k0_t1Step at hp
    split at hp
    · rcases List.mem_append.mp hp with hp | hp
      · exact trip_k0_t1_weights c i arg1 harg1 arg2 harg2 arg3 harg3 arg4 harg4 arg5 harg5 arg6 harg6 arg7 harg7 arg8 harg8 arg9 harg9 arg10 harg10 arg11 harg11 x2 x3 x4 x5 XG hG _ p hp q
      · exact pb_k0_t1_weights c i arg1 harg1 arg2 harg2 arg3 harg3 arg4 harg4 arg5 harg5 arg6 harg6 arg7 harg7 arg8 harg8 arg9 harg9 arg10 harg10 arg11 harg11 x2 x3 x4 x5 XG hG n p hp q
    · exact pb_k0_t1_weights c i arg1 harg1 arg2 harg2 arg3 harg3 arg4 harg4 arg5 harg5 arg6 harg6 arg7 harg7 arg8 harg8 arg9 harg9 arg10 harg10 arg11 harg11 x2 x3 x4 x5 XG hG n p hp q

/-- The scale scratch as loop `k0_t2` finds it: the group scales. -/
theorem k0_t2_scales (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x256 .i32) (harg3 : arg3.IsWhole) (arg4 : Memref sig .tc .vmem S1024x256 .i32) (harg4 : arg4.IsWhole) (arg5 : Memref sig .tc .vmem S64x256 .fp8e4m3) (harg5 : arg5.IsWhole) (arg6 : Memref sig .tc .vmem S64x256 .fp8e4m3) (harg6 : arg6.IsWhole) (arg7 : Memref sig .tc .vmem S1x256 .f32) (harg7 : arg7.IsWhole) (arg8 : Memref sig .tc .vmem S1x256 .f32) (harg8 : arg8.IsWhole) (arg9 : Memref sig .tc .vmem S1536x256 .f32) (harg9 : arg9.IsWhole) (arg10 : Memref sig .tc .vmem S8192x512 .bf16) (harg10 : arg10.IsWhole) (arg11 : Memref sig .tc .vmem S64x256 .f32) (harg11 : arg11.IsWhole)
    (x0 : Vec Ideal S1536x8192 .fp8e4m3) (x1 : Vec Ideal S1536x1 .f32) (x2 : Vec Ideal S1024x256 .i32) (x3 : Vec Ideal S1024x256 .i32) (x4 : Vec Ideal S64x256 .fp8e4m3) (x5 : Vec Ideal S64x256 .fp8e4m3) (x6 : Vec Ideal S1x256 .f32) (x7 : Vec Ideal S1x256 .f32) :
    arg11.view.read (Elt Ideal) (arg11.view.writes (Elt Ideal) arg11.view.junk [⟨Rect.unit ![0, 0] S64x256.size inb_S64x256_S64x256_0_0, k0_pay3 (arg6.view.readAt (Elt Ideal) (Rect.unit ![0, 0] S64x256.size inb_S64x256_S64x256_0_0).toLoadRect (harg6.unread x5))⟩, ⟨Rect.unit ![0, 0] S64x256.size inb_S64x256_S64x256_0_0, k0_pay1 (arg5.view.readAt (Elt Ideal) (Rect.unit ![0, 0] S64x256.size inb_S64x256_S64x256_0_0).toLoadRect (harg5.unread x4))⟩]) = x5 := by
  funext y
  obtain ⟨r, l, rfl⟩ : ∃ (r : Fin 64) (l : Fin 256), y = ix2 r l := ⟨y 0, y 1, eq_ix2 y⟩
  refine (View.read_writes_cons_hit_of_coords _ _ _ _ _ (ix2 r l) (ix2 r l) fun b => ?_).trans ?_
  · match b with
    | ⟨0, _⟩ => show r.val = 0 + 1 * r.val; omega
    | ⟨1, _⟩ => show l.val = 0 + 1 * l.val; omega
  · refine (k0_pay3_at _ r l).trans ?_
    rw [View.readAt_eq_ld, harg6.read_unread]
    exact congrFun (View.ld_unit_zero (S := S64x256) (by decide) _ x5) (ix2 r l)

/-- Every store of a trip of loop `k0_t2` is the block's weights where it lies. -/
theorem trip_k0_t2_weights (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x256 .i32) (harg3 : arg3.IsWhole) (arg4 : Memref sig .tc .vmem S1024x256 .i32) (harg4 : arg4.IsWhole) (arg5 : Memref sig .tc .vmem S64x256 .fp8e4m3) (harg5 : arg5.IsWhole) (arg6 : Memref sig .tc .vmem S64x256 .fp8e4m3) (harg6 : arg6.IsWhole) (arg7 : Memref sig .tc .vmem S1x256 .f32) (harg7 : arg7.IsWhole) (arg8 : Memref sig .tc .vmem S1x256 .f32) (harg8 : arg8.IsWhole) (arg9 : Memref sig .tc .vmem S1536x256 .f32) (harg9 : arg9.IsWhole) (arg10 : Memref sig .tc .vmem S8192x512 .bf16) (harg10 : arg10.IsWhole) (arg11 : Memref sig .tc .vmem S64x256 .f32) (harg11 : arg11.IsWhole)
    (x2 x3 : Vec Ideal S1024x256 .i32) (x4 x5 : S64x256.Idx → EReal) (XG : BufTy.Contents (Elt Ideal) arg11.view.ty)
    (hG : arg11.view.read (Elt Ideal) XG = x5) (k : Fin k0_t2_loop.trips) :
    ∀ p ∈ tripL_k0_t2 (F := Ideal) Variants.none c none i arg1 harg1 arg2 harg2 arg3 harg3 arg4 harg4 arg5 harg5 arg6 harg6 arg7 harg7 arg8 harg8 arg9 harg9 arg10 harg10 arg11 harg11 (harg4.unread x3) XG k,
      ∀ q : p.1.shape.Idx, p.2 q = weights x2 x3 x4 x5 (p.1.emb q) := by
  have hk : k.val < 8 := Nat.lt_of_lt_of_le k.isLt k0_t2_abs.2.1
  have hg : ∀ (o'' : ℕ) (h) (l : Fin 256), arg11.view.readAt (Elt Ideal)
      (Rect.unit (s := S64x256) ![o'', 0] ![1, 256] h).toLoadRect XG (ix2 0 l) = at2 x5 o'' l.val := fun o'' h l => by
    rw [View.readAt_eq_ld, hG]
    refine (ld_ix2 (Val := Elt Ideal) (e := .f32) x5 o'' 0 1 256 h 0 l).trans ?_
    rw [Nat.zero_add]; rfl
  unfold tripL_k0_t2 trip_k0_t2
  dsimp only
  sl_unfold_words
  dsimp only
  have hW : ∀ (h) (r : Fin 128) (l : Fin 256), arg4.view.readAt (Elt Ideal) (Rect.unit (s := S1024x256)
      ![BitVec.toNat (Scalar.indexCast (Scalar.muli (Scf.iv 0#32 1#32 k.val) 128#32)), 0] ![128, 256] h).toLoadRect
      (harg4.unread x3) (ix2 r l) = at2 x3
        (BitVec.toNat (Scalar.indexCast (Scalar.muli (Scf.iv 0#32 1#32 k.val) 128#32)) + r.val) l.val := fun h r l => by
    rw [View.readAt_eq_ld, harg4.read_unread]
    refine (ld_ix2 (Val := Elt Ideal) (e := .i32) x3 _ 0 128 256 h r l).trans ?_
    rw [Nat.zero_add]
  have ho : BitVec.toNat (Scalar.indexCast (Scalar.muli (Scf.iv 0#32 1#32 k.val) 128#32)) + 128 ≤ 1024 := by
    rw [off_word k.val hk]; omega
  intro p hp
  simp only [List.mem_cons, List.not_mem_nil, or_false] at hp
  rcases hp with rfl | rfl | rfl | rfl | rfl | rfl | rfl | rfl
  · intro q
    refine k0_t2_piece x2 x3 x4 x5 7 _ _ _ _ _ _ (k0_t2_pay7_at _ _) (hW _) (hg _ _) ?_ ho ?_ ?_ q
    · exact ((off_row 7 (by decide) k.val hk).trans (congrArg _ (off_word k.val hk).symm))
    · exact (by rw [off_row 7 (by decide) k.val hk, off_scale 7 (by decide) k.val hk]; omega)
    · intro a
      match a with
      | ⟨0, _⟩ =>
        refine Nat.le_trans (Nat.add_le_add_right (Nat.le_of_eq (off_row 7 (by decide) k.val hk)) 128) ?_
        show 1024 * 7 + 128 * k.val + 128 ≤ 8192
        omega
      | ⟨1, _⟩ => show 256 + 256 ≤ 512; omega
  · intro q
    refine k0_t2_piece x2 x3 x4 x5 6 _ _ _ _ _ _ (k0_t2_pay6_at _ _) (hW _) (hg _ _) ?_ ho ?_ ?_ q
    · exact ((off_row 6 (by decide) k.val hk).trans (congrArg _ (off_word k.val hk).symm))
    · exact (by rw [off_row 6 (by decide) k.val hk, off_scale 6 (by decide) k.val hk]; omega)
    · intro a
      match a with
      | ⟨0, _⟩ =>
        refine Nat.le_trans (Nat.add_le_add_right (Nat.le_of_eq (off_row 6 (by decide) k.val hk)) 128) ?_
        show 1024 * 6 + 128 * k.val + 128 ≤ 8192
        omega
      | ⟨1, _⟩ => show 256 + 256 ≤ 512; omega
  · intro q
    refine k0_t2_piece x2 x3 x4 x5 5 _ _ _ _ _ _ (k0_t2_pay5_at _ _) (hW _) (hg _ _) ?_ ho ?_ ?_ q
    · exact ((off_row 5 (by decide) k.val hk).trans (congrArg _ (off_word k.val hk).symm))
    · exact (by rw [off_row 5 (by decide) k.val hk, off_scale 5 (by decide) k.val hk]; omega)
    · intro a
      match a with
      | ⟨0, _⟩ =>
        refine Nat.le_trans (Nat.add_le_add_right (Nat.le_of_eq (off_row 5 (by decide) k.val hk)) 128) ?_
        show 1024 * 5 + 128 * k.val + 128 ≤ 8192
        omega
      | ⟨1, _⟩ => show 256 + 256 ≤ 512; omega
  · intro q
    refine k0_t2_piece x2 x3 x4 x5 4 _ _ _ _ _ _ (k0_t2_pay4_at _ _) (hW _) (hg _ _) ?_ ho ?_ ?_ q
    · exact ((off_row 4 (by decide) k.val hk).trans (congrArg _ (off_word k.val hk).symm))
    · exact (by rw [off_row 4 (by decide) k.val hk, off_scale 4 (by decide) k.val hk]; omega)
    · intro a
      match a with
      | ⟨0, _⟩ =>
        refine Nat.le_trans (Nat.add_le_add_right (Nat.le_of_eq (off_row 4 (by decide) k.val hk)) 128) ?_
        show 1024 * 4 + 128 * k.val + 128 ≤ 8192
        omega
      | ⟨1, _⟩ => show 256 + 256 ≤ 512; omega
  · intro q
    refine k0_t2_piece x2 x3 x4 x5 3 _ _ _ _ _ _ (k0_t2_pay3_at _ _) (hW _) (hg _ _) ?_ ho ?_ ?_ q
    · exact ((off_row 3 (by decide) k.val hk).trans (congrArg _ (off_word k.val hk).symm))
    · exact (by rw [off_row 3 (by decide) k.val hk, off_scale 3 (by decide) k.val hk]; omega)
    · intro a
      match a with
      | ⟨0, _⟩ =>
        refine Nat.le_trans (Nat.add_le_add_right (Nat.le_of_eq (off_row 3 (by decide) k.val hk)) 128) ?_
        show 1024 * 3 + 128 * k.val + 128 ≤ 8192
        omega
      | ⟨1, _⟩ => show 256 + 256 ≤ 512; omega
  · intro q
    refine k0_t2_piece x2 x3 x4 x5 2 _ _ _ _ _ _ (k0_t2_pay2_at _ _) (hW _) (hg _ _) ?_ ho ?_ ?_ q
    · exact ((off_row 2 (by decide) k.val hk).trans (congrArg _ (off_word k.val hk).symm))
    · exact (by rw [off_row 2 (by decide) k.val hk, off_scale 2 (by decide) k.val hk]; omega)
    · intro a
      match a with
      | ⟨0, _⟩ =>
        refine Nat.le_trans (Nat.add_le_add_right (Nat.le_of_eq (off_row 2 (by decide) k.val hk)) 128) ?_
        show 1024 * 2 + 128 * k.val + 128 ≤ 8192
        omega
      | ⟨1, _⟩ => show 256 + 256 ≤ 512; omega
  · intro q
    refine k0_t2_piece x2 x3 x4 x5 1 _ _ _ _ _ _ (k0_t2_pay1_at _ _) (hW _) (hg _ _) ?_ ho ?_ ?_ q
    · exact ((off_row 1 (by decide) k.val hk).trans (congrArg _ (off_word k.val hk).symm))
    · exact (by rw [off_row 1 (by decide) k.val hk, off_scale 1 (by decide) k.val hk]; omega)
    · intro a
      match a with
      | ⟨0, _⟩ =>
        refine Nat.le_trans (Nat.add_le_add_right (Nat.le_of_eq (off_row 1 (by decide) k.val hk)) 128) ?_
        show 1024 * 1 + 128 * k.val + 128 ≤ 8192
        omega
      | ⟨1, _⟩ => show 256 + 256 ≤ 512; omega
  · intro q
    refine k0_t2_piece x2 x3 x4 x5 0 _ _ _ _ _ _ (k0_t2_pay0_at _ _) (hW _) (hg _ _) ?_ ho ?_ ?_ q
    · exact ((off_row 0 (by decide) k.val hk).trans (congrArg _ (off_word k.val hk).symm))
    · exact (by rw [off_row 0 (by decide) k.val hk, off_scale 0 (by decide) k.val hk]; omega)
    · intro a
      match a with
      | ⟨0, _⟩ =>
        refine Nat.le_trans (Nat.add_le_add_right (Nat.le_of_eq (off_row 0 (by decide) k.val hk)) 128) ?_
        show 1024 * 0 + 128 * k.val + 128 ≤ 8192
        omega
      | ⟨1, _⟩ => show 256 + 256 ≤ 512; omega

/-- So is every store of loop `k0_t2` before trip `n`. -/
theorem pb_k0_t2_weights (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x256 .i32) (harg3 : arg3.IsWhole) (arg4 : Memref sig .tc .vmem S1024x256 .i32) (harg4 : arg4.IsWhole) (arg5 : Memref sig .tc .vmem S64x256 .fp8e4m3) (harg5 : arg5.IsWhole) (arg6 : Memref sig .tc .vmem S64x256 .fp8e4m3) (harg6 : arg6.IsWhole) (arg7 : Memref sig .tc .vmem S1x256 .f32) (harg7 : arg7.IsWhole) (arg8 : Memref sig .tc .vmem S1x256 .f32) (harg8 : arg8.IsWhole) (arg9 : Memref sig .tc .vmem S1536x256 .f32) (harg9 : arg9.IsWhole) (arg10 : Memref sig .tc .vmem S8192x512 .bf16) (harg10 : arg10.IsWhole) (arg11 : Memref sig .tc .vmem S64x256 .f32) (harg11 : arg11.IsWhole)
    (x2 x3 : Vec Ideal S1024x256 .i32) (x4 x5 : S64x256.Idx → EReal) (XG : BufTy.Contents (Elt Ideal) arg11.view.ty)
    (hG : arg11.view.read (Elt Ideal) XG = x5) : ∀ n : ℕ,
    ∀ p ∈ pb_k0_t2 (F := Ideal) Variants.none c none i arg1 harg1 arg2 harg2 arg3 harg3 arg4 harg4 arg5 harg5 arg6 harg6 arg7 harg7 arg8 harg8 arg9 harg9 arg10 harg10 arg11 harg11 (harg4.unread x3) XG n,
      ∀ q : p.1.shape.Idx, p.2 q = weights x2 x3 x4 x5 (p.1.emb q)
  | 0, p, hp, q => absurd hp List.not_mem_nil
  | n + 1, p, hp, q => by
    rw [pb_k0_t2.eq_2] at hp
    unfold pb_k0_t2Step at hp
    split at hp
    · rcases List.mem_append.mp hp with hp | hp
      · exact trip_k0_t2_weights c i arg1 harg1 arg2 harg2 arg3 harg3 arg4 harg4 arg5 harg5 arg6 harg6 arg7 harg7 arg8 harg8 arg9 harg9 arg10 harg10 arg11 harg11 x2 x3 x4 x5 XG hG _ p hp q
      · exact pb_k0_t2_weights c i arg1 harg1 arg2 harg2 arg3 harg3 arg4 harg4 arg5 harg5 arg6 harg6 arg7 harg7 arg8 harg8 arg9 harg9 arg10 harg10 arg11 harg11 x2 x3 x4 x5 XG hG n p hp q
    · exact pb_k0_t2_weights c i arg1 harg1 arg2 harg2 arg3 harg3 arg4 harg4 arg5 harg5 arg6 harg6 arg7 harg7 arg8 harg8 arg9 harg9 arg10 harg10 arg11 harg11 x2 x3 x4 x5 XG hG n p hp q

/-- The weight scratch after the dequantising loops: the block's weights. -/
theorem weights_read (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x256 .i32) (harg3 : arg3.IsWhole) (arg4 : Memref sig .tc .vmem S1024x256 .i32) (harg4 : arg4.IsWhole) (arg5 : Memref sig .tc .vmem S64x256 .fp8e4m3) (harg5 : arg5.IsWhole) (arg6 : Memref sig .tc .vmem S64x256 .fp8e4m3) (harg6 : arg6.IsWhole) (arg7 : Memref sig .tc .vmem S1x256 .f32) (harg7 : arg7.IsWhole) (arg8 : Memref sig .tc .vmem S1x256 .f32) (harg8 : arg8.IsWhole) (arg9 : Memref sig .tc .vmem S1536x256 .f32) (harg9 : arg9.IsWhole) (arg10 : Memref sig .tc .vmem S8192x512 .bf16) (harg10 : arg10.IsWhole) (arg11 : Memref sig .tc .vmem S64x256 .f32) (harg11 : arg11.IsWhole)
    (x0 : Vec Ideal S1536x8192 .fp8e4m3) (x1 : Vec Ideal S1536x1 .f32) (x2 : Vec Ideal S1024x256 .i32) (x3 : Vec Ideal S1024x256 .i32) (x4 : Vec Ideal S64x256 .fp8e4m3) (x5 : Vec Ideal S64x256 .fp8e4m3) (x6 : Vec Ideal S1x256 .f32) (x7 : Vec Ideal S1x256 .f32) (f : BufTy.Contents (Elt Ideal) arg10.view.ty) :
    arg10.view.read (Elt Ideal) (arg10.view.writes (Elt Ideal) f (weightPieces c i arg1 harg1 arg2 harg2 arg3 harg3 arg4 harg4 arg5 harg5 arg6 harg6 arg7 harg7 arg8 harg8 arg9 harg9 arg10 harg10 arg11 harg11 x0 x1 x2 x3 x4 x5 x6 x7))
      = weights x2 x3 x4 x5 := by
  funext y
  refine View.read_writes_apply_of_pieces _ _ (weights x2 x3 x4 x5) _ (fun p hp q => ?_) y (weightPieces_cover c i arg1 harg1 arg2 harg2 arg3 harg3 arg4 harg4 arg5 harg5 arg6 harg6 arg7 harg7 arg8 harg8 arg9 harg9 arg10 harg10 arg11 harg11 x0 x1 x2 x3 x4 x5 x6 x7 y)
  unfold weightPieces at hp
  rcases List.mem_append.mp hp with hp | hp
  · exact pb_k0_t2_weights c i arg1 harg1 arg2 harg2 arg3 harg3 arg4 harg4 arg5 harg5 arg6 harg6 arg7 harg7 arg8 harg8 arg9 harg9 arg10 harg10 arg11 harg11 x2 x3 x4 x5 _ (k0_t2_scales c i arg1 harg1 arg2 harg2 arg3 harg3 arg4 harg4 arg5 harg5 arg6 harg6 arg7 harg7 arg8 harg8 arg9 harg9 arg10 harg10 arg11 harg11 x0 x1 x2 x3 x4 x5 x6 x7) _ p hp q
  · exact pb_k0_t1_weights c i arg1 harg1 arg2 harg2 arg3 harg3 arg4 harg4 arg5 harg5 arg6 harg6 arg7 harg7 arg8 harg8 arg9 harg9 arg10 harg10 arg11 harg11 x2 x3 x4 x5 _ (k0_t1_scales c i arg1 harg1 arg2 harg2 arg3 harg3 arg4 harg4 arg5 harg5 arg6 harg6 arg7 harg7 arg8 harg8 arg9 harg9 arg10 harg10 arg11 harg11 x0 x1 x2 x3 x4 x5 x6 x7) _ p hp q

end Cert.GateUpIdeal.RefValue

end
-- ==== Proof.GateUpIdealValue.lean ====
/-
  What `GateUpIdeal` leaves in its result array, block by block, over the frame of `GateUpIdealFrame`.
-/
module

public import proofs.«01_k».proof.Proof.GateUpIdealFrame
public import Idealize.ShloMosaic.Lib.Pipeline.Value

@[expose] public section

noncomputable section

namespace Cert.GateUpIdeal.Value

open Cert.GateUpIdeal Cert.GateUpIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 8's array: the run's contents for that window after the body (`Gen.outsAt0`), read through the window's block. -/
theorem flushed8 (c : Dev nD) (t : Fin cfg0.N) :
    (dats m 0 c).flushed 8 t = (cfg0.win 8).cut (grid0.coords t) (outsAt0 m c t) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — the kernel's one case, `Gen.outsAt0` by definition. -/
theorem flushed8_A (c : Dev nD) (t : Fin cfg0.N) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)) := by
  simp only [flushed8, outsAt0]

/-- The index map sends distinct grid points to distinct block indices (decided over the 28 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S1536x7168.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v1) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 3 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 3).trans (((dats m 0 c).arrAt_in 3 rfl _).trans ((A_eq m c 3).trans (V_main_arg2 m c)))

/-- After the frame run, argument `main_arg3` is as launched: input window 5 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post8 m r h c,
      kept_main_arg0 m r h c,
      kept_main_arg1 m r h c,
      kept_main_arg2 m r h c,
      kept_main_arg3 m r h c,
      kept_main_arg4 m r h c⟩)
    (run_main m ρ)

end Cert.GateUpIdeal.Value

end
-- ==== Proof.GateUpIdealOut.lean ====
/-
  What the matmul loop of `GateUpIdeal` stores: silu of the gate columns times the up columns, each a sum over all of the
  contracted axis.
-/
module

public import proofs.«01_k».proof.Proof.GateUpIdealWeights
public import proofs.«01_k».proof.Proof.GateUpIdealValue

@[expose] public section

noncomputable section

namespace Cert.GateUpIdeal.RefValue

open Cert.GateUpIdeal Cert.GateUpIdeal.Gen Cert.W4
open Idealize.ShloMosaic Idealize.ShloMosaic.TcCoe

/-- A stretch of the products of tiles: their sum, added on. -/
theorem k0_pay28_at (v15 : Vec Ideal S512x256 .fp8e4m3) (v17 : Vec Ideal S256x512 .bf16) (v20 : Vec Ideal S512x256 .fp8e4m3) (v22 : Vec Ideal S256x512 .bf16) (v26 : Vec Ideal S512x256 .fp8e4m3) (v28 : Vec Ideal S256x512 .bf16) (v32 : Vec Ideal S512x256 .fp8e4m3) (v34 : Vec Ideal S256x512 .bf16) (v38 : Vec Ideal S512x256 .fp8e4m3) (v40 : Vec Ideal S256x512 .bf16)
    (r : Fin 512) (l : Fin 512) :
    k0_pay28 (F := Ideal) v15 v17 v20 v22 v26 v28 v32 v34 v38 v40 (ix2 r l)
      = tdot (M := 512) (K := 256) (N := 512) v15 v17 r.val l.val
      + tdot (M := 512) (K := 256) (N := 512) v20 v22 r.val l.val
      + tdot (M := 512) (K := 256) (N := 512) v26 v28 r.val l.val
      + tdot (M := 512) (K := 256) (N := 512) v32 v34 r.val l.val
      + tdot (M := 512) (K := 256) (N := 512) v38 v40 r.val l.val := by
  pointwise [k0_pay28]
  simp only [sum_tdot]

/-- A stretch of the products of tiles: their sum, added on. -/
theorem k0_pay30_at (v42 : FVec Ideal S512x512 .f32) (v45 : Vec Ideal S512x256 .fp8e4m3) (v46 : Vec Ideal S256x512 .bf16) (v50 : Vec Ideal S512x256 .fp8e4m3) (v52 : Vec Ideal S256x512 .bf16) (v56 : Vec Ideal S512x256 .fp8e4m3) (v58 : Vec Ideal S256x512 .bf16) (v62 : Vec Ideal S512x256 .fp8e4m3) (v64 : Vec Ideal S256x512 .bf16) (v68 : Vec Ideal S512x256 .fp8e4m3) (v70 : Vec Ideal S256x512 .bf16) (v74 : Vec Ideal S512x256 .fp8e4m3) (v76 : Vec Ideal S256x512 .bf16)
    (r : Fin 512) (l : Fin 512) :
    k0_pay30 (F := Ideal) v42 (k0_pay29 (F := Ideal) v45) v46 (constant S512x512 FTy.f32 0#32) v50 v52 v56 v58 v62 v64 v68 v70 v74 v76 (ix2 r l)
      = v42 (ix2 r l)
      + tdot (M := 512) (K := 256) (N := 512) v45 v46 r.val l.val
      + tdot (M := 512) (K := 256) (N := 512) v50 v52 r.val l.val
      + tdot (M := 512) (K := 256) (N := 512) v56 v58 r.val l.val
      + tdot (M := 512) (K := 256) (N := 512) v62 v64 r.val l.val
      + tdot (M := 512) (K := 256) (N := 512) v68 v70 r.val l.val
      + tdot (M := 512) (K := 256) (N := 512) v74 v76 r.val l.val := by
  pointwise [k0_pay30, k0_pay29]
  simp only [sum_tdot]

/-- A stretch of the products of tiles: their sum, added on. -/
theorem k0_pay32_at (v78 : FVec Ideal S512x512 .f32) (v81 : Vec Ideal S512x256 .fp8e4m3) (v82 : Vec Ideal S256x512 .bf16) (v86 : Vec Ideal S512x256 .fp8e4m3) (v88 : Vec Ideal S256x512 .bf16) (v92 : Vec Ideal S512x256 .fp8e4m3) (v94 : Vec Ideal S256x512 .bf16) (v98 : Vec Ideal S512x256 .fp8e4m3) (v100 : Vec Ideal S256x512 .bf16) (v104 : Vec Ideal S512x256 .fp8e4m3) (v106 : Vec Ideal S256x512 .bf16) (v110 : Vec Ideal S512x256 .fp8e4m3) (v112 : Vec Ideal S256x512 .bf16)
    (r : Fin 512) (l : Fin 512) :
    k0_pay32 (F := Ideal) v78 (k0_pay31 (F := Ideal) v81) v82 (constant S512x512 FTy.f32 0#32) v86 v88 v92 v94 v98 v100 v104 v106 v110 v112 (ix2 r l)
      = v78 (ix2 r l)
      + tdot (M := 512) (K := 256) (N := 512) v81 v82 r.val l.val
      + tdot (M := 512) (K := 256) (N := 512) v86 v88 r.val l.val
      + tdot (M := 512) (K := 256) (N := 512) v92 v94 r.val l.val
      + tdot (M := 512) (K := 256) (N := 512) v98 v100 r.val l.val
      + tdot (M := 512) (K := 256) (N := 512) v104 v106 r.val l.val
      + tdot (M := 512) (K := 256) (N := 512) v110 v112 r.val l.val := by
  pointwise [k0_pay32, k0_pay31]
  simp only [sum_tdot]

/-- A stretch of the products of tiles: their sum, added on. -/
theorem k0_pay34_at (v114 : FVec Ideal S512x512 .f32) (v117 : Vec Ideal S512x256 .fp8e4m3) (v118 : Vec Ideal S256x512 .bf16) (v122 : Vec Ideal S512x256 .fp8e4m3) (v124 : Vec Ideal S256x512 .bf16) (v128 : Vec Ideal S512x256 .fp8e4m3) (v130 : Vec Ideal S256x512 .bf16) (v134 : Vec Ideal S512x256 .fp8e4m3) (v136 : Vec Ideal S256x512 .bf16) (v140 : Vec Ideal S512x256 .fp8e4m3) (v142 : Vec Ideal S256x512 .bf16) (v146 : Vec Ideal S512x256 .fp8e4m3) (v148 : Vec Ideal S256x512 .bf16)
    (r : Fin 512) (l : Fin 512) :
    k0_pay34 (F := Ideal) v114 (k0_pay33 (F := Ideal) v117) v118 (constant S512x512 FTy.f32 0#32) v122 v124 v128 v130 v134 v136 v140 v142 v146 v148 (ix2 r l)
      = v114 (ix2 r l)
      + tdot (M := 512) (K := 256) (N := 512) v117 v118 r.val l.val
      + tdot (M := 512) (K := 256) (N := 512) v122 v124 r.val l.val
      + tdot (M := 512) (K := 256) (N := 512) v128 v130 r.val l.val
      + tdot (M := 512) (K := 256) (N := 512) v134 v136 r.val l.val
      + tdot (M := 512) (K := 256) (N := 512) v140 v142 r.val l.val
      + tdot (M := 512) (K := 256) (N := 512) v146 v148 r.val l.val := by
  pointwise [k0_pay34, k0_pay33]
  simp only [sum_tdot]

/-- A stretch of the products of tiles: their sum, added on. -/
theorem k0_pay36_at (v150 : FVec Ideal S512x512 .f32) (v153 : Vec Ideal S512x256 .fp8e4m3) (v154 : Vec Ideal S256x512 .bf16) (v158 : Vec Ideal S512x256 .fp8e4m3) (v160 : Vec Ideal S256x512 .bf16) (v164 : Vec Ideal S512x256 .fp8e4m3) (v166 : Vec Ideal S256x512 .bf16) (v170 : Vec Ideal S512x256 .fp8e4m3) (v172 : Vec Ideal S256x512 .bf16) (v176 : Vec Ideal S512x256 .fp8e4m3) (v178 : Vec Ideal S256x512 .bf16) (v182 : Vec Ideal S512x256 .fp8e4m3) (v184 : Vec Ideal S256x512 .bf16)
    (r : Fin 512) (l : Fin 512) :
    k0_pay36 (F := Ideal) v150 (k0_pay35 (F := Ideal) v153) v154 (constant S512x512 FTy.f32 0#32) v158 v160 v164 v166 v170 v172 v176 v178 v182 v184 (ix2 r l)
      = v150 (ix2 r l)
      + tdot (M := 512) (K := 256) (N := 512) v153 v154 r.val l.val
      + tdot (M := 512) (K := 256) (N := 512) v158 v160 r.val l.val
      + tdot (M := 512) (K := 256) (N := 512) v164 v166 r.val l.val
      + tdot (M := 512) (K := 256) (N := 512) v170 v172 r.val l.val
      + tdot (M := 512) (K := 256) (N := 512) v176 v178 r.val l.val
      + tdot (M := 512) (K := 256) (N := 512) v182 v184 r.val l.val := by
  pointwise [k0_pay36, k0_pay35]
  simp only [sum_tdot]

/-- The last stretch, the scales, and the gated product. -/
theorem k0_pay5_at (v186 : FVec Ideal S512x512 .f32) (v189 : Vec Ideal S512x256 .fp8e4m3) (v190 : Vec Ideal S256x512 .bf16) (v194 : Vec Ideal S512x256 .fp8e4m3) (v196 : Vec Ideal S256x512 .bf16) (v200 : Vec Ideal S512x256 .fp8e4m3) (v202 : Vec Ideal S256x512 .bf16) (v206 : Vec Ideal S512x1 .f32) (v210 : Vec Ideal S1x256 .f32) (v217 : Vec Ideal S1x256 .f32)
    (r : Fin 512) (l : Fin 256) :
    k0_pay5 (F := Ideal) v186 (k0_pay37 (F := Ideal) v189) v190 (constant S512x512 FTy.f32 0#32) v194 v196 v200 v202 v206 v210 v217 (ix2 r l)
      = gated ((v186 (ix2 r ⟨l.val, by omega⟩) + tdot (M := 512) (K := 256) (N := 512) v189 v190 r.val (l.val)
      + tdot (M := 512) (K := 256) (N := 512) v194 v196 r.val (l.val) + tdot (M := 512) (K := 256) (N := 512) v200 v202 r.val (l.val)) * v206 (ix2 r 0) * v210 (ix2 0 l))
          ((v186 (ix2 r ⟨256 + l.val, by omega⟩) + tdot (M := 512) (K := 256) (N := 512) v189 v190 r.val (256 + l.val)
      + tdot (M := 512) (K := 256) (N := 512) v194 v196 r.val (256 + l.val) + tdot (M := 512) (K := 256) (N := 512) v200 v202 r.val (256 + l.val)) * v206 (ix2 r 0) * v217 (ix2 0 l)) := by
  pointwise [k0_pay5, k0_pay37]
  simp only [sum_tdot]
  rfl

set_option maxHeartbeats 2000000 in
/-- The whole payload: where each product of tiles is a stretch of one sum, the sums over all of the contracted axis. -/
theorem tiles_at {a0 : Vec Ideal S512x256 .fp8e4m3} {w0 : Vec Ideal S256x512 .bf16} {a1 : Vec Ideal S512x256 .fp8e4m3} {w1 : Vec Ideal S256x512 .bf16} {a2 : Vec Ideal S512x256 .fp8e4m3} {w2 : Vec Ideal S256x512 .bf16} {a3 : Vec Ideal S512x256 .fp8e4m3} {w3 : Vec Ideal S256x512 .bf16} {a4 : Vec Ideal S512x256 .fp8e4m3} {w4 : Vec Ideal S256x512 .bf16} {a5 : Vec Ideal S512x256 .fp8e4m3} {w5 : Vec Ideal S256x512 .bf16} {a6 : Vec Ideal S512x256 .fp8e4m3} {w6 : Vec Ideal S256x512 .bf16} {a7 : Vec Ideal S512x256 .fp8e4m3} {w7 : Vec Ideal S256x512 .bf16} {a8 : Vec Ideal S512x256 .fp8e4m3} {w8 : Vec Ideal S256x512 .bf16} {a9 : Vec Ideal S512x256 .fp8e4m3} {w9 : Vec Ideal S256x512 .bf16} {a10 : Vec Ideal S512x256 .fp8e4m3} {w10 : Vec Ideal S256x512 .bf16} {a11 : Vec Ideal S512x256 .fp8e4m3} {w11 : Vec Ideal S256x512 .bf16} {a12 : Vec Ideal S512x256 .fp8e4m3} {w12 : Vec Ideal S256x512 .bf16} {a13 : Vec Ideal S512x256 .fp8e4m3} {w13 : Vec Ideal S256x512 .bf16} {a14 : Vec Ideal S512x256 .fp8e4m3} {w14 : Vec Ideal S256x512 .bf16} {a15 : Vec Ideal S512x256 .fp8e4m3} {w15 : Vec Ideal S256x512 .bf16} {a16 : Vec Ideal S512x256 .fp8e4m3} {w16 : Vec Ideal S256x512 .bf16} {a17 : Vec Ideal S512x256 .fp8e4m3} {w17 : Vec Ideal S256x512 .bf16} {a18 : Vec Ideal S512x256 .fp8e4m3} {w18 : Vec Ideal S256x512 .bf16} {a19 : Vec Ideal S512x256 .fp8e4m3} {w19 : Vec Ideal S256x512 .bf16} {a20 : Vec Ideal S512x256 .fp8e4m3} {w20 : Vec Ideal S256x512 .bf16} {a21 : Vec Ideal S512x256 .fp8e4m3} {w21 : Vec Ideal S256x512 .bf16} {a22 : Vec Ideal S512x256 .fp8e4m3} {w22 : Vec Ideal S256x512 .bf16} {a23 : Vec Ideal S512x256 .fp8e4m3} {w23 : Vec Ideal S256x512 .bf16} {a24 : Vec Ideal S512x256 .fp8e4m3} {w24 : Vec Ideal S256x512 .bf16} {a25 : Vec Ideal S512x256 .fp8e4m3} {w25 : Vec Ideal S256x512 .bf16} {a26 : Vec Ideal S512x256 .fp8e4m3} {w26 : Vec Ideal S256x512 .bf16} {a27 : Vec Ideal S512x256 .fp8e4m3} {w27 : Vec Ideal S256x512 .bf16} {a28 : Vec Ideal S512x256 .fp8e4m3} {w28 : Vec Ideal S256x512 .bf16} {a29 : Vec Ideal S512x256 .fp8e4m3} {w29 : Vec Ideal S256x512 .bf16} {a30 : Vec Ideal S512x256 .fp8e4m3} {w30 : Vec Ideal S256x512 .bf16} {a31 : Vec Ideal S512x256 .fp8e4m3} {w31 : Vec Ideal S256x512 .bf16}
    (v206 : Vec Ideal S512x1 .f32) (v210 v217 : Vec Ideal S1x256 .f32) (f : ℕ → ℕ → EReal) (r : Fin 512) (l : Fin 256)
    (h0 : ∀ n, n < 512 → tdot (M := 512) (K := 256) (N := 512) a0 w0 r.val n = ∑ q ∈ Finset.range 256, f n (0 + q))
    (h1 : ∀ n, n < 512 → tdot (M := 512) (K := 256) (N := 512) a1 w1 r.val n = ∑ q ∈ Finset.range 256, f n (256 + q))
    (h2 : ∀ n, n < 512 → tdot (M := 512) (K := 256) (N := 512) a2 w2 r.val n = ∑ q ∈ Finset.range 256, f n (512 + q))
    (h3 : ∀ n, n < 512 → tdot (M := 512) (K := 256) (N := 512) a3 w3 r.val n = ∑ q ∈ Finset.range 256, f n (768 + q))
    (h4 : ∀ n, n < 512 → tdot (M := 512) (K := 256) (N := 512) a4 w4 r.val n = ∑ q ∈ Finset.range 256, f n (1024 + q))
    (h5 : ∀ n, n < 512 → tdot (M := 512) (K := 256) (N := 512) a5 w5 r.val n = ∑ q ∈ Finset.range 256, f n (1280 + q))
    (h6 : ∀ n, n < 512 → tdot (M := 512) (K := 256) (N := 512) a6 w6 r.val n = ∑ q ∈ Finset.range 256, f n (1536 + q))
    (h7 : ∀ n, n < 512 → tdot (M := 512) (K := 256) (N := 512) a7 w7 r.val n = ∑ q ∈ Finset.range 256, f n (1792 + q))
    (h8 : ∀ n, n < 512 → tdot (M := 512) (K := 256) (N := 512) a8 w8 r.val n = ∑ q ∈ Finset.range 256, f n (2048 + q))
    (h9 : ∀ n, n < 512 → tdot (M := 512) (K := 256) (N := 512) a9 w9 r.val n = ∑ q ∈ Finset.range 256, f n (2304 + q))
    (h10 : ∀ n, n < 512 → tdot (M := 512) (K := 256) (N := 512) a10 w10 r.val n = ∑ q ∈ Finset.range 256, f n (2560 + q))
    (h11 : ∀ n, n < 512 → tdot (M := 512) (K := 256) (N := 512) a11 w11 r.val n = ∑ q ∈ Finset.range 256, f n (2816 + q))
    (h12 : ∀ n, n < 512 → tdot (M := 512) (K := 256) (N := 512) a12 w12 r.val n = ∑ q ∈ Finset.range 256, f n (3072 + q))
    (h13 : ∀ n, n < 512 → tdot (M := 512) (K := 256) (N := 512) a13 w13 r.val n = ∑ q ∈ Finset.range 256, f n (3328 + q))
    (h14 : ∀ n, n < 512 → tdot (M := 512) (K := 256) (N := 512) a14 w14 r.val n = ∑ q ∈ Finset.range 256, f n (3584 + q))
    (h15 : ∀ n, n < 512 → tdot (M := 512) (K := 256) (N := 512) a15 w15 r.val n = ∑ q ∈ Finset.range 256, f n (3840 + q))
    (h16 : ∀ n, n < 512 → tdot (M := 512) (K := 256) (N := 512) a16 w16 r.val n = ∑ q ∈ Finset.range 256, f n (4096 + q))
    (h17 : ∀ n, n < 512 → tdot (M := 512) (K := 256) (N := 512) a17 w17 r.val n = ∑ q ∈ Finset.range 256, f n (4352 + q))
    (h18 : ∀ n, n < 512 → tdot (M := 512) (K := 256) (N := 512) a18 w18 r.val n = ∑ q ∈ Finset.range 256, f n (4608 + q))
    (h19 : ∀ n, n < 512 → tdot (M := 512) (K := 256) (N := 512) a19 w19 r.val n = ∑ q ∈ Finset.range 256, f n (4864 + q))
    (h20 : ∀ n, n < 512 → tdot (M := 512) (K := 256) (N := 512) a20 w20 r.val n = ∑ q ∈ Finset.range 256, f n (5120 + q))
    (h21 : ∀ n, n < 512 → tdot (M := 512) (K := 256) (N := 512) a21 w21 r.val n = ∑ q ∈ Finset.range 256, f n (5376 + q))
    (h22 : ∀ n, n < 512 → tdot (M := 512) (K := 256) (N := 512) a22 w22 r.val n = ∑ q ∈ Finset.range 256, f n (5632 + q))
    (h23 : ∀ n, n < 512 → tdot (M := 512) (K := 256) (N := 512) a23 w23 r.val n = ∑ q ∈ Finset.range 256, f n (5888 + q))
    (h24 : ∀ n, n < 512 → tdot (M := 512) (K := 256) (N := 512) a24 w24 r.val n = ∑ q ∈ Finset.range 256, f n (6144 + q))
    (h25 : ∀ n, n < 512 → tdot (M := 512) (K := 256) (N := 512) a25 w25 r.val n = ∑ q ∈ Finset.range 256, f n (6400 + q))
    (h26 : ∀ n, n < 512 → tdot (M := 512) (K := 256) (N := 512) a26 w26 r.val n = ∑ q ∈ Finset.range 256, f n (6656 + q))
    (h27 : ∀ n, n < 512 → tdot (M := 512) (K := 256) (N := 512) a27 w27 r.val n = ∑ q ∈ Finset.range 256, f n (6912 + q))
    (h28 : ∀ n, n < 512 → tdot (M := 512) (K := 256) (N := 512) a28 w28 r.val n = ∑ q ∈ Finset.range 256, f n (7168 + q))
    (h29 : ∀ n, n < 512 → tdot (M := 512) (K := 256) (N := 512) a29 w29 r.val n = ∑ q ∈ Finset.range 256, f n (7424 + q))
    (h30 : ∀ n, n < 512 → tdot (M := 512) (K := 256) (N := 512) a30 w30 r.val n = ∑ q ∈ Finset.range 256, f n (7680 + q))
    (h31 : ∀ n, n < 512 → tdot (M := 512) (K := 256) (N := 512) a31 w31 r.val n = ∑ q ∈ Finset.range 256, f n (7936 + q))
    {s c c' : EReal} (hs : v206 (ix2 r 0) = s) (hc : v210 (ix2 0 l) = c) (hc' : v217 (ix2 0 l) = c') :
    k0_pay5 (F := Ideal) (k0_pay36 (F := Ideal) (k0_pay34 (F := Ideal) (k0_pay32 (F := Ideal) (k0_pay30 (F := Ideal) (k0_pay28 (F := Ideal) a0 w0 a1 w1 a2 w2 a3 w3 a4 w4) (k0_pay29 (F := Ideal) a5) w5 (constant S512x512 FTy.f32 0#32) a6 w6 a7 w7 a8 w8 a9 w9 a10 w10) (k0_pay31 (F := Ideal) a11) w11 (constant S512x512 FTy.f32 0#32) a12 w12 a13 w13 a14 w14 a15 w15 a16 w16) (k0_pay33 (F := Ideal) a17) w17 (constant S512x512 FTy.f32 0#32) a18 w18 a19 w19 a20 w20 a21 w21 a22 w22) (k0_pay35 (F := Ideal) a23) w23 (constant S512x512 FTy.f32 0#32) a24 w24 a25 w25 a26 w26 a27 w27 a28 w28) (k0_pay37 (F := Ideal) a29) w29 (constant S512x512 FTy.f32 0#32) a30 w30 a31 w31 v206 v210 v217 (ix2 r l)
      = gated ((∑ q ∈ Finset.range 8192, f l.val q) * s * c) ((∑ q ∈ Finset.range 8192, f (256 + l.val) q) * s * c') := by
  rw [k0_pay5_at]
  simp only [k0_pay28_at, k0_pay30_at, k0_pay32_at, k0_pay34_at, k0_pay36_at, hs, hc, hc']
  rw [h0 l.val (by omega), h0 (256 + l.val) (by omega), h1 l.val (by omega), h1 (256 + l.val) (by omega), h2 l.val (by omega), h2 (256 + l.val) (by omega), h3 l.val (by omega), h3 (256 + l.val) (by omega), h4 l.val (by omega), h4 (256 + l.val) (by omega), h5 l.val (by omega), h5 (256 + l.val) (by omega), h6 l.val (by omega), h6 (256 + l.val) (by omega), h7 l.val (by omega), h7 (256 + l.val) (by omega), h8 l.val (by omega), h8 (256 + l.val) (by omega), h9 l.val (by omega), h9 (256 + l.val) (by omega), h10 l.val (by omega), h10 (256 + l.val) (by omega), h11 l.val (by omega), h11 (256 + l.val) (by omega), h12 l.val (by omega), h12 (256 + l.val) (by omega), h13 l.val (by omega), h13 (256 + l.val) (by omega), h14 l.val (by omega), h14 (256 + l.val) (by omega), h15 l.val (by omega), h15 (256 + l.val) (by omega), h16 l.val (by omega), h16 (256 + l.val) (by omega), h17 l.val (by omega), h17 (256 + l.val) (by omega), h18 l.val (by omega), h18 (256 + l.val) (by omega), h19 l.val (by omega), h19 (256 + l.val) (by omega), h20 l.val (by omega), h20 (256 + l.val) (by omega), h21 l.val (by omega), h21 (256 + l.val) (by omega), h22 l.val (by omega), h22 (256 + l.val) (by omega), h23 l.val (by omega), h23 (256 + l.val) (by omega), h24 l.val (by omega), h24 (256 + l.val) (by omega), h25 l.val (by omega), h25 (256 + l.val) (by omega), h26 l.val (by omega), h26 (256 + l.val) (by omega), h27 l.val (by omega), h27 (256 + l.val) (by omega), h28 l.val (by omega), h28 (256 + l.val) (by omega), h29 l.val (by omega), h29 (256 + l.val) (by omega), h30 l.val (by omega), h30 (256 + l.val) (by omega), h31 l.val (by omega), h31 (256 + l.val) (by omega)]
  simp only [show ∀ n q, f n (0 + q) = f n q from fun n q => by rw [Nat.zero_add], sum_step, Nat.reduceAdd]

/-- Element `(t, n)` of an output block. -/
def outBlk (x0 : Vec Ideal S1536x8192 .fp8e4m3) (x1 : Vec Ideal S1536x1 .f32) (x2 : Vec Ideal S1024x256 .i32) (x3 : Vec Ideal S1024x256 .i32) (x4 : Vec Ideal S64x256 .fp8e4m3) (x5 : Vec Ideal S64x256 .fp8e4m3) (x6 : Vec Ideal S1x256 .f32) (x7 : Vec Ideal S1x256 .f32) (y : S1536x256.Idx) : EReal :=
  gated (lin 8192 1024 (at2 (α := EReal) x0) (fun t => at2 (α := EReal) x1 t 0) (at2 (α := BitVec 32) x2) (at2 (α := EReal) x4)
      (fun n => at2 (α := EReal) x6 0 n) (y 0).val (y 1).val)
    (lin 8192 1024 (at2 (α := EReal) x0) (fun t => at2 (α := EReal) x1 t 0) (at2 (α := BitVec 32) x3) (at2 (α := EReal) x5)
      (fun n => at2 (α := EReal) x7 0 n) (y 0).val (y 1).val)

set_option maxHeartbeats 2000000 in
/-- Every store of a trip of the matmul loop is the output block where it lies. -/
theorem trip_k0_t3_out (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x256 .i32) (harg3 : arg3.IsWhole) (arg4 : Memref sig .tc .vmem S1024x256 .i32) (harg4 : arg4.IsWhole) (arg5 : Memref sig .tc .vmem S64x256 .fp8e4m3) (harg5 : arg5.IsWhole) (arg6 : Memref sig .tc .vmem S64x256 .fp8e4m3) (harg6 : arg6.IsWhole) (arg7 : Memref sig .tc .vmem S1x256 .f32) (harg7 : arg7.IsWhole) (arg8 : Memref sig .tc .vmem S1x256 .f32) (harg8 : arg8.IsWhole) (arg9 : Memref sig .tc .vmem S1536x256 .f32) (harg9 : arg9.IsWhole) (arg10 : Memref sig .tc .vmem S8192x512 .bf16) (harg10 : arg10.IsWhole) (arg11 : Memref sig .tc .vmem S64x256 .f32) (harg11 : arg11.IsWhole)
    (x0 : Vec Ideal S1536x8192 .fp8e4m3) (x1 : Vec Ideal S1536x1 .f32) (x2 : Vec Ideal S1024x256 .i32) (x3 : Vec Ideal S1024x256 .i32) (x4 : Vec Ideal S64x256 .fp8e4m3) (x5 : Vec Ideal S64x256 .fp8e4m3) (x6 : Vec Ideal S1x256 .f32) (x7 : Vec Ideal S1x256 .f32) (XW : BufTy.Contents (Elt Ideal) arg10.view.ty)
    (hW : arg10.view.read (Elt Ideal) XW = weights x2 x3 x4 x5) (k : Fin k0_t3_loop.trips) :
    ∀ p ∈ tripL_k0_t3 (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg7.unread x6) (harg8.unread x7) XW k,
      ∀ q : p.1.shape.Idx, p.2 q = outBlk x0 x1 x2 x3 x4 x5 x6 x7 (p.1.emb q) := by
  unfold tripL_k0_t3 trip_k0_t3
  dsimp only
  sl_unfold_words
  dsimp only
  intro p hp
  rw [List.mem_singleton] at hp
  subst hp
  intro q
  obtain ⟨r, l, rfl⟩ : ∃ (r : Fin 512) (l : Fin 256), q = ix2 r l := ⟨q 0, q 1, eq_ix2 q⟩
  obtain ⟨f, hf⟩ : ∃ f : ℕ → ℕ → EReal, f = fun n q => at2 (α := EReal) x0 ((BitVec.toNat (Scalar.indexCast (Scalar.muli (Scf.iv 0#32 1#32 k.val) 512#32))) + r.val) q
      * at2 (α := EReal) (m := 8192) (n := 512) (weights x2 x3 x4 x5) q n := ⟨_, rfl⟩
  have T : ∀ (n : ℕ) (hn : n < 512) (o : ℕ) (h) (h'),
      tdot (M := 512) (K := 256) (N := 512)
        (arg1.view.readAt (Elt Ideal) (Rect.unit (s := S1536x8192) ![(BitVec.toNat (Scalar.indexCast (Scalar.muli (Scf.iv 0#32 1#32 k.val) 512#32))), o] ![512, 256] h).toLoadRect (harg1.unread x0))
        (arg10.view.readAt (Elt Ideal) (Rect.unit (s := S8192x512) ![o, 0] ![256, 512] h').toLoadRect XW) r.val n
      = ∑ q ∈ Finset.range 256, f n (o + q) := fun n hn o h h' => by
    rw [View.readAt_eq_ld, View.readAt_eq_ld, harg1.read_unread, hW, hf]
    exact tdot_ld (M := 512) (K := 256) (N := 512) x0 _ (BitVec.toNat (Scalar.indexCast (Scalar.muli (Scf.iv 0#32 1#32 k.val) 512#32))) o r.val n h h' r.isLt hn
  have hs : ∀ (h), arg2.view.readAt (Elt Ideal) (Rect.unit (s := S1536x1) ![(BitVec.toNat (Scalar.indexCast (Scalar.muli (Scf.iv 0#32 1#32 k.val) 512#32))), 0] ![512, 1] h).toLoadRect (harg2.unread x1) (ix2 r 0)
      = at2 (α := EReal) x1 ((BitVec.toNat (Scalar.indexCast (Scalar.muli (Scf.iv 0#32 1#32 k.val) 512#32))) + r.val) 0 := fun h => by
    rw [View.readAt_eq_ld, harg2.read_unread]
    exact ld_ix2 (Val := fun _ => EReal) (e := .f32) x1 (BitVec.toNat (Scalar.indexCast (Scalar.muli (Scf.iv 0#32 1#32 k.val) 512#32))) 0 512 1 h r 0
  have hc6 : ∀ (h), arg7.view.readAt (Elt Ideal) (Rect.unit (s := S1x256) ![0, 0] ![1, 256] h).toLoadRect (harg7.unread x6) (ix2 0 l)
      = at2 (α := EReal) x6 0 l.val := fun h => by
    rw [View.readAt_eq_ld, harg7.read_unread]
    exact (ld_ix2 (Val := fun _ => EReal) (e := .f32) x6 0 0 1 256 h 0 l).trans
      (congrArg (fun n => at2 (α := EReal) x6 0 n) (Nat.zero_add l.val))
  have hc7 : ∀ (h), arg8.view.readAt (Elt Ideal) (Rect.unit (s := S1x256) ![0, 0] ![1, 256] h).toLoadRect (harg8.unread x7) (ix2 0 l)
      = at2 (α := EReal) x7 0 l.val := fun h => by
    rw [View.readAt_eq_ld, harg8.read_unread]
    exact (ld_ix2 (Val := fun _ => EReal) (e := .f32) x7 0 0 1 256 h 0 l).trans
      (congrArg (fun n => at2 (α := EReal) x7 0 n) (Nat.zero_add l.val))
  refine (tiles_at _ _ _ f r l (fun n hn => T n hn 0 _ _) (fun n hn => T n hn 256 _ _) (fun n hn => T n hn 512 _ _) (fun n hn => T n hn 768 _ _) (fun n hn => T n hn 1024 _ _) (fun n hn => T n hn 1280 _ _) (fun n hn => T n hn 1536 _ _) (fun n hn => T n hn 1792 _ _) (fun n hn => T n hn 2048 _ _) (fun n hn => T n hn 2304 _ _) (fun n hn => T n hn 2560 _ _) (fun n hn => T n hn 2816 _ _) (fun n hn => T n hn 3072 _ _) (fun n hn => T n hn 3328 _ _) (fun n hn => T n hn 3584 _ _) (fun n hn => T n hn 3840 _ _) (fun n hn => T n hn 4096 _ _) (fun n hn => T n hn 4352 _ _) (fun n hn => T n hn 4608 _ _) (fun n hn => T n hn 4864 _ _) (fun n hn => T n hn 5120 _ _) (fun n hn => T n hn 5376 _ _) (fun n hn => T n hn 5632 _ _) (fun n hn => T n hn 5888 _ _) (fun n hn => T n hn 6144 _ _) (fun n hn => T n hn 6400 _ _) (fun n hn => T n hn 6656 _ _) (fun n hn => T n hn 6912 _ _) (fun n hn => T n hn 7168 _ _) (fun n hn => T n hn 7424 _ _) (fun n hn => T n hn 7680 _ _) (fun n hn => T n hn 7936 _ _) (hs _) (hc6 _) (hc7 _)).trans ?_
  have e0 : ∑ q ∈ Finset.range 8192, f l.val q
      = ∑ q ∈ Finset.range 8192, at2 (α := EReal) x0 ((BitVec.toNat (Scalar.indexCast (Scalar.muli (Scf.iv 0#32 1#32 k.val) 512#32))) + r.val) q * wt 1024 (at2 (α := BitVec 32) x2) (at2 (α := EReal) x4) q l.val :=
    Finset.sum_congr rfl fun q hq => by
      rw [hf]
      refine congrArg (_ * ·) ?_
      rw [at2_of _ (Finset.mem_range.mp hq) (by omega)]
      exact if_pos l.isLt
  have e1 : ∑ q ∈ Finset.range 8192, f (256 + l.val) q
      = ∑ q ∈ Finset.range 8192, at2 (α := EReal) x0 ((BitVec.toNat (Scalar.indexCast (Scalar.muli (Scf.iv 0#32 1#32 k.val) 512#32))) + r.val) q * wt 1024 (at2 (α := BitVec 32) x3) (at2 (α := EReal) x5) q l.val :=
    Finset.sum_congr rfl fun q hq => by
      rw [hf]
      refine congrArg (_ * ·) ?_
      rw [at2_of _ (Finset.mem_range.mp hq) (by omega)]
      refine (if_neg (by show ¬ 256 + l.val < 256; omega)).trans ?_
      show wt 1024 _ _ q (256 + l.val - 256) = _
      rw [Nat.add_sub_cancel_left]
  rw [e0, e1]
  show _ = gated (lin 8192 1024 _ _ _ _ _ ((BitVec.toNat (Scalar.indexCast (Scalar.muli (Scf.iv 0#32 1#32 k.val) 512#32))) + 1 * r.val) (0 + 1 * l.val)) (lin 8192 1024 _ _ _ _ _ ((BitVec.toNat (Scalar.indexCast (Scalar.muli (Scf.iv 0#32 1#32 k.val) 512#32))) + 1 * r.val) (0 + 1 * l.val))
  rw [Nat.one_mul, Nat.one_mul, Nat.zero_add]
  rfl

/-- So is every store of the loop before trip `n`. -/
theorem pb_k0_t3_out (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x256 .i32) (harg3 : arg3.IsWhole) (arg4 : Memref sig .tc .vmem S1024x256 .i32) (harg4 : arg4.IsWhole) (arg5 : Memref sig .tc .vmem S64x256 .fp8e4m3) (harg5 : arg5.IsWhole) (arg6 : Memref sig .tc .vmem S64x256 .fp8e4m3) (harg6 : arg6.IsWhole) (arg7 : Memref sig .tc .vmem S1x256 .f32) (harg7 : arg7.IsWhole) (arg8 : Memref sig .tc .vmem S1x256 .f32) (harg8 : arg8.IsWhole) (arg9 : Memref sig .tc .vmem S1536x256 .f32) (harg9 : arg9.IsWhole) (arg10 : Memref sig .tc .vmem S8192x512 .bf16) (harg10 : arg10.IsWhole) (arg11 : Memref sig .tc .vmem S64x256 .f32) (harg11 : arg11.IsWhole)
    (x0 : Vec Ideal S1536x8192 .fp8e4m3) (x1 : Vec Ideal S1536x1 .f32) (x2 : Vec Ideal S1024x256 .i32) (x3 : Vec Ideal S1024x256 .i32) (x4 : Vec Ideal S64x256 .fp8e4m3) (x5 : Vec Ideal S64x256 .fp8e4m3) (x6 : Vec Ideal S1x256 .f32) (x7 : Vec Ideal S1x256 .f32) (XW : BufTy.Contents (Elt Ideal) arg10.view.ty)
    (hW : arg10.view.read (Elt Ideal) XW = weights x2 x3 x4 x5) : ∀ n : ℕ,
    ∀ p ∈ pb_k0_t3 (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg7.unread x6) (harg8.unread x7) XW n,
      ∀ q : p.1.shape.Idx, p.2 q = outBlk x0 x1 x2 x3 x4 x5 x6 x7 (p.1.emb q)
  | 0, p, hp, q => absurd hp List.not_mem_nil
  | n + 1, p, hp, q => by
    rw [pb_k0_t3.eq_2] at hp
    unfold pb_k0_t3Step at hp
    split at hp
    · rcases List.mem_append.mp hp with hp | hp
      · exact trip_k0_t3_out c i arg1 harg1 arg2 harg2 arg3 harg3 arg4 harg4 arg5 harg5 arg6 harg6 arg7 harg7 arg8 harg8 arg9 harg9 arg10 harg10 arg11 harg11 x0 x1 x2 x3 x4 x5 x6 x7 XW hW _ p hp q
      · exact pb_k0_t3_out c i arg1 harg1 arg2 harg2 arg3 harg3 arg4 harg4 arg5 harg5 arg6 harg6 arg7 harg7 arg8 harg8 arg9 harg9 arg10 harg10 arg11 harg11 x0 x1 x2 x3 x4 x5 x6 x7 XW hW n p hp q
    · exact pb_k0_t3_out c i arg1 harg1 arg2 harg2 arg3 harg3 arg4 harg4 arg5 harg5 arg6 harg6 arg7 harg7 arg8 harg8 arg9 harg9 arg10 harg10 arg11 harg11 x0 x1 x2 x3 x4 x5 x6 x7 XW hW n p hp q

/-- The output block after the body, at an element. -/
theorem out_read (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x256 .i32) (harg3 : arg3.IsWhole) (arg4 : Memref sig .tc .vmem S1024x256 .i32) (harg4 : arg4.IsWhole) (arg5 : Memref sig .tc .vmem S64x256 .fp8e4m3) (harg5 : arg5.IsWhole) (arg6 : Memref sig .tc .vmem S64x256 .fp8e4m3) (harg6 : arg6.IsWhole) (arg7 : Memref sig .tc .vmem S1x256 .f32) (harg7 : arg7.IsWhole) (arg8 : Memref sig .tc .vmem S1x256 .f32) (harg8 : arg8.IsWhole) (arg9 : Memref sig .tc .vmem S1536x256 .f32) (harg9 : arg9.IsWhole) (arg10 : Memref sig .tc .vmem S8192x512 .bf16) (harg10 : arg10.IsWhole) (arg11 : Memref sig .tc .vmem S64x256 .f32) (harg11 : arg11.IsWhole)
    (x0 : Vec Ideal S1536x8192 .fp8e4m3) (x1 : Vec Ideal S1536x1 .f32) (x2 : Vec Ideal S1024x256 .i32) (x3 : Vec Ideal S1024x256 .i32) (x4 : Vec Ideal S64x256 .fp8e4m3) (x5 : Vec Ideal S64x256 .fp8e4m3) (x6 : Vec Ideal S1x256 .f32) (x7 : Vec Ideal S1x256 .f32) :
    out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 x7 = outBlk x0 x1 x2 x3 x4 x5 x6 x7 := by
  funext y
  refine View.read_writes_apply_of_pieces _ _ (outBlk x0 x1 x2 x3 x4 x5 x6 x7) _ (fun p hp q => ?_) y (cover0_A_8 c i arg1 harg1 arg2 harg2 arg3 harg3 arg4 harg4 arg5 harg5 arg6 harg6 arg7 harg7 arg8 harg8 arg9 harg9 arg10 harg10 arg11 harg11 x0 x1 x2 x3 x4 x5 x6 x7 y)
  unfold outPieces at hp
  exact pb_k0_t3_out c i arg1 harg1 arg2 harg2 arg3 harg3 arg4 harg4 arg5 harg5 arg6 harg6 arg7 harg7 arg8 harg8 arg9 harg9 arg10 harg10 arg11 harg11 x0 x1 x2 x3 x4 x5 x6 x7 _ (weights_read c i arg1 harg1 arg2 harg2 arg3 harg3 arg4 harg4 arg5 harg5 arg6 harg6 arg7 harg7 arg8 harg8 arg9 harg9 arg10 harg10 arg11 harg11 x0 x1 x2 x3 x4 x5 x6 x7 _) _ p hp q

end Cert.GateUpIdeal.RefValue

end
-- ==== Proof.GateUpIdealFinal.lean ====
/-
  The array that the kernel leaves: at every element the gate-up layer of the argument arrays.
-/
module

public import proofs.«01_k».proof.Proof.GateUpIdealOut
public import Idealize.ShloMosaic.Lib.Claim
public import Idealize.ShloMosaic.Lib.Pipeline.ValueKit

@[expose] public section

noncomputable section

namespace Cert.GateUpIdeal.RefValue

open Cert.GateUpIdeal Cert.GateUpIdeal.Gen Cert.GateUpIdeal.Value Cert.W4
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Where each window's block stands at a grid point. -/
theorem idx : ∀ t : Fin cfg0.N, win0_0.index t = ![0, 0] ∧ win0_1.index t = ![0, 0] ∧ win0_2.index t = ![0, t.val]
    ∧ win0_3.index t = ![0, 28 + t.val] ∧ win0_4.index t = ![0, t.val] ∧ win0_5.index t = ![0, 28 + t.val]
    ∧ win0_6.index t = ![0, t.val] ∧ win0_7.index t = ![0, 28 + t.val] ∧ win0_8.index t = ![0, t.val] := by
  decide +kernel

/-- The activations come whole. -/
theorem iblk0 (c : Dev nD) (t : Fin cfg0.N) (i j : ℕ) (hi : i < 1536) (hj : j < 8192) :
    at2 (α := EReal) (m := 1536) (n := 8192) (iblk m c 0 t) i j
      = at2 (α := EReal) (m := 1536) (n := 8192) (m ((c.tc : Thread nD τ).loc main_arg0)) i j := by
  have ht : t.val < 28 := t.isLt
  rw [at2_of _ hi hj, at2_of _ hi (by omega)]
  blk_ext [iblk, V, idx t]

/-- The row scales come whole. -/
theorem iblk1 (c : Dev nD) (t : Fin cfg0.N) (i j : ℕ) (hi : i < 1536) (hj : j < 1) :
    at2 (α := EReal) (m := 1536) (n := 1) (iblk m c 1 t) i j
      = at2 (α := EReal) (m := 1536) (n := 1) (m ((c.tc : Thread nD τ).loc main_arg1)) i j := by
  have ht : t.val < 28 := t.isLt
  rw [at2_of _ hi hj, at2_of _ hi (by omega)]
  blk_ext [iblk, V, idx t]

/-- The word block of the first half. -/
theorem iblk2 (c : Dev nD) (t : Fin cfg0.N) (i j : ℕ) (hi : i < 1024) (hj : j < 256) :
    at2 (α := BitVec 32) (m := 1024) (n := 256) (iblk m c 2 t) i j
      = at2 (α := BitVec 32) (m := 1024) (n := 14336) (m ((c.tc : Thread nD τ).loc main_arg2)) i (256 * t.val + j) := by
  have ht : t.val < 28 := t.isLt
  rw [at2_of _ hi hj, at2_of _ hi (by omega)]
  blk_ext [iblk, V, idx t]

/-- The word block of the second half. -/
theorem iblk3 (c : Dev nD) (t : Fin cfg0.N) (i j : ℕ) (hi : i < 1024) (hj : j < 256) :
    at2 (α := BitVec 32) (m := 1024) (n := 256) (iblk m c 3 t) i j
      = at2 (α := BitVec 32) (m := 1024) (n := 14336) (m ((c.tc : Thread nD τ).loc main_arg2)) i (7168 + (256 * t.val + j)) := by
  have ht : t.val < 28 := t.isLt
  rw [at2_of _ hi hj, at2_of _ hi (by omega)]
  blk_ext [iblk, V, idx t]

/-- The group scales of the first half. -/
theorem iblk4 (c : Dev nD) (t : Fin cfg0.N) (i j : ℕ) (hi : i < 64) (hj : j < 256) :
    at2 (α := EReal) (m := 64) (n := 256) (iblk m c 4 t) i j
      = at2 (α := EReal) (m := 64) (n := 14336) (m ((c.tc : Thread nD τ).loc main_arg3)) i (256 * t.val + j) := by
  have ht : t.val < 28 := t.isLt
  rw [at2_of _ hi hj, at2_of _ hi (by omega)]
  blk_ext [iblk, V, idx t]

/-- The group scales of the second half. -/
theorem iblk5 (c : Dev nD) (t : Fin cfg0.N) (i j : ℕ) (hi : i < 64) (hj : j < 256) :
    at2 (α := EReal) (m := 64) (n := 256) (iblk m c 5 t) i j
      = at2 (α := EReal) (m := 64) (n := 14336) (m ((c.tc : Thread nD τ).loc main_arg3)) i (7168 + (256 * t.val + j)) := by
  have ht : t.val < 28 := t.isLt
  rw [at2_of _ hi hj, at2_of _ hi (by omega)]
  blk_ext [iblk, V, idx t]

/-- The column scales of the first half. -/
theorem iblk6 (c : Dev nD) (t : Fin cfg0.N) (j : ℕ) (hj : j < 256) :
    at2 (α := EReal) (m := 1) (n := 256) (iblk m c 6 t) 0 j
      = at1 (α := EReal) (n := 14336) (m ((c.tc : Thread nD τ).loc main_arg4)) (256 * t.val + j) := by
  have ht : t.val < 28 := t.isLt
  rw [at2_of _ (by omega) hj, at1_of _ (by omega)]
  blk_ext! [iblk, idx t]

/-- The column scales of the second half. -/
theorem iblk7 (c : Dev nD) (t : Fin cfg0.N) (j : ℕ) (hj : j < 256) :
    at2 (α := EReal) (m := 1) (n := 256) (iblk m c 7 t) 0 j
      = at1 (α := EReal) (n := 14336) (m ((c.tc : Thread nD τ).loc main_arg4)) (7168 + (256 * t.val + j)) := by
  have ht : t.val < 28 := t.isLt
  rw [at2_of _ (by omega) hj, at1_of _ (by omega)]
  blk_ext! [iblk, idx t]

/-- The array the kernel leaves. -/
theorem result (c : Dev nD) :
    (dats m 0 c).arrAt 8 cfg0.N
      = fun y : S1536x7168.Idx => gateUp (k8 := 1024) (T := 1536) (K := 8192) (kg := 64) (N := 14336)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (y 0).val (y 1).val := by
  refine (dats m 0 c).arrAt_eq_of_covers 8 _ (by decide +kernel) fun t hf y => ?_
  have ht : t.val < 28 := t.isLt
  refine (congrFun (flushed8_A m c t) y).trans ?_
  rw [out_read]
  have h0 : (y 0).val < 1536 := (y 0).isLt
  have h1 : (y 1).val < 256 := (y 1).isLt
  have e0 : (((cfg0.win 8).blk t).view.emb y 0).val = (y 0).val := by blk_simp [idx t]
  have e1 : (((cfg0.win 8).blk t).view.emb y 1).val = 256 * t.val + (y 1).val := by blk_simp [idx t]; omega
  rw [e0, e1]
  show outBlk _ _ _ _ _ _ _ _ y = _
  unfold outBlk gateUp
  refine congrArg₂ gated ?_ ?_
  · refine lin_congr (by omega) (fun k hk => iblk0 m c t _ _ h0 hk) (iblk1 m c t _ _ h0 (by omega))
      (fun k hk => iblk2 m c t _ _ hk h1) (fun k hk => iblk4 m c t _ _ (by omega) h1) (iblk6 m c t _ h1)
  · refine lin_congr (by omega) (fun k hk => iblk0 m c t _ _ h0 hk) (iblk1 m c t _ _ h0 (by omega))
      (fun k hk => iblk3 m c t _ _ hk h1) (fun k hk => iblk5 m c t _ _ (by omega) h1) (iblk7 m c t _ h1)

end Cert.GateUpIdeal.RefValue

end
-- ==== Proof.RefCode.lean ====
/-
  How the references write the weight codes: eight fields cut out of a word, made signed, and laid one under the other.
-/
module

public import proofs.«01_k».proof.Proof.Spec

@[expose] public section

noncomputable section

namespace Cert.W4

open Idealize.ShloMosaic

/-- A field as an eight-bit signed number: the field, minus sixteen from eight on. -/
def trunc8 (v : BitVec 32) : BitVec 8 :=
  BitVec.setWidth 8 (Scalar.select (IntOp.cmpi CmpIPredicate.sge v 8#32) (IntOp.subi v 16#32) v)

/-- Field `s / 4` of the word `w` as an eight-bit signed number. -/
def code8 (w s : BitVec 32) : BitVec 8 := trunc8 (IntOp.andi (IntOp.shrsi ArithUnit.vector w s) 15#32)

/-- The field of a shifted word is its nibble. -/
theorem field_nib (w : BitVec 32) (j : ℕ) (hj : j < 8) : (w.sshiftRight (4 * j)) &&& 15#32 = (nib w j).zeroExtend 32 := by
  apply BitVec.eq_of_getLsbD_eq
  intro i h
  have hm : ∀ i : Fin 32, (15#32).getLsbD i.val = decide (i.val < 4) := by decide
  have h1 := hm ⟨i, h⟩
  simp only at h1
  simp only [nib, BitVec.getLsbD_and, BitVec.truncate_eq_setWidth, BitVec.getLsbD_setWidth, BitVec.getLsbD_sshiftRight,
    BitVec.getLsbD_extractLsb', h1, h, decide_true, Bool.true_and]
  by_cases h4 : i < 4
  · have : 4 * j + i < 32 := by omega
    have h32 : ¬ 32 ≤ i := by omega
    simp [h4, this, h32]
  · simp [h4]

/-- As a number the code is the signed nibble. -/
theorem code8_eq (w : BitVec 32) (j : ℕ) (hj : j < 8) :
    (FloatOps.sitofp FTy.bf16 (code8 w (BitVec.ofNat 32 (4 * j))) : Ideal .bf16) = sgn4 (nib w j) := by
  have hs : IntOp.shrsi ArithUnit.vector w (BitVec.ofNat 32 (4 * j)) = w.sshiftRight (4 * j) := by
    have : (BitVec.ofNat 32 (4 * j)).toNat = 4 * j := by
      rw [BitVec.toNat_ofNat]; exact Nat.mod_eq_of_lt (by omega)
    simp [IntOp.shrsi, this]
    try omega
  have hk : ∀ b : BitVec 4, (BitVec.setWidth 8
      (Scalar.select (IntOp.cmpi CmpIPredicate.sge (b.zeroExtend 32) 8#32) (IntOp.subi (b.zeroExtend 32) 16#32)
        (b.zeroExtend 32))).toInt = b.toInt := by decide
  have ha : IntOp.andi (IntOp.shrsi ArithUnit.vector w (BitVec.ofNat 32 (4 * j))) 15#32 = (nib w j).zeroExtend 32 := by
    rw [hs]; exact field_nib w j hj
  show (((code8 w _).toInt : ℝ) : EReal) = _
  unfold code8 trunc8 sgn4
  rw [ha, hk]

/-- Eight matrices of `k8` rows, one under the other. -/
def stack8 (k8 : ℕ) (p0 p1 p2 p3 p4 p5 p6 p7 : ℕ → ℕ → BitVec 8) (k n : ℕ) : BitVec 8 :=
  if k < k8 then p0 k n
  else if k - k8 < k8 then p1 (k - k8) n
  else if k - k8 - k8 < k8 then p2 (k - k8 - k8) n
  else if k - k8 - k8 - k8 < k8 then p3 (k - k8 - k8 - k8) n
  else if k - k8 - k8 - k8 - k8 < k8 then p4 (k - k8 - k8 - k8 - k8) n
  else if k - k8 - k8 - k8 - k8 - k8 < k8 then p5 (k - k8 - k8 - k8 - k8 - k8) n
  else if k - k8 - k8 - k8 - k8 - k8 - k8 < k8 then p6 (k - k8 - k8 - k8 - k8 - k8 - k8) n
  else p7 (k - k8 - k8 - k8 - k8 - k8 - k8 - k8) n

/-- A choice by a proof is the choice by its condition, where the sides agree. -/
theorem dite_ite {α : Type} {c : Prop} [Decidable c] {a : c → α} {b : ¬c → α} {a' b' : α} (ha : ∀ h, a h = a')
    (hb : ∀ h, b h = b') : dite c a b = ite c a' b' := by
  split
  · exact ha _
  · exact hb _

/-- One piece of the stack. -/
theorem stack_piece {k8 k i : ℕ} (j : ℕ) (w : ℕ → ℕ → BitVec 32) (p : ℕ → ℕ → BitVec 8) (n : ℕ) (hj : j < 8)
    (hp : ∀ i < k8, p i n = code8 (w i n) (BitVec.ofNat 32 (4 * j))) (hi : i < k8) (hk : k = k8 * j + i) :
    (FloatOps.sitofp FTy.bf16 (p i n) : Ideal .bf16) = sgn4 (nib (w (k % k8) n) (k / k8)) := by
  subst hk
  rw [hp i hi, code8_eq _ _ hj, Nat.mul_add_mod, Nat.mod_eq_of_lt hi, Nat.mul_add_div (by omega), Nat.div_eq_of_lt hi,
    Nat.add_zero]

/-- The eight fields stacked are the weight codes. -/
theorem stack8_eq {k8 : ℕ} (w : ℕ → ℕ → BitVec 32) (p0 p1 p2 p3 p4 p5 p6 p7 : ℕ → ℕ → BitVec 8) (n : ℕ)
    (h0 : ∀ i < k8, p0 i n = code8 (w i n) 0#32) (h1 : ∀ i < k8, p1 i n = code8 (w i n) 4#32)
    (h2 : ∀ i < k8, p2 i n = code8 (w i n) 8#32) (h3 : ∀ i < k8, p3 i n = code8 (w i n) 12#32)
    (h4 : ∀ i < k8, p4 i n = code8 (w i n) 16#32) (h5 : ∀ i < k8, p5 i n = code8 (w i n) 20#32)
    (h6 : ∀ i < k8, p6 i n = code8 (w i n) 24#32) (h7 : ∀ i < k8, p7 i n = code8 (w i n) 28#32)
    (k : ℕ) (hk : k < 8 * k8) :
    (FloatOps.sitofp FTy.bf16 (stack8 k8 p0 p1 p2 p3 p4 p5 p6 p7 k n) : Ideal .bf16)
      = sgn4 (nib (w (k % k8) n) (k / k8)) := by
  unfold stack8
  split_ifs
  · exact stack_piece 0 w p0 n (by omega) h0 (by omega) (by omega)
  · exact stack_piece 1 w p1 n (by omega) h1 (by omega) (by omega)
  · exact stack_piece 2 w p2 n (by omega) h2 (by omega) (by omega)
  · exact stack_piece 3 w p3 n (by omega) h3 (by omega) (by omega)
  · exact stack_piece 4 w p4 n (by omega) h4 (by omega) (by omega)
  · exact stack_piece 5 w p5 n (by omega) h5 (by omega) (by omega)
  · exact stack_piece 6 w p6 n (by omega) h6 (by omega) (by omega)
  · exact stack_piece 7 w p7 n (by omega) h7 (by omega) (by omega)

/-- An element of a layer as the references write it: the sum over the contracted axis of activation times code times
    group scale, times the row's and the column's scale. -/
def refLin (K k8 : ℕ) (a : ℕ → ℕ → EReal) (s : ℕ → EReal) (f : ℕ → ℕ → BitVec 8) (g : ℕ → ℕ → EReal) (c : ℕ → EReal)
    (t n : ℕ) : EReal :=
  (∑ k : Fin K, a t k.val * ((FloatOps.sitofp FTy.bf16 (f k.val n) : Ideal .bf16) * g (k.val / 128) n)) * s t * c n

/-- It is the layer's element. -/
theorem refLin_eq {K k8 : ℕ} (a : ℕ → ℕ → EReal) (s : ℕ → EReal) (f : ℕ → ℕ → BitVec 8) (w : ℕ → ℕ → BitVec 32)
    (g : ℕ → ℕ → EReal) (c : ℕ → EReal) (t n : ℕ)
    (hf : ∀ k < K, (FloatOps.sitofp FTy.bf16 (f k n) : Ideal .bf16) = sgn4 (nib (w (k % k8) n) (k / k8))) :
    refLin K k8 a s f g c t n = lin K k8 a s w g c t n := by
  unfold refLin lin
  rw [Finset.sum_range]
  refine congrArg (· * _ * _) (Finset.sum_congr rfl fun k _ => ?_)
  rw [hf k.val k.isLt, wt]

end Cert.W4

end
-- ==== Proof.GateUpRefIdealOut.lean ====
/-
  The array that the reference leaves: at every element the gate-up layer of the argument arrays.
-/
module

public import proofs.«01_k».proof.Proof.Gen.GateUpRefIdeal.Value
public import proofs.«01_k».proof.Proof.RefCode
public import Idealize.ShloMosaic.Lib.Claim
public import Idealize.ShloMosaic.Lib.Pipeline.ValueKit

@[expose] public section

noncomputable section

namespace Cert.GateUpRefIdeal.RefValue

open Cert.GateUpRefIdeal Cert.GateUpRefIdeal.Gen Cert.GateUpRefIdeal.Value Cert.W4
open Idealize.ShloMosaic Idealize.ShloMosaic.TcCoe Idealize.SL.Sem

set_option maxHeartbeats 1000000 in
/-- The body's last value at an element. -/
theorem k0_pay1_at (v0 v1 v3 v5 v37 v43 v49 v55 v61 v67 v73 v79) (r : Fin 1536) (l : Fin 7168) :
    k0_pay1 (F := Ideal) v0 v1 v3 v5 v37 v43 v49 v55 v61 v67 v73 v79 (ix2 r l)
      = gated
        (refLin 8192 1024 (at2 (α := EReal) (m := 1536) (n := 8192) v0) (fun t => at2 (α := EReal) (m := 1536) (n := 1) v1 t 0)
          (stack8 1024 (at2 v43) (at2 v49) (at2 v55) (at2 v61) (at2 v67) (at2 v73) (at2 v79) (fun i n => trunc8 (at2 v37 i n)))
          (at2 (α := EReal) (m := 64) (n := 14336) v3) (fun n => at2 (α := EReal) (m := 1) (n := 14336) v5 0 n) r.val l.val)
        (refLin 8192 1024 (at2 (α := EReal) (m := 1536) (n := 8192) v0) (fun t => at2 (α := EReal) (m := 1536) (n := 1) v1 t 0)
          (stack8 1024 (at2 v43) (at2 v49) (at2 v55) (at2 v61) (at2 v67) (at2 v73) (at2 v79) (fun i n => trunc8 (at2 v37 i n)))
          (at2 (α := EReal) (m := 64) (n := 14336) v3) (fun n => at2 (α := EReal) (m := 1) (n := 14336) v5 0 n) r.val (7168 + l.val)) := by
  pointwise [k0_pay1]
  refine congrArg₂ gated ?_ ?_
  · unfold refLin
    refine congrArg₂ (· * ·) (congrArg₂ (· * ·) (Finset.sum_congr rfl fun k _ => ?_) (ix2_at2 (α := EReal) (m := 1536) (n := 1) v1 r 0))
      (ix2_at2 (α := EReal) (m := 1) (n := 14336) v5 0 _)
    rw [ix2_at2 (α := EReal) (m := 1536) (n := 8192) v0 r k, ix2_at2 (α := EReal) (m := 64) (n := 14336) v3]
    refine congrArg (_ * ·) (congrArg (· * _) (congrArg _ ?_))
    unfold stack8
    refine dite_ite (fun _ => ix2_at2 v43 _ _) fun _ => dite_ite (fun _ => ix2_at2 v49 _ _) fun _ =>
      dite_ite (fun _ => ix2_at2 v55 _ _) fun _ => dite_ite (fun _ => ix2_at2 v61 _ _) fun _ =>
      dite_ite (fun _ => ix2_at2 v67 _ _) fun _ => dite_ite (fun _ => ix2_at2 v73 _ _) fun _ =>
      dite_ite (fun _ => ix2_at2 v79 _ _) fun _ => congrArg trunc8 (ix2_at2 v37 _ _)
  · unfold refLin
    refine congrArg₂ (· * ·) (congrArg₂ (· * ·) (Finset.sum_congr rfl fun k _ => ?_) (ix2_at2 (α := EReal) (m := 1536) (n := 1) v1 r 0))
      (ix2_at2 (α := EReal) (m := 1) (n := 14336) v5 0 _)
    rw [ix2_at2 (α := EReal) (m := 1536) (n := 8192) v0 r k, ix2_at2 (α := EReal) (m := 64) (n := 14336) v3]
    refine congrArg (_ * ·) (congrArg (· * _) (congrArg _ ?_))
    unfold stack8
    refine dite_ite (fun _ => ix2_at2 v43 _ _) fun _ => dite_ite (fun _ => ix2_at2 v49 _ _) fun _ =>
      dite_ite (fun _ => ix2_at2 v55 _ _) fun _ => dite_ite (fun _ => ix2_at2 v61 _ _) fun _ =>
      dite_ite (fun _ => ix2_at2 v67 _ _) fun _ => dite_ite (fun _ => ix2_at2 v73 _ _) fun _ =>
      dite_ite (fun _ => ix2_at2 v79 _ _) fun _ => congrArg trunc8 (ix2_at2 v37 _ _)

/-- Field 0 of the words, as the body cuts it out. -/
theorem field0_at (v2 : Vec Ideal S1024x14336 .i32) (i j : ℕ) (hi : i < 1024) (hj : j < 14336) :
    at2 (α := BitVec 8) (k0_pay12 (k0_pay3 (F := Ideal) v2)) i j = code8 (at2 (α := BitVec 32) (m := 1024) (n := 14336) v2 i j) 0#32 := by
  rw [at2_of _ hi hj, at2_of _ hi hj]
  unfold code8 trunc8
  pointwise [k0_pay12, k0_pay3]

/-- Field 1 of the words, as the body cuts it out. -/
theorem field1_at (v2 : Vec Ideal S1024x14336 .i32) (i j : ℕ) (hi : i < 1024) (hj : j < 14336) :
    at2 (α := BitVec 8) (k0_pay13 (k0_pay4 (F := Ideal) v2)) i j = code8 (at2 (α := BitVec 32) (m := 1024) (n := 14336) v2 i j) 4#32 := by
  rw [at2_of _ hi hj, at2_of _ hi hj]
  unfold code8 trunc8
  pointwise [k0_pay13, k0_pay4]

/-- Field 2 of the words, as the body cuts it out. -/
theorem field2_at (v2 : Vec Ideal S1024x14336 .i32) (i j : ℕ) (hi : i < 1024) (hj : j < 14336) :
    at2 (α := BitVec 8) (k0_pay14 (k0_pay5 (F := Ideal) v2)) i j = code8 (at2 (α := BitVec 32) (m := 1024) (n := 14336) v2 i j) 8#32 := by
  rw [at2_of _ hi hj, at2_of _ hi hj]
  unfold code8 trunc8
  pointwise [k0_pay14, k0_pay5]

/-- Field 3 of the words, as the body cuts it out. -/
theorem field3_at (v2 : Vec Ideal S1024x14336 .i32) (i j : ℕ) (hi : i < 1024) (hj : j < 14336) :
    at2 (α := BitVec 8) (k0_pay15 (k0_pay6 (F := Ideal) v2)) i j = code8 (at2 (α := BitVec 32) (m := 1024) (n := 14336) v2 i j) 12#32 := by
  rw [at2_of _ hi hj, at2_of _ hi hj]
  unfold code8 trunc8
  pointwise [k0_pay15, k0_pay6]

/-- Field 4 of the words, as the body cuts it out. -/
theorem field4_at (v2 : Vec Ideal S1024x14336 .i32) (i j : ℕ) (hi : i < 1024) (hj : j < 14336) :
    at2 (α := BitVec 8) (k0_pay16 (k0_pay7 (F := Ideal) v2)) i j = code8 (at2 (α := BitVec 32) (m := 1024) (n := 14336) v2 i j) 16#32 := by
  rw [at2_of _ hi hj, at2_of _ hi hj]
  unfold code8 trunc8
  pointwise [k0_pay16, k0_pay7]

/-- Field 5 of the words, as the body cuts it out. -/
theorem field5_at (v2 : Vec Ideal S1024x14336 .i32) (i j : ℕ) (hi : i < 1024) (hj : j < 14336) :
    at2 (α := BitVec 8) (k0_pay17 (k0_pay8 (F := Ideal) v2)) i j = code8 (at2 (α := BitVec 32) (m := 1024) (n := 14336) v2 i j) 20#32 := by
  rw [at2_of _ hi hj, at2_of _ hi hj]
  unfold code8 trunc8
  pointwise [k0_pay17, k0_pay8]

/-- Field 6 of the words, as the body cuts it out. -/
theorem field6_at (v2 : Vec Ideal S1024x14336 .i32) (i j : ℕ) (hi : i < 1024) (hj : j < 14336) :
    at2 (α := BitVec 8) (k0_pay18 (k0_pay9 (F := Ideal) v2)) i j = code8 (at2 (α := BitVec 32) (m := 1024) (n := 14336) v2 i j) 24#32 := by
  rw [at2_of _ hi hj, at2_of _ hi hj]
  unfold code8 trunc8
  pointwise [k0_pay18, k0_pay9]

/-- Field 7 of the words, as the body cuts it out. -/
theorem field7_at (v2 : Vec Ideal S1024x14336 .i32) (i j : ℕ) (hi : i < 1024) (hj : j < 14336) :
    at2 (α := BitVec 32) (k0_pay11 v2 k0_pay10) i j = IntOp.andi (IntOp.shrsi ArithUnit.vector (at2 (α := BitVec 32) (m := 1024) (n := 14336) v2 i j) 28#32) 15#32 := by
  rw [at2_of _ hi hj, at2_of _ hi hj]
  pointwise [k0_pay11, k0_pay10]

/-- What the body leaves in its output, at an element. -/
theorem out_read (x0 x1 x2 x3 x4) (y : S1536x7168.Idx) :
    out0_5 (F := Ideal) x0 x1 x2 x3 x4 y
      = gated
        (lin 8192 1024 (at2 (α := EReal) (m := 1536) (n := 8192) x0) (fun t => at2 (α := EReal) (m := 1536) (n := 1) x1 t 0)
          (at2 (α := BitVec 32) (m := 1024) (n := 14336) x2) (at2 (α := EReal) (m := 64) (n := 14336) x3)
          (fun n => at2 (α := EReal) (m := 1) (n := 14336) x4 0 n) (y 0).val (y 1).val)
        (lin 8192 1024 (at2 (α := EReal) (m := 1536) (n := 8192) x0) (fun t => at2 (α := EReal) (m := 1536) (n := 1) x1 t 0)
          (at2 (α := BitVec 32) (m := 1024) (n := 14336) x2) (at2 (α := EReal) (m := 64) (n := 14336) x3)
          (fun n => at2 (α := EReal) (m := 1) (n := 14336) x4 0 n) (y 0).val (7168 + (y 1).val)) := by
  have hy0 : (y 0).val < 1536 := (y 0).isLt
  have hy1 : (y 1).val < 7168 := (y 1).isLt
  unfold out0_5
  rw [View.canon_cons_unit_lit _ _ _ (by decide)]
  rw [eq_ix2 y]
  refine (k0_pay1_at _ _ _ _ _ _ _ _ _ _ _ _ (y 0) (y 1)).trans ?_
  have e0 : View.ld x0 r0_0 = x0 := View.ld_unit_lit _ _ (by decide)
  have e1 : View.ld x1 r0_1 = x1 := View.ld_unit_lit _ _ (by decide)
  have e2 : View.ld x2 r0_2 = x2 := View.ld_unit_lit _ _ (by decide)
  have e3 : View.ld x3 r0_3 = x3 := View.ld_unit_lit _ _ (by decide)
  have e4 : k0_pay2 (View.ld x4 r0_4) = x4 := by
    rw [show View.ld x4 r0_4 = x4 from View.ld_unit_lit _ _ (by decide)]
    funext z
    pointwise [k0_pay2]
  rw [e0, e1, e2, e3, e4]
  have key : ∀ n, n < 14336 → refLin 8192 1024 (at2 (α := EReal) (m := 1536) (n := 8192) x0)
      (fun t => at2 (α := EReal) (m := 1536) (n := 1) x1 t 0)
      (stack8 1024 (at2 (k0_pay12 (k0_pay3 x2))) (at2 (k0_pay13 (k0_pay4 x2))) (at2 (k0_pay14 (k0_pay5 x2)))
        (at2 (k0_pay15 (k0_pay6 x2))) (at2 (k0_pay16 (k0_pay7 x2))) (at2 (k0_pay17 (k0_pay8 x2)))
        (at2 (k0_pay18 (k0_pay9 x2))) fun i n => trunc8 (at2 (k0_pay11 x2 k0_pay10) i n))
      (at2 (α := EReal) (m := 64) (n := 14336) x3) (fun n => at2 (α := EReal) (m := 1) (n := 14336) x4 0 n) (y 0).val n
        = lin 8192 1024 (at2 (α := EReal) (m := 1536) (n := 8192) x0)
          (fun t => at2 (α := EReal) (m := 1536) (n := 1) x1 t 0) (at2 (α := BitVec 32) (m := 1024) (n := 14336) x2)
          (at2 (α := EReal) (m := 64) (n := 14336) x3) (fun n => at2 (α := EReal) (m := 1) (n := 14336) x4 0 n) (y 0).val n :=
    fun n hn => refLin_eq _ _ _ _ _ _ _ _ (stack8_eq _ _ _ _ _ _ _ _ _ n
      (fun i hi => field0_at x2 i n hi hn) (fun i hi => field1_at x2 i n hi hn) (fun i hi => field2_at x2 i n hi hn)
      (fun i hi => field3_at x2 i n hi hn) (fun i hi => field4_at x2 i n hi hn) (fun i hi => field5_at x2 i n hi hn)
      (fun i hi => field6_at x2 i n hi hn) (fun i hi => congrArg trunc8 (field7_at x2 i n hi hn)))
  exact congrArg₂ gated (key _ (by omega)) (key _ (by omega))

/-- Where each window's block stands: at the origin. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] := by
  decide +kernel

variable (m : (ℓ : Loc nD τ sig) → Buf (Elt Ideal) ℓ)

/-- Argument 0 comes whole. -/
theorem iblk0 (c : Dev nD) (t : Fin cfg0.N) : iblk m c 0 t = m ((c.tc : Thread nD τ).loc main_arg0) := by
  funext z
  blk_ext [iblk, V, idx t]

/-- Argument 1 comes whole. -/
theorem iblk1 (c : Dev nD) (t : Fin cfg0.N) : iblk m c 1 t = m ((c.tc : Thread nD τ).loc main_arg1) := by
  funext z
  blk_ext [iblk, V, idx t]

/-- Argument 2 comes whole. -/
theorem iblk2 (c : Dev nD) (t : Fin cfg0.N) : iblk m c 2 t = m ((c.tc : Thread nD τ).loc main_arg2) := by
  funext z
  blk_ext [iblk, V, idx t]

/-- Argument 3 comes whole. -/
theorem iblk3 (c : Dev nD) (t : Fin cfg0.N) : iblk m c 3 t = m ((c.tc : Thread nD τ).loc main_arg3) := by
  funext z
  blk_ext [iblk, V, idx t]

/-- The column scales come whole, as one row. -/
theorem iblk4 (c : Dev nD) (t : Fin cfg0.N) (j : ℕ) (hj : j < 14336) :
    at2 (α := EReal) (m := 1) (n := 14336) (iblk m c 4 t) 0 j
      = at1 (α := EReal) (n := 14336) (m ((c.tc : Thread nD τ).loc main_arg4)) j := by
  rw [at2_of _ (by omega) hj, at1_of _ (by omega)]
  blk_ext! [iblk, idx t]

/-- The array the reference leaves. -/
theorem result (c : Dev nD) :
    (dats m 0 c).arrAt 5 cfg0.N
      = fun y : S1536x7168.Idx => gateUp (k8 := 1024) (T := 1536) (K := 8192) (kg := 64) (N := 14336)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (y 0).val (y 1).val := by
  refine (dats m 0 c).arrAt_eq_of_covers 5 _ (by decide +kernel) fun t hf y => ?_
  refine (congrFun (flushed5 m c t) y).trans ?_
  have h0 : (y 0).val < 1536 := (y 0).isLt
  have h1 : (y 1).val < 7168 := (y 1).isLt
  have e0 : (((cfg0.win 5).blk t).view.emb y 0).val = (y 0).val := by blk_simp [idx t]
  have e1 : (((cfg0.win 5).blk t).view.emb y 1).val = (y 1).val := by blk_simp [idx t]
  rw [e0, e1]
  refine (out_read _ _ _ _ _ y).trans ?_
  unfold gateUp
  rw [iblk0, iblk1, iblk2, iblk3]
  refine congrArg₂ gated ?_ ?_
  · exact lin_congr (by omega) (fun k hk => rfl) rfl (fun k hk => rfl) (fun k hk => rfl) (iblk4 m c t _ (by omega))
  · exact lin_congr (by omega) (fun k hk => rfl) rfl (fun k hk => rfl) (fun k hk => rfl) (iblk4 m c t _ (by omega))

end Cert.GateUpRefIdeal.RefValue

end
-- ==== Proof.GateUpClaim.lean ====
/-
  The gate-up layer: the kernel and the reference leave the same array.
-/
module

public import proofs.«01_k».proof.Defs
public import proofs.«01_k».proof.Proof.GateUpIdealFinal
public import proofs.«01_k».proof.Proof.GateUpRefIdealOut

@[expose] public section

noncomputable section

namespace Cert.GateUpClaim

open Idealize.ShloMosaic Idealize.SL.Sem

/-- From memories that agree on the arguments, kernel and reference both run, end with one result and keep their
    arguments. -/
theorem algebraic : Cert.algebraic_GateUpIdeal_GateUpRefIdeal (hGateUpIdeal := Cert.GateUpIdeal.Gen.facts)
    (hGateUpRefIdeal := Cert.GateUpRefIdeal.Gen.facts) := by
  intro m ρ m' ρ' _ hagree
  refine ⟨fun c => _, Cert.GateUpIdeal.Value.run_blocks m ρ, ?_⟩
  refine (θ_run _ _ _).mono (fun _ h c => ⟨(h c).1.trans ?_, (h c).2⟩) (Cert.GateUpRefIdeal.Value.run_blocks m' ρ')
  obtain ⟨h0, h1, h2, h3, h4⟩ := hagree c
  refine (Cert.GateUpRefIdeal.RefValue.result m' c).trans (Eq.trans ?_ (Cert.GateUpIdeal.RefValue.result m c).symm)
  funext y
  rw [h0, h1, h2, h3, h4]

end Cert.GateUpClaim

end
-- ==== Proof.DownIdealRun.lean ====
/-
  The run of `DownIdeal`'s kernel at one grid point. The matmul loop reads the dequantised weights from a scratch buffer
  that the two loops before it fill whole, so what it stores does not depend on what that buffer held before: the
  pieces are named here over junk, and the body's triple is proved for any prior contents.
-/
module

public import proofs.«01_k».proof.Proof.Gen.DownIdeal.Frame.Runs

@[expose] public section

-- membership in a rectangle of production extents (`View.cover_of_tiled`): the elaborator's structural look
-- recurses once per coordinate of the long axes
set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One trip of the matmul loop depends on the weight scratch only through what is read from it. -/
theorem trip_k0_t2_congr (c : Dev nD) (i : grid0.Coords) (arg1 : Memref sig .tc .vmem S1536x7168 .fp8e4m3) (harg1 : arg1.IsWhole) (arg2 : Memref sig .tc .vmem S1536x1 .f32) (harg2 : arg2.IsWhole) (arg3 : Memref sig .tc .vmem S896x512 .i32) (harg3 : arg3.IsWhole) (arg4 : Memref sig .tc .vmem S56x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S1536x512 .bf16) (harg7 : arg7.IsWhole) (arg8 : Memref sig .tc .vmem S7168x512 .bf16) (harg8 : arg8.IsWhole) (arg9 : Memref sig .tc .vmem S56x512 .f32) (harg9 : arg9.IsWhole) (X_arg1 : BufTy.Contents (Elt F) arg1.view.ty) (X_arg2 : BufTy.Contents (Elt F) arg2.view.ty) (X_arg5 : BufTy.Contents (Elt F) arg5.view.ty) (X_arg6 : BufTy.Contents (Elt F) arg6.view.ty) (f f' : BufTy.Contents (Elt F) arg8.view.ty)
    (h : arg8.view.read (Elt F) f = arg8.view.read (Elt F) f') (k : Fin k0_t2_loop.trips) :
    tripL_k0_t2 (F := F) Variants.none c none i arg1 harg1 arg2 harg2 arg3 harg3 arg4 harg4 arg5 harg5 arg6 harg6 arg7 harg7 arg8 harg8 arg9 harg9 X_arg1 X_arg2 X_arg5 X_arg6 f k = tripL_k0_t2 (F := F) Variants.none c none i arg1 harg1 arg2 harg2 arg3 harg3 arg4 harg4 arg5 harg5 arg6 harg6 arg7 harg7 arg8 harg8 arg9 harg9 X_arg1 X_arg2 X_arg5 X_arg6 f' k := by
  unfold tripL_k0_t2 trip_k0_t2
  sl_unfold_words
  dsimp only
  simp only [View.readAt_eq_ld _ f, View.readAt_eq_ld _ f', h]

/-- So do the pieces of the trips before `n`. -/
theorem pb_k0_t2_congr (c : Dev nD) (i : grid0.Coords) (arg1 : Memref sig .tc .vmem S1536x7168 .fp8e4m3) (harg1 : arg1.IsWhole) (arg2 : Memref sig .tc .vmem S1536x1 .f32) (harg2 : arg2.IsWhole) (arg3 : Memref sig .tc .vmem S896x512 .i32) (harg3 : arg3.IsWhole) (arg4 : Memref sig .tc .vmem S56x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S1536x512 .bf16) (harg7 : arg7.IsWhole) (arg8 : Memref sig .tc .vmem S7168x512 .bf16) (harg8 : arg8.IsWhole) (arg9 : Memref sig .tc .vmem S56x512 .f32) (harg9 : arg9.IsWhole) (X_arg1 : BufTy.Contents (Elt F) arg1.view.ty) (X_arg2 : BufTy.Contents (Elt F) arg2.view.ty) (X_arg5 : BufTy.Contents (Elt F) arg5.view.ty) (X_arg6 : BufTy.Contents (Elt F) arg6.view.ty) (f f' : BufTy.Contents (Elt F) arg8.view.ty)
    (h : arg8.view.read (Elt F) f = arg8.view.read (Elt F) f') : ∀ n : ℕ,
    pb_k0_t2 (F := F) Variants.none c none i arg1 harg1 arg2 harg2 arg3 harg3 arg4 harg4 arg5 harg5 arg6 harg6 arg7 harg7 arg8 harg8 arg9 harg9 X_arg1 X_arg2 X_arg5 X_arg6 f n = pb_k0_t2 (F := F) Variants.none c none i arg1 harg1 arg2 harg2 arg3 harg3 arg4 harg4 arg5 harg5 arg6 harg6 arg7 harg7 arg8 harg8 arg9 harg9 X_arg1 X_arg2 X_arg5 X_arg6 f' n
  | 0 => rfl
  | n + 1 => by
    rw [pb_k0_t2.eq_2, pb_k0_t2.eq_2, pb_k0_t2_congr c i arg1 harg1 arg2 harg2 arg3 harg3 arg4 harg4 arg5 harg5 arg6 harg6 arg7 harg7 arg8 harg8 arg9 harg9 X_arg1 X_arg2 X_arg5 X_arg6 f f' h n]
    unfold pb_k0_t2Step
    split
    · rw [trip_k0_t2_congr c i arg1 harg1 arg2 harg2 arg3 harg3 arg4 harg4 arg5 harg5 arg6 harg6 arg7 harg7 arg8 harg8 arg9 harg9 X_arg1 X_arg2 X_arg5 X_arg6 f f' h]
    · rfl

/-- Over stores that fill the weight scratch, what it held before does not matter. -/
theorem pb_k0_t2_writes (c : Dev nD) (i : grid0.Coords) (arg1 : Memref sig .tc .vmem S1536x7168 .fp8e4m3) (harg1 : arg1.IsWhole) (arg2 : Memref sig .tc .vmem S1536x1 .f32) (harg2 : arg2.IsWhole) (arg3 : Memref sig .tc .vmem S896x512 .i32) (harg3 : arg3.IsWhole) (arg4 : Memref sig .tc .vmem S56x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S1536x512 .bf16) (harg7 : arg7.IsWhole) (arg8 : Memref sig .tc .vmem S7168x512 .bf16) (harg8 : arg8.IsWhole) (arg9 : Memref sig .tc .vmem S56x512 .f32) (harg9 : arg9.IsWhole) (X_arg1 : BufTy.Contents (Elt F) arg1.view.ty) (X_arg2 : BufTy.Contents (Elt F) arg2.view.ty) (X_arg5 : BufTy.Contents (Elt F) arg5.view.ty) (X_arg6 : BufTy.Contents (Elt F) arg6.view.ty) (f : BufTy.Contents (Elt F) arg8.view.ty)
    (L : List (View.Piece (Elt F) S7168x512 .bf16)) (h : ∀ y, ∃ p ∈ L, y ∈ p.1.set) (n : ℕ) :
    pb_k0_t2 (F := F) Variants.none c none i arg1 harg1 arg2 harg2 arg3 harg3 arg4 harg4 arg5 harg5 arg6 harg6 arg7 harg7 arg8 harg8 arg9 harg9 X_arg1 X_arg2 X_arg5 X_arg6 (arg8.view.writes (Elt F) f L) n
      = pb_k0_t2 (F := F) Variants.none c none i arg1 harg1 arg2 harg2 arg3 harg3 arg4 harg4 arg5 harg5 arg6 harg6 arg7 harg7 arg8 harg8 arg9 harg9 X_arg1 X_arg2 X_arg5 X_arg6 (arg8.view.writes (Elt F) arg8.view.junk L) n :=
  pb_k0_t2_congr c i arg1 harg1 arg2 harg2 arg3 harg3 arg4 harg4 arg5 harg5 arg6 harg6 arg7 harg7 arg8 harg8 arg9 harg9 X_arg1 X_arg2 X_arg5 X_arg6 _ _ (View.read_writes_of_cover _ _ _ _ L h) n

/-- The stores of the dequantising loops into the weight scratch, last first. -/
def weightPieces (c : Dev nD) (i : grid0.Coords) (arg1 : Memref sig .tc .vmem S1536x7168 .fp8e4m3) (harg1 : arg1.IsWhole) (arg2 : Memref sig .tc .vmem S1536x1 .f32) (harg2 : arg2.IsWhole) (arg3 : Memref sig .tc .vmem S896x512 .i32) (harg3 : arg3.IsWhole) (arg4 : Memref sig .tc .vmem S56x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S1536x512 .bf16) (harg7 : arg7.IsWhole) (arg8 : Memref sig .tc .vmem S7168x512 .bf16) (harg8 : arg8.IsWhole) (arg9 : Memref sig .tc .vmem S56x512 .f32) (harg9 : arg9.IsWhole)
    (x0 : Vec F S1536x7168 .fp8e4m3) (x1 : Vec F S1536x1 .f32) (x2 : Vec F S896x512 .i32) (x3 : Vec F S56x512 .fp8e4m3) (x4 : Vec F S1x512 .f32) (x5 : Vec F S1536x512 .f32) : List (View.Piece (Elt F) S7168x512 .bf16) :=
  pb_k0_t1 (F := F) Variants.none c none i arg1 harg1 arg2 harg2 arg3 harg3 arg4 harg4 arg5 harg5 arg6 harg6 arg7 harg7 arg8 harg8 arg9 harg9 (harg3.unread x2) (arg9.view.writes (Elt F) arg9.view.junk [⟨Rect.unit ![0, 0] S56x512.size inb_S56x512_S56x512_0_0, k0_pay1 (arg4.view.readAt (Elt F) (Rect.unit ![0, 0] S56x512.size inb_S56x512_S56x512_0_0).toLoadRect (harg4.unread x3))⟩]) (Scf.trips k0_t1_loop.lb k0_t1_loop.ub k0_t1_loop.st)

/-- They fill it. -/
theorem weightPieces_cover (c : Dev nD) (i : grid0.Coords) (arg1 : Memref sig .tc .vmem S1536x7168 .fp8e4m3) (harg1 : arg1.IsWhole) (arg2 : Memref sig .tc .vmem S1536x1 .f32) (harg2 : arg2.IsWhole) (arg3 : Memref sig .tc .vmem S896x512 .i32) (harg3 : arg3.IsWhole) (arg4 : Memref sig .tc .vmem S56x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S1536x512 .bf16) (harg7 : arg7.IsWhole) (arg8 : Memref sig .tc .vmem S7168x512 .bf16) (harg8 : arg8.IsWhole) (arg9 : Memref sig .tc .vmem S56x512 .f32) (harg9 : arg9.IsWhole)
    (x0 : Vec F S1536x7168 .fp8e4m3) (x1 : Vec F S1536x1 .f32) (x2 : Vec F S896x512 .i32) (x3 : Vec F S56x512 .fp8e4m3) (x4 : Vec F S1x512 .f32) (x5 : Vec F S1536x512 .f32) (y : S7168x512.Idx) :
    ∃ pc ∈ weightPieces c i arg1 harg1 arg2 harg2 arg3 harg3 arg4 harg4 arg5 harg5 arg6 harg6 arg7 harg7 arg8 harg8 arg9 harg9 x0 x1 x2 x3 x4 x5, y ∈ pc.1.set :=
  View.cover_of_tiledL (weightPieces c i arg1 harg1 arg2 harg2 arg3 harg3 arg4 harg4 arg5 harg5 arg6 harg6 arg7 harg7 arg8 harg8 arg9 harg9 x0 x1 x2 x3 x4 x5) S128x512.size (by sl_kernel_rfl) y

/-- The stores of the matmul loop into the output block, last first. -/
def outPieces (c : Dev nD) (i : grid0.Coords) (arg1 : Memref sig .tc .vmem S1536x7168 .fp8e4m3) (harg1 : arg1.IsWhole) (arg2 : Memref sig .tc .vmem S1536x1 .f32) (harg2 : arg2.IsWhole) (arg3 : Memref sig .tc .vmem S896x512 .i32) (harg3 : arg3.IsWhole) (arg4 : Memref sig .tc .vmem S56x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S1536x512 .bf16) (harg7 : arg7.IsWhole) (arg8 : Memref sig .tc .vmem S7168x512 .bf16) (harg8 : arg8.IsWhole) (arg9 : Memref sig .tc .vmem S56x512 .f32) (harg9 : arg9.IsWhole)
    (x0 : Vec F S1536x7168 .fp8e4m3) (x1 : Vec F S1536x1 .f32) (x2 : Vec F S896x512 .i32) (x3 : Vec F S56x512 .fp8e4m3) (x4 : Vec F S1x512 .f32) (x5 : Vec F S1536x512 .f32) : List (View.Piece (Elt F) S1536x512 .bf16) :=
  pb_k0_t2 (F := F) Variants.none c none i arg1 harg1 arg2 harg2 arg3 harg3 arg4 harg4 arg5 harg5 arg6 harg6 arg7 harg7 arg8 harg8 arg9 harg9 (harg1.unread x0) (harg2.unread x1) (harg5.unread x4) (harg6.unread x5) (arg8.view.writes (Elt F) arg8.view.junk (weightPieces c i arg1 harg1 arg2 harg2 arg3 harg3 arg4 harg4 arg5 harg5 arg6 harg6 arg7 harg7 arg8 harg8 arg9 harg9 x0 x1 x2 x3 x4 x5)) (Scf.trips k0_t2_loop.lb k0_t2_loop.ub k0_t2_loop.st)

/-- The same stores, whatever the weight scratch held before the dequantising loops. -/
theorem outPieces_eq (c : Dev nD) (i : grid0.Coords) (arg1 : Memref sig .tc .vmem S1536x7168 .fp8e4m3) (harg1 : arg1.IsWhole) (arg2 : Memref sig .tc .vmem S1536x1 .f32) (harg2 : arg2.IsWhole) (arg3 : Memref sig .tc .vmem S896x512 .i32) (harg3 : arg3.IsWhole) (arg4 : Memref sig .tc .vmem S56x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S1536x512 .bf16) (harg7 : arg7.IsWhole) (arg8 : Memref sig .tc .vmem S7168x512 .bf16) (harg8 : arg8.IsWhole) (arg9 : Memref sig .tc .vmem S56x512 .f32) (harg9 : arg9.IsWhole)
    (x0 : Vec F S1536x7168 .fp8e4m3) (x1 : Vec F S1536x1 .f32) (x2 : Vec F S896x512 .i32) (x3 : Vec F S56x512 .fp8e4m3) (x4 : Vec F S1x512 .f32) (x5 : Vec F S1536x512 .f32) (f : BufTy.Contents (Elt F) arg8.view.ty) :
    pb_k0_t2 (F := F) Variants.none c none i arg1 harg1 arg2 harg2 arg3 harg3 arg4 harg4 arg5 harg5 arg6 harg6 arg7 harg7 arg8 harg8 arg9 harg9 (harg1.unread x0) (harg2.unread x1) (harg5.unread x4) (harg6.unread x5) (arg8.view.writes (Elt F) f (weightPieces c i arg1 harg1 arg2 harg2 arg3 harg3 arg4 harg4 arg5 harg5 arg6 harg6 arg7 harg7 arg8 harg8 arg9 harg9 x0 x1 x2 x3 x4 x5)) (Scf.trips k0_t2_loop.lb k0_t2_loop.ub k0_t2_loop.st)
      = outPieces c i arg1 harg1 arg2 harg2 arg3 harg3 arg4 harg4 arg5 harg5 arg6 harg6 arg7 harg7 arg8 harg8 arg9 harg9 x0 x1 x2 x3 x4 x5 :=
  pb_k0_t2_writes c i arg1 harg1 arg2 harg2 arg3 harg3 arg4 harg4 arg5 harg5 arg6 harg6 arg7 harg7 arg8 harg8 arg9 harg9 _ _ _ _ f _ (weightPieces_cover c i arg1 harg1 arg2 harg2 arg3 harg3 arg4 harg4 arg5 harg5 arg6 harg6 arg7 harg7 arg8 harg8 arg9 harg9 x0 x1 x2 x3 x4 x5) _

set_option maxHeartbeats 4000000 in
/-- On whole staging buffers the body runs and leaves the inputs as they were, the scratch at some contents, and the
    output block with `outPieces` written. -/
theorem kernelRun0_A (c : Dev nD) (i : grid0.Coords) (arg1 : Memref sig .tc .vmem S1536x7168 .fp8e4m3) (harg1 : arg1.IsWhole) (arg2 : Memref sig .tc .vmem S1536x1 .f32) (harg2 : arg2.IsWhole) (arg3 : Memref sig .tc .vmem S896x512 .i32) (harg3 : arg3.IsWhole) (arg4 : Memref sig .tc .vmem S56x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S1536x512 .bf16) (harg7 : arg7.IsWhole) (arg8 : Memref sig .tc .vmem S7168x512 .bf16) (harg8 : arg8.IsWhole) (arg9 : Memref sig .tc .vmem S56x512 .f32) (harg9 : arg9.IsWhole)
    (x0 : Vec F S1536x7168 .fp8e4m3) (x1 : Vec F S1536x1 .f32) (x2 : Vec F S896x512 .i32) (x3 : Vec F S56x512 .fp8e4m3) (x4 : Vec F S1x512 .f32) (x5 : Vec F S1536x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f (outPieces c i arg1 harg1 arg2 harg2 arg3 harg3 arg4 harg4 arg5 harg5 arg6 harg6 arg7 harg7 arg8 harg8 arg9 harg9 x0 x1 x2 x3 x4 x5)) ∗ (∃ d, owns (c : Thread nD τ) arg8 fullShare d) ∗ (∃ d, owns (c : Thread nD τ) arg9 fullShare d)) -∗ K ⟨⟩))
          ⊢ wp frame (wpE (defs₀ (F := F)) Variants.none c none) E (cc0_down i arg1 harg1 arg2 harg2 arg3 harg3 arg4 harg4 arg5 harg5 arg6 harg6 arg7 harg7 arg8 harg8 arg9 harg9) K := by
  intro E K
  simp only [cc0_down_eq_skeleton]; unfold cc0_down_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists f6
    rw [← outPieces_eq c i arg1 harg1 arg2 harg2 arg3 harg3 arg4 harg4 arg5 harg5 arg6 harg6 arg7 harg7 arg8 harg8 arg9 harg9 x0 x1 x2 x3 x4 x5 fs0]
    iexact H6
  isplitl [HS0]
  · iexists _, _; isplitr; swap; · iexact HS0
    ipureintro; rfl
  iexists _, _; isplitr; swap; · iexact HS1
  ipureintro; rfl

end Cert.DownIdeal.Gen

end
-- ==== Proof.DownIdealFrame.lean ====
/-
  The frame of `DownIdeal` over the run of `DownIdealRun`: what the outputs hold point by point, the body obligation, the run.
-/
module

public import proofs.«01_k».proof.Proof.DownIdealRun
public import Idealize.ShloMosaic.Lib.Claim

@[expose] public section

-- membership in a rectangle of production extents (`View.cover_of_tiled`): the elaborator's structural look
-- recurses once per coordinate of the long axes
set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 6 tile its block (3 stores of `S512x512`, checked by the kernel's evaluation: Lib/Ring.lean `Piece.tiledL`, linear in the pieces, through a loop's `@[irreducible]` trip theorem too), so they cover it. -/
theorem cover0_A_6 (c : Dev nD) (i : grid0.Coords) (arg1 : Memref sig .tc .vmem S1536x7168 .fp8e4m3) (harg1 : arg1.IsWhole) (arg2 : Memref sig .tc .vmem S1536x1 .f32) (harg2 : arg2.IsWhole) (arg3 : Memref sig .tc .vmem S896x512 .i32) (harg3 : arg3.IsWhole) (arg4 : Memref sig .tc .vmem S56x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S1536x512 .bf16) (harg7 : arg7.IsWhole) (arg8 : Memref sig .tc .vmem S7168x512 .bf16) (harg8 : arg8.IsWhole) (arg9 : Memref sig .tc .vmem S56x512 .f32) (harg9 : arg9.IsWhole)
    (x0 : Vec F S1536x7168 .fp8e4m3) (x1 : Vec F S1536x1 .f32) (x2 : Vec F S896x512 .i32) (x3 : Vec F S56x512 .fp8e4m3) (x4 : Vec F S1x512 .f32) (x5 : Vec F S1536x512 .f32) (y : S1536x512.Idx) :
    ∃ pc ∈ (outPieces c i arg1 harg1 arg2 harg2 arg3 harg3 arg4 harg4 arg5 harg5 arg6 harg6 arg7 harg7 arg8 harg8 arg9 harg9 x0 x1 x2 x3 x4 x5), y ∈ pc.1.set :=
  View.cover_of_tiledL (outPieces c i arg1 harg1 arg2 harg2 arg3 harg3 arg4 harg4 arg5 harg5 arg6 harg6 arg7 harg7 arg8 harg8 arg9 harg9 x0 x1 x2 x3 x4 x5) S512x512.size (by sl_kernel_rfl) y

/-- What the run leaves in output 6's staging buffer: its pieces read back over junk. -/
def out0_A_6 (c : Dev nD) (i : grid0.Coords) (arg1 : Memref sig .tc .vmem S1536x7168 .fp8e4m3) (harg1 : arg1.IsWhole) (arg2 : Memref sig .tc .vmem S1536x1 .f32) (harg2 : arg2.IsWhole) (arg3 : Memref sig .tc .vmem S896x512 .i32) (harg3 : arg3.IsWhole) (arg4 : Memref sig .tc .vmem S56x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S1536x512 .bf16) (harg7 : arg7.IsWhole) (arg8 : Memref sig .tc .vmem S7168x512 .bf16) (harg8 : arg8.IsWhole) (arg9 : Memref sig .tc .vmem S56x512 .f32) (harg9 : arg9.IsWhole)
    (x0 : Vec F S1536x7168 .fp8e4m3) (x1 : Vec F S1536x1 .f32) (x2 : Vec F S896x512 .i32) (x3 : Vec F S56x512 .fp8e4m3) (x4 : Vec F S1x512 .f32) (x5 : Vec F S1536x512 .f32) : Vec F S1536x512 .bf16 :=
  VO0_6.read (Elt F) (VO0_6.writes (Elt F) VO0_6.junk (outPieces c i arg1 harg1 arg2 harg2 arg3 harg3 arg4 harg4 arg5 harg5 arg6 harg6 arg7 harg7 arg8 harg8 arg9 harg9 x0 x1 x2 x3 x4 x5))

/-! ## What the outputs hold after each point -/

/-- What the outputs' staging buffers hold after the body at point `t`: the run's contents at
    the point's memrefs and input blocks. -/
def outsAt0 (c : Dev nD) (t : Fin cfg0.N) : Vec F S1536x512 .bf16 :=
  out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t) (iblk m c 5 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt0
  unfold out0_A_6
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, ⟨%e6, H6⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover0_A_6 c _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_DownIdeal`'s statement (Defs.lean) at any `F` — Proof.lean cites it at `Bits`:
    `theorem Cert.Proof.claim : Cert.Claim := ⟨Cert.DownIdeal.Gen.facts, fun m ρ _ => Cert.DownIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.DownIdeal.Gen

end
-- ==== Proof.DownFrame.lean ====
/-
  The gate-up call over the machine's words: its program has the text of its ideal program, whose run is proved for every
  reading of the floats.
-/
module

public import proofs.«01_k».proof.Defs
public import proofs.«01_k».proof.Proof.Gen.Down
public import proofs.«01_k».proof.Proof.DownIdealFrame

@[expose] public section

noncomputable section

namespace Cert.DownFrame

open Idealize.ShloMosaic Idealize.SL.Sem

/-- The two programs have one text: their kernels' body tables are equal. -/
theorem defs₀_eq : Cert.Down.defs₀ (F := Bits) = Cert.DownIdeal.defs₀ (F := Bits) := by
  refine congrArg Defs.onTc ?_
  funext l x
  match l, x with
  | 0, _ => rfl
  | ⟨_ + 1, h⟩, _ => exact absurd h (Nat.not_lt.2 (Nat.le_add_left _ _))

/-- So are their whole body tables. -/
theorem defs_eq : Cert.Down.defs (F := Bits) = Cert.DownIdeal.defs (F := Bits) :=
  congrArg (Pipeline.defs Cert.DownIdeal.pcfgs) defs₀_eq

/-- The program runs and keeps its arguments. -/
theorem frame : Cert.quiescent_Down (hDown := Cert.Down.Gen.facts) := by
  intro m ρ _
  rw [defs_eq]
  exact Cert.DownIdeal.Gen.frame (F := Bits) m ρ

end Cert.DownFrame

end
-- ==== Proof.LinBlock.lean ====
/-
  What the three plain layers (`down`, `o_proj`, `qkv`) share: the weights of a block of columns, a stored piece of them,
  and an element of the layer's block.
-/
module

public import proofs.«01_k».proof.Proof.Spec

@[expose] public section

noncomputable section

namespace Cert.W4

open Idealize.ShloMosaic

/-- The weights of a block of columns, from its words and group scales. -/
def wts {K k8 kg W : ℕ} (x : (⟨2, ![k8, W]⟩ : Shape).Idx → BitVec 32) (g : (⟨2, ![kg, W]⟩ : Shape).Idx → EReal)
    (y : (⟨2, ![K, W]⟩ : Shape).Idx) : EReal :=
  wt k8 (at2 x) (at2 g) (y 0).val (y 1).val

/-- A stored piece, field `j` of word rows `o …` times scale row `o'`, is the block's weights where it lies. -/
theorem wts_piece {K k8 kg W : ℕ} (x : (⟨2, ![k8, W]⟩ : Shape).Idx → BitVec 32) (g : (⟨2, ![kg, W]⟩ : Shape).Idx → EReal)
    (j R o o' : ℕ) (P : (⟨2, ![128, W]⟩ : Shape).Idx → EReal) (Wd : (⟨2, ![128, W]⟩ : Shape).Idx → BitVec 32)
    (gg : (⟨2, ![1, W]⟩ : Shape).Idx → EReal)
    (hP : ∀ r l, P (ix2 r l) = sgn4 (nib (Wd (ix2 r l)) j) * gg (ix2 0 l))
    (hW : ∀ (r : Fin 128) (l : Fin W), Wd (ix2 r l) = at2 x (o + r.val) l.val)
    (hg : ∀ l : Fin W, gg (ix2 0 l) = at2 g o' l.val)
    (hR : R = k8 * j + o) (ho : o + 128 ≤ k8) (ho' : o' * 128 = R)
    (h : ∀ a, ![R, 0] a + ![128, W] a ≤ (⟨2, ![K, W]⟩ : Shape).size a) (q : (⟨2, ![128, W]⟩ : Shape).Idx) :
    P q = wts (K := K) x g ((Rect.unit (s := ⟨2, ![K, W]⟩) ![R, 0] ![128, W] h).emb q) := by
  obtain ⟨r, l, rfl⟩ : ∃ (r : Fin 128) (l : Fin W), q = ix2 r l := ⟨q 0, q 1, eq_ix2 q⟩
  rw [hP, hW, hg, wt_piece x g o o' j R l.val r.val r.isLt ho hR ho']
  show _ = wt k8 _ _ (R + 1 * r.val) (0 + 1 * l.val)
  rw [Nat.one_mul, Nat.one_mul, Nat.zero_add]

/-- A sum of products with the block's weights, read at natural-number coordinates, is one with the layer's weights. -/
theorem sum_wts {K k8 kg W : ℕ} (a : ℕ → EReal) (x : (⟨2, ![k8, W]⟩ : Shape).Idx → BitVec 32)
    (g : (⟨2, ![kg, W]⟩ : Shape).Idx → EReal) (n : ℕ) (hn : n < W) :
    ∑ q ∈ Finset.range K, a q * at2 (wts (K := K) x g) q n = ∑ q ∈ Finset.range K, a q * wt k8 (at2 x) (at2 g) q n :=
  Finset.sum_congr rfl fun q hq => by
    rw [at2_of _ (Finset.mem_range.mp hq) hn]
    rfl

/-- An element of a layer of arrays. -/
def layer {T K k8 kg N : ℕ} (a : (⟨2, ![T, K]⟩ : Shape).Idx → EReal) (s : (⟨2, ![T, 1]⟩ : Shape).Idx → EReal)
    (w : (⟨2, ![k8, N]⟩ : Shape).Idx → BitVec 32) (g : (⟨2, ![kg, N]⟩ : Shape).Idx → EReal) (c : (⟨1, ![N]⟩ : Shape).Idx → EReal)
    (t n : ℕ) : EReal :=
  lin K k8 (at2 a) (fun t => at2 s t 0) (at2 w) (at2 g) (at1 c) t n

/-- An element of a block of a layer: the column scales come as a row. -/
def layerBlk {T K k8 kg W : ℕ} (a : (⟨2, ![T, K]⟩ : Shape).Idx → EReal) (s : (⟨2, ![T, 1]⟩ : Shape).Idx → EReal)
    (w : (⟨2, ![k8, W]⟩ : Shape).Idx → BitVec 32) (g : (⟨2, ![kg, W]⟩ : Shape).Idx → EReal)
    (c : (⟨2, ![1, W]⟩ : Shape).Idx → EReal) (t n : ℕ) : EReal :=
  lin K k8 (at2 a) (fun t => at2 s t 0) (at2 w) (at2 g) (fun n => at2 c 0 n) t n

end Cert.W4

end
-- ==== Proof.DownIdealWeights.lean ====
/-
  The weight scratch of `DownIdeal` after its dequantising loop: weight `(k, n)` of the block at row `k`, column `n`.
-/
module

public import proofs.«01_k».proof.Proof.DownIdealRun
public import proofs.«01_k».proof.Proof.LinBlock

@[expose] public section

noncomputable section

namespace Cert.DownIdeal.RefValue

open Cert.DownIdeal Cert.DownIdeal.Gen Cert.W4
open Idealize.ShloMosaic Idealize.ShloMosaic.TcCoe

/-- Field 0 of the words, times the scale. -/
theorem pay0_at (w : Vec Ideal S128x512 .i32) (g : Vec Ideal S1x512 .f32) (r : Fin 128) (l : Fin 512) :
    k0_pay3 (F := Ideal) w g (ix2 r l) = sgn4 (nib (w (ix2 r l)) 0) * g (ix2 0 l) := by
  pointwise [k0_pay3]
  exact congrArg (· * _) (weight_at _ _ _ _ (by decide) _ 0 (by decide) (by simp [trunci, BitVec.sshiftRight_zero]))

/-- Field 1 of the words, times the scale. -/
theorem pay1_at (w : Vec Ideal S128x512 .i32) (g : Vec Ideal S1x512 .f32) (r : Fin 128) (l : Fin 512) :
    k0_pay5 (F := Ideal) (k0_pay4 (F := Ideal) w g) (ix2 r l) = sgn4 (nib (w (ix2 r l)) 1) * g (ix2 0 l) := by
  pointwise [k0_pay5, k0_pay4]
  exact congrArg (· * _) (weight_at _ _ _ _ (by decide) _ 1 (by decide) rfl)

/-- Field 2 of the words, times the scale. -/
theorem pay2_at (w : Vec Ideal S128x512 .i32) (g : Vec Ideal S1x512 .f32) (r : Fin 128) (l : Fin 512) :
    k0_pay6 (F := Ideal) w g (ix2 r l) = sgn4 (nib (w (ix2 r l)) 2) * g (ix2 0 l) := by
  pointwise [k0_pay6]
  exact congrArg (· * _) (weight_at _ _ _ _ (by decide) _ 2 (by decide) rfl)

/-- Field 3 of the words, times the scale. -/
theorem pay3_at (w : Vec Ideal S128x512 .i32) (g : Vec Ideal S1x512 .f32) (r : Fin 128) (l : Fin 512) :
    k0_pay8 (F := Ideal) (k0_pay7 (F := Ideal) w) g (ix2 r l) = sgn4 (nib (w (ix2 r l)) 3) * g (ix2 0 l) := by
  pointwise [k0_pay8, k0_pay7]
  exact congrArg (· * _) (weight_at _ _ _ _ (by decide) _ 3 (by decide) rfl)

/-- Field 4 of the words, times the scale. -/
theorem pay4_at (w : Vec Ideal S128x512 .i32) (g : Vec Ideal S1x512 .f32) (r : Fin 128) (l : Fin 512) :
    k0_pay9 (F := Ideal) w g (ix2 r l) = sgn4 (nib (w (ix2 r l)) 4) * g (ix2 0 l) := by
  pointwise [k0_pay9]
  exact congrArg (· * _) (weight_at _ _ _ _ (by decide) _ 4 (by decide) rfl)

/-- Field 5 of the words, times the scale. -/
theorem pay5_at (w : Vec Ideal S128x512 .i32) (g : Vec Ideal S1x512 .f32) (r : Fin 128) (l : Fin 512) :
    k0_pay11 (F := Ideal) (k0_pay10 (F := Ideal) w) g (ix2 r l) = sgn4 (nib (w (ix2 r l)) 5) * g (ix2 0 l) := by
  pointwise [k0_pay11, k0_pay10]
  exact congrArg (· * _) (weight_at _ _ _ _ (by decide) _ 5 (by decide) rfl)

/-- Field 6 of the words, times the scale. -/
theorem pay6_at (w : Vec Ideal S128x512 .i32) (g : Vec Ideal S1x512 .f32) (r : Fin 128) (l : Fin 512) :
    k0_pay12 (F := Ideal) w g (ix2 r l) = sgn4 (nib (w (ix2 r l)) 6) * g (ix2 0 l) := by
  pointwise [k0_pay12]
  exact congrArg (· * _) (weight_at _ _ _ _ (by decide) _ 6 (by decide) rfl)

/-- Field 7 of the words, times the scale. -/
theorem pay7_at (w : Vec Ideal S128x512 .i32) (g : Vec Ideal S1x512 .f32) (r : Fin 128) (l : Fin 512) :
    k0_pay2 (F := Ideal) (k0_pay13 (F := Ideal) w) 983055#32 g (ix2 r l) = sgn4 (nib (w (ix2 r l)) 7) * g (ix2 0 l) := by
  pointwise [k0_pay2, k0_pay13]
  exact congrArg (· * _) (weight_at _ _ _ _ (by decide) _ 7 (by decide) rfl)

/-- The group scales, widened: themselves. -/
theorem k0_pay1_at (v : Vec Ideal S56x512 .fp8e4m3) (r : Fin 56) (l : Fin 512) :
    k0_pay1 (F := Ideal) v (ix2 r l) = v (ix2 r l) := by
  pointwise [k0_pay1]

/-- The row offset of chunk `k` of the words. -/
theorem off_word : ∀ k < 7, BitVec.toNat (Scalar.indexCast (Scalar.muli (Scf.iv 0#32 1#32 k) 128#32)) = 128 * k := by
  decide +kernel

/-- The scale row of chunk `k`, field `j`. -/
theorem off_scale : ∀ j < 8, ∀ k < 7, BitVec.toNat (Scalar.indexCast (Scalar.addi (BitVec.ofNat 32 (7 * j)) (Scf.iv 0#32 1#32 k)))
    = 7 * j + k := by
  decide +kernel

/-- The row of the weight scratch of chunk `k`, field `j`. -/
theorem off_row : ∀ j < 8, ∀ k < 7, BitVec.toNat (Scalar.indexCast
    (Scalar.addi (BitVec.ofNat 32 (896 * j)) (Scalar.muli (Scf.iv 0#32 1#32 k) 128#32))) = 896 * j + 128 * k := by
  decide +kernel

/-- The scale scratch as the dequantising loop finds it: the group scales. -/
theorem scales (c : Dev nD) (i : grid0.Coords) (arg1 : Memref sig .tc .vmem S1536x7168 .fp8e4m3) (harg1 : arg1.IsWhole) (arg2 : Memref sig .tc .vmem S1536x1 .f32) (harg2 : arg2.IsWhole) (arg3 : Memref sig .tc .vmem S896x512 .i32) (harg3 : arg3.IsWhole) (arg4 : Memref sig .tc .vmem S56x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S1536x512 .bf16) (harg7 : arg7.IsWhole) (arg8 : Memref sig .tc .vmem S7168x512 .bf16) (harg8 : arg8.IsWhole) (arg9 : Memref sig .tc .vmem S56x512 .f32) (harg9 : arg9.IsWhole) (x3 : Vec Ideal S56x512 .fp8e4m3) :
    arg9.view.read (Elt Ideal) (arg9.view.writes (Elt Ideal) arg9.view.junk [⟨Rect.unit ![0, 0] S56x512.size inb_S56x512_S56x512_0_0, k0_pay1 (arg4.view.readAt (Elt Ideal) (Rect.unit ![0, 0] S56x512.size inb_S56x512_S56x512_0_0).toLoadRect (harg4.unread x3))⟩]) = x3 := by
  funext y
  obtain ⟨r, l, rfl⟩ : ∃ (r : Fin 56) (l : Fin 512), y = ix2 r l := ⟨y 0, y 1, eq_ix2 y⟩
  refine (View.read_writes_cons_hit_of_coords _ _ _ _ _ (ix2 r l) (ix2 r l) fun b => ?_).trans ?_
  · match b with
    | ⟨0, _⟩ => show r.val = 0 + 1 * r.val; omega
    | ⟨1, _⟩ => show l.val = 0 + 1 * l.val; omega
  · refine (k0_pay1_at _ r l).trans ?_
    rw [View.readAt_eq_ld, harg4.read_unread]
    exact congrFun (View.ld_unit_zero (S := S56x512) (by decide) _ x3) (ix2 r l)

/-- Every store of a trip of the dequantising loop is the block's weights where it lies. -/
theorem trip_weights (c : Dev nD) (i : grid0.Coords) (arg1 : Memref sig .tc .vmem S1536x7168 .fp8e4m3) (harg1 : arg1.IsWhole) (arg2 : Memref sig .tc .vmem S1536x1 .f32) (harg2 : arg2.IsWhole) (arg3 : Memref sig .tc .vmem S896x512 .i32) (harg3 : arg3.IsWhole) (arg4 : Memref sig .tc .vmem S56x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S1536x512 .bf16) (harg7 : arg7.IsWhole) (arg8 : Memref sig .tc .vmem S7168x512 .bf16) (harg8 : arg8.IsWhole) (arg9 : Memref sig .tc .vmem S56x512 .f32) (harg9 : arg9.IsWhole)
    (x2 : Vec Ideal S896x512 .i32) (x3 : S56x512.Idx → EReal) (XG : BufTy.Contents (Elt Ideal) arg9.view.ty)
    (hG : arg9.view.read (Elt Ideal) XG = x3) (k : Fin k0_t1_loop.trips) :
    ∀ p ∈ tripL_k0_t1 (F := Ideal) Variants.none c none i arg1 harg1 arg2 harg2 arg3 harg3 arg4 harg4 arg5 harg5 arg6 harg6 arg7 harg7 arg8 harg8 arg9 harg9 (harg3.unread x2) XG k,
      ∀ q : p.1.shape.Idx, p.2 q = wts (K := 7168) x2 x3 (p.1.emb q) := by
  have hk : k.val < 7 := Nat.lt_of_lt_of_le k.isLt k0_t1_abs.2.1
  have hg : ∀ (o'' : ℕ) (h) (l : Fin 512), arg9.view.readAt (Elt Ideal)
      (Rect.unit (s := S56x512) ![o'', 0] ![1, 512] h).toLoadRect XG (ix2 0 l) = at2 x3 o'' l.val := fun o'' h l => by
    rw [View.readAt_eq_ld, hG]
    refine (ld_ix2 (Val := Elt Ideal) (e := .f32) x3 o'' 0 1 512 h 0 l).trans ?_
    rw [Nat.zero_add]; rfl
  unfold tripL_k0_t1 trip_k0_t1
  dsimp only
  sl_unfold_words
  dsimp only
  have hW : ∀ (h) (r : Fin 128) (l : Fin 512), arg3.view.readAt (Elt Ideal) (Rect.unit (s := S896x512)
      ![BitVec.toNat (Scalar.indexCast (Scalar.muli (Scf.iv 0#32 1#32 k.val) 128#32)), 0] ![128, 512] h).toLoadRect
      (harg3.unread x2) (ix2 r l) = at2 x2
        (BitVec.toNat (Scalar.indexCast (Scalar.muli (Scf.iv 0#32 1#32 k.val) 128#32)) + r.val) l.val := fun h r l => by
    rw [View.readAt_eq_ld, harg3.read_unread]
    refine (ld_ix2 (Val := Elt Ideal) (e := .i32) x2 _ 0 128 512 h r l).trans ?_
    rw [Nat.zero_add]
  have ho := off_word k.val hk
  have C : ∀ (j : ℕ) (P : S128x512.Idx → EReal) (R o'' : ℕ) (hR : R = 896 * j + 128 * k.val) (ho'' : o'' = 7 * j + k.val)
      (h1) (h2) (hP : ∀ r l, P (ix2 r l) = sgn4 (nib (arg3.view.readAt (Elt Ideal) (Rect.unit (s := S896x512)
        ![BitVec.toNat (Scalar.indexCast (Scalar.muli (Scf.iv 0#32 1#32 k.val) 128#32)), 0] ![128, 512] h1).toLoadRect
        (harg3.unread x2) (ix2 r l)) j) * arg9.view.readAt (Elt Ideal)
        (Rect.unit (s := S56x512) ![o'', 0] ![1, 512] h2).toLoadRect XG (ix2 0 l)) (h) (q : S128x512.Idx),
      P q = wts (K := 7168) x2 x3 ((Rect.unit (s := S7168x512) ![R, 0] ![128, 512] h).emb q) := fun j P R o'' hR ho'' h1 h2 hP h q =>
    wts_piece x2 x3 j R _ o'' P _ _ hP (hW _) (hg _ _) (by omega) (by omega) (by omega) h q
  have I : ∀ (j : ℕ) (hj : j < 8) (R : ℕ) (hR : R = 896 * j + 128 * k.val),
      ∀ a, ![R, 0] a + ![128, 512] a ≤ S7168x512.size a := fun j hj R hR a => match a with
    | ⟨0, _⟩ => by show R + 128 ≤ 7168; omega
    | ⟨1, _⟩ => by show 0 + 512 ≤ 512; omega
  intro p hp
  simp only [List.mem_cons, List.not_mem_nil, or_false] at hp
  rcases hp with rfl | rfl | rfl | rfl | rfl | rfl | rfl | rfl
  · exact C 7 _ _ _ (off_row 7 (by decide) k.val hk) (off_scale 7 (by decide) k.val hk) _ _ (pay7_at _ _)
      (I 7 (by decide) _ (off_row 7 (by decide) k.val hk))
  · exact C 6 _ _ _ (off_row 6 (by decide) k.val hk) (off_scale 6 (by decide) k.val hk) _ _ (pay6_at _ _)
      (I 6 (by decide) _ (off_row 6 (by decide) k.val hk))
  · exact C 5 _ _ _ (off_row 5 (by decide) k.val hk) (off_scale 5 (by decide) k.val hk) _ _ (pay5_at _ _)
      (I 5 (by decide) _ (off_row 5 (by decide) k.val hk))
  · exact C 4 _ _ _ (off_row 4 (by decide) k.val hk) (off_scale 4 (by decide) k.val hk) _ _ (pay4_at _ _)
      (I 4 (by decide) _ (off_row 4 (by decide) k.val hk))
  · exact C 3 _ _ _ (off_row 3 (by decide) k.val hk) (off_scale 3 (by decide) k.val hk) _ _ (pay3_at _ _)
      (I 3 (by decide) _ (off_row 3 (by decide) k.val hk))
  · exact C 2 _ _ _ (off_row 2 (by decide) k.val hk) (off_scale 2 (by decide) k.val hk) _ _ (pay2_at _ _)
      (I 2 (by decide) _ (off_row 2 (by decide) k.val hk))
  · exact C 1 _ _ _ (off_row 1 (by decide) k.val hk) (off_scale 1 (by decide) k.val hk) _ _ (pay1_at _ _)
      (I 1 (by decide) _ (off_row 1 (by decide) k.val hk))
  · exact C 0 _ _ _ (off_row 0 (by decide) k.val hk) (off_scale 0 (by decide) k.val hk) _ _ (pay0_at _ _)
      (I 0 (by decide) _ (off_row 0 (by decide) k.val hk))

/-- So is every store of the loop before trip `n`. -/
theorem pb_weights (c : Dev nD) (i : grid0.Coords) (arg1 : Memref sig .tc .vmem S1536x7168 .fp8e4m3) (harg1 : arg1.IsWhole) (arg2 : Memref sig .tc .vmem S1536x1 .f32) (harg2 : arg2.IsWhole) (arg3 : Memref sig .tc .vmem S896x512 .i32) (harg3 : arg3.IsWhole) (arg4 : Memref sig .tc .vmem S56x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S1536x512 .bf16) (harg7 : arg7.IsWhole) (arg8 : Memref sig .tc .vmem S7168x512 .bf16) (harg8 : arg8.IsWhole) (arg9 : Memref sig .tc .vmem S56x512 .f32) (harg9 : arg9.IsWhole)
    (x2 : Vec Ideal S896x512 .i32) (x3 : S56x512.Idx → EReal) (XG : BufTy.Contents (Elt Ideal) arg9.view.ty)
    (hG : arg9.view.read (Elt Ideal) XG = x3) : ∀ n : ℕ,
    ∀ p ∈ pb_k0_t1 (F := Ideal) Variants.none c none i arg1 harg1 arg2 harg2 arg3 harg3 arg4 harg4 arg5 harg5 arg6 harg6 arg7 harg7 arg8 harg8 arg9 harg9 (harg3.unread x2) XG n,
      ∀ q : p.1.shape.Idx, p.2 q = wts (K := 7168) x2 x3 (p.1.emb q)
  | 0, p, hp, q => absurd hp List.not_mem_nil
  | n + 1, p, hp, q => by
    rw [pb_k0_t1.eq_2] at hp
    unfold pb_k0_t1Step at hp
    split at hp
    · rcases List.mem_append.mp hp with hp | hp
      · exact trip_weights c i arg1 harg1 arg2 harg2 arg3 harg3 arg4 harg4 arg5 harg5 arg6 harg6 arg7 harg7 arg8 harg8 arg9 harg9 x2 x3 XG hG _ p hp q
      · exact pb_weights c i arg1 harg1 arg2 harg2 arg3 harg3 arg4 harg4 arg5 harg5 arg6 harg6 arg7 harg7 arg8 harg8 arg9 harg9 x2 x3 XG hG n p hp q
    · exact pb_weights c i arg1 harg1 arg2 harg2 arg3 harg3 arg4 harg4 arg5 harg5 arg6 harg6 arg7 harg7 arg8 harg8 arg9 harg9 x2 x3 XG hG n p hp q

/-- The weight scratch as the matmul loop finds it. -/
theorem weights_read (c : Dev nD) (i : grid0.Coords) (arg1 : Memref sig .tc .vmem S1536x7168 .fp8e4m3) (harg1 : arg1.IsWhole) (arg2 : Memref sig .tc .vmem S1536x1 .f32) (harg2 : arg2.IsWhole) (arg3 : Memref sig .tc .vmem S896x512 .i32) (harg3 : arg3.IsWhole) (arg4 : Memref sig .tc .vmem S56x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S1536x512 .bf16) (harg7 : arg7.IsWhole) (arg8 : Memref sig .tc .vmem S7168x512 .bf16) (harg8 : arg8.IsWhole) (arg9 : Memref sig .tc .vmem S56x512 .f32) (harg9 : arg9.IsWhole)
    (x0 : Vec Ideal S1536x7168 .fp8e4m3) (x1 : Vec Ideal S1536x1 .f32) (x2 : Vec Ideal S896x512 .i32) (x3 : Vec Ideal S56x512 .fp8e4m3) (x4 : Vec Ideal S1x512 .f32) (x5 : Vec Ideal S1536x512 .f32) (f : BufTy.Contents (Elt Ideal) arg8.view.ty) :
    arg8.view.read (Elt Ideal) (arg8.view.writes (Elt Ideal) f (weightPieces (F := Ideal) c i arg1 harg1 arg2 harg2 arg3 harg3 arg4 harg4 arg5 harg5 arg6 harg6 arg7 harg7 arg8 harg8 arg9 harg9 x0 x1 x2 x3 x4 x5)) = wts (K := 7168) x2 x3 := by
  funext y
  refine View.read_writes_apply_of_pieces _ _ (wts (K := 7168) x2 x3) _ (fun p hp q => ?_) y (weightPieces_cover c i arg1 harg1 arg2 harg2 arg3 harg3 arg4 harg4 arg5 harg5 arg6 harg6 arg7 harg7 arg8 harg8 arg9 harg9 x0 x1 x2 x3 x4 x5 y)
  unfold weightPieces at hp
  exact pb_weights c i arg1 harg1 arg2 harg2 arg3 harg3 arg4 harg4 arg5 harg5 arg6 harg6 arg7 harg7 arg8 harg8 arg9 harg9 x2 x3 _ (scales c i arg1 harg1 arg2 harg2 arg3 harg3 arg4 harg4 arg5 harg5 arg6 harg6 arg7 harg7 arg8 harg8 arg9 harg9 x3) _ p hp q

end Cert.DownIdeal.RefValue

end
-- ==== Proof.DownIdealValue.lean ====
/-
  What `DownIdeal` leaves in its result array, block by block, over the frame of `DownIdealFrame`.
-/
module

public import proofs.«01_k».proof.Proof.DownIdealFrame
public import Idealize.ShloMosaic.Lib.Pipeline.Value

@[expose] public section

noncomputable section

namespace Cert.DownIdeal.Value

open Cert.DownIdeal Cert.DownIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`Gen.outsAt0`), read through the window's block. -/
theorem flushed6 (c : Dev nD) (t : Fin cfg0.N) :
    (dats m 0 c).flushed 6 t = (cfg0.win 6).cut (grid0.coords t) (outsAt0 m c t) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — the kernel's one case, `Gen.outsAt0` by definition. -/
theorem flushed6_A (c : Dev nD) (t : Fin cfg0.N) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t) (iblk m c 5 t)) := by
  simp only [flushed6, outsAt0]

/-- The index map sends distinct grid points to distinct block indices (decided over the 16 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S1536x8192.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v1) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      kept_main_arg0 m r h c,
      kept_main_arg1 m r h c,
      kept_main_arg2 m r h c,
      kept_main_arg3 m r h c,
      kept_main_arg4 m r h c,
      kept_main_arg5 m r h c⟩)
    (run_main m ρ)

end Cert.DownIdeal.Value

end
-- ==== Proof.DownIdealOut.lean ====
/-
  What the matmul loop of `DownIdeal` stores: the layer's elements, each a sum over all of the contracted axis, added to the residual.
-/
module

public import proofs.«01_k».proof.Proof.DownIdealWeights
public import proofs.«01_k».proof.Proof.DownIdealValue

@[expose] public section

noncomputable section

namespace Cert.DownIdeal.RefValue

open Cert.DownIdeal Cert.DownIdeal.Gen Cert.W4
open Idealize.ShloMosaic Idealize.ShloMosaic.TcCoe

/-- A stretch of the products of tiles: their sum. -/
theorem k0_pay14_at (a0 : Vec Ideal S512x256 .fp8e4m3) (w0 : Vec Ideal S256x512 .bf16) (a1 : Vec Ideal S512x256 .fp8e4m3) (w1 : Vec Ideal S256x512 .bf16) (a2 : Vec Ideal S512x256 .fp8e4m3) (w2 : Vec Ideal S256x512 .bf16) (a3 : Vec Ideal S512x256 .fp8e4m3) (w3 : Vec Ideal S256x512 .bf16) (a4 : Vec Ideal S512x256 .fp8e4m3) (w4 : Vec Ideal S256x512 .bf16) (r l : Fin 512) :
    k0_pay14 (F := Ideal) a0 w0 a1 w1 a2 w2 a3 w3 a4 w4 (ix2 r l)
      = tdot (M := 512) (K := 256) (N := 512) a0 w0 r.val l.val + tdot (M := 512) (K := 256) (N := 512) a1 w1 r.val l.val + tdot (M := 512) (K := 256) (N := 512) a2 w2 r.val l.val + tdot (M := 512) (K := 256) (N := 512) a3 w3 r.val l.val + tdot (M := 512) (K := 256) (N := 512) a4 w4 r.val l.val := by
  pointwise [k0_pay14]
  simp only [sum_tdot]

/-- A stretch of the products of tiles: their sum, added on. -/
theorem k0_pay16_at (v : FVec Ideal S512x512 .f32) (a5 : Vec Ideal S512x256 .fp8e4m3) (w5 : Vec Ideal S256x512 .bf16) (a6 : Vec Ideal S512x256 .fp8e4m3) (w6 : Vec Ideal S256x512 .bf16) (a7 : Vec Ideal S512x256 .fp8e4m3) (w7 : Vec Ideal S256x512 .bf16) (a8 : Vec Ideal S512x256 .fp8e4m3) (w8 : Vec Ideal S256x512 .bf16) (a9 : Vec Ideal S512x256 .fp8e4m3) (w9 : Vec Ideal S256x512 .bf16) (a10 : Vec Ideal S512x256 .fp8e4m3) (w10 : Vec Ideal S256x512 .bf16) (r l : Fin 512) :
    k0_pay16 (F := Ideal) v (k0_pay15 (F := Ideal) a5) w5 (constant S512x512 FTy.f32 0#32) a6 w6 a7 w7 a8 w8 a9 w9 a10 w10 (ix2 r l)
      = v (ix2 r l) + tdot (M := 512) (K := 256) (N := 512) a5 w5 r.val l.val + tdot (M := 512) (K := 256) (N := 512) a6 w6 r.val l.val + tdot (M := 512) (K := 256) (N := 512) a7 w7 r.val l.val + tdot (M := 512) (K := 256) (N := 512) a8 w8 r.val l.val + tdot (M := 512) (K := 256) (N := 512) a9 w9 r.val l.val + tdot (M := 512) (K := 256) (N := 512) a10 w10 r.val l.val := by
  pointwise [k0_pay16, k0_pay15]
  simp only [sum_tdot]

/-- A stretch of the products of tiles: their sum, added on. -/
theorem k0_pay18_at (v : FVec Ideal S512x512 .f32) (a11 : Vec Ideal S512x256 .fp8e4m3) (w11 : Vec Ideal S256x512 .bf16) (a12 : Vec Ideal S512x256 .fp8e4m3) (w12 : Vec Ideal S256x512 .bf16) (a13 : Vec Ideal S512x256 .fp8e4m3) (w13 : Vec Ideal S256x512 .bf16) (a14 : Vec Ideal S512x256 .fp8e4m3) (w14 : Vec Ideal S256x512 .bf16) (a15 : Vec Ideal S512x256 .fp8e4m3) (w15 : Vec Ideal S256x512 .bf16) (a16 : Vec Ideal S512x256 .fp8e4m3) (w16 : Vec Ideal S256x512 .bf16) (r l : Fin 512) :
    k0_pay18 (F := Ideal) v (k0_pay17 (F := Ideal) a11) w11 (constant S512x512 FTy.f32 0#32) a12 w12 a13 w13 a14 w14 a15 w15 a16 w16 (ix2 r l)
      = v (ix2 r l) + tdot (M := 512) (K := 256) (N := 512) a11 w11 r.val l.val + tdot (M := 512) (K := 256) (N := 512) a12 w12 r.val l.val + tdot (M := 512) (K := 256) (N := 512) a13 w13 r.val l.val + tdot (M := 512) (K := 256) (N := 512) a14 w14 r.val l.val + tdot (M := 512) (K := 256) (N := 512) a15 w15 r.val l.val + tdot (M := 512) (K := 256) (N := 512) a16 w16 r.val l.val := by
  pointwise [k0_pay18, k0_pay17]
  simp only [sum_tdot]

/-- A stretch of the products of tiles: their sum, added on. -/
theorem k0_pay20_at (v : FVec Ideal S512x512 .f32) (a17 : Vec Ideal S512x256 .fp8e4m3) (w17 : Vec Ideal S256x512 .bf16) (a18 : Vec Ideal S512x256 .fp8e4m3) (w18 : Vec Ideal S256x512 .bf16) (a19 : Vec Ideal S512x256 .fp8e4m3) (w19 : Vec Ideal S256x512 .bf16) (a20 : Vec Ideal S512x256 .fp8e4m3) (w20 : Vec Ideal S256x512 .bf16) (a21 : Vec Ideal S512x256 .fp8e4m3) (w21 : Vec Ideal S256x512 .bf16) (a22 : Vec Ideal S512x256 .fp8e4m3) (w22 : Vec Ideal S256x512 .bf16) (r l : Fin 512) :
    k0_pay20 (F := Ideal) v (k0_pay19 (F := Ideal) a17) w17 (constant S512x512 FTy.f32 0#32) a18 w18 a19 w19 a20 w20 a21 w21 a22 w22 (ix2 r l)
      = v (ix2 r l) + tdot (M := 512) (K := 256) (N := 512) a17 w17 r.val l.val + tdot (M := 512) (K := 256) (N := 512) a18 w18 r.val l.val + tdot (M := 512) (K := 256) (N := 512) a19 w19 r.val l.val + tdot (M := 512) (K := 256) (N := 512) a20 w20 r.val l.val + tdot (M := 512) (K := 256) (N := 512) a21 w21 r.val l.val + tdot (M := 512) (K := 256) (N := 512) a22 w22 r.val l.val := by
  pointwise [k0_pay20, k0_pay19]
  simp only [sum_tdot]

/-- The last stretch, the scales, and the residual. -/
theorem last_at (v : FVec Ideal S512x512 .f32) (a23 : Vec Ideal S512x256 .fp8e4m3) (w23 : Vec Ideal S256x512 .bf16) (a24 : Vec Ideal S512x256 .fp8e4m3) (w24 : Vec Ideal S256x512 .bf16) (a25 : Vec Ideal S512x256 .fp8e4m3) (w25 : Vec Ideal S256x512 .bf16) (a26 : Vec Ideal S512x256 .fp8e4m3) (w26 : Vec Ideal S256x512 .bf16) (a27 : Vec Ideal S512x256 .fp8e4m3) (w27 : Vec Ideal S256x512 .bf16) (sc : Vec Ideal S512x1 .f32) (cc : Vec Ideal S1x512 .f32) (rr : Vec Ideal S512x512 .f32) (r l : Fin 512) :
    k0_pay22 (F := Ideal) v (k0_pay21 (F := Ideal) a23) w23 (constant S512x512 FTy.f32 0#32) a24 w24 a25 w25 a26 w26 a27 w27 sc cc rr (ix2 r l)
      = rr (ix2 r l) + (v (ix2 r l) + tdot (M := 512) (K := 256) (N := 512) a23 w23 r.val l.val + tdot (M := 512) (K := 256) (N := 512) a24 w24 r.val l.val + tdot (M := 512) (K := 256) (N := 512) a25 w25 r.val l.val + tdot (M := 512) (K := 256) (N := 512) a26 w26 r.val l.val + tdot (M := 512) (K := 256) (N := 512) a27 w27 r.val l.val) * sc (ix2 r 0) * cc (ix2 0 l) := by
  pointwise [k0_pay22, k0_pay21]
  simp only [sum_tdot]

set_option maxHeartbeats 2000000 in
/-- The whole payload: where each product of tiles is a stretch of one sum, the sum over all of the contracted axis. -/
theorem tiles_at {a0 : Vec Ideal S512x256 .fp8e4m3} {w0 : Vec Ideal S256x512 .bf16} {a1 : Vec Ideal S512x256 .fp8e4m3} {w1 : Vec Ideal S256x512 .bf16} {a2 : Vec Ideal S512x256 .fp8e4m3} {w2 : Vec Ideal S256x512 .bf16} {a3 : Vec Ideal S512x256 .fp8e4m3} {w3 : Vec Ideal S256x512 .bf16} {a4 : Vec Ideal S512x256 .fp8e4m3} {w4 : Vec Ideal S256x512 .bf16} {a5 : Vec Ideal S512x256 .fp8e4m3} {w5 : Vec Ideal S256x512 .bf16} {a6 : Vec Ideal S512x256 .fp8e4m3} {w6 : Vec Ideal S256x512 .bf16} {a7 : Vec Ideal S512x256 .fp8e4m3} {w7 : Vec Ideal S256x512 .bf16} {a8 : Vec Ideal S512x256 .fp8e4m3} {w8 : Vec Ideal S256x512 .bf16} {a9 : Vec Ideal S512x256 .fp8e4m3} {w9 : Vec Ideal S256x512 .bf16} {a10 : Vec Ideal S512x256 .fp8e4m3} {w10 : Vec Ideal S256x512 .bf16} {a11 : Vec Ideal S512x256 .fp8e4m3} {w11 : Vec Ideal S256x512 .bf16} {a12 : Vec Ideal S512x256 .fp8e4m3} {w12 : Vec Ideal S256x512 .bf16} {a13 : Vec Ideal S512x256 .fp8e4m3} {w13 : Vec Ideal S256x512 .bf16} {a14 : Vec Ideal S512x256 .fp8e4m3} {w14 : Vec Ideal S256x512 .bf16} {a15 : Vec Ideal S512x256 .fp8e4m3} {w15 : Vec Ideal S256x512 .bf16} {a16 : Vec Ideal S512x256 .fp8e4m3} {w16 : Vec Ideal S256x512 .bf16} {a17 : Vec Ideal S512x256 .fp8e4m3} {w17 : Vec Ideal S256x512 .bf16} {a18 : Vec Ideal S512x256 .fp8e4m3} {w18 : Vec Ideal S256x512 .bf16} {a19 : Vec Ideal S512x256 .fp8e4m3} {w19 : Vec Ideal S256x512 .bf16} {a20 : Vec Ideal S512x256 .fp8e4m3} {w20 : Vec Ideal S256x512 .bf16} {a21 : Vec Ideal S512x256 .fp8e4m3} {w21 : Vec Ideal S256x512 .bf16} {a22 : Vec Ideal S512x256 .fp8e4m3} {w22 : Vec Ideal S256x512 .bf16} {a23 : Vec Ideal S512x256 .fp8e4m3} {w23 : Vec Ideal S256x512 .bf16} {a24 : Vec Ideal S512x256 .fp8e4m3} {w24 : Vec Ideal S256x512 .bf16} {a25 : Vec Ideal S512x256 .fp8e4m3} {w25 : Vec Ideal S256x512 .bf16} {a26 : Vec Ideal S512x256 .fp8e4m3} {w26 : Vec Ideal S256x512 .bf16} {a27 : Vec Ideal S512x256 .fp8e4m3} {w27 : Vec Ideal S256x512 .bf16}
    (sc : Vec Ideal S512x1 .f32) (cc : Vec Ideal S1x512 .f32) (rr : Vec Ideal S512x512 .f32) (f : ℕ → EReal) (r l : Fin 512)
    (h0 : tdot (M := 512) (K := 256) (N := 512) a0 w0 r.val l.val = ∑ q ∈ Finset.range 256, f (0 + q))
    (h1 : tdot (M := 512) (K := 256) (N := 512) a1 w1 r.val l.val = ∑ q ∈ Finset.range 256, f (256 + q))
    (h2 : tdot (M := 512) (K := 256) (N := 512) a2 w2 r.val l.val = ∑ q ∈ Finset.range 256, f (512 + q))
    (h3 : tdot (M := 512) (K := 256) (N := 512) a3 w3 r.val l.val = ∑ q ∈ Finset.range 256, f (768 + q))
    (h4 : tdot (M := 512) (K := 256) (N := 512) a4 w4 r.val l.val = ∑ q ∈ Finset.range 256, f (1024 + q))
    (h5 : tdot (M := 512) (K := 256) (N := 512) a5 w5 r.val l.val = ∑ q ∈ Finset.range 256, f (1280 + q))
    (h6 : tdot (M := 512) (K := 256) (N := 512) a6 w6 r.val l.val = ∑ q ∈ Finset.range 256, f (1536 + q))
    (h7 : tdot (M := 512) (K := 256) (N := 512) a7 w7 r.val l.val = ∑ q ∈ Finset.range 256, f (1792 + q))
    (h8 : tdot (M := 512) (K := 256) (N := 512) a8 w8 r.val l.val = ∑ q ∈ Finset.range 256, f (2048 + q))
    (h9 : tdot (M := 512) (K := 256) (N := 512) a9 w9 r.val l.val = ∑ q ∈ Finset.range 256, f (2304 + q))
    (h10 : tdot (M := 512) (K := 256) (N := 512) a10 w10 r.val l.val = ∑ q ∈ Finset.range 256, f (2560 + q))
    (h11 : tdot (M := 512) (K := 256) (N := 512) a11 w11 r.val l.val = ∑ q ∈ Finset.range 256, f (2816 + q))
    (h12 : tdot (M := 512) (K := 256) (N := 512) a12 w12 r.val l.val = ∑ q ∈ Finset.range 256, f (3072 + q))
    (h13 : tdot (M := 512) (K := 256) (N := 512) a13 w13 r.val l.val = ∑ q ∈ Finset.range 256, f (3328 + q))
    (h14 : tdot (M := 512) (K := 256) (N := 512) a14 w14 r.val l.val = ∑ q ∈ Finset.range 256, f (3584 + q))
    (h15 : tdot (M := 512) (K := 256) (N := 512) a15 w15 r.val l.val = ∑ q ∈ Finset.range 256, f (3840 + q))
    (h16 : tdot (M := 512) (K := 256) (N := 512) a16 w16 r.val l.val = ∑ q ∈ Finset.range 256, f (4096 + q))
    (h17 : tdot (M := 512) (K := 256) (N := 512) a17 w17 r.val l.val = ∑ q ∈ Finset.range 256, f (4352 + q))
    (h18 : tdot (M := 512) (K := 256) (N := 512) a18 w18 r.val l.val = ∑ q ∈ Finset.range 256, f (4608 + q))
    (h19 : tdot (M := 512) (K := 256) (N := 512) a19 w19 r.val l.val = ∑ q ∈ Finset.range 256, f (4864 + q))
    (h20 : tdot (M := 512) (K := 256) (N := 512) a20 w20 r.val l.val = ∑ q ∈ Finset.range 256, f (5120 + q))
    (h21 : tdot (M := 512) (K := 256) (N := 512) a21 w21 r.val l.val = ∑ q ∈ Finset.range 256, f (5376 + q))
    (h22 : tdot (M := 512) (K := 256) (N := 512) a22 w22 r.val l.val = ∑ q ∈ Finset.range 256, f (5632 + q))
    (h23 : tdot (M := 512) (K := 256) (N := 512) a23 w23 r.val l.val = ∑ q ∈ Finset.range 256, f (5888 + q))
    (h24 : tdot (M := 512) (K := 256) (N := 512) a24 w24 r.val l.val = ∑ q ∈ Finset.range 256, f (6144 + q))
    (h25 : tdot (M := 512) (K := 256) (N := 512) a25 w25 r.val l.val = ∑ q ∈ Finset.range 256, f (6400 + q))
    (h26 : tdot (M := 512) (K := 256) (N := 512) a26 w26 r.val l.val = ∑ q ∈ Finset.range 256, f (6656 + q))
    (h27 : tdot (M := 512) (K := 256) (N := 512) a27 w27 r.val l.val = ∑ q ∈ Finset.range 256, f (6912 + q))
    {s c t : EReal} (hs : sc (ix2 r 0) = s) (hc : cc (ix2 0 l) = c) (hr : rr (ix2 r l) = t) :
    k0_pay22 (F := Ideal) (k0_pay20 (F := Ideal) (k0_pay18 (F := Ideal) (k0_pay16 (F := Ideal) (k0_pay14 (F := Ideal) a0 w0 a1 w1 a2 w2 a3 w3 a4 w4) (k0_pay15 (F := Ideal) a5) w5 (constant S512x512 FTy.f32 0#32) a6 w6 a7 w7 a8 w8 a9 w9 a10 w10) (k0_pay17 (F := Ideal) a11) w11 (constant S512x512 FTy.f32 0#32) a12 w12 a13 w13 a14 w14 a15 w15 a16 w16) (k0_pay19 (F := Ideal) a17) w17 (constant S512x512 FTy.f32 0#32) a18 w18 a19 w19 a20 w20 a21 w21 a22 w22) (k0_pay21 (F := Ideal) a23) w23 (constant S512x512 FTy.f32 0#32) a24 w24 a25 w25 a26 w26 a27 w27 sc cc rr (ix2 r l)
      = t + (∑ q ∈ Finset.range 7168, f q) * s * c := by
  rw [last_at]
  simp only [k0_pay14_at, k0_pay16_at, k0_pay18_at, k0_pay20_at, hs, hc, hr]
  rw [h0, h1, h2, h3, h4, h5, h6, h7, h8, h9, h10, h11, h12, h13, h14, h15, h16, h17, h18, h19, h20, h21, h22, h23, h24, h25, h26, h27]
  simp only [show ∀ q, f (0 + q) = f q from fun q => by rw [Nat.zero_add], sum_step, Nat.reduceAdd]

/-- Element `(t, n)` of an output block. -/
def outBlk (x0 : Vec Ideal S1536x7168 .fp8e4m3) (x1 : Vec Ideal S1536x1 .f32) (x2 : Vec Ideal S896x512 .i32) (x3 : Vec Ideal S56x512 .fp8e4m3) (x4 : Vec Ideal S1x512 .f32) (x5 : Vec Ideal S1536x512 .f32) (y : S1536x512.Idx) : EReal :=
  x5 y + layerBlk (K := 7168) (k8 := 896) (kg := 56) (T := 1536) (W := 512) x0 x1 x2 x3 x4 (y 0).val (y 1).val

set_option maxHeartbeats 2000000 in
/-- Every store of a trip of the matmul loop is the output block where it lies. -/
theorem trip_out (c : Dev nD) (i : grid0.Coords) (arg1 : Memref sig .tc .vmem S1536x7168 .fp8e4m3) (harg1 : arg1.IsWhole) (arg2 : Memref sig .tc .vmem S1536x1 .f32) (harg2 : arg2.IsWhole) (arg3 : Memref sig .tc .vmem S896x512 .i32) (harg3 : arg3.IsWhole) (arg4 : Memref sig .tc .vmem S56x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S1536x512 .bf16) (harg7 : arg7.IsWhole) (arg8 : Memref sig .tc .vmem S7168x512 .bf16) (harg8 : arg8.IsWhole) (arg9 : Memref sig .tc .vmem S56x512 .f32) (harg9 : arg9.IsWhole)
    (x0 : Vec Ideal S1536x7168 .fp8e4m3) (x1 : Vec Ideal S1536x1 .f32) (x2 : Vec Ideal S896x512 .i32) (x3 : Vec Ideal S56x512 .fp8e4m3) (x4 : Vec Ideal S1x512 .f32) (x5 : Vec Ideal S1536x512 .f32) (XW : BufTy.Contents (Elt Ideal) arg8.view.ty)
    (hW : arg8.view.read (Elt Ideal) XW = wts (K := 7168) x2 x3) (k : Fin k0_t2_loop.trips) :
    ∀ p ∈ tripL_k0_t2 (F := Ideal) Variants.none c none i arg1 harg1 arg2 harg2 arg3 harg3 arg4 harg4 arg5 harg5 arg6 harg6 arg7 harg7 arg8 harg8 arg9 harg9 (harg1.unread x0) (harg2.unread x1) (harg5.unread x4) (harg6.unread x5) XW k,
      ∀ q : p.1.shape.Idx, p.2 q = outBlk x0 x1 x2 x3 x4 x5 (p.1.emb q) := by
  unfold tripL_k0_t2 trip_k0_t2
  dsimp only
  sl_unfold_words
  dsimp only
  intro p hp
  rw [List.mem_singleton] at hp
  subst hp
  intro q
  obtain ⟨r, l, rfl⟩ : ∃ (r l : Fin 512), q = ix2 r l := ⟨q 0, q 1, eq_ix2 q⟩
  obtain ⟨f, hf⟩ : ∃ f : ℕ → EReal, f = fun q => at2 (α := EReal) x0 ((BitVec.toNat (Scalar.indexCast (Scalar.muli (Scf.iv 0#32 1#32 k.val) 512#32))) + r.val) q
      * at2 (α := EReal) (m := 7168) (n := 512) (wts (K := 7168) x2 x3) q l.val := ⟨_, rfl⟩
  have T : ∀ (o : ℕ) (h) (h'),
      tdot (M := 512) (K := 256) (N := 512)
        (arg1.view.readAt (Elt Ideal) (Rect.unit (s := S1536x7168) ![(BitVec.toNat (Scalar.indexCast (Scalar.muli (Scf.iv 0#32 1#32 k.val) 512#32))), o] ![512, 256] h).toLoadRect (harg1.unread x0))
        (arg8.view.readAt (Elt Ideal) (Rect.unit (s := S7168x512) ![o, 0] ![256, 512] h').toLoadRect XW) r.val l.val
      = ∑ q ∈ Finset.range 256, f (o + q) := fun o h h' => by
    rw [View.readAt_eq_ld, View.readAt_eq_ld, harg1.read_unread, hW, hf]
    exact tdot_ld (M := 512) (K := 256) (N := 512) x0 _ (BitVec.toNat (Scalar.indexCast (Scalar.muli (Scf.iv 0#32 1#32 k.val) 512#32))) o r.val l.val h h' r.isLt l.isLt
  have hs : ∀ (h), arg2.view.readAt (Elt Ideal) (Rect.unit (s := S1536x1) ![(BitVec.toNat (Scalar.indexCast (Scalar.muli (Scf.iv 0#32 1#32 k.val) 512#32))), 0] ![512, 1] h).toLoadRect (harg2.unread x1) (ix2 r 0)
      = at2 (α := EReal) x1 ((BitVec.toNat (Scalar.indexCast (Scalar.muli (Scf.iv 0#32 1#32 k.val) 512#32))) + r.val) 0 := fun h => by
    rw [View.readAt_eq_ld, harg2.read_unread]
    exact ld_ix2 (Val := fun _ => EReal) (e := .f32) x1 (BitVec.toNat (Scalar.indexCast (Scalar.muli (Scf.iv 0#32 1#32 k.val) 512#32))) 0 512 1 h r 0
  have hc : ∀ (h), arg5.view.readAt (Elt Ideal) (Rect.unit (s := S1x512) ![0, 0] ![1, 512] h).toLoadRect (harg5.unread x4) (ix2 0 l)
      = at2 (α := EReal) x4 0 l.val := fun h => by
    rw [View.readAt_eq_ld, harg5.read_unread]
    exact (ld_ix2 (Val := fun _ => EReal) (e := .f32) x4 0 0 1 512 h 0 l).trans
      (congrArg (fun n => at2 (α := EReal) x4 0 n) (Nat.zero_add l.val))
  have hr : ∀ (h), arg6.view.readAt (Elt Ideal) (Rect.unit (s := S1536x512) ![(BitVec.toNat (Scalar.indexCast (Scalar.muli (Scf.iv 0#32 1#32 k.val) 512#32))), 0] ![512, 512] h).toLoadRect (harg6.unread x5) (ix2 r l)
      = at2 (α := EReal) x5 ((BitVec.toNat (Scalar.indexCast (Scalar.muli (Scf.iv 0#32 1#32 k.val) 512#32))) + r.val) l.val := fun h => by
    rw [View.readAt_eq_ld, harg6.read_unread]
    exact (ld_ix2 (Val := fun _ => EReal) (e := .f32) x5 (BitVec.toNat (Scalar.indexCast (Scalar.muli (Scf.iv 0#32 1#32 k.val) 512#32))) 0 512 512 h r l).trans
      (congrArg (fun n => at2 (α := EReal) x5 ((BitVec.toNat (Scalar.indexCast (Scalar.muli (Scf.iv 0#32 1#32 k.val) 512#32))) + r.val) n) (Nat.zero_add l.val))
  refine (tiles_at _ _ _ f r l (T 0 _ _) (T 256 _ _) (T 512 _ _) (T 768 _ _) (T 1024 _ _) (T 1280 _ _) (T 1536 _ _) (T 1792 _ _) (T 2048 _ _) (T 2304 _ _) (T 2560 _ _) (T 2816 _ _) (T 3072 _ _) (T 3328 _ _) (T 3584 _ _) (T 3840 _ _) (T 4096 _ _) (T 4352 _ _) (T 4608 _ _) (T 4864 _ _) (T 5120 _ _) (T 5376 _ _) (T 5632 _ _) (T 5888 _ _) (T 6144 _ _) (T 6400 _ _) (T 6656 _ _) (T 6912 _ _) (hs _) (hc _) (hr _)).trans ?_
  have e : ∑ q ∈ Finset.range 7168, f q
      = ∑ q ∈ Finset.range 7168, at2 (α := EReal) x0 ((BitVec.toNat (Scalar.indexCast (Scalar.muli (Scf.iv 0#32 1#32 k.val) 512#32))) + r.val) q * wt 896 (at2 (α := BitVec 32) x2) (at2 (α := EReal) x3) q l.val := by
    rw [hf]
    exact sum_wts (fun q => at2 (α := EReal) x0 ((BitVec.toNat (Scalar.indexCast (Scalar.muli (Scf.iv 0#32 1#32 k.val) 512#32))) + r.val) q) x2 x3 l.val l.isLt
  rw [e]
  unfold outBlk layerBlk
  refine congrArg₂ (· + ·) ?_ ?_
  · rw [eq_at2 (α := EReal) (m := 1536) (n := 512) x5]
    show _ = at2 (α := EReal) x5 ((BitVec.toNat (Scalar.indexCast (Scalar.muli (Scf.iv 0#32 1#32 k.val) 512#32))) + 1 * r.val) (0 + 1 * l.val)
    rw [Nat.one_mul, Nat.one_mul, Nat.zero_add]
  · show _ = lin 7168 896 _ _ _ _ _ ((BitVec.toNat (Scalar.indexCast (Scalar.muli (Scf.iv 0#32 1#32 k.val) 512#32))) + 1 * r.val) (0 + 1 * l.val)
    rw [Nat.one_mul, Nat.one_mul, Nat.zero_add]
    rfl

/-- So is every store of the loop before trip `n`. -/
theorem pb_out (c : Dev nD) (i : grid0.Coords) (arg1 : Memref sig .tc .vmem S1536x7168 .fp8e4m3) (harg1 : arg1.IsWhole) (arg2 : Memref sig .tc .vmem S1536x1 .f32) (harg2 : arg2.IsWhole) (arg3 : Memref sig .tc .vmem S896x512 .i32) (harg3 : arg3.IsWhole) (arg4 : Memref sig .tc .vmem S56x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S1536x512 .bf16) (harg7 : arg7.IsWhole) (arg8 : Memref sig .tc .vmem S7168x512 .bf16) (harg8 : arg8.IsWhole) (arg9 : Memref sig .tc .vmem S56x512 .f32) (harg9 : arg9.IsWhole)
    (x0 : Vec Ideal S1536x7168 .fp8e4m3) (x1 : Vec Ideal S1536x1 .f32) (x2 : Vec Ideal S896x512 .i32) (x3 : Vec Ideal S56x512 .fp8e4m3) (x4 : Vec Ideal S1x512 .f32) (x5 : Vec Ideal S1536x512 .f32) (XW : BufTy.Contents (Elt Ideal) arg8.view.ty)
    (hW : arg8.view.read (Elt Ideal) XW = wts (K := 7168) x2 x3) : ∀ n : ℕ,
    ∀ p ∈ pb_k0_t2 (F := Ideal) Variants.none c none i arg1 harg1 arg2 harg2 arg3 harg3 arg4 harg4 arg5 harg5 arg6 harg6 arg7 harg7 arg8 harg8 arg9 harg9 (harg1.unread x0) (harg2.unread x1) (harg5.unread x4) (harg6.unread x5) XW n,
      ∀ q : p.1.shape.Idx, p.2 q = outBlk x0 x1 x2 x3 x4 x5 (p.1.emb q)
  | 0, p, hp, q => absurd hp List.not_mem_nil
  | n + 1, p, hp, q => by
    rw [pb_k0_t2.eq_2] at hp
    unfold pb_k0_t2Step at hp
    split at hp
    · rcases List.mem_append.mp hp with hp | hp
      · exact trip_out c i arg1 harg1 arg2 harg2 arg3 harg3 arg4 harg4 arg5 harg5 arg6 harg6 arg7 harg7 arg8 harg8 arg9 harg9 x0 x1 x2 x3 x4 x5 XW hW _ p hp q
      · exact pb_out c i arg1 harg1 arg2 harg2 arg3 harg3 arg4 harg4 arg5 harg5 arg6 harg6 arg7 harg7 arg8 harg8 arg9 harg9 x0 x1 x2 x3 x4 x5 XW hW n p hp q
    · exact pb_out c i arg1 harg1 arg2 harg2 arg3 harg3 arg4 harg4 arg5 harg5 arg6 harg6 arg7 harg7 arg8 harg8 arg9 harg9 x0 x1 x2 x3 x4 x5 XW hW n p hp q

/-- The output block after the body. -/
theorem out_read (c : Dev nD) (i : grid0.Coords) (arg1 : Memref sig .tc .vmem S1536x7168 .fp8e4m3) (harg1 : arg1.IsWhole) (arg2 : Memref sig .tc .vmem S1536x1 .f32) (harg2 : arg2.IsWhole) (arg3 : Memref sig .tc .vmem S896x512 .i32) (harg3 : arg3.IsWhole) (arg4 : Memref sig .tc .vmem S56x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S1536x512 .bf16) (harg7 : arg7.IsWhole) (arg8 : Memref sig .tc .vmem S7168x512 .bf16) (harg8 : arg8.IsWhole) (arg9 : Memref sig .tc .vmem S56x512 .f32) (harg9 : arg9.IsWhole)
    (x0 : Vec Ideal S1536x7168 .fp8e4m3) (x1 : Vec Ideal S1536x1 .f32) (x2 : Vec Ideal S896x512 .i32) (x3 : Vec Ideal S56x512 .fp8e4m3) (x4 : Vec Ideal S1x512 .f32) (x5 : Vec Ideal S1536x512 .f32) :
    out0_A_6 (F := Ideal) c i arg1 harg1 arg2 harg2 arg3 harg3 arg4 harg4 arg5 harg5 arg6 harg6 arg7 harg7 arg8 harg8 arg9 harg9 x0 x1 x2 x3 x4 x5 = outBlk x0 x1 x2 x3 x4 x5 := by
  funext y
  refine View.read_writes_apply_of_pieces _ _ (outBlk x0 x1 x2 x3 x4 x5) _ (fun p hp q => ?_) y (cover0_A_6 c i arg1 harg1 arg2 harg2 arg3 harg3 arg4 harg4 arg5 harg5 arg6 harg6 arg7 harg7 arg8 harg8 arg9 harg9 x0 x1 x2 x3 x4 x5 y)
  unfold outPieces at hp
  exact pb_out c i arg1 harg1 arg2 harg2 arg3 harg3 arg4 harg4 arg5 harg5 arg6 harg6 arg7 harg7 arg8 harg8 arg9 harg9 x0 x1 x2 x3 x4 x5 _ (weights_read c i arg1 harg1 arg2 harg2 arg3 harg3 arg4 harg4 arg5 harg5 arg6 harg6 arg7 harg7 arg8 harg8 arg9 harg9 x0 x1 x2 x3 x4 x5 _) _ p hp q

end Cert.DownIdeal.RefValue

end
-- ==== Proof.DownIdealFinal.lean ====
/-
  The array that `DownIdeal` leaves: at every element the layer of the argument arrays, added to the residual.
-/
module

public import proofs.«01_k».proof.Proof.DownIdealOut
public import Idealize.ShloMosaic.Lib.Claim
public import Idealize.ShloMosaic.Lib.Pipeline.ValueKit

@[expose] public section

noncomputable section

namespace Cert.DownIdeal.RefValue

open Cert.DownIdeal Cert.DownIdeal.Gen Cert.DownIdeal.Value Cert.W4
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Where each window's block stands at a grid point. -/
theorem idx : ∀ t : Fin cfg0.N, win0_0.index t = ![0, 0] ∧ win0_1.index t = ![0, 0] ∧ win0_2.index t = ![0, t.val] ∧ win0_3.index t = ![0, t.val] ∧ win0_4.index t = ![0, t.val] ∧ win0_5.index t = ![0, t.val] ∧ win0_6.index t = ![0, t.val] := by
  decide +kernel

/-- The activations come whole. -/
theorem iblk0 (c : Dev nD) (t : Fin cfg0.N) (i j : ℕ) (hi : i < 1536) (hj : j < 7168) :
    at2 (α := EReal) (m := 1536) (n := 7168) (iblk m c 0 t) i j
      = at2 (α := EReal) (m := 1536) (n := 7168) (m ((c.tc : Thread nD τ).loc main_arg0)) i j := by
  have ht : t.val < 16 := t.isLt
  rw [at2_of _ hi hj, at2_of _ hi (by omega)]
  blk_ext [iblk, V, idx t]

/-- The row scales come whole. -/
theorem iblk1 (c : Dev nD) (t : Fin cfg0.N) (i j : ℕ) (hi : i < 1536) (hj : j < 1) :
    at2 (α := EReal) (m := 1536) (n := 1) (iblk m c 1 t) i j
      = at2 (α := EReal) (m := 1536) (n := 1) (m ((c.tc : Thread nD τ).loc main_arg1)) i j := by
  have ht : t.val < 16 := t.isLt
  rw [at2_of _ hi hj, at2_of _ hi (by omega)]
  blk_ext [iblk, V, idx t]

/-- The word block. -/
theorem iblk2 (c : Dev nD) (t : Fin cfg0.N) (i j : ℕ) (hi : i < 896) (hj : j < 512) :
    at2 (α := BitVec 32) (m := 896) (n := 512) (iblk m c 2 t) i j
      = at2 (α := BitVec 32) (m := 896) (n := 8192) (m ((c.tc : Thread nD τ).loc main_arg2)) i (512 * t.val + j) := by
  have ht : t.val < 16 := t.isLt
  rw [at2_of _ hi hj, at2_of _ hi (by omega)]
  blk_ext [iblk, V, idx t]

/-- The group scales. -/
theorem iblk3 (c : Dev nD) (t : Fin cfg0.N) (i j : ℕ) (hi : i < 56) (hj : j < 512) :
    at2 (α := EReal) (m := 56) (n := 512) (iblk m c 3 t) i j
      = at2 (α := EReal) (m := 56) (n := 8192) (m ((c.tc : Thread nD τ).loc main_arg3)) i (512 * t.val + j) := by
  have ht : t.val < 16 := t.isLt
  rw [at2_of _ hi hj, at2_of _ hi (by omega)]
  blk_ext [iblk, V, idx t]

/-- The column scales. -/
theorem iblk4 (c : Dev nD) (t : Fin cfg0.N) (j : ℕ) (hj : j < 512) :
    at2 (α := EReal) (m := 1) (n := 512) (iblk m c 4 t) 0 j
      = at1 (α := EReal) (n := 8192) (m ((c.tc : Thread nD τ).loc main_arg4)) (512 * t.val + j) := by
  have ht : t.val < 16 := t.isLt
  rw [at2_of _ (by omega) hj, at1_of _ (by omega)]
  blk_ext! [iblk, idx t]

/-- The residual block. -/
theorem iblk5 (c : Dev nD) (t : Fin cfg0.N) (i j : ℕ) (hi : i < 1536) (hj : j < 512) :
    at2 (α := EReal) (m := 1536) (n := 512) (iblk m c 5 t) i j
      = at2 (α := EReal) (m := 1536) (n := 8192) (m ((c.tc : Thread nD τ).loc main_arg5)) i (512 * t.val + j) := by
  have ht : t.val < 16 := t.isLt
  rw [at2_of _ hi hj, at2_of _ hi (by omega)]
  blk_ext [iblk, V, idx t]

/-- The array the kernel leaves. -/
theorem result (c : Dev nD) :
    (dats m 0 c).arrAt 6 cfg0.N
      = fun y : S1536x8192.Idx => at2 (α := EReal) (m := 1536) (n := 8192) (m ((c.tc : Thread nD τ).loc main_arg5)) (y 0).val (y 1).val + layer (k8 := 896) (T := 1536) (K := 7168) (kg := 56) (N := 8192)
          (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (y 0).val (y 1).val := by
  refine (dats m 0 c).arrAt_eq_of_covers 6 _ (by decide +kernel) fun t hf y => ?_
  have ht : t.val < 16 := t.isLt
  refine (congrFun (flushed6_A m c t) y).trans ?_
  rw [out_read]
  have h0 : (y 0).val < 1536 := (y 0).isLt
  have h1 : (y 1).val < 512 := (y 1).isLt
  have e0 : (((cfg0.win 6).blk t).view.emb y 0).val = (y 0).val := by blk_simp [idx t]
  have e1 : (((cfg0.win 6).blk t).view.emb y 1).val = 512 * t.val + (y 1).val := by blk_simp [idx t]; omega
  rw [e0, e1]
  show outBlk _ _ _ _ _ _ y = _
  unfold outBlk layerBlk layer
  refine congrArg₂ (· + ·) ?_ ?_
  · rw [eq_at2 (α := EReal) (m := 1536) (n := 512) (iblk m c 5 t) y]
    exact iblk5 m c t _ _ h0 h1
  · exact lin_congr (by omega) (fun k hk => iblk0 m c t _ _ h0 hk) (iblk1 m c t _ _ h0 (by omega))
      (fun k hk => iblk2 m c t _ _ hk h1) (fun k hk => iblk3 m c t _ _ (by omega) h1) (iblk4 m c t _ h1)

end Cert.DownIdeal.RefValue

end
-- ==== Proof.DownRefIdealOut.lean ====
/-
  The array that the reference leaves: at every element the layer of the argument arrays, added to the residual.
-/
module

public import proofs.«01_k».proof.Proof.Gen.DownRefIdeal.Value
public import proofs.«01_k».proof.Proof.RefCode
public import proofs.«01_k».proof.Proof.LinBlock
public import Idealize.ShloMosaic.Lib.Claim
public import Idealize.ShloMosaic.Lib.Pipeline.ValueKit

@[expose] public section

noncomputable section

namespace Cert.DownRefIdeal.RefValue

open Cert.DownRefIdeal Cert.DownRefIdeal.Gen Cert.DownRefIdeal.Value Cert.W4
open Idealize.ShloMosaic Idealize.ShloMosaic.TcCoe Idealize.SL.Sem

set_option maxHeartbeats 1000000 in
/-- The body's last value at an element. -/
theorem k0_pay1_at (v0 v1 v3 v5 v37 v43 v49 v55 v61 v67 v73 v79 v99) (r : Fin 1536) (l : Fin 8192) :
    k0_pay1 (F := Ideal) v0 v1 v3 v5 v37 v43 v49 v55 v61 v67 v73 v79 v99 (ix2 r l)
      = at2 (α := EReal) (m := 1536) (n := 8192) v99 r.val l.val + refLin 7168 896 (at2 (α := EReal) (m := 1536) (n := 7168) v0) (fun t => at2 (α := EReal) (m := 1536) (n := 1) v1 t 0)
          (stack8 896 (at2 v43) (at2 v49) (at2 v55) (at2 v61) (at2 v67) (at2 v73) (at2 v79) (fun i n => trunc8 (at2 v37 i n)))
          (at2 (α := EReal) (m := 56) (n := 8192) v3) (fun n => at2 (α := EReal) (m := 1) (n := 8192) v5 0 n) r.val l.val := by
  pointwise [k0_pay1]
  refine congrArg₂ (· + ·) (ix2_at2 (α := EReal) (m := 1536) (n := 8192) v99 r l) ?_
  unfold refLin
  refine congrArg₂ (· * ·) (congrArg₂ (· * ·) (Finset.sum_congr rfl fun k _ => ?_) (ix2_at2 (α := EReal) (m := 1536) (n := 1) v1 r 0))
    (ix2_at2 (α := EReal) (m := 1) (n := 8192) v5 0 _)
  rw [ix2_at2 (α := EReal) (m := 1536) (n := 7168) v0 r k, ix2_at2 (α := EReal) (m := 56) (n := 8192) v3]
  refine congrArg (_ * ·) (congrArg (· * _) (congrArg _ ?_))
  unfold stack8
  refine dite_ite (fun _ => ix2_at2 v43 _ _) fun _ => dite_ite (fun _ => ix2_at2 v49 _ _) fun _ =>
    dite_ite (fun _ => ix2_at2 v55 _ _) fun _ => dite_ite (fun _ => ix2_at2 v61 _ _) fun _ =>
    dite_ite (fun _ => ix2_at2 v67 _ _) fun _ => dite_ite (fun _ => ix2_at2 v73 _ _) fun _ =>
    dite_ite (fun _ => ix2_at2 v79 _ _) fun _ => congrArg trunc8 (ix2_at2 v37 _ _)

/-- The eight fields of a word, as the body cuts them out. -/
theorem fields_at (v2 : Vec Ideal S896x8192 .i32) (i j : ℕ) (hi : i < 896) (hj : j < 8192) :
    at2 (α := BitVec 8) (k0_pay12 (k0_pay3 (F := Ideal) v2)) i j = code8 (at2 (α := BitVec 32) (m := 896) (n := 8192) v2 i j) 0#32 ∧
    at2 (α := BitVec 8) (k0_pay13 (k0_pay4 (F := Ideal) v2)) i j = code8 (at2 (α := BitVec 32) (m := 896) (n := 8192) v2 i j) 4#32 ∧
    at2 (α := BitVec 8) (k0_pay14 (k0_pay5 (F := Ideal) v2)) i j = code8 (at2 (α := BitVec 32) (m := 896) (n := 8192) v2 i j) 8#32 ∧
    at2 (α := BitVec 8) (k0_pay15 (k0_pay6 (F := Ideal) v2)) i j = code8 (at2 (α := BitVec 32) (m := 896) (n := 8192) v2 i j) 12#32 ∧
    at2 (α := BitVec 8) (k0_pay16 (k0_pay7 (F := Ideal) v2)) i j = code8 (at2 (α := BitVec 32) (m := 896) (n := 8192) v2 i j) 16#32 ∧
    at2 (α := BitVec 8) (k0_pay17 (k0_pay8 (F := Ideal) v2)) i j = code8 (at2 (α := BitVec 32) (m := 896) (n := 8192) v2 i j) 20#32 ∧
    at2 (α := BitVec 8) (k0_pay18 (k0_pay9 (F := Ideal) v2)) i j = code8 (at2 (α := BitVec 32) (m := 896) (n := 8192) v2 i j) 24#32 ∧
    at2 (α := BitVec 32) (k0_pay11 v2 k0_pay10) i j
      = IntOp.andi (IntOp.shrsi ArithUnit.vector (at2 (α := BitVec 32) (m := 896) (n := 8192) v2 i j) 28#32) 15#32 := by
  refine ⟨?_, ?_, ?_, ?_, ?_, ?_, ?_, ?_⟩ <;> rw [at2_of _ hi hj, at2_of _ hi hj] <;> (try unfold code8 trunc8) <;>
    pointwise [k0_pay3, k0_pay4, k0_pay5, k0_pay6, k0_pay7, k0_pay8, k0_pay9, k0_pay10, k0_pay11, k0_pay12, k0_pay13, k0_pay14, k0_pay15, k0_pay16, k0_pay17, k0_pay18]

/-- What the body leaves in its output, at an element. -/
theorem out_read (x0 x1 x2 x3 x4 x5) (y : S1536x8192.Idx) :
    out0_6 (F := Ideal) x0 x1 x2 x3 x4 x5 y
      = at2 (α := EReal) (m := 1536) (n := 8192) x5 (y 0).val (y 1).val + lin 7168 896 (at2 (α := EReal) (m := 1536) (n := 7168) x0) (fun t => at2 (α := EReal) (m := 1536) (n := 1) x1 t 0)
          (at2 (α := BitVec 32) (m := 896) (n := 8192) x2) (at2 (α := EReal) (m := 56) (n := 8192) x3)
          (fun n => at2 (α := EReal) (m := 1) (n := 8192) x4 0 n) (y 0).val (y 1).val := by
  have hy1 : (y 1).val < 8192 := (y 1).isLt
  unfold out0_6
  rw [View.canon_cons_unit_lit _ _ _ (by decide)]
  rw [eq_ix2 y]
  refine (k0_pay1_at _ _ _ _ _ _ _ _ _ _ _ _ _ (y 0) (y 1)).trans ?_
  have e0 : View.ld x0 r0_0 = x0 := View.ld_unit_lit _ _ (by decide)
  have e1 : View.ld x1 r0_1 = x1 := View.ld_unit_lit _ _ (by decide)
  have e2 : View.ld x2 r0_2 = x2 := View.ld_unit_lit _ _ (by decide)
  have e3 : View.ld x3 r0_3 = x3 := View.ld_unit_lit _ _ (by decide)
  have e5 : View.ld x5 r0_5 = x5 := View.ld_unit_lit _ _ (by decide)
  have e4 : k0_pay2 (View.ld x4 r0_4) = x4 := by
    rw [show View.ld x4 r0_4 = x4 from View.ld_unit_lit _ _ (by decide)]
    funext z
    pointwise [k0_pay2]
  rw [e0, e1, e2, e3, e4, e5]
  refine congrArg (_ + ·) (refLin_eq _ _ _ _ _ _ _ _ (stack8_eq (k8 := 896) _ _ _ _ _ _ _ _ _ _ ?_ ?_ ?_ ?_ ?_ ?_ ?_ ?_))
  · exact fun i hi => (fields_at x2 i _ hi hy1).1
  · exact fun i hi => (fields_at x2 i _ hi hy1).2.1
  · exact fun i hi => (fields_at x2 i _ hi hy1).2.2.1
  · exact fun i hi => (fields_at x2 i _ hi hy1).2.2.2.1
  · exact fun i hi => (fields_at x2 i _ hi hy1).2.2.2.2.1
  · exact fun i hi => (fields_at x2 i _ hi hy1).2.2.2.2.2.1
  · exact fun i hi => (fields_at x2 i _ hi hy1).2.2.2.2.2.2.1
  · exact fun i hi => congrArg trunc8 (fields_at x2 i _ hi hy1).2.2.2.2.2.2.2

/-- Where each window's block stands: at the origin. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] := by
  decide +kernel

variable (m : (ℓ : Loc nD τ sig) → Buf (Elt Ideal) ℓ)

/-- Argument 0 comes whole. -/
theorem iblk0 (c : Dev nD) (t : Fin cfg0.N) : iblk m c 0 t = m ((c.tc : Thread nD τ).loc main_arg0) := by
  funext z
  blk_ext [iblk, V, idx t]

/-- Argument 1 comes whole. -/
theorem iblk1 (c : Dev nD) (t : Fin cfg0.N) : iblk m c 1 t = m ((c.tc : Thread nD τ).loc main_arg1) := by
  funext z
  blk_ext [iblk, V, idx t]

/-- Argument 2 comes whole. -/
theorem iblk2 (c : Dev nD) (t : Fin cfg0.N) : iblk m c 2 t = m ((c.tc : Thread nD τ).loc main_arg2) := by
  funext z
  blk_ext [iblk, V, idx t]

/-- Argument 3 comes whole. -/
theorem iblk3 (c : Dev nD) (t : Fin cfg0.N) : iblk m c 3 t = m ((c.tc : Thread nD τ).loc main_arg3) := by
  funext z
  blk_ext [iblk, V, idx t]

/-- Argument 5 comes whole. -/
theorem iblk5 (c : Dev nD) (t : Fin cfg0.N) : iblk m c 5 t = m ((c.tc : Thread nD τ).loc main_arg5) := by
  funext z
  blk_ext [iblk, V, idx t]

/-- The column scales come whole, as one row. -/
theorem iblk4 (c : Dev nD) (t : Fin cfg0.N) (j : ℕ) (hj : j < 8192) :
    at2 (α := EReal) (m := 1) (n := 8192) (iblk m c 4 t) 0 j
      = at1 (α := EReal) (n := 8192) (m ((c.tc : Thread nD τ).loc main_arg4)) j := by
  rw [at2_of _ (by omega) hj, at1_of _ (by omega)]
  blk_ext! [iblk, idx t]

/-- The array the reference leaves. -/
theorem result (c : Dev nD) :
    (dats m 0 c).arrAt 6 cfg0.N
      = fun y : S1536x8192.Idx => at2 (α := EReal) (m := 1536) (n := 8192) (m ((c.tc : Thread nD τ).loc main_arg5)) (y 0).val (y 1).val + layer (k8 := 896) (T := 1536) (K := 7168) (kg := 56) (N := 8192)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (y 0).val (y 1).val := by
  refine (dats m 0 c).arrAt_eq_of_covers 6 _ (by decide +kernel) fun t hf y => ?_
  refine (congrFun (flushed6 m c t) y).trans ?_
  have h0 : (y 0).val < 1536 := (y 0).isLt
  have h1 : (y 1).val < 8192 := (y 1).isLt
  have e0 : (((cfg0.win 6).blk t).view.emb y 0).val = (y 0).val := by blk_simp [idx t]
  have e1 : (((cfg0.win 6).blk t).view.emb y 1).val = (y 1).val := by blk_simp [idx t]
  rw [e0, e1]
  refine (out_read _ _ _ _ _ _ y).trans ?_
  unfold layer
  rw [iblk0, iblk1, iblk2, iblk3, iblk5]
  refine congrArg (_ + ·) ?_
  exact lin_congr (by omega) (fun k hk => rfl) rfl (fun k hk => rfl) (fun k hk => rfl) (iblk4 m c t _ h1)

end Cert.DownRefIdeal.RefValue

end
-- ==== Proof.DownClaim.lean ====
/-
  The gate-up layer: the kernel and the reference leave the same array.
-/
module

public import proofs.«01_k».proof.Defs
public import proofs.«01_k».proof.Proof.DownIdealFinal
public import proofs.«01_k».proof.Proof.DownRefIdealOut

@[expose] public section

noncomputable section

namespace Cert.DownClaim

open Idealize.ShloMosaic Idealize.SL.Sem

/-- From memories that agree on the arguments, kernel and reference both run, end with one result and keep their
    arguments. -/
theorem algebraic : Cert.algebraic_DownIdeal_DownRefIdeal (hDownIdeal := Cert.DownIdeal.Gen.facts)
    (hDownRefIdeal := Cert.DownRefIdeal.Gen.facts) := by
  intro m ρ m' ρ' _ hagree
  refine ⟨fun c => _, Cert.DownIdeal.Value.run_blocks m ρ, ?_⟩
  refine (θ_run _ _ _).mono (fun _ h c => ⟨(h c).1.trans ?_, (h c).2⟩) (Cert.DownRefIdeal.Value.run_blocks m' ρ')
  obtain ⟨h0, h1, h2, h3, h4, h5⟩ := hagree c
  refine (Cert.DownRefIdeal.RefValue.result m' c).trans (Eq.trans ?_ (Cert.DownIdeal.RefValue.result m c).symm)
  funext y
  rw [h0, h1, h2, h3, h4, h5]

end Cert.DownClaim

end
-- ==== Proof.OProjIdealRun.lean ====
/-
  The run of `OProjIdeal`'s kernel at one grid point. The matmul loop reads the dequantised weights from a scratch buffer
  that the two loops before it fill whole, so what it stores does not depend on what that buffer held before: the
  pieces are named here over junk, and the body's triple is proved for any prior contents.
-/
module

public import proofs.«01_k».proof.Proof.Gen.OProjIdeal.Frame.Runs

@[expose] public section

-- membership in a rectangle of production extents (`View.cover_of_tiled`): the elaborator's structural look
-- recurses once per coordinate of the long axes
set_option maxRecDepth 16384

noncomputable section

namespace Cert.OProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One trip of the matmul loop depends on the weight scratch only through what is read from it. -/
theorem trip_k0_t2_congr (c : Dev nD) (i : grid0.Coords) (arg1 : Memref sig .tc .vmem S1536x2048 .fp8e4m3) (harg1 : arg1.IsWhole) (arg2 : Memref sig .tc .vmem S1536x1 .f32) (harg2 : arg2.IsWhole) (arg3 : Memref sig .tc .vmem S256x512 .i32) (harg3 : arg3.IsWhole) (arg4 : Memref sig .tc .vmem S16x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .f32) (harg7 : arg7.IsWhole) (arg8 : Memref sig .tc .vmem S2048x512 .bf16) (harg8 : arg8.IsWhole) (arg9 : Memref sig .tc .vmem S16x512 .f32) (harg9 : arg9.IsWhole) (X_arg1 : BufTy.Contents (Elt F) arg1.view.ty) (X_arg2 : BufTy.Contents (Elt F) arg2.view.ty) (X_arg5 : BufTy.Contents (Elt F) arg5.view.ty) (X_arg6 : BufTy.Contents (Elt F) arg6.view.ty) (f f' : BufTy.Contents (Elt F) arg8.view.ty)
    (h : arg8.view.read (Elt F) f = arg8.view.read (Elt F) f') (k : Fin k0_t2_loop.trips) :
    tripL_k0_t2 (F := F) Variants.none c none i arg1 harg1 arg2 harg2 arg3 harg3 arg4 harg4 arg5 harg5 arg6 harg6 arg7 harg7 arg8 harg8 arg9 harg9 X_arg1 X_arg2 X_arg5 X_arg6 f k = tripL_k0_t2 (F := F) Variants.none c none i arg1 harg1 arg2 harg2 arg3 harg3 arg4 harg4 arg5 harg5 arg6 harg6 arg7 harg7 arg8 harg8 arg9 harg9 X_arg1 X_arg2 X_arg5 X_arg6 f' k := by
  unfold tripL_k0_t2 trip_k0_t2
  sl_unfold_words
  dsimp only
  simp only [View.readAt_eq_ld _ f, View.readAt_eq_ld _ f', h]

/-- So do the pieces of the trips before `n`. -/
theorem pb_k0_t2_congr (c : Dev nD) (i : grid0.Coords) (arg1 : Memref sig .tc .vmem S1536x2048 .fp8e4m3) (harg1 : arg1.IsWhole) (arg2 : Memref sig .tc .vmem S1536x1 .f32) (harg2 : arg2.IsWhole) (arg3 : Memref sig .tc .vmem S256x512 .i32) (harg3 : arg3.IsWhole) (arg4 : Memref sig .tc .vmem S16x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .f32) (harg7 : arg7.IsWhole) (arg8 : Memref sig .tc .vmem S2048x512 .bf16) (harg8 : arg8.IsWhole) (arg9 : Memref sig .tc .vmem S16x512 .f32) (harg9 : arg9.IsWhole) (X_arg1 : BufTy.Contents (Elt F) arg1.view.ty) (X_arg2 : BufTy.Contents (Elt F) arg2.view.ty) (X_arg5 : BufTy.Contents (Elt F) arg5.view.ty) (X_arg6 : BufTy.Contents (Elt F) arg6.view.ty) (f f' : BufTy.Contents (Elt F) arg8.view.ty)
    (h : arg8.view.read (Elt F) f = arg8.view.read (Elt F) f') : ∀ n : ℕ,
    pb_k0_t2 (F := F) Variants.none c none i arg1 harg1 arg2 harg2 arg3 harg3 arg4 harg4 arg5 harg5 arg6 harg6 arg7 harg7 arg8 harg8 arg9 harg9 X_arg1 X_arg2 X_arg5 X_arg6 f n = pb_k0_t2 (F := F) Variants.none c none i arg1 harg1 arg2 harg2 arg3 harg3 arg4 harg4 arg5 harg5 arg6 harg6 arg7 harg7 arg8 harg8 arg9 harg9 X_arg1 X_arg2 X_arg5 X_arg6 f' n
  | 0 => rfl
  | n + 1 => by
    rw [pb_k0_t2.eq_2, pb_k0_t2.eq_2, pb_k0_t2_congr c i arg1 harg1 arg2 harg2 arg3 harg3 arg4 harg4 arg5 harg5 arg6 harg6 arg7 harg7 arg8 harg8 arg9 harg9 X_arg1 X_arg2 X_arg5 X_arg6 f f' h n]
    unfold pb_k0_t2Step
    split
    · rw [trip_k0_t2_congr c i arg1 harg1 arg2 harg2 arg3 harg3 arg4 harg4 arg5 harg5 arg6 harg6 arg7 harg7 arg8 harg8 arg9 harg9 X_arg1 X_arg2 X_arg5 X_arg6 f f' h]
    · rfl

/-- Over stores that fill the weight scratch, what it held before does not matter. -/
theorem pb_k0_t2_writes (c : Dev nD) (i : grid0.Coords) (arg1 : Memref sig .tc .vmem S1536x2048 .fp8e4m3) (harg1 : arg1.IsWhole) (arg2 : Memref sig .tc .vmem S1536x1 .f32) (harg2 : arg2.IsWhole) (arg3 : Memref sig .tc .vmem S256x512 .i32) (harg3 : arg3.IsWhole) (arg4 : Memref sig .tc .vmem S16x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .f32) (harg7 : arg7.IsWhole) (arg8 : Memref sig .tc .vmem S2048x512 .bf16) (harg8 : arg8.IsWhole) (arg9 : Memref sig .tc .vmem S16x512 .f32) (harg9 : arg9.IsWhole) (X_arg1 : BufTy.Contents (Elt F) arg1.view.ty) (X_arg2 : BufTy.Contents (Elt F) arg2.view.ty) (X_arg5 : BufTy.Contents (Elt F) arg5.view.ty) (X_arg6 : BufTy.Contents (Elt F) arg6.view.ty) (f : BufTy.Contents (Elt F) arg8.view.ty)
    (L : List (View.Piece (Elt F) S2048x512 .bf16)) (h : ∀ y, ∃ p ∈ L, y ∈ p.1.set) (n : ℕ) :
    pb_k0_t2 (F := F) Variants.none c none i arg1 harg1 arg2 harg2 arg3 harg3 arg4 harg4 arg5 harg5 arg6 harg6 arg7 harg7 arg8 harg8 arg9 harg9 X_arg1 X_arg2 X_arg5 X_arg6 (arg8.view.writes (Elt F) f L) n
      = pb_k0_t2 (F := F) Variants.none c none i arg1 harg1 arg2 harg2 arg3 harg3 arg4 harg4 arg5 harg5 arg6 harg6 arg7 harg7 arg8 harg8 arg9 harg9 X_arg1 X_arg2 X_arg5 X_arg6 (arg8.view.writes (Elt F) arg8.view.junk L) n :=
  pb_k0_t2_congr c i arg1 harg1 arg2 harg2 arg3 harg3 arg4 harg4 arg5 harg5 arg6 harg6 arg7 harg7 arg8 harg8 arg9 harg9 X_arg1 X_arg2 X_arg5 X_arg6 _ _ (View.read_writes_of_cover _ _ _ _ L h) n

/-- The stores of the dequantising loops into the weight scratch, last first. -/
def weightPieces (c : Dev nD) (i : grid0.Coords) (arg1 : Memref sig .tc .vmem S1536x2048 .fp8e4m3) (harg1 : arg1.IsWhole) (arg2 : Memref sig .tc .vmem S1536x1 .f32) (harg2 : arg2.IsWhole) (arg3 : Memref sig .tc .vmem S256x512 .i32) (harg3 : arg3.IsWhole) (arg4 : Memref sig .tc .vmem S16x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .f32) (harg7 : arg7.IsWhole) (arg8 : Memref sig .tc .vmem S2048x512 .bf16) (harg8 : arg8.IsWhole) (arg9 : Memref sig .tc .vmem S16x512 .f32) (harg9 : arg9.IsWhole)
    (x0 : Vec F S1536x2048 .fp8e4m3) (x1 : Vec F S1536x1 .f32) (x2 : Vec F S256x512 .i32) (x3 : Vec F S16x512 .fp8e4m3) (x4 : Vec F S1x512 .f32) (x5 : Vec F S1536x512 .bf16) : List (View.Piece (Elt F) S2048x512 .bf16) :=
  pb_k0_t1 (F := F) Variants.none c none i arg1 harg1 arg2 harg2 arg3 harg3 arg4 harg4 arg5 harg5 arg6 harg6 arg7 harg7 arg8 harg8 arg9 harg9 (harg3.unread x2) (arg9.view.writes (Elt F) arg9.view.junk [⟨Rect.unit ![0, 0] S16x512.size inb_S16x512_S16x512_0_0, k0_pay1 (arg4.view.readAt (Elt F) (Rect.unit ![0, 0] S16x512.size inb_S16x512_S16x512_0_0).toLoadRect (harg4.unread x3))⟩]) (Scf.trips k0_t1_loop.lb k0_t1_loop.ub k0_t1_loop.st)

/-- They fill it. -/
theorem weightPieces_cover (c : Dev nD) (i : grid0.Coords) (arg1 : Memref sig .tc .vmem S1536x2048 .fp8e4m3) (harg1 : arg1.IsWhole) (arg2 : Memref sig .tc .vmem S1536x1 .f32) (harg2 : arg2.IsWhole) (arg3 : Memref sig .tc .vmem S256x512 .i32) (harg3 : arg3.IsWhole) (arg4 : Memref sig .tc .vmem S16x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .f32) (harg7 : arg7.IsWhole) (arg8 : Memref sig .tc .vmem S2048x512 .bf16) (harg8 : arg8.IsWhole) (arg9 : Memref sig .tc .vmem S16x512 .f32) (harg9 : arg9.IsWhole)
    (x0 : Vec F S1536x2048 .fp8e4m3) (x1 : Vec F S1536x1 .f32) (x2 : Vec F S256x512 .i32) (x3 : Vec F S16x512 .fp8e4m3) (x4 : Vec F S1x512 .f32) (x5 : Vec F S1536x512 .bf16) (y : S2048x512.Idx) :
    ∃ pc ∈ weightPieces c i arg1 harg1 arg2 harg2 arg3 harg3 arg4 harg4 arg5 harg5 arg6 harg6 arg7 harg7 arg8 harg8 arg9 harg9 x0 x1 x2 x3 x4 x5, y ∈ pc.1.set :=
  View.cover_of_tiledL (weightPieces c i arg1 harg1 arg2 harg2 arg3 harg3 arg4 harg4 arg5 harg5 arg6 harg6 arg7 harg7 arg8 harg8 arg9 harg9 x0 x1 x2 x3 x4 x5) S128x512.size (by sl_kernel_rfl) y

/-- The stores of the matmul loop into the output block, last first. -/
def outPieces (c : Dev nD) (i : grid0.Coords) (arg1 : Memref sig .tc .vmem S1536x2048 .fp8e4m3) (harg1 : arg1.IsWhole) (arg2 : Memref sig .tc .vmem S1536x1 .f32) (harg2 : arg2.IsWhole) (arg3 : Memref sig .tc .vmem S256x512 .i32) (harg3 : arg3.IsWhole) (arg4 : Memref sig .tc .vmem S16x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .f32) (harg7 : arg7.IsWhole) (arg8 : Memref sig .tc .vmem S2048x512 .bf16) (harg8 : arg8.IsWhole) (arg9 : Memref sig .tc .vmem S16x512 .f32) (harg9 : arg9.IsWhole)
    (x0 : Vec F S1536x2048 .fp8e4m3) (x1 : Vec F S1536x1 .f32) (x2 : Vec F S256x512 .i32) (x3 : Vec F S16x512 .fp8e4m3) (x4 : Vec F S1x512 .f32) (x5 : Vec F S1536x512 .bf16) : List (View.Piece (Elt F) S1536x512 .f32) :=
  pb_k0_t2 (F := F) Variants.none c none i arg1 harg1 arg2 harg2 arg3 harg3 arg4 harg4 arg5 harg5 arg6 harg6 arg7 harg7 arg8 harg8 arg9 harg9 (harg1.unread x0) (harg2.unread x1) (harg5.unread x4) (harg6.unread x5) (arg8.view.writes (Elt F) arg8.view.junk (weightPieces c i arg1 harg1 arg2 harg2 arg3 harg3 arg4 harg4 arg5 harg5 arg6 harg6 arg7 harg7 arg8 harg8 arg9 harg9 x0 x1 x2 x3 x4 x5)) (Scf.trips k0_t2_loop.lb k0_t2_loop.ub k0_t2_loop.st)

/-- The same stores, whatever the weight scratch held before the dequantising loops. -/
theorem outPieces_eq (c : Dev nD) (i : grid0.Coords) (arg1 : Memref sig .tc .vmem S1536x2048 .fp8e4m3) (harg1 : arg1.IsWhole) (arg2 : Memref sig .tc .vmem S1536x1 .f32) (harg2 : arg2.IsWhole) (arg3 : Memref sig .tc .vmem S256x512 .i32) (harg3 : arg3.IsWhole) (arg4 : Memref sig .tc .vmem S16x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .f32) (harg7 : arg7.IsWhole) (arg8 : Memref sig .tc .vmem S2048x512 .bf16) (harg8 : arg8.IsWhole) (arg9 : Memref sig .tc .vmem S16x512 .f32) (harg9 : arg9.IsWhole)
    (x0 : Vec F S1536x2048 .fp8e4m3) (x1 : Vec F S1536x1 .f32) (x2 : Vec F S256x512 .i32) (x3 : Vec F S16x512 .fp8e4m3) (x4 : Vec F S1x512 .f32) (x5 : Vec F S1536x512 .bf16) (f : BufTy.Contents (Elt F) arg8.view.ty) :
    pb_k0_t2 (F := F) Variants.none c none i arg1 harg1 arg2 harg2 arg3 harg3 arg4 harg4 arg5 harg5 arg6 harg6 arg7 harg7 arg8 harg8 arg9 harg9 (harg1.unread x0) (harg2.unread x1) (harg5.unread x4) (harg6.unread x5) (arg8.view.writes (Elt F) f (weightPieces c i arg1 harg1 arg2 harg2 arg3 harg3 arg4 harg4 arg5 harg5 arg6 harg6 arg7 harg7 arg8 harg8 arg9 harg9 x0 x1 x2 x3 x4 x5)) (Scf.trips k0_t2_loop.lb k0_t2_loop.ub k0_t2_loop.st)
      = outPieces c i arg1 harg1 arg2 harg2 arg3 harg3 arg4 harg4 arg5 harg5 arg6 harg6 arg7 harg7 arg8 harg8 arg9 harg9 x0 x1 x2 x3 x4 x5 :=
  pb_k0_t2_writes c i arg1 harg1 arg2 harg2 arg3 harg3 arg4 harg4 arg5 harg5 arg6 harg6 arg7 harg7 arg8 harg8 arg9 harg9 _ _ _ _ f _ (weightPieces_cover c i arg1 harg1 arg2 harg2 arg3 harg3 arg4 harg4 arg5 harg5 arg6 harg6 arg7 harg7 arg8 harg8 arg9 harg9 x0 x1 x2 x3 x4 x5) _

set_option maxHeartbeats 4000000 in
/-- On whole staging buffers the body runs and leaves the inputs as they were, the scratch at some contents, and the
    output block with `outPieces` written. -/
theorem kernelRun0_A (c : Dev nD) (i : grid0.Coords) (arg1 : Memref sig .tc .vmem S1536x2048 .fp8e4m3) (harg1 : arg1.IsWhole) (arg2 : Memref sig .tc .vmem S1536x1 .f32) (harg2 : arg2.IsWhole) (arg3 : Memref sig .tc .vmem S256x512 .i32) (harg3 : arg3.IsWhole) (arg4 : Memref sig .tc .vmem S16x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .f32) (harg7 : arg7.IsWhole) (arg8 : Memref sig .tc .vmem S2048x512 .bf16) (harg8 : arg8.IsWhole) (arg9 : Memref sig .tc .vmem S16x512 .f32) (harg9 : arg9.IsWhole)
    (x0 : Vec F S1536x2048 .fp8e4m3) (x1 : Vec F S1536x1 .f32) (x2 : Vec F S256x512 .i32) (x3 : Vec F S16x512 .fp8e4m3) (x4 : Vec F S1x512 .f32) (x5 : Vec F S1536x512 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f (outPieces c i arg1 harg1 arg2 harg2 arg3 harg3 arg4 harg4 arg5 harg5 arg6 harg6 arg7 harg7 arg8 harg8 arg9 harg9 x0 x1 x2 x3 x4 x5)) ∗ (∃ d, owns (c : Thread nD τ) arg8 fullShare d) ∗ (∃ d, owns (c : Thread nD τ) arg9 fullShare d)) -∗ K ⟨⟩))
          ⊢ wp frame (wpE (defs₀ (F := F)) Variants.none c none) E (cc0_o_proj i arg1 harg1 arg2 harg2 arg3 harg3 arg4 harg4 arg5 harg5 arg6 harg6 arg7 harg7 arg8 harg8 arg9 harg9) K := by
  intro E K
  simp only [cc0_o_proj_eq_skeleton]; unfold cc0_o_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists f6
    rw [← outPieces_eq c i arg1 harg1 arg2 harg2 arg3 harg3 arg4 harg4 arg5 harg5 arg6 harg6 arg7 harg7 arg8 harg8 arg9 harg9 x0 x1 x2 x3 x4 x5 fs0]
    iexact H6
  isplitl [HS0]
  · iexists _, _; isplitr; swap; · iexact HS0
    ipureintro; rfl
  iexists _, _; isplitr; swap; · iexact HS1
  ipureintro; rfl

end Cert.OProjIdeal.Gen

end
-- ==== Proof.OProjIdealFrame.lean ====
/-
  The frame of `OProjIdeal` over the run of `OProjIdealRun`: what the outputs hold point by point, the body obligation, the run.
-/
module

public import proofs.«01_k».proof.Proof.OProjIdealRun
public import Idealize.ShloMosaic.Lib.Claim

@[expose] public section

-- membership in a rectangle of production extents (`View.cover_of_tiled`): the elaborator's structural look
-- recurses once per coordinate of the long axes
set_option maxRecDepth 16384

noncomputable section

namespace Cert.OProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 6 tile its block (3 stores of `S512x512`, checked by the kernel's evaluation: Lib/Ring.lean `Piece.tiledL`, linear in the pieces, through a loop's `@[irreducible]` trip theorem too), so they cover it. -/
theorem cover0_A_6 (c : Dev nD) (i : grid0.Coords) (arg1 : Memref sig .tc .vmem S1536x2048 .fp8e4m3) (harg1 : arg1.IsWhole) (arg2 : Memref sig .tc .vmem S1536x1 .f32) (harg2 : arg2.IsWhole) (arg3 : Memref sig .tc .vmem S256x512 .i32) (harg3 : arg3.IsWhole) (arg4 : Memref sig .tc .vmem S16x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .f32) (harg7 : arg7.IsWhole) (arg8 : Memref sig .tc .vmem S2048x512 .bf16) (harg8 : arg8.IsWhole) (arg9 : Memref sig .tc .vmem S16x512 .f32) (harg9 : arg9.IsWhole)
    (x0 : Vec F S1536x2048 .fp8e4m3) (x1 : Vec F S1536x1 .f32) (x2 : Vec F S256x512 .i32) (x3 : Vec F S16x512 .fp8e4m3) (x4 : Vec F S1x512 .f32) (x5 : Vec F S1536x512 .bf16) (y : S1536x512.Idx) :
    ∃ pc ∈ (outPieces c i arg1 harg1 arg2 harg2 arg3 harg3 arg4 harg4 arg5 harg5 arg6 harg6 arg7 harg7 arg8 harg8 arg9 harg9 x0 x1 x2 x3 x4 x5), y ∈ pc.1.set :=
  View.cover_of_tiledL (outPieces c i arg1 harg1 arg2 harg2 arg3 harg3 arg4 harg4 arg5 harg5 arg6 harg6 arg7 harg7 arg8 harg8 arg9 harg9 x0 x1 x2 x3 x4 x5) S512x512.size (by sl_kernel_rfl) y

/-- What the run leaves in output 6's staging buffer: its pieces read back over junk. -/
def out0_A_6 (c : Dev nD) (i : grid0.Coords) (arg1 : Memref sig .tc .vmem S1536x2048 .fp8e4m3) (harg1 : arg1.IsWhole) (arg2 : Memref sig .tc .vmem S1536x1 .f32) (harg2 : arg2.IsWhole) (arg3 : Memref sig .tc .vmem S256x512 .i32) (harg3 : arg3.IsWhole) (arg4 : Memref sig .tc .vmem S16x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .f32) (harg7 : arg7.IsWhole) (arg8 : Memref sig .tc .vmem S2048x512 .bf16) (harg8 : arg8.IsWhole) (arg9 : Memref sig .tc .vmem S16x512 .f32) (harg9 : arg9.IsWhole)
    (x0 : Vec F S1536x2048 .fp8e4m3) (x1 : Vec F S1536x1 .f32) (x2 : Vec F S256x512 .i32) (x3 : Vec F S16x512 .fp8e4m3) (x4 : Vec F S1x512 .f32) (x5 : Vec F S1536x512 .bf16) : Vec F S1536x512 .f32 :=
  VO0_6.read (Elt F) (VO0_6.writes (Elt F) VO0_6.junk (outPieces c i arg1 harg1 arg2 harg2 arg3 harg3 arg4 harg4 arg5 harg5 arg6 harg6 arg7 harg7 arg8 harg8 arg9 harg9 x0 x1 x2 x3 x4 x5))

/-! ## What the outputs hold after each point -/

/-- What the outputs' staging buffers hold after the body at point `t`: the run's contents at
    the point's memrefs and input blocks. -/
def outsAt0 (c : Dev nD) (t : Fin cfg0.N) : Vec F S1536x512 .f32 :=
  out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t) (iblk m c 5 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt0
  unfold out0_A_6
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, ⟨%e6, H6⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover0_A_6 c _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_OProjIdeal`'s statement (Defs.lean) at any `F` — Proof.lean cites it at `Bits`:
    `theorem Cert.Proof.claim : Cert.Claim := ⟨Cert.OProjIdeal.Gen.facts, fun m ρ _ => Cert.OProjIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.OProjIdeal.Gen

end
-- ==== Proof.OProjFrame.lean ====
/-
  The gate-up call over the machine's words: its program has the text of its ideal program, whose run is proved for every
  reading of the floats.
-/
module

public import proofs.«01_k».proof.Defs
public import proofs.«01_k».proof.Proof.Gen.OProj
public import proofs.«01_k».proof.Proof.OProjIdealFrame

@[expose] public section

noncomputable section

namespace Cert.OProjFrame

open Idealize.ShloMosaic Idealize.SL.Sem

/-- The two programs have one text: their kernels' body tables are equal. -/
theorem defs₀_eq : Cert.OProj.defs₀ (F := Bits) = Cert.OProjIdeal.defs₀ (F := Bits) := by
  refine congrArg Defs.onTc ?_
  funext l x
  match l, x with
  | 0, _ => rfl
  | ⟨_ + 1, h⟩, _ => exact absurd h (Nat.not_lt.2 (Nat.le_add_left _ _))

/-- So are their whole body tables. -/
theorem defs_eq : Cert.OProj.defs (F := Bits) = Cert.OProjIdeal.defs (F := Bits) :=
  congrArg (Pipeline.defs Cert.OProjIdeal.pcfgs) defs₀_eq

/-- The program runs and keeps its arguments. -/
theorem frame : Cert.quiescent_OProj (hOProj := Cert.OProj.Gen.facts) := by
  intro m ρ _
  rw [defs_eq]
  exact Cert.OProjIdeal.Gen.frame (F := Bits) m ρ

end Cert.OProjFrame

end
-- ==== Proof.OProjIdealWeights.lean ====
/-
  The weight scratch of `OProjIdeal` after its dequantising loop: weight `(k, n)` of the block at row `k`, column `n`.
-/
module

public import proofs.«01_k».proof.Proof.OProjIdealRun
public import proofs.«01_k».proof.Proof.LinBlock

@[expose] public section

noncomputable section

namespace Cert.OProjIdeal.RefValue

open Cert.OProjIdeal Cert.OProjIdeal.Gen Cert.W4
open Idealize.ShloMosaic Idealize.ShloMosaic.TcCoe

/-- Field 0 of the words, times the scale. -/
theorem pay0_at (w : Vec Ideal S128x512 .i32) (g : Vec Ideal S1x512 .f32) (r : Fin 128) (l : Fin 512) :
    k0_pay4 (F := Ideal) w g (ix2 r l) = sgn4 (nib (w (ix2 r l)) 0) * g (ix2 0 l) := by
  pointwise [k0_pay4]
  exact congrArg (· * _) (weight_at _ _ _ _ (by decide) _ 0 (by decide) (by simp [trunci, BitVec.sshiftRight_zero]))

/-- Field 1 of the words, times the scale. -/
theorem pay1_at (w : Vec Ideal S128x512 .i32) (g : Vec Ideal S1x512 .f32) (r : Fin 128) (l : Fin 512) :
    k0_pay6 (F := Ideal) (k0_pay5 (F := Ideal) w g) (ix2 r l) = sgn4 (nib (w (ix2 r l)) 1) * g (ix2 0 l) := by
  pointwise [k0_pay6, k0_pay5]
  exact congrArg (· * _) (weight_at _ _ _ _ (by decide) _ 1 (by decide) rfl)

/-- Field 2 of the words, times the scale. -/
theorem pay2_at (w : Vec Ideal S128x512 .i32) (g : Vec Ideal S1x512 .f32) (r : Fin 128) (l : Fin 512) :
    k0_pay7 (F := Ideal) w g (ix2 r l) = sgn4 (nib (w (ix2 r l)) 2) * g (ix2 0 l) := by
  pointwise [k0_pay7]
  exact congrArg (· * _) (weight_at _ _ _ _ (by decide) _ 2 (by decide) rfl)

/-- Field 3 of the words, times the scale. -/
theorem pay3_at (w : Vec Ideal S128x512 .i32) (g : Vec Ideal S1x512 .f32) (r : Fin 128) (l : Fin 512) :
    k0_pay9 (F := Ideal) (k0_pay8 (F := Ideal) w) g (ix2 r l) = sgn4 (nib (w (ix2 r l)) 3) * g (ix2 0 l) := by
  pointwise [k0_pay9, k0_pay8]
  exact congrArg (· * _) (weight_at _ _ _ _ (by decide) _ 3 (by decide) rfl)

/-- Field 4 of the words, times the scale. -/
theorem pay4_at (w : Vec Ideal S128x512 .i32) (g : Vec Ideal S1x512 .f32) (r : Fin 128) (l : Fin 512) :
    k0_pay10 (F := Ideal) w g (ix2 r l) = sgn4 (nib (w (ix2 r l)) 4) * g (ix2 0 l) := by
  pointwise [k0_pay10]
  exact congrArg (· * _) (weight_at _ _ _ _ (by decide) _ 4 (by decide) rfl)

/-- Field 5 of the words, times the scale. -/
theorem pay5_at (w : Vec Ideal S128x512 .i32) (g : Vec Ideal S1x512 .f32) (r : Fin 128) (l : Fin 512) :
    k0_pay12 (F := Ideal) (k0_pay11 (F := Ideal) w) g (ix2 r l) = sgn4 (nib (w (ix2 r l)) 5) * g (ix2 0 l) := by
  pointwise [k0_pay12, k0_pay11]
  exact congrArg (· * _) (weight_at _ _ _ _ (by decide) _ 5 (by decide) rfl)

/-- Field 6 of the words, times the scale. -/
theorem pay6_at (w : Vec Ideal S128x512 .i32) (g : Vec Ideal S1x512 .f32) (r : Fin 128) (l : Fin 512) :
    k0_pay13 (F := Ideal) w g (ix2 r l) = sgn4 (nib (w (ix2 r l)) 6) * g (ix2 0 l) := by
  pointwise [k0_pay13]
  exact congrArg (· * _) (weight_at _ _ _ _ (by decide) _ 6 (by decide) rfl)

/-- Field 7 of the words, times the scale. -/
theorem pay7_at (w : Vec Ideal S128x512 .i32) (g : Vec Ideal S1x512 .f32) (r : Fin 128) (l : Fin 512) :
    k0_pay2 (F := Ideal) (k0_pay14 (F := Ideal) w) 983055#32 g (ix2 r l) = sgn4 (nib (w (ix2 r l)) 7) * g (ix2 0 l) := by
  pointwise [k0_pay2, k0_pay14]
  exact congrArg (· * _) (weight_at _ _ _ _ (by decide) _ 7 (by decide) rfl)

/-- The group scales, widened: themselves. -/
theorem k0_pay1_at (v : Vec Ideal S16x512 .fp8e4m3) (r : Fin 16) (l : Fin 512) :
    k0_pay1 (F := Ideal) v (ix2 r l) = v (ix2 r l) := by
  pointwise [k0_pay1]

/-- The row offset of chunk `k` of the words. -/
theorem off_word : ∀ k < 2, BitVec.toNat (Scalar.indexCast (Scalar.muli (Scf.iv 0#32 1#32 k) 128#32)) = 128 * k := by
  decide +kernel

/-- The scale row of chunk `k`, field `j`. -/
theorem off_scale : ∀ j < 8, ∀ k < 2, BitVec.toNat (Scalar.indexCast (Scalar.addi (BitVec.ofNat 32 (2 * j)) (Scf.iv 0#32 1#32 k)))
    = 2 * j + k := by
  decide +kernel

/-- The row of the weight scratch of chunk `k`, field `j`. -/
theorem off_row : ∀ j < 8, ∀ k < 2, BitVec.toNat (Scalar.indexCast
    (Scalar.addi (BitVec.ofNat 32 (256 * j)) (Scalar.muli (Scf.iv 0#32 1#32 k) 128#32))) = 256 * j + 128 * k := by
  decide +kernel

/-- The scale scratch as the dequantising loop finds it: the group scales. -/
theorem scales (c : Dev nD) (i : grid0.Coords) (arg1 : Memref sig .tc .vmem S1536x2048 .fp8e4m3) (harg1 : arg1.IsWhole) (arg2 : Memref sig .tc .vmem S1536x1 .f32) (harg2 : arg2.IsWhole) (arg3 : Memref sig .tc .vmem S256x512 .i32) (harg3 : arg3.IsWhole) (arg4 : Memref sig .tc .vmem S16x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .f32) (harg7 : arg7.IsWhole) (arg8 : Memref sig .tc .vmem S2048x512 .bf16) (harg8 : arg8.IsWhole) (arg9 : Memref sig .tc .vmem S16x512 .f32) (harg9 : arg9.IsWhole) (x3 : Vec Ideal S16x512 .fp8e4m3) :
    arg9.view.read (Elt Ideal) (arg9.view.writes (Elt Ideal) arg9.view.junk [⟨Rect.unit ![0, 0] S16x512.size inb_S16x512_S16x512_0_0, k0_pay1 (arg4.view.readAt (Elt Ideal) (Rect.unit ![0, 0] S16x512.size inb_S16x512_S16x512_0_0).toLoadRect (harg4.unread x3))⟩]) = x3 := by
  funext y
  obtain ⟨r, l, rfl⟩ : ∃ (r : Fin 16) (l : Fin 512), y = ix2 r l := ⟨y 0, y 1, eq_ix2 y⟩
  refine (View.read_writes_cons_hit_of_coords _ _ _ _ _ (ix2 r l) (ix2 r l) fun b => ?_).trans ?_
  · match b with
    | ⟨0, _⟩ => show r.val = 0 + 1 * r.val; omega
    | ⟨1, _⟩ => show l.val = 0 + 1 * l.val; omega
  · refine (k0_pay1_at _ r l).trans ?_
    rw [View.readAt_eq_ld, harg4.read_unread]
    exact congrFun (View.ld_unit_zero (S := S16x512) (by decide) _ x3) (ix2 r l)

/-- Every store of a trip of the dequantising loop is the block's weights where it lies. -/
theorem trip_weights (c : Dev nD) (i : grid0.Coords) (arg1 : Memref sig .tc .vmem S1536x2048 .fp8e4m3) (harg1 : arg1.IsWhole) (arg2 : Memref sig .tc .vmem S1536x1 .f32) (harg2 : arg2.IsWhole) (arg3 : Memref sig .tc .vmem S256x512 .i32) (harg3 : arg3.IsWhole) (arg4 : Memref sig .tc .vmem S16x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .f32) (harg7 : arg7.IsWhole) (arg8 : Memref sig .tc .vmem S2048x512 .bf16) (harg8 : arg8.IsWhole) (arg9 : Memref sig .tc .vmem S16x512 .f32) (harg9 : arg9.IsWhole)
    (x2 : Vec Ideal S256x512 .i32) (x3 : S16x512.Idx → EReal) (XG : BufTy.Contents (Elt Ideal) arg9.view.ty)
    (hG : arg9.view.read (Elt Ideal) XG = x3) (k : Fin k0_t1_loop.trips) :
    ∀ p ∈ tripL_k0_t1 (F := Ideal) Variants.none c none i arg1 harg1 arg2 harg2 arg3 harg3 arg4 harg4 arg5 harg5 arg6 harg6 arg7 harg7 arg8 harg8 arg9 harg9 (harg3.unread x2) XG k,
      ∀ q : p.1.shape.Idx, p.2 q = wts (K := 2048) x2 x3 (p.1.emb q) := by
  have hk : k.val < 2 := Nat.lt_of_lt_of_le k.isLt k0_t1_abs.2.1
  have hg : ∀ (o'' : ℕ) (h) (l : Fin 512), arg9.view.readAt (Elt Ideal)
      (Rect.unit (s := S16x512) ![o'', 0] ![1, 512] h).toLoadRect XG (ix2 0 l) = at2 x3 o'' l.val := fun o'' h l => by
    rw [View.readAt_eq_ld, hG]
    refine (ld_ix2 (Val := Elt Ideal) (e := .f32) x3 o'' 0 1 512 h 0 l).trans ?_
    rw [Nat.zero_add]; rfl
  unfold tripL_k0_t1 trip_k0_t1
  dsimp only
  sl_unfold_words
  dsimp only
  have hW : ∀ (h) (r : Fin 128) (l : Fin 512), arg3.view.readAt (Elt Ideal) (Rect.unit (s := S256x512)
      ![BitVec.toNat (Scalar.indexCast (Scalar.muli (Scf.iv 0#32 1#32 k.val) 128#32)), 0] ![128, 512] h).toLoadRect
      (harg3.unread x2) (ix2 r l) = at2 x2
        (BitVec.toNat (Scalar.indexCast (Scalar.muli (Scf.iv 0#32 1#32 k.val) 128#32)) + r.val) l.val := fun h r l => by
    rw [View.readAt_eq_ld, harg3.read_unread]
    refine (ld_ix2 (Val := Elt Ideal) (e := .i32) x2 _ 0 128 512 h r l).trans ?_
    rw [Nat.zero_add]
  have ho := off_word k.val hk
  have C : ∀ (j : ℕ) (P : S128x512.Idx → EReal) (R o'' : ℕ) (hR : R = 256 * j + 128 * k.val) (ho'' : o'' = 2 * j + k.val)
      (h1) (h2) (hP : ∀ r l, P (ix2 r l) = sgn4 (nib (arg3.view.readAt (Elt Ideal) (Rect.unit (s := S256x512)
        ![BitVec.toNat (Scalar.indexCast (Scalar.muli (Scf.iv 0#32 1#32 k.val) 128#32)), 0] ![128, 512] h1).toLoadRect
        (harg3.unread x2) (ix2 r l)) j) * arg9.view.readAt (Elt Ideal)
        (Rect.unit (s := S16x512) ![o'', 0] ![1, 512] h2).toLoadRect XG (ix2 0 l)) (h) (q : S128x512.Idx),
      P q = wts (K := 2048) x2 x3 ((Rect.unit (s := S2048x512) ![R, 0] ![128, 512] h).emb q) := fun j P R o'' hR ho'' h1 h2 hP h q =>
    wts_piece x2 x3 j R _ o'' P _ _ hP (hW _) (hg _ _) (by omega) (by omega) (by omega) h q
  have I : ∀ (j : ℕ) (hj : j < 8) (R : ℕ) (hR : R = 256 * j + 128 * k.val),
      ∀ a, ![R, 0] a + ![128, 512] a ≤ S2048x512.size a := fun j hj R hR a => match a with
    | ⟨0, _⟩ => by show R + 128 ≤ 2048; omega
    | ⟨1, _⟩ => by show 0 + 512 ≤ 512; omega
  intro p hp
  simp only [List.mem_cons, List.not_mem_nil, or_false] at hp
  rcases hp with rfl | rfl | rfl | rfl | rfl | rfl | rfl | rfl
  · exact C 7 _ _ _ (off_row 7 (by decide) k.val hk) (off_scale 7 (by decide) k.val hk) _ _ (pay7_at _ _)
      (I 7 (by decide) _ (off_row 7 (by decide) k.val hk))
  · exact C 6 _ _ _ (off_row 6 (by decide) k.val hk) (off_scale 6 (by decide) k.val hk) _ _ (pay6_at _ _)
      (I 6 (by decide) _ (off_row 6 (by decide) k.val hk))
  · exact C 5 _ _ _ (off_row 5 (by decide) k.val hk) (off_scale 5 (by decide) k.val hk) _ _ (pay5_at _ _)
      (I 5 (by decide) _ (off_row 5 (by decide) k.val hk))
  · exact C 4 _ _ _ (off_row 4 (by decide) k.val hk) (off_scale 4 (by decide) k.val hk) _ _ (pay4_at _ _)
      (I 4 (by decide) _ (off_row 4 (by decide) k.val hk))
  · exact C 3 _ _ _ (off_row 3 (by decide) k.val hk) (off_scale 3 (by decide) k.val hk) _ _ (pay3_at _ _)
      (I 3 (by decide) _ (off_row 3 (by decide) k.val hk))
  · exact C 2 _ _ _ (off_row 2 (by decide) k.val hk) (off_scale 2 (by decide) k.val hk) _ _ (pay2_at _ _)
      (I 2 (by decide) _ (off_row 2 (by decide) k.val hk))
  · exact C 1 _ _ _ (off_row 1 (by decide) k.val hk) (off_scale 1 (by decide) k.val hk) _ _ (pay1_at _ _)
      (I 1 (by decide) _ (off_row 1 (by decide) k.val hk))
  · exact C 0 _ _ _ (off_row 0 (by decide) k.val hk) (off_scale 0 (by decide) k.val hk) _ _ (pay0_at _ _)
      (I 0 (by decide) _ (off_row 0 (by decide) k.val hk))

/-- So is every store of the loop before trip `n`. -/
theorem pb_weights (c : Dev nD) (i : grid0.Coords) (arg1 : Memref sig .tc .vmem S1536x2048 .fp8e4m3) (harg1 : arg1.IsWhole) (arg2 : Memref sig .tc .vmem S1536x1 .f32) (harg2 : arg2.IsWhole) (arg3 : Memref sig .tc .vmem S256x512 .i32) (harg3 : arg3.IsWhole) (arg4 : Memref sig .tc .vmem S16x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .f32) (harg7 : arg7.IsWhole) (arg8 : Memref sig .tc .vmem S2048x512 .bf16) (harg8 : arg8.IsWhole) (arg9 : Memref sig .tc .vmem S16x512 .f32) (harg9 : arg9.IsWhole)
    (x2 : Vec Ideal S256x512 .i32) (x3 : S16x512.Idx → EReal) (XG : BufTy.Contents (Elt Ideal) arg9.view.ty)
    (hG : arg9.view.read (Elt Ideal) XG = x3) : ∀ n : ℕ,
    ∀ p ∈ pb_k0_t1 (F := Ideal) Variants.none c none i arg1 harg1 arg2 harg2 arg3 harg3 arg4 harg4 arg5 harg5 arg6 harg6 arg7 harg7 arg8 harg8 arg9 harg9 (harg3.unread x2) XG n,
      ∀ q : p.1.shape.Idx, p.2 q = wts (K := 2048) x2 x3 (p.1.emb q)
  | 0, p, hp, q => absurd hp List.not_mem_nil
  | n + 1, p, hp, q => by
    rw [pb_k0_t1.eq_2] at hp
    unfold pb_k0_t1Step at hp
    split at hp
    · rcases List.mem_append.mp hp with hp | hp
      · exact trip_weights c i arg1 harg1 arg2 harg2 arg3 harg3 arg4 harg4 arg5 harg5 arg6 harg6 arg7 harg7 arg8 harg8 arg9 harg9 x2 x3 XG hG _ p hp q
      · exact pb_weights c i arg1 harg1 arg2 harg2 arg3 harg3 arg4 harg4 arg5 harg5 arg6 harg6 arg7 harg7 arg8 harg8 arg9 harg9 x2 x3 XG hG n p hp q
    · exact pb_weights c i arg1 harg1 arg2 harg2 arg3 harg3 arg4 harg4 arg5 harg5 arg6 harg6 arg7 harg7 arg8 harg8 arg9 harg9 x2 x3 XG hG n p hp q

/-- The weight scratch as the matmul loop finds it. -/
theorem weights_read (c : Dev nD) (i : grid0.Coords) (arg1 : Memref sig .tc .vmem S1536x2048 .fp8e4m3) (harg1 : arg1.IsWhole) (arg2 : Memref sig .tc .vmem S1536x1 .f32) (harg2 : arg2.IsWhole) (arg3 : Memref sig .tc .vmem S256x512 .i32) (harg3 : arg3.IsWhole) (arg4 : Memref sig .tc .vmem S16x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .f32) (harg7 : arg7.IsWhole) (arg8 : Memref sig .tc .vmem S2048x512 .bf16) (harg8 : arg8.IsWhole) (arg9 : Memref sig .tc .vmem S16x512 .f32) (harg9 : arg9.IsWhole)
    (x0 : Vec Ideal S1536x2048 .fp8e4m3) (x1 : Vec Ideal S1536x1 .f32) (x2 : Vec Ideal S256x512 .i32) (x3 : Vec Ideal S16x512 .fp8e4m3) (x4 : Vec Ideal S1x512 .f32) (x5 : Vec Ideal S1536x512 .bf16) (f : BufTy.Contents (Elt Ideal) arg8.view.ty) :
    arg8.view.read (Elt Ideal) (arg8.view.writes (Elt Ideal) f (weightPieces (F := Ideal) c i arg1 harg1 arg2 harg2 arg3 harg3 arg4 harg4 arg5 harg5 arg6 harg6 arg7 harg7 arg8 harg8 arg9 harg9 x0 x1 x2 x3 x4 x5)) = wts (K := 2048) x2 x3 := by
  funext y
  refine View.read_writes_apply_of_pieces _ _ (wts (K := 2048) x2 x3) _ (fun p hp q => ?_) y (weightPieces_cover c i arg1 harg1 arg2 harg2 arg3 harg3 arg4 harg4 arg5 harg5 arg6 harg6 arg7 harg7 arg8 harg8 arg9 harg9 x0 x1 x2 x3 x4 x5 y)
  unfold weightPieces at hp
  exact pb_weights c i arg1 harg1 arg2 harg2 arg3 harg3 arg4 harg4 arg5 harg5 arg6 harg6 arg7 harg7 arg8 harg8 arg9 harg9 x2 x3 _ (scales c i arg1 harg1 arg2 harg2 arg3 harg3 arg4 harg4 arg5 harg5 arg6 harg6 arg7 harg7 arg8 harg8 arg9 harg9 x3) _ p hp q

end Cert.OProjIdeal.RefValue

end
-- ==== Proof.OProjIdealValue.lean ====
/-
  What `OProjIdeal` leaves in its result array, block by block, over the frame of `OProjIdealFrame`.
-/
module

public import proofs.«01_k».proof.Proof.OProjIdealFrame
public import Idealize.ShloMosaic.Lib.Pipeline.Value

@[expose] public section

noncomputable section

namespace Cert.OProjIdeal.Value

open Cert.OProjIdeal Cert.OProjIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`Gen.outsAt0`), read through the window's block. -/
theorem flushed6 (c : Dev nD) (t : Fin cfg0.N) :
    (dats m 0 c).flushed 6 t = (cfg0.win 6).cut (grid0.coords t) (outsAt0 m c t) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — the kernel's one case, `Gen.outsAt0` by definition. -/
theorem flushed6_A (c : Dev nD) (t : Fin cfg0.N) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t) (iblk m c 5 t)) := by
  simp only [flushed6, outsAt0]

/-- The index map sends distinct grid points to distinct block indices (decided over the 16 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S1536x8192.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v1) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      kept_main_arg0 m r h c,
      kept_main_arg1 m r h c,
      kept_main_arg2 m r h c,
      kept_main_arg3 m r h c,
      kept_main_arg4 m r h c,
      kept_main_arg5 m r h c⟩)
    (run_main m ρ)

end Cert.OProjIdeal.Value

end
-- ==== Proof.OProjIdealOut.lean ====
/-
  What the matmul loop of `OProjIdeal` stores: the layer's elements, each a sum over all of the contracted axis, added to the residual.
-/
module

public import proofs.«01_k».proof.Proof.OProjIdealWeights
public import proofs.«01_k».proof.Proof.OProjIdealValue

@[expose] public section

noncomputable section

namespace Cert.OProjIdeal.RefValue

open Cert.OProjIdeal Cert.OProjIdeal.Gen Cert.W4
open Idealize.ShloMosaic Idealize.ShloMosaic.TcCoe

/-- A stretch of the products of tiles: their sum. -/
theorem k0_pay15_at (a0 : Vec Ideal S512x256 .fp8e4m3) (w0 : Vec Ideal S256x512 .bf16) (a1 : Vec Ideal S512x256 .fp8e4m3) (w1 : Vec Ideal S256x512 .bf16) (a2 : Vec Ideal S512x256 .fp8e4m3) (w2 : Vec Ideal S256x512 .bf16) (a3 : Vec Ideal S512x256 .fp8e4m3) (w3 : Vec Ideal S256x512 .bf16) (a4 : Vec Ideal S512x256 .fp8e4m3) (w4 : Vec Ideal S256x512 .bf16) (r l : Fin 512) :
    k0_pay15 (F := Ideal) a0 w0 a1 w1 a2 w2 a3 w3 a4 w4 (ix2 r l)
      = tdot (M := 512) (K := 256) (N := 512) a0 w0 r.val l.val + tdot (M := 512) (K := 256) (N := 512) a1 w1 r.val l.val + tdot (M := 512) (K := 256) (N := 512) a2 w2 r.val l.val + tdot (M := 512) (K := 256) (N := 512) a3 w3 r.val l.val + tdot (M := 512) (K := 256) (N := 512) a4 w4 r.val l.val := by
  pointwise [k0_pay15]
  simp only [sum_tdot]

/-- The last stretch, the scales, and the residual. -/
theorem last_at (v : FVec Ideal S512x512 .f32) (a5 : Vec Ideal S512x256 .fp8e4m3) (w5 : Vec Ideal S256x512 .bf16) (a6 : Vec Ideal S512x256 .fp8e4m3) (w6 : Vec Ideal S256x512 .bf16) (a7 : Vec Ideal S512x256 .fp8e4m3) (w7 : Vec Ideal S256x512 .bf16) (sc : Vec Ideal S512x1 .f32) (cc : Vec Ideal S1x512 .f32) (rr : Vec Ideal S512x512 .bf16) (r l : Fin 512) :
    k0_pay3 (F := Ideal) v (k0_pay16 (F := Ideal) a5) w5 (constant S512x512 FTy.f32 0#32) a6 w6 a7 w7 sc cc rr (ix2 r l)
      = rr (ix2 r l) + (v (ix2 r l) + tdot (M := 512) (K := 256) (N := 512) a5 w5 r.val l.val + tdot (M := 512) (K := 256) (N := 512) a6 w6 r.val l.val + tdot (M := 512) (K := 256) (N := 512) a7 w7 r.val l.val) * sc (ix2 r 0) * cc (ix2 0 l) := by
  pointwise [k0_pay3, k0_pay16]
  simp only [sum_tdot]

set_option maxHeartbeats 2000000 in
/-- The whole payload: where each product of tiles is a stretch of one sum, the sum over all of the contracted axis. -/
theorem tiles_at {a0 : Vec Ideal S512x256 .fp8e4m3} {w0 : Vec Ideal S256x512 .bf16} {a1 : Vec Ideal S512x256 .fp8e4m3} {w1 : Vec Ideal S256x512 .bf16} {a2 : Vec Ideal S512x256 .fp8e4m3} {w2 : Vec Ideal S256x512 .bf16} {a3 : Vec Ideal S512x256 .fp8e4m3} {w3 : Vec Ideal S256x512 .bf16} {a4 : Vec Ideal S512x256 .fp8e4m3} {w4 : Vec Ideal S256x512 .bf16} {a5 : Vec Ideal S512x256 .fp8e4m3} {w5 : Vec Ideal S256x512 .bf16} {a6 : Vec Ideal S512x256 .fp8e4m3} {w6 : Vec Ideal S256x512 .bf16} {a7 : Vec Ideal S512x256 .fp8e4m3} {w7 : Vec Ideal S256x512 .bf16}
    (sc : Vec Ideal S512x1 .f32) (cc : Vec Ideal S1x512 .f32) (rr : Vec Ideal S512x512 .bf16) (f : ℕ → EReal) (r l : Fin 512)
    (h0 : tdot (M := 512) (K := 256) (N := 512) a0 w0 r.val l.val = ∑ q ∈ Finset.range 256, f (0 + q))
    (h1 : tdot (M := 512) (K := 256) (N := 512) a1 w1 r.val l.val = ∑ q ∈ Finset.range 256, f (256 + q))
    (h2 : tdot (M := 512) (K := 256) (N := 512) a2 w2 r.val l.val = ∑ q ∈ Finset.range 256, f (512 + q))
    (h3 : tdot (M := 512) (K := 256) (N := 512) a3 w3 r.val l.val = ∑ q ∈ Finset.range 256, f (768 + q))
    (h4 : tdot (M := 512) (K := 256) (N := 512) a4 w4 r.val l.val = ∑ q ∈ Finset.range 256, f (1024 + q))
    (h5 : tdot (M := 512) (K := 256) (N := 512) a5 w5 r.val l.val = ∑ q ∈ Finset.range 256, f (1280 + q))
    (h6 : tdot (M := 512) (K := 256) (N := 512) a6 w6 r.val l.val = ∑ q ∈ Finset.range 256, f (1536 + q))
    (h7 : tdot (M := 512) (K := 256) (N := 512) a7 w7 r.val l.val = ∑ q ∈ Finset.range 256, f (1792 + q))
    {s c t : EReal} (hs : sc (ix2 r 0) = s) (hc : cc (ix2 0 l) = c) (hr : rr (ix2 r l) = t) :
    k0_pay3 (F := Ideal) (k0_pay15 (F := Ideal) a0 w0 a1 w1 a2 w2 a3 w3 a4 w4) (k0_pay16 (F := Ideal) a5) w5 (constant S512x512 FTy.f32 0#32) a6 w6 a7 w7 sc cc rr (ix2 r l)
      = t + (∑ q ∈ Finset.range 2048, f q) * s * c := by
  rw [last_at]
  simp only [k0_pay15_at, hs, hc, hr]
  rw [h0, h1, h2, h3, h4, h5, h6, h7]
  simp only [show ∀ q, f (0 + q) = f q from fun q => by rw [Nat.zero_add], sum_step, Nat.reduceAdd]

/-- Element `(t, n)` of an output block. -/
def outBlk (x0 : Vec Ideal S1536x2048 .fp8e4m3) (x1 : Vec Ideal S1536x1 .f32) (x2 : Vec Ideal S256x512 .i32) (x3 : Vec Ideal S16x512 .fp8e4m3) (x4 : Vec Ideal S1x512 .f32) (x5 : Vec Ideal S1536x512 .bf16) (y : S1536x512.Idx) : EReal :=
  x5 y + layerBlk (K := 2048) (k8 := 256) (kg := 16) (T := 1536) (W := 512) x0 x1 x2 x3 x4 (y 0).val (y 1).val

set_option maxHeartbeats 2000000 in
/-- Every store of a trip of the matmul loop is the output block where it lies. -/
theorem trip_out (c : Dev nD) (i : grid0.Coords) (arg1 : Memref sig .tc .vmem S1536x2048 .fp8e4m3) (harg1 : arg1.IsWhole) (arg2 : Memref sig .tc .vmem S1536x1 .f32) (harg2 : arg2.IsWhole) (arg3 : Memref sig .tc .vmem S256x512 .i32) (harg3 : arg3.IsWhole) (arg4 : Memref sig .tc .vmem S16x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .f32) (harg7 : arg7.IsWhole) (arg8 : Memref sig .tc .vmem S2048x512 .bf16) (harg8 : arg8.IsWhole) (arg9 : Memref sig .tc .vmem S16x512 .f32) (harg9 : arg9.IsWhole)
    (x0 : Vec Ideal S1536x2048 .fp8e4m3) (x1 : Vec Ideal S1536x1 .f32) (x2 : Vec Ideal S256x512 .i32) (x3 : Vec Ideal S16x512 .fp8e4m3) (x4 : Vec Ideal S1x512 .f32) (x5 : Vec Ideal S1536x512 .bf16) (XW : BufTy.Contents (Elt Ideal) arg8.view.ty)
    (hW : arg8.view.read (Elt Ideal) XW = wts (K := 2048) x2 x3) (k : Fin k0_t2_loop.trips) :
    ∀ p ∈ tripL_k0_t2 (F := Ideal) Variants.none c none i arg1 harg1 arg2 harg2 arg3 harg3 arg4 harg4 arg5 harg5 arg6 harg6 arg7 harg7 arg8 harg8 arg9 harg9 (harg1.unread x0) (harg2.unread x1) (harg5.unread x4) (harg6.unread x5) XW k,
      ∀ q : p.1.shape.Idx, p.2 q = outBlk x0 x1 x2 x3 x4 x5 (p.1.emb q) := by
  unfold tripL_k0_t2 trip_k0_t2
  dsimp only
  sl_unfold_words
  dsimp only
  intro p hp
  rw [List.mem_singleton] at hp
  subst hp
  intro q
  obtain ⟨r, l, rfl⟩ : ∃ (r l : Fin 512), q = ix2 r l := ⟨q 0, q 1, eq_ix2 q⟩
  obtain ⟨f, hf⟩ : ∃ f : ℕ → EReal, f = fun q => at2 (α := EReal) x0 ((BitVec.toNat (Scalar.indexCast (Scalar.muli (Scf.iv 0#32 1#32 k.val) 512#32))) + r.val) q
      * at2 (α := EReal) (m := 2048) (n := 512) (wts (K := 2048) x2 x3) q l.val := ⟨_, rfl⟩
  have T : ∀ (o : ℕ) (h) (h'),
      tdot (M := 512) (K := 256) (N := 512)
        (arg1.view.readAt (Elt Ideal) (Rect.unit (s := S1536x2048) ![(BitVec.toNat (Scalar.indexCast (Scalar.muli (Scf.iv 0#32 1#32 k.val) 512#32))), o] ![512, 256] h).toLoadRect (harg1.unread x0))
        (arg8.view.readAt (Elt Ideal) (Rect.unit (s := S2048x512) ![o, 0] ![256, 512] h').toLoadRect XW) r.val l.val
      = ∑ q ∈ Finset.range 256, f (o + q) := fun o h h' => by
    rw [View.readAt_eq_ld, View.readAt_eq_ld, harg1.read_unread, hW, hf]
    exact tdot_ld (M := 512) (K := 256) (N := 512) x0 _ (BitVec.toNat (Scalar.indexCast (Scalar.muli (Scf.iv 0#32 1#32 k.val) 512#32))) o r.val l.val h h' r.isLt l.isLt
  have hs : ∀ (h), arg2.view.readAt (Elt Ideal) (Rect.unit (s := S1536x1) ![(BitVec.toNat (Scalar.indexCast (Scalar.muli (Scf.iv 0#32 1#32 k.val) 512#32))), 0] ![512, 1] h).toLoadRect (harg2.unread x1) (ix2 r 0)
      = at2 (α := EReal) x1 ((BitVec.toNat (Scalar.indexCast (Scalar.muli (Scf.iv 0#32 1#32 k.val) 512#32))) + r.val) 0 := fun h => by
    rw [View.readAt_eq_ld, harg2.read_unread]
    exact ld_ix2 (Val := fun _ => EReal) (e := .f32) x1 (BitVec.toNat (Scalar.indexCast (Scalar.muli (Scf.iv 0#32 1#32 k.val) 512#32))) 0 512 1 h r 0
  have hc : ∀ (h), arg5.view.readAt (Elt Ideal) (Rect.unit (s := S1x512) ![0, 0] ![1, 512] h).toLoadRect (harg5.unread x4) (ix2 0 l)
      = at2 (α := EReal) x4 0 l.val := fun h => by
    rw [View.readAt_eq_ld, harg5.read_unread]
    exact (ld_ix2 (Val := fun _ => EReal) (e := .f32) x4 0 0 1 512 h 0 l).trans
      (congrArg (fun n => at2 (α := EReal) x4 0 n) (Nat.zero_add l.val))
  have hr : ∀ (h), arg6.view.readAt (Elt Ideal) (Rect.unit (s := S1536x512) ![(BitVec.toNat (Scalar.indexCast (Scalar.muli (Scf.iv 0#32 1#32 k.val) 512#32))), 0] ![512, 512] h).toLoadRect (harg6.unread x5) (ix2 r l)
      = at2 (α := EReal) x5 ((BitVec.toNat (Scalar.indexCast (Scalar.muli (Scf.iv 0#32 1#32 k.val) 512#32))) + r.val) l.val := fun h => by
    rw [View.readAt_eq_ld, harg6.read_unread]
    exact (ld_ix2 (Val := fun _ => EReal) (e := .f32) x5 (BitVec.toNat (Scalar.indexCast (Scalar.muli (Scf.iv 0#32 1#32 k.val) 512#32))) 0 512 512 h r l).trans
      (congrArg (fun n => at2 (α := EReal) x5 ((BitVec.toNat (Scalar.indexCast (Scalar.muli (Scf.iv 0#32 1#32 k.val) 512#32))) + r.val) n) (Nat.zero_add l.val))
  refine (tiles_at _ _ _ f r l (T 0 _ _) (T 256 _ _) (T 512 _ _) (T 768 _ _) (T 1024 _ _) (T 1280 _ _) (T 1536 _ _) (T 1792 _ _) (hs _) (hc _) (hr _)).trans ?_
  have e : ∑ q ∈ Finset.range 2048, f q
      = ∑ q ∈ Finset.range 2048, at2 (α := EReal) x0 ((BitVec.toNat (Scalar.indexCast (Scalar.muli (Scf.iv 0#32 1#32 k.val) 512#32))) + r.val) q * wt 256 (at2 (α := BitVec 32) x2) (at2 (α := EReal) x3) q l.val := by
    rw [hf]
    exact sum_wts (fun q => at2 (α := EReal) x0 ((BitVec.toNat (Scalar.indexCast (Scalar.muli (Scf.iv 0#32 1#32 k.val) 512#32))) + r.val) q) x2 x3 l.val l.isLt
  rw [e]
  unfold outBlk layerBlk
  refine congrArg₂ (· + ·) ?_ ?_
  · rw [eq_at2 (α := EReal) (m := 1536) (n := 512) x5]
    show _ = at2 (α := EReal) x5 ((BitVec.toNat (Scalar.indexCast (Scalar.muli (Scf.iv 0#32 1#32 k.val) 512#32))) + 1 * r.val) (0 + 1 * l.val)
    rw [Nat.one_mul, Nat.one_mul, Nat.zero_add]
  · show _ = lin 2048 256 _ _ _ _ _ ((BitVec.toNat (Scalar.indexCast (Scalar.muli (Scf.iv 0#32 1#32 k.val) 512#32))) + 1 * r.val) (0 + 1 * l.val)
    rw [Nat.one_mul, Nat.one_mul, Nat.zero_add]
    rfl

/-- So is every store of the loop before trip `n`. -/
theorem pb_out (c : Dev nD) (i : grid0.Coords) (arg1 : Memref sig .tc .vmem S1536x2048 .fp8e4m3) (harg1 : arg1.IsWhole) (arg2 : Memref sig .tc .vmem S1536x1 .f32) (harg2 : arg2.IsWhole) (arg3 : Memref sig .tc .vmem S256x512 .i32) (harg3 : arg3.IsWhole) (arg4 : Memref sig .tc .vmem S16x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .f32) (harg7 : arg7.IsWhole) (arg8 : Memref sig .tc .vmem S2048x512 .bf16) (harg8 : arg8.IsWhole) (arg9 : Memref sig .tc .vmem S16x512 .f32) (harg9 : arg9.IsWhole)
    (x0 : Vec Ideal S1536x2048 .fp8e4m3) (x1 : Vec Ideal S1536x1 .f32) (x2 : Vec Ideal S256x512 .i32) (x3 : Vec Ideal S16x512 .fp8e4m3) (x4 : Vec Ideal S1x512 .f32) (x5 : Vec Ideal S1536x512 .bf16) (XW : BufTy.Contents (Elt Ideal) arg8.view.ty)
    (hW : arg8.view.read (Elt Ideal) XW = wts (K := 2048) x2 x3) : ∀ n : ℕ,
    ∀ p ∈ pb_k0_t2 (F := Ideal) Variants.none c none i arg1 harg1 arg2 harg2 arg3 harg3 arg4 harg4 arg5 harg5 arg6 harg6 arg7 harg7 arg8 harg8 arg9 harg9 (harg1.unread x0) (harg2.unread x1) (harg5.unread x4) (harg6.unread x5) XW n,
      ∀ q : p.1.shape.Idx, p.2 q = outBlk x0 x1 x2 x3 x4 x5 (p.1.emb q)
  | 0, p, hp, q => absurd hp List.not_mem_nil
  | n + 1, p, hp, q => by
    rw [pb_k0_t2.eq_2] at hp
    unfold pb_k0_t2Step at hp
    split at hp
    · rcases List.mem_append.mp hp with hp | hp
      · exact trip_out c i arg1 harg1 arg2 harg2 arg3 harg3 arg4 harg4 arg5 harg5 arg6 harg6 arg7 harg7 arg8 harg8 arg9 harg9 x0 x1 x2 x3 x4 x5 XW hW _ p hp q
      · exact pb_out c i arg1 harg1 arg2 harg2 arg3 harg3 arg4 harg4 arg5 harg5 arg6 harg6 arg7 harg7 arg8 harg8 arg9 harg9 x0 x1 x2 x3 x4 x5 XW hW n p hp q
    · exact pb_out c i arg1 harg1 arg2 harg2 arg3 harg3 arg4 harg4 arg5 harg5 arg6 harg6 arg7 harg7 arg8 harg8 arg9 harg9 x0 x1 x2 x3 x4 x5 XW hW n p hp q

/-- The output block after the body. -/
theorem out_read (c : Dev nD) (i : grid0.Coords) (arg1 : Memref sig .tc .vmem S1536x2048 .fp8e4m3) (harg1 : arg1.IsWhole) (arg2 : Memref sig .tc .vmem S1536x1 .f32) (harg2 : arg2.IsWhole) (arg3 : Memref sig .tc .vmem S256x512 .i32) (harg3 : arg3.IsWhole) (arg4 : Memref sig .tc .vmem S16x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .f32) (harg7 : arg7.IsWhole) (arg8 : Memref sig .tc .vmem S2048x512 .bf16) (harg8 : arg8.IsWhole) (arg9 : Memref sig .tc .vmem S16x512 .f32) (harg9 : arg9.IsWhole)
    (x0 : Vec Ideal S1536x2048 .fp8e4m3) (x1 : Vec Ideal S1536x1 .f32) (x2 : Vec Ideal S256x512 .i32) (x3 : Vec Ideal S16x512 .fp8e4m3) (x4 : Vec Ideal S1x512 .f32) (x5 : Vec Ideal S1536x512 .bf16) :
    out0_A_6 (F := Ideal) c i arg1 harg1 arg2 harg2 arg3 harg3 arg4 harg4 arg5 harg5 arg6 harg6 arg7 harg7 arg8 harg8 arg9 harg9 x0 x1 x2 x3 x4 x5 = outBlk x0 x1 x2 x3 x4 x5 := by
  funext y
  refine View.read_writes_apply_of_pieces _ _ (outBlk x0 x1 x2 x3 x4 x5) _ (fun p hp q => ?_) y (cover0_A_6 c i arg1 harg1 arg2 harg2 arg3 harg3 arg4 harg4 arg5 harg5 arg6 harg6 arg7 harg7 arg8 harg8 arg9 harg9 x0 x1 x2 x3 x4 x5 y)
  unfold outPieces at hp
  exact pb_out c i arg1 harg1 arg2 harg2 arg3 harg3 arg4 harg4 arg5 harg5 arg6 harg6 arg7 harg7 arg8 harg8 arg9 harg9 x0 x1 x2 x3 x4 x5 _ (weights_read c i arg1 harg1 arg2 harg2 arg3 harg3 arg4 harg4 arg5 harg5 arg6 harg6 arg7 harg7 arg8 harg8 arg9 harg9 x0 x1 x2 x3 x4 x5 _) _ p hp q

end Cert.OProjIdeal.RefValue

end
-- ==== Proof.OProjIdealFinal.lean ====
/-
  The array that `OProjIdeal` leaves: at every element the layer of the argument arrays, added to the residual.
-/
module

public import proofs.«01_k».proof.Proof.OProjIdealOut
public import Idealize.ShloMosaic.Lib.Claim
public import Idealize.ShloMosaic.Lib.Pipeline.ValueKit

@[expose] public section

noncomputable section

namespace Cert.OProjIdeal.RefValue

open Cert.OProjIdeal Cert.OProjIdeal.Gen Cert.OProjIdeal.Value Cert.W4
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Where each window's block stands at a grid point. -/
theorem idx : ∀ t : Fin cfg0.N, win0_0.index t = ![0, 0] ∧ win0_1.index t = ![0, 0] ∧ win0_2.index t = ![0, t.val] ∧ win0_3.index t = ![0, t.val] ∧ win0_4.index t = ![0, t.val] ∧ win0_5.index t = ![0, t.val] ∧ win0_6.index t = ![0, t.val] := by
  decide +kernel

/-- The activations come whole. -/
theorem iblk0 (c : Dev nD) (t : Fin cfg0.N) (i j : ℕ) (hi : i < 1536) (hj : j < 2048) :
    at2 (α := EReal) (m := 1536) (n := 2048) (iblk m c 0 t) i j
      = at2 (α := EReal) (m := 1536) (n := 2048) (m ((c.tc : Thread nD τ).loc main_arg0)) i j := by
  have ht : t.val < 16 := t.isLt
  rw [at2_of _ hi hj, at2_of _ hi (by omega)]
  blk_ext [iblk, V, idx t]

/-- The row scales come whole. -/
theorem iblk1 (c : Dev nD) (t : Fin cfg0.N) (i j : ℕ) (hi : i < 1536) (hj : j < 1) :
    at2 (α := EReal) (m := 1536) (n := 1) (iblk m c 1 t) i j
      = at2 (α := EReal) (m := 1536) (n := 1) (m ((c.tc : Thread nD τ).loc main_arg1)) i j := by
  have ht : t.val < 16 := t.isLt
  rw [at2_of _ hi hj, at2_of _ hi (by omega)]
  blk_ext [iblk, V, idx t]

/-- The word block. -/
theorem iblk2 (c : Dev nD) (t : Fin cfg0.N) (i j : ℕ) (hi : i < 256) (hj : j < 512) :
    at2 (α := BitVec 32) (m := 256) (n := 512) (iblk m c 2 t) i j
      = at2 (α := BitVec 32) (m := 256) (n := 8192) (m ((c.tc : Thread nD τ).loc main_arg2)) i (512 * t.val + j) := by
  have ht : t.val < 16 := t.isLt
  rw [at2_of _ hi hj, at2_of _ hi (by omega)]
  blk_ext [iblk, V, idx t]

/-- The group scales. -/
theorem iblk3 (c : Dev nD) (t : Fin cfg0.N) (i j : ℕ) (hi : i < 16) (hj : j < 512) :
    at2 (α := EReal) (m := 16) (n := 512) (iblk m c 3 t) i j
      = at2 (α := EReal) (m := 16) (n := 8192) (m ((c.tc : Thread nD τ).loc main_arg3)) i (512 * t.val + j) := by
  have ht : t.val < 16 := t.isLt
  rw [at2_of _ hi hj, at2_of _ hi (by omega)]
  blk_ext [iblk, V, idx t]

/-- The column scales. -/
theorem iblk4 (c : Dev nD) (t : Fin cfg0.N) (j : ℕ) (hj : j < 512) :
    at2 (α := EReal) (m := 1) (n := 512) (iblk m c 4 t) 0 j
      = at1 (α := EReal) (n := 8192) (m ((c.tc : Thread nD τ).loc main_arg4)) (512 * t.val + j) := by
  have ht : t.val < 16 := t.isLt
  rw [at2_of _ (by omega) hj, at1_of _ (by omega)]
  blk_ext! [iblk, idx t]

/-- The residual block. -/
theorem iblk5 (c : Dev nD) (t : Fin cfg0.N) (i j : ℕ) (hi : i < 1536) (hj : j < 512) :
    at2 (α := EReal) (m := 1536) (n := 512) (iblk m c 5 t) i j
      = at2 (α := EReal) (m := 1536) (n := 8192) (m ((c.tc : Thread nD τ).loc main_arg5)) i (512 * t.val + j) := by
  have ht : t.val < 16 := t.isLt
  rw [at2_of _ hi hj, at2_of _ hi (by omega)]
  blk_ext [iblk, V, idx t]

/-- The array the kernel leaves. -/
theorem result (c : Dev nD) :
    (dats m 0 c).arrAt 6 cfg0.N
      = fun y : S1536x8192.Idx => at2 (α := EReal) (m := 1536) (n := 8192) (m ((c.tc : Thread nD τ).loc main_arg5)) (y 0).val (y 1).val + layer (k8 := 256) (T := 1536) (K := 2048) (kg := 16) (N := 8192)
          (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (y 0).val (y 1).val := by
  refine (dats m 0 c).arrAt_eq_of_covers 6 _ (by decide +kernel) fun t hf y => ?_
  have ht : t.val < 16 := t.isLt
  refine (congrFun (flushed6_A m c t) y).trans ?_
  rw [out_read]
  have h0 : (y 0).val < 1536 := (y 0).isLt
  have h1 : (y 1).val < 512 := (y 1).isLt
  have e0 : (((cfg0.win 6).blk t).view.emb y 0).val = (y 0).val := by blk_simp [idx t]
  have e1 : (((cfg0.win 6).blk t).view.emb y 1).val = 512 * t.val + (y 1).val := by blk_simp [idx t]; omega
  rw [e0, e1]
  show outBlk _ _ _ _ _ _ y = _
  unfold outBlk layerBlk layer
  refine congrArg₂ (· + ·) ?_ ?_
  · rw [eq_at2 (α := EReal) (m := 1536) (n := 512) (iblk m c 5 t) y]
    exact iblk5 m c t _ _ h0 h1
  · exact lin_congr (by omega) (fun k hk => iblk0 m c t _ _ h0 hk) (iblk1 m c t _ _ h0 (by omega))
      (fun k hk => iblk2 m c t _ _ hk h1) (fun k hk => iblk3 m c t _ _ (by omega) h1) (iblk4 m c t _ h1)

end Cert.OProjIdeal.RefValue

end
-- ==== Proof.OProjRefIdealOut.lean ====
/-
  The array that the reference leaves: at every element the layer of the argument arrays, added to the residual.
-/
module

public import proofs.«01_k».proof.Proof.Gen.OProjRefIdeal.Value
public import proofs.«01_k».proof.Proof.RefCode
public import proofs.«01_k».proof.Proof.LinBlock
public import Idealize.ShloMosaic.Lib.Claim
public import Idealize.ShloMosaic.Lib.Pipeline.ValueKit

@[expose] public section

noncomputable section

namespace Cert.OProjRefIdeal.RefValue

open Cert.OProjRefIdeal Cert.OProjRefIdeal.Gen Cert.OProjRefIdeal.Value Cert.W4
open Idealize.ShloMosaic Idealize.ShloMosaic.TcCoe Idealize.SL.Sem

set_option maxHeartbeats 1000000 in
/-- The body's last value at an element. -/
theorem k0_pay1_at (v0 v1 v3 v5 v37 v43 v49 v55 v61 v67 v73 v79 v99) (r : Fin 1536) (l : Fin 8192) :
    k0_pay1 (F := Ideal) v0 v1 v3 v5 v37 v43 v49 v55 v61 v67 v73 v79 v99 (ix2 r l)
      = at2 (α := EReal) (m := 1536) (n := 8192) v99 r.val l.val + refLin 2048 256 (at2 (α := EReal) (m := 1536) (n := 2048) v0) (fun t => at2 (α := EReal) (m := 1536) (n := 1) v1 t 0)
          (stack8 256 (at2 v43) (at2 v49) (at2 v55) (at2 v61) (at2 v67) (at2 v73) (at2 v79) (fun i n => trunc8 (at2 v37 i n)))
          (at2 (α := EReal) (m := 16) (n := 8192) v3) (fun n => at2 (α := EReal) (m := 1) (n := 8192) v5 0 n) r.val l.val := by
  pointwise [k0_pay1]
  refine congrArg₂ (· + ·) (ix2_at2 (α := EReal) (m := 1536) (n := 8192) v99 r l) ?_
  unfold refLin
  refine congrArg₂ (· * ·) (congrArg₂ (· * ·) (Finset.sum_congr rfl fun k _ => ?_) (ix2_at2 (α := EReal) (m := 1536) (n := 1) v1 r 0))
    (ix2_at2 (α := EReal) (m := 1) (n := 8192) v5 0 _)
  rw [ix2_at2 (α := EReal) (m := 1536) (n := 2048) v0 r k, ix2_at2 (α := EReal) (m := 16) (n := 8192) v3]
  refine congrArg (_ * ·) (congrArg (· * _) (congrArg _ ?_))
  unfold stack8
  refine dite_ite (fun _ => ix2_at2 v43 _ _) fun _ => dite_ite (fun _ => ix2_at2 v49 _ _) fun _ =>
    dite_ite (fun _ => ix2_at2 v55 _ _) fun _ => dite_ite (fun _ => ix2_at2 v61 _ _) fun _ =>
    dite_ite (fun _ => ix2_at2 v67 _ _) fun _ => dite_ite (fun _ => ix2_at2 v73 _ _) fun _ =>
    dite_ite (fun _ => ix2_at2 v79 _ _) fun _ => congrArg trunc8 (ix2_at2 v37 _ _)

/-- The eight fields of a word, as the body cuts them out. -/
theorem fields_at (v2 : Vec Ideal S256x8192 .i32) (i j : ℕ) (hi : i < 256) (hj : j < 8192) :
    at2 (α := BitVec 8) (k0_pay12 (k0_pay3 (F := Ideal) v2)) i j = code8 (at2 (α := BitVec 32) (m := 256) (n := 8192) v2 i j) 0#32 ∧
    at2 (α := BitVec 8) (k0_pay13 (k0_pay4 (F := Ideal) v2)) i j = code8 (at2 (α := BitVec 32) (m := 256) (n := 8192) v2 i j) 4#32 ∧
    at2 (α := BitVec 8) (k0_pay14 (k0_pay5 (F := Ideal) v2)) i j = code8 (at2 (α := BitVec 32) (m := 256) (n := 8192) v2 i j) 8#32 ∧
    at2 (α := BitVec 8) (k0_pay15 (k0_pay6 (F := Ideal) v2)) i j = code8 (at2 (α := BitVec 32) (m := 256) (n := 8192) v2 i j) 12#32 ∧
    at2 (α := BitVec 8) (k0_pay16 (k0_pay7 (F := Ideal) v2)) i j = code8 (at2 (α := BitVec 32) (m := 256) (n := 8192) v2 i j) 16#32 ∧
    at2 (α := BitVec 8) (k0_pay17 (k0_pay8 (F := Ideal) v2)) i j = code8 (at2 (α := BitVec 32) (m := 256) (n := 8192) v2 i j) 20#32 ∧
    at2 (α := BitVec 8) (k0_pay18 (k0_pay9 (F := Ideal) v2)) i j = code8 (at2 (α := BitVec 32) (m := 256) (n := 8192) v2 i j) 24#32 ∧
    at2 (α := BitVec 32) (k0_pay11 v2 k0_pay10) i j
      = IntOp.andi (IntOp.shrsi ArithUnit.vector (at2 (α := BitVec 32) (m := 256) (n := 8192) v2 i j) 28#32) 15#32 := by
  refine ⟨?_, ?_, ?_, ?_, ?_, ?_, ?_, ?_⟩ <;> rw [at2_of _ hi hj, at2_of _ hi hj] <;> (try unfold code8 trunc8) <;>
    pointwise [k0_pay3, k0_pay4, k0_pay5, k0_pay6, k0_pay7, k0_pay8, k0_pay9, k0_pay10, k0_pay11, k0_pay12, k0_pay13, k0_pay14, k0_pay15, k0_pay16, k0_pay17, k0_pay18]

/-- What the body leaves in its output, at an element. -/
theorem out_read (x0 x1 x2 x3 x4 x5) (y : S1536x8192.Idx) :
    out0_6 (F := Ideal) x0 x1 x2 x3 x4 x5 y
      = at2 (α := EReal) (m := 1536) (n := 8192) x5 (y 0).val (y 1).val + lin 2048 256 (at2 (α := EReal) (m := 1536) (n := 2048) x0) (fun t => at2 (α := EReal) (m := 1536) (n := 1) x1 t 0)
          (at2 (α := BitVec 32) (m := 256) (n := 8192) x2) (at2 (α := EReal) (m := 16) (n := 8192) x3)
          (fun n => at2 (α := EReal) (m := 1) (n := 8192) x4 0 n) (y 0).val (y 1).val := by
  have hy1 : (y 1).val < 8192 := (y 1).isLt
  unfold out0_6
  rw [View.canon_cons_unit_lit _ _ _ (by decide)]
  rw [eq_ix2 y]
  refine (k0_pay1_at _ _ _ _ _ _ _ _ _ _ _ _ _ (y 0) (y 1)).trans ?_
  have e0 : View.ld x0 r0_0 = x0 := View.ld_unit_lit _ _ (by decide)
  have e1 : View.ld x1 r0_1 = x1 := View.ld_unit_lit _ _ (by decide)
  have e2 : View.ld x2 r0_2 = x2 := View.ld_unit_lit _ _ (by decide)
  have e3 : View.ld x3 r0_3 = x3 := View.ld_unit_lit _ _ (by decide)
  have e5 : View.ld x5 r0_5 = x5 := View.ld_unit_lit _ _ (by decide)
  have e4 : k0_pay2 (View.ld x4 r0_4) = x4 := by
    rw [show View.ld x4 r0_4 = x4 from View.ld_unit_lit _ _ (by decide)]
    funext z
    pointwise [k0_pay2]
  rw [e0, e1, e2, e3, e4, e5]
  refine congrArg (_ + ·) (refLin_eq _ _ _ _ _ _ _ _ (stack8_eq (k8 := 256) _ _ _ _ _ _ _ _ _ _ ?_ ?_ ?_ ?_ ?_ ?_ ?_ ?_))
  · exact fun i hi => (fields_at x2 i _ hi hy1).1
  · exact fun i hi => (fields_at x2 i _ hi hy1).2.1
  · exact fun i hi => (fields_at x2 i _ hi hy1).2.2.1
  · exact fun i hi => (fields_at x2 i _ hi hy1).2.2.2.1
  · exact fun i hi => (fields_at x2 i _ hi hy1).2.2.2.2.1
  · exact fun i hi => (fields_at x2 i _ hi hy1).2.2.2.2.2.1
  · exact fun i hi => (fields_at x2 i _ hi hy1).2.2.2.2.2.2.1
  · exact fun i hi => congrArg trunc8 (fields_at x2 i _ hi hy1).2.2.2.2.2.2.2

/-- Where each window's block stands: at the origin. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] := by
  decide +kernel

variable (m : (ℓ : Loc nD τ sig) → Buf (Elt Ideal) ℓ)

/-- Argument 0 comes whole. -/
theorem iblk0 (c : Dev nD) (t : Fin cfg0.N) : iblk m c 0 t = m ((c.tc : Thread nD τ).loc main_arg0) := by
  funext z
  blk_ext [iblk, V, idx t]

/-- Argument 1 comes whole. -/
theorem iblk1 (c : Dev nD) (t : Fin cfg0.N) : iblk m c 1 t = m ((c.tc : Thread nD τ).loc main_arg1) := by
  funext z
  blk_ext [iblk, V, idx t]

/-- Argument 2 comes whole. -/
theorem iblk2 (c : Dev nD) (t : Fin cfg0.N) : iblk m c 2 t = m ((c.tc : Thread nD τ).loc main_arg2) := by
  funext z
  blk_ext [iblk, V, idx t]

/-- Argument 3 comes whole. -/
theorem iblk3 (c : Dev nD) (t : Fin cfg0.N) : iblk m c 3 t = m ((c.tc : Thread nD τ).loc main_arg3) := by
  funext z
  blk_ext [iblk, V, idx t]

/-- Argument 5 comes whole. -/
theorem iblk5 (c : Dev nD) (t : Fin cfg0.N) : iblk m c 5 t = m ((c.tc : Thread nD τ).loc main_arg5) := by
  funext z
  blk_ext [iblk, V, idx t]

/-- The column scales come whole, as one row. -/
theorem iblk4 (c : Dev nD) (t : Fin cfg0.N) (j : ℕ) (hj : j < 8192) :
    at2 (α := EReal) (m := 1) (n := 8192) (iblk m c 4 t) 0 j
      = at1 (α := EReal) (n := 8192) (m ((c.tc : Thread nD τ).loc main_arg4)) j := by
  rw [at2_of _ (by omega) hj, at1_of _ (by omega)]
  blk_ext! [iblk, idx t]

/-- The array the reference leaves. -/
theorem result (c : Dev nD) :
    (dats m 0 c).arrAt 6 cfg0.N
      = fun y : S1536x8192.Idx => at2 (α := EReal) (m := 1536) (n := 8192) (m ((c.tc : Thread nD τ).loc main_arg5)) (y 0).val (y 1).val + layer (k8 := 256) (T := 1536) (K := 2048) (kg := 16) (N := 8192)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (y 0).val (y 1).val := by
  refine (dats m 0 c).arrAt_eq_of_covers 6 _ (by decide +kernel) fun t hf y => ?_
  refine (congrFun (flushed6 m c t) y).trans ?_
  have h0 : (y 0).val < 1536 := (y 0).isLt
  have h1 : (y 1).val < 8192 := (y 1).isLt
  have e0 : (((cfg0.win 6).blk t).view.emb y 0).val = (y 0).val := by blk_simp [idx t]
  have e1 : (((cfg0.win 6).blk t).view.emb y 1).val = (y 1).val := by blk_simp [idx t]
  rw [e0, e1]
  refine (out_read _ _ _ _ _ _ y).trans ?_
  unfold layer
  rw [iblk0, iblk1, iblk2, iblk3, iblk5]
  refine congrArg (_ + ·) ?_
  exact lin_congr (by omega) (fun k hk => rfl) rfl (fun k hk => rfl) (fun k hk => rfl) (iblk4 m c t _ h1)

end Cert.OProjRefIdeal.RefValue

end
-- ==== Proof.OProjClaim.lean ====
/-
  The gate-up layer: the kernel and the reference leave the same array.
-/
module

public import proofs.«01_k».proof.Defs
public import proofs.«01_k».proof.Proof.OProjIdealFinal
public import proofs.«01_k».proof.Proof.OProjRefIdealOut

@[expose] public section

noncomputable section

namespace Cert.OProjClaim

open Idealize.ShloMosaic Idealize.SL.Sem

/-- From memories that agree on the arguments, kernel and reference both run, end with one result and keep their
    arguments. -/
theorem algebraic : Cert.algebraic_OProjIdeal_OProjRefIdeal (hOProjIdeal := Cert.OProjIdeal.Gen.facts)
    (hOProjRefIdeal := Cert.OProjRefIdeal.Gen.facts) := by
  intro m ρ m' ρ' _ hagree
  refine ⟨fun c => _, Cert.OProjIdeal.Value.run_blocks m ρ, ?_⟩
  refine (θ_run _ _ _).mono (fun _ h c => ⟨(h c).1.trans ?_, (h c).2⟩) (Cert.OProjRefIdeal.Value.run_blocks m' ρ')
  obtain ⟨h0, h1, h2, h3, h4, h5⟩ := hagree c
  refine (Cert.OProjRefIdeal.RefValue.result m' c).trans (Eq.trans ?_ (Cert.OProjIdeal.RefValue.result m c).symm)
  funext y
  rw [h0, h1, h2, h3, h4, h5]

end Cert.OProjClaim

end
-- ==== Proof.QkvIdealRun.lean ====
/-
  The run of `QkvIdeal`'s kernel at one grid point. The matmul loop reads the dequantised weights from a scratch buffer
  that the two loops before it fill whole, so what it stores does not depend on what that buffer held before: the
  pieces are named here over junk, and the body's triple is proved for any prior contents.
-/
module

public import proofs.«01_k».proof.Proof.Gen.QkvIdeal.Frame.Runs

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One trip of the matmul loop depends on the weight scratch only through what is read from it. -/
theorem trip_k0_t2_congr (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x512 .i32) (harg3 : arg3.IsWhole) (arg4 : Memref sig .tc .vmem S64x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S8192x512 .bf16) (harg7 : arg7.IsWhole) (arg8 : Memref sig .tc .vmem S64x512 .f32) (harg8 : arg8.IsWhole) (X_arg1 : BufTy.Contents (Elt F) arg1.view.ty) (X_arg2 : BufTy.Contents (Elt F) arg2.view.ty) (X_arg5 : BufTy.Contents (Elt F) arg5.view.ty) (f f' : BufTy.Contents (Elt F) arg7.view.ty)
    (h : arg7.view.read (Elt F) f = arg7.view.read (Elt F) f') (k : Fin k0_t2_loop.trips) :
    tripL_k0_t2 (F := F) Variants.none c none i arg1 harg1 arg2 harg2 arg3 harg3 arg4 harg4 arg5 harg5 arg6 harg6 arg7 harg7 arg8 harg8 X_arg1 X_arg2 X_arg5 f k = tripL_k0_t2 (F := F) Variants.none c none i arg1 harg1 arg2 harg2 arg3 harg3 arg4 harg4 arg5 harg5 arg6 harg6 arg7 harg7 arg8 harg8 X_arg1 X_arg2 X_arg5 f' k := by
  unfold tripL_k0_t2 trip_k0_t2
  sl_unfold_words
  dsimp only
  simp only [View.readAt_eq_ld _ f, View.readAt_eq_ld _ f', h]

/-- So do the pieces of the trips before `n`. -/
theorem pb_k0_t2_congr (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x512 .i32) (harg3 : arg3.IsWhole) (arg4 : Memref sig .tc .vmem S64x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S8192x512 .bf16) (harg7 : arg7.IsWhole) (arg8 : Memref sig .tc .vmem S64x512 .f32) (harg8 : arg8.IsWhole) (X_arg1 : BufTy.Contents (Elt F) arg1.view.ty) (X_arg2 : BufTy.Contents (Elt F) arg2.view.ty) (X_arg5 : BufTy.Contents (Elt F) arg5.view.ty) (f f' : BufTy.Contents (Elt F) arg7.view.ty)
    (h : arg7.view.read (Elt F) f = arg7.view.read (Elt F) f') : ∀ n : ℕ,
    pb_k0_t2 (F := F) Variants.none c none i arg1 harg1 arg2 harg2 arg3 harg3 arg4 harg4 arg5 harg5 arg6 harg6 arg7 harg7 arg8 harg8 X_arg1 X_arg2 X_arg5 f n = pb_k0_t2 (F := F) Variants.none c none i arg1 harg1 arg2 harg2 arg3 harg3 arg4 harg4 arg5 harg5 arg6 harg6 arg7 harg7 arg8 harg8 X_arg1 X_arg2 X_arg5 f' n
  | 0 => rfl
  | n + 1 => by
    rw [pb_k0_t2.eq_2, pb_k0_t2.eq_2, pb_k0_t2_congr c i arg1 harg1 arg2 harg2 arg3 harg3 arg4 harg4 arg5 harg5 arg6 harg6 arg7 harg7 arg8 harg8 X_arg1 X_arg2 X_arg5 f f' h n]
    unfold pb_k0_t2Step
    split
    · rw [trip_k0_t2_congr c i arg1 harg1 arg2 harg2 arg3 harg3 arg4 harg4 arg5 harg5 arg6 harg6 arg7 harg7 arg8 harg8 X_arg1 X_arg2 X_arg5 f f' h]
    · rfl

/-- Over stores that fill the weight scratch, what it held before does not matter. -/
theorem pb_k0_t2_writes (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x512 .i32) (harg3 : arg3.IsWhole) (arg4 : Memref sig .tc .vmem S64x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S8192x512 .bf16) (harg7 : arg7.IsWhole) (arg8 : Memref sig .tc .vmem S64x512 .f32) (harg8 : arg8.IsWhole) (X_arg1 : BufTy.Contents (Elt F) arg1.view.ty) (X_arg2 : BufTy.Contents (Elt F) arg2.view.ty) (X_arg5 : BufTy.Contents (Elt F) arg5.view.ty) (f : BufTy.Contents (Elt F) arg7.view.ty)
    (L : List (View.Piece (Elt F) S8192x512 .bf16)) (h : ∀ y, ∃ p ∈ L, y ∈ p.1.set) (n : ℕ) :
    pb_k0_t2 (F := F) Variants.none c none i arg1 harg1 arg2 harg2 arg3 harg3 arg4 harg4 arg5 harg5 arg6 harg6 arg7 harg7 arg8 harg8 X_arg1 X_arg2 X_arg5 (arg7.view.writes (Elt F) f L) n
      = pb_k0_t2 (F := F) Variants.none c none i arg1 harg1 arg2 harg2 arg3 harg3 arg4 harg4 arg5 harg5 arg6 harg6 arg7 harg7 arg8 harg8 X_arg1 X_arg2 X_arg5 (arg7.view.writes (Elt F) arg7.view.junk L) n :=
  pb_k0_t2_congr c i arg1 harg1 arg2 harg2 arg3 harg3 arg4 harg4 arg5 harg5 arg6 harg6 arg7 harg7 arg8 harg8 X_arg1 X_arg2 X_arg5 _ _ (View.read_writes_of_cover _ _ _ _ L h) n

/-- The stores of the dequantising loops into the weight scratch, last first. -/
def weightPieces (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x512 .i32) (harg3 : arg3.IsWhole) (arg4 : Memref sig .tc .vmem S64x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S8192x512 .bf16) (harg7 : arg7.IsWhole) (arg8 : Memref sig .tc .vmem S64x512 .f32) (harg8 : arg8.IsWhole)
    (x0 : Vec F S1536x8192 .fp8e4m3) (x1 : Vec F S1536x1 .f32) (x2 : Vec F S1024x512 .i32) (x3 : Vec F S64x512 .fp8e4m3) (x4 : Vec F S1x512 .f32) : List (View.Piece (Elt F) S8192x512 .bf16) :=
  pb_k0_t1 (F := F) Variants.none c none i arg1 harg1 arg2 harg2 arg3 harg3 arg4 harg4 arg5 harg5 arg6 harg6 arg7 harg7 arg8 harg8 (harg3.unread x2) (arg8.view.writes (Elt F) arg8.view.junk [⟨Rect.unit ![0, 0] S64x512.size inb_S64x512_S64x512_0_0, k0_pay1 (arg4.view.readAt (Elt F) (Rect.unit ![0, 0] S64x512.size inb_S64x512_S64x512_0_0).toLoadRect (harg4.unread x3))⟩]) (Scf.trips k0_t1_loop.lb k0_t1_loop.ub k0_t1_loop.st)

/-- They fill it. -/
theorem weightPieces_cover (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x512 .i32) (harg3 : arg3.IsWhole) (arg4 : Memref sig .tc .vmem S64x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S8192x512 .bf16) (harg7 : arg7.IsWhole) (arg8 : Memref sig .tc .vmem S64x512 .f32) (harg8 : arg8.IsWhole)
    (x0 : Vec F S1536x8192 .fp8e4m3) (x1 : Vec F S1536x1 .f32) (x2 : Vec F S1024x512 .i32) (x3 : Vec F S64x512 .fp8e4m3) (x4 : Vec F S1x512 .f32) (y : S8192x512.Idx) :
    ∃ pc ∈ weightPieces c i arg1 harg1 arg2 harg2 arg3 harg3 arg4 harg4 arg5 harg5 arg6 harg6 arg7 harg7 arg8 harg8 x0 x1 x2 x3 x4, y ∈ pc.1.set :=
  View.cover_of_tiledL (weightPieces c i arg1 harg1 arg2 harg2 arg3 harg3 arg4 harg4 arg5 harg5 arg6 harg6 arg7 harg7 arg8 harg8 x0 x1 x2 x3 x4) S128x512.size (by sl_kernel_rfl) y

/-- The stores of the matmul loop into the output block, last first. -/
def outPieces (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x512 .i32) (harg3 : arg3.IsWhole) (arg4 : Memref sig .tc .vmem S64x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S8192x512 .bf16) (harg7 : arg7.IsWhole) (arg8 : Memref sig .tc .vmem S64x512 .f32) (harg8 : arg8.IsWhole)
    (x0 : Vec F S1536x8192 .fp8e4m3) (x1 : Vec F S1536x1 .f32) (x2 : Vec F S1024x512 .i32) (x3 : Vec F S64x512 .fp8e4m3) (x4 : Vec F S1x512 .f32) : List (View.Piece (Elt F) S1536x512 .f32) :=
  pb_k0_t2 (F := F) Variants.none c none i arg1 harg1 arg2 harg2 arg3 harg3 arg4 harg4 arg5 harg5 arg6 harg6 arg7 harg7 arg8 harg8 (harg1.unread x0) (harg2.unread x1) (harg5.unread x4) (arg7.view.writes (Elt F) arg7.view.junk (weightPieces c i arg1 harg1 arg2 harg2 arg3 harg3 arg4 harg4 arg5 harg5 arg6 harg6 arg7 harg7 arg8 harg8 x0 x1 x2 x3 x4)) (Scf.trips k0_t2_loop.lb k0_t2_loop.ub k0_t2_loop.st)

/-- The same stores, whatever the weight scratch held before the dequantising loops. -/
theorem outPieces_eq (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x512 .i32) (harg3 : arg3.IsWhole) (arg4 : Memref sig .tc .vmem S64x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S8192x512 .bf16) (harg7 : arg7.IsWhole) (arg8 : Memref sig .tc .vmem S64x512 .f32) (harg8 : arg8.IsWhole)
    (x0 : Vec F S1536x8192 .fp8e4m3) (x1 : Vec F S1536x1 .f32) (x2 : Vec F S1024x512 .i32) (x3 : Vec F S64x512 .fp8e4m3) (x4 : Vec F S1x512 .f32) (f : BufTy.Contents (Elt F) arg7.view.ty) :
    pb_k0_t2 (F := F) Variants.none c none i arg1 harg1 arg2 harg2 arg3 harg3 arg4 harg4 arg5 harg5 arg6 harg6 arg7 harg7 arg8 harg8 (harg1.unread x0) (harg2.unread x1) (harg5.unread x4) (arg7.view.writes (Elt F) f (weightPieces c i arg1 harg1 arg2 harg2 arg3 harg3 arg4 harg4 arg5 harg5 arg6 harg6 arg7 harg7 arg8 harg8 x0 x1 x2 x3 x4)) (Scf.trips k0_t2_loop.lb k0_t2_loop.ub k0_t2_loop.st)
      = outPieces c i arg1 harg1 arg2 harg2 arg3 harg3 arg4 harg4 arg5 harg5 arg6 harg6 arg7 harg7 arg8 harg8 x0 x1 x2 x3 x4 :=
  pb_k0_t2_writes c i arg1 harg1 arg2 harg2 arg3 harg3 arg4 harg4 arg5 harg5 arg6 harg6 arg7 harg7 arg8 harg8 _ _ _ f _ (weightPieces_cover c i arg1 harg1 arg2 harg2 arg3 harg3 arg4 harg4 arg5 harg5 arg6 harg6 arg7 harg7 arg8 harg8 x0 x1 x2 x3 x4) _

set_option maxHeartbeats 4000000 in
/-- On whole staging buffers the body runs and leaves the inputs as they were, the scratch at some contents, and the
    output block with `outPieces` written. -/
theorem kernelRun0_A (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x512 .i32) (harg3 : arg3.IsWhole) (arg4 : Memref sig .tc .vmem S64x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S8192x512 .bf16) (harg7 : arg7.IsWhole) (arg8 : Memref sig .tc .vmem S64x512 .f32) (harg8 : arg8.IsWhole)
    (x0 : Vec F S1536x8192 .fp8e4m3) (x1 : Vec F S1536x1 .f32) (x2 : Vec F S1024x512 .i32) (x3 : Vec F S64x512 .fp8e4m3) (x4 : Vec F S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f (outPieces c i arg1 harg1 arg2 harg2 arg3 harg3 arg4 harg4 arg5 harg5 arg6 harg6 arg7 harg7 arg8 harg8 x0 x1 x2 x3 x4)) ∗ (∃ d, owns (c : Thread nD τ) arg7 fullShare d) ∗ (∃ d, owns (c : Thread nD τ) arg8 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8) K := by
  intro E K
  simp only [cc0_qkv_eq_skeleton]; unfold cc0_qkv_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists f5
    rw [← outPieces_eq c i arg1 harg1 arg2 harg2 arg3 harg3 arg4 harg4 arg5 harg5 arg6 harg6 arg7 harg7 arg8 harg8 x0 x1 x2 x3 x4 fs0]
    iexact H5
  isplitl [HS0]
  · iexists _, _; isplitr; swap; · iexact HS0
    ipureintro; rfl
  iexists _, _; isplitr; swap; · iexact HS1
  ipureintro; rfl

end Cert.QkvIdeal.Gen

end
-- ==== Proof.QkvIdealFrame.lean ====
/-
  The frame of `QkvIdeal` over the run of `QkvIdealRun`: what the outputs hold point by point, the body obligation, the run.
-/
module

public import proofs.«01_k».proof.Proof.QkvIdealRun
public import Idealize.ShloMosaic.Lib.Claim

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 5 tile its block (3 stores of `S512x512`, checked by the kernel's evaluation: Lib/Ring.lean `Piece.tiledL`, linear in the pieces, through a loop's `@[irreducible]` trip theorem too), so they cover it. -/
theorem cover0_A_5 (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x512 .i32) (harg3 : arg3.IsWhole) (arg4 : Memref sig .tc .vmem S64x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S8192x512 .bf16) (harg7 : arg7.IsWhole) (arg8 : Memref sig .tc .vmem S64x512 .f32) (harg8 : arg8.IsWhole)
    (x0 : Vec F S1536x8192 .fp8e4m3) (x1 : Vec F S1536x1 .f32) (x2 : Vec F S1024x512 .i32) (x3 : Vec F S64x512 .fp8e4m3) (x4 : Vec F S1x512 .f32) (y : S1536x512.Idx) :
    ∃ pc ∈ (outPieces c i arg1 harg1 arg2 harg2 arg3 harg3 arg4 harg4 arg5 harg5 arg6 harg6 arg7 harg7 arg8 harg8 x0 x1 x2 x3 x4), y ∈ pc.1.set :=
  View.cover_of_tiledL (outPieces c i arg1 harg1 arg2 harg2 arg3 harg3 arg4 harg4 arg5 harg5 arg6 harg6 arg7 harg7 arg8 harg8 x0 x1 x2 x3 x4) S512x512.size (by sl_kernel_rfl) y

/-- What the run leaves in output 5's staging buffer: its pieces read back over junk. -/
def out0_A_5 (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x512 .i32) (harg3 : arg3.IsWhole) (arg4 : Memref sig .tc .vmem S64x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S8192x512 .bf16) (harg7 : arg7.IsWhole) (arg8 : Memref sig .tc .vmem S64x512 .f32) (harg8 : arg8.IsWhole)
    (x0 : Vec F S1536x8192 .fp8e4m3) (x1 : Vec F S1536x1 .f32) (x2 : Vec F S1024x512 .i32) (x3 : Vec F S64x512 .fp8e4m3) (x4 : Vec F S1x512 .f32) : Vec F S1536x512 .f32 :=
  VO0_5.read (Elt F) (VO0_5.writes (Elt F) VO0_5.junk (outPieces c i arg1 harg1 arg2 harg2 arg3 harg3 arg4 harg4 arg5 harg5 arg6 harg6 arg7 harg7 arg8 harg8 x0 x1 x2 x3 x4))

/-! ## What the outputs hold after each point -/

/-- What the outputs' staging buffers hold after the body at point `t`: the run's contents at
    the point's memrefs and input blocks. -/
def outsAt0 (c : Dev nD) (t : Fin cfg0.N) : Vec F S1536x512 .f32 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outsAt0
  unfold out0_A_5
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%e5, H5⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_A_5 c _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_QkvIdeal`'s statement (Defs.lean) at any `F` — Proof.lean cites it at `Bits`:
    `theorem Cert.Proof.claim : Cert.Claim := ⟨Cert.QkvIdeal.Gen.facts, fun m ρ _ => Cert.QkvIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.QkvIdeal.Gen

end
-- ==== Proof.QkvFrame.lean ====
/-
  The gate-up call over the machine's words: its program has the text of its ideal program, whose run is proved for every
  reading of the floats.
-/
module

public import proofs.«01_k».proof.Defs
public import proofs.«01_k».proof.Proof.Gen.Qkv
public import proofs.«01_k».proof.Proof.QkvIdealFrame

@[expose] public section

noncomputable section

namespace Cert.QkvFrame

open Idealize.ShloMosaic Idealize.SL.Sem

/-- The two programs have one text: their kernels' body tables are equal. -/
theorem defs₀_eq : Cert.Qkv.defs₀ (F := Bits) = Cert.QkvIdeal.defs₀ (F := Bits) := by
  refine congrArg Defs.onTc ?_
  funext l x
  match l, x with
  | 0, _ => rfl
  | ⟨_ + 1, h⟩, _ => exact absurd h (Nat.not_lt.2 (Nat.le_add_left _ _))

/-- So are their whole body tables. -/
theorem defs_eq : Cert.Qkv.defs (F := Bits) = Cert.QkvIdeal.defs (F := Bits) :=
  congrArg (Pipeline.defs Cert.QkvIdeal.pcfgs) defs₀_eq

/-- The program runs and keeps its arguments. -/
theorem frame : Cert.quiescent_Qkv (hQkv := Cert.Qkv.Gen.facts) := by
  intro m ρ _
  rw [defs_eq]
  exact Cert.QkvIdeal.Gen.frame (F := Bits) m ρ

end Cert.QkvFrame

end
-- ==== Proof.QkvIdealWeights.lean ====
/-
  The weight scratch of `QkvIdeal` after its dequantising loop: weight `(k, n)` of the block at row `k`, column `n`.
-/
module

public import proofs.«01_k».proof.Proof.QkvIdealRun
public import proofs.«01_k».proof.Proof.LinBlock

@[expose] public section

noncomputable section

namespace Cert.QkvIdeal.RefValue

open Cert.QkvIdeal Cert.QkvIdeal.Gen Cert.W4
open Idealize.ShloMosaic Idealize.ShloMosaic.TcCoe

/-- Field 0 of the words, times the scale. -/
theorem pay0_at (w : Vec Ideal S128x512 .i32) (g : Vec Ideal S1x512 .f32) (r : Fin 128) (l : Fin 512) :
    k0_pay4 (F := Ideal) w g (ix2 r l) = sgn4 (nib (w (ix2 r l)) 0) * g (ix2 0 l) := by
  pointwise [k0_pay4]
  exact congrArg (· * _) (weight_at _ _ _ _ (by decide) _ 0 (by decide) (by simp [trunci, BitVec.sshiftRight_zero]))

/-- Field 1 of the words, times the scale. -/
theorem pay1_at (w : Vec Ideal S128x512 .i32) (g : Vec Ideal S1x512 .f32) (r : Fin 128) (l : Fin 512) :
    k0_pay6 (F := Ideal) (k0_pay5 (F := Ideal) w g) (ix2 r l) = sgn4 (nib (w (ix2 r l)) 1) * g (ix2 0 l) := by
  pointwise [k0_pay6, k0_pay5]
  exact congrArg (· * _) (weight_at _ _ _ _ (by decide) _ 1 (by decide) rfl)

/-- Field 2 of the words, times the scale. -/
theorem pay2_at (w : Vec Ideal S128x512 .i32) (g : Vec Ideal S1x512 .f32) (r : Fin 128) (l : Fin 512) :
    k0_pay7 (F := Ideal) w g (ix2 r l) = sgn4 (nib (w (ix2 r l)) 2) * g (ix2 0 l) := by
  pointwise [k0_pay7]
  exact congrArg (· * _) (weight_at _ _ _ _ (by decide) _ 2 (by decide) rfl)

/-- Field 3 of the words, times the scale. -/
theorem pay3_at (w : Vec Ideal S128x512 .i32) (g : Vec Ideal S1x512 .f32) (r : Fin 128) (l : Fin 512) :
    k0_pay9 (F := Ideal) (k0_pay8 (F := Ideal) w) g (ix2 r l) = sgn4 (nib (w (ix2 r l)) 3) * g (ix2 0 l) := by
  pointwise [k0_pay9, k0_pay8]
  exact congrArg (· * _) (weight_at _ _ _ _ (by decide) _ 3 (by decide) rfl)

/-- Field 4 of the words, times the scale. -/
theorem pay4_at (w : Vec Ideal S128x512 .i32) (g : Vec Ideal S1x512 .f32) (r : Fin 128) (l : Fin 512) :
    k0_pay10 (F := Ideal) w g (ix2 r l) = sgn4 (nib (w (ix2 r l)) 4) * g (ix2 0 l) := by
  pointwise [k0_pay10]
  exact congrArg (· * _) (weight_at _ _ _ _ (by decide) _ 4 (by decide) rfl)

/-- Field 5 of the words, times the scale. -/
theorem pay5_at (w : Vec Ideal S128x512 .i32) (g : Vec Ideal S1x512 .f32) (r : Fin 128) (l : Fin 512) :
    k0_pay12 (F := Ideal) (k0_pay11 (F := Ideal) w) g (ix2 r l) = sgn4 (nib (w (ix2 r l)) 5) * g (ix2 0 l) := by
  pointwise [k0_pay12, k0_pay11]
  exact congrArg (· * _) (weight_at _ _ _ _ (by decide) _ 5 (by decide) rfl)

/-- Field 6 of the words, times the scale. -/
theorem pay6_at (w : Vec Ideal S128x512 .i32) (g : Vec Ideal S1x512 .f32) (r : Fin 128) (l : Fin 512) :
    k0_pay13 (F := Ideal) w g (ix2 r l) = sgn4 (nib (w (ix2 r l)) 6) * g (ix2 0 l) := by
  pointwise [k0_pay13]
  exact congrArg (· * _) (weight_at _ _ _ _ (by decide) _ 6 (by decide) rfl)

/-- Field 7 of the words, times the scale. -/
theorem pay7_at (w : Vec Ideal S128x512 .i32) (g : Vec Ideal S1x512 .f32) (r : Fin 128) (l : Fin 512) :
    k0_pay2 (F := Ideal) (k0_pay14 (F := Ideal) w) 983055#32 g (ix2 r l) = sgn4 (nib (w (ix2 r l)) 7) * g (ix2 0 l) := by
  pointwise [k0_pay2, k0_pay14]
  exact congrArg (· * _) (weight_at _ _ _ _ (by decide) _ 7 (by decide) rfl)

/-- The group scales, widened: themselves. -/
theorem k0_pay1_at (v : Vec Ideal S64x512 .fp8e4m3) (r : Fin 64) (l : Fin 512) :
    k0_pay1 (F := Ideal) v (ix2 r l) = v (ix2 r l) := by
  pointwise [k0_pay1]

/-- The row offset of chunk `k` of the words. -/
theorem off_word : ∀ k < 8, BitVec.toNat (Scalar.indexCast (Scalar.muli (Scf.iv 0#32 1#32 k) 128#32)) = 128 * k := by
  decide +kernel

/-- The scale row of chunk `k`, field `j`. -/
theorem off_scale : ∀ j < 8, ∀ k < 8, BitVec.toNat (Scalar.indexCast (Scalar.addi (BitVec.ofNat 32 (8 * j)) (Scf.iv 0#32 1#32 k)))
    = 8 * j + k := by
  decide +kernel

/-- The row of the weight scratch of chunk `k`, field `j`. -/
theorem off_row : ∀ j < 8, ∀ k < 8, BitVec.toNat (Scalar.indexCast
    (Scalar.addi (BitVec.ofNat 32 (1024 * j)) (Scalar.muli (Scf.iv 0#32 1#32 k) 128#32))) = 1024 * j + 128 * k := by
  decide +kernel

/-- The scale scratch as the dequantising loop finds it: the group scales. -/
theorem scales (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x512 .i32) (harg3 : arg3.IsWhole) (arg4 : Memref sig .tc .vmem S64x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S8192x512 .bf16) (harg7 : arg7.IsWhole) (arg8 : Memref sig .tc .vmem S64x512 .f32) (harg8 : arg8.IsWhole) (x3 : Vec Ideal S64x512 .fp8e4m3) :
    arg8.view.read (Elt Ideal) (arg8.view.writes (Elt Ideal) arg8.view.junk [⟨Rect.unit ![0, 0] S64x512.size inb_S64x512_S64x512_0_0, k0_pay1 (arg4.view.readAt (Elt Ideal) (Rect.unit ![0, 0] S64x512.size inb_S64x512_S64x512_0_0).toLoadRect (harg4.unread x3))⟩]) = x3 := by
  funext y
  obtain ⟨r, l, rfl⟩ : ∃ (r : Fin 64) (l : Fin 512), y = ix2 r l := ⟨y 0, y 1, eq_ix2 y⟩
  refine (View.read_writes_cons_hit_of_coords _ _ _ _ _ (ix2 r l) (ix2 r l) fun b => ?_).trans ?_
  · match b with
    | ⟨0, _⟩ => show r.val = 0 + 1 * r.val; omega
    | ⟨1, _⟩ => show l.val = 0 + 1 * l.val; omega
  · refine (k0_pay1_at _ r l).trans ?_
    rw [View.readAt_eq_ld, harg4.read_unread]
    exact congrFun (View.ld_unit_zero (S := S64x512) (by decide) _ x3) (ix2 r l)

/-- Every store of a trip of the dequantising loop is the block's weights where it lies. -/
theorem trip_weights (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x512 .i32) (harg3 : arg3.IsWhole) (arg4 : Memref sig .tc .vmem S64x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S8192x512 .bf16) (harg7 : arg7.IsWhole) (arg8 : Memref sig .tc .vmem S64x512 .f32) (harg8 : arg8.IsWhole)
    (x2 : Vec Ideal S1024x512 .i32) (x3 : S64x512.Idx → EReal) (XG : BufTy.Contents (Elt Ideal) arg8.view.ty)
    (hG : arg8.view.read (Elt Ideal) XG = x3) (k : Fin k0_t1_loop.trips) :
    ∀ p ∈ tripL_k0_t1 (F := Ideal) Variants.none c none i arg1 harg1 arg2 harg2 arg3 harg3 arg4 harg4 arg5 harg5 arg6 harg6 arg7 harg7 arg8 harg8 (harg3.unread x2) XG k,
      ∀ q : p.1.shape.Idx, p.2 q = wts (K := 8192) x2 x3 (p.1.emb q) := by
  have hk : k.val < 8 := Nat.lt_of_lt_of_le k.isLt k0_t1_abs.2.1
  have hg : ∀ (o'' : ℕ) (h) (l : Fin 512), arg8.view.readAt (Elt Ideal)
      (Rect.unit (s := S64x512) ![o'', 0] ![1, 512] h).toLoadRect XG (ix2 0 l) = at2 x3 o'' l.val := fun o'' h l => by
    rw [View.readAt_eq_ld, hG]
    refine (ld_ix2 (Val := Elt Ideal) (e := .f32) x3 o'' 0 1 512 h 0 l).trans ?_
    rw [Nat.zero_add]; rfl
  unfold tripL_k0_t1 trip_k0_t1
  dsimp only
  sl_unfold_words
  dsimp only
  have hW : ∀ (h) (r : Fin 128) (l : Fin 512), arg3.view.readAt (Elt Ideal) (Rect.unit (s := S1024x512)
      ![BitVec.toNat (Scalar.indexCast (Scalar.muli (Scf.iv 0#32 1#32 k.val) 128#32)), 0] ![128, 512] h).toLoadRect
      (harg3.unread x2) (ix2 r l) = at2 x2
        (BitVec.toNat (Scalar.indexCast (Scalar.muli (Scf.iv 0#32 1#32 k.val) 128#32)) + r.val) l.val := fun h r l => by
    rw [View.readAt_eq_ld, harg3.read_unread]
    refine (ld_ix2 (Val := Elt Ideal) (e := .i32) x2 _ 0 128 512 h r l).trans ?_
    rw [Nat.zero_add]
  have ho := off_word k.val hk
  have C : ∀ (j : ℕ) (P : S128x512.Idx → EReal) (R o'' : ℕ) (hR : R = 1024 * j + 128 * k.val) (ho'' : o'' = 8 * j + k.val)
      (h1) (h2) (hP : ∀ r l, P (ix2 r l) = sgn4 (nib (arg3.view.readAt (Elt Ideal) (Rect.unit (s := S1024x512)
        ![BitVec.toNat (Scalar.indexCast (Scalar.muli (Scf.iv 0#32 1#32 k.val) 128#32)), 0] ![128, 512] h1).toLoadRect
        (harg3.unread x2) (ix2 r l)) j) * arg8.view.readAt (Elt Ideal)
        (Rect.unit (s := S64x512) ![o'', 0] ![1, 512] h2).toLoadRect XG (ix2 0 l)) (h) (q : S128x512.Idx),
      P q = wts (K := 8192) x2 x3 ((Rect.unit (s := S8192x512) ![R, 0] ![128, 512] h).emb q) := fun j P R o'' hR ho'' h1 h2 hP h q =>
    wts_piece x2 x3 j R _ o'' P _ _ hP (hW _) (hg _ _) (by omega) (by omega) (by omega) h q
  have I : ∀ (j : ℕ) (hj : j < 8) (R : ℕ) (hR : R = 1024 * j + 128 * k.val),
      ∀ a, ![R, 0] a + ![128, 512] a ≤ S8192x512.size a := fun j hj R hR a => match a with
    | ⟨0, _⟩ => by show R + 128 ≤ 8192; omega
    | ⟨1, _⟩ => by show 0 + 512 ≤ 512; omega
  intro p hp
  simp only [List.mem_cons, List.not_mem_nil, or_false] at hp
  rcases hp with rfl | rfl | rfl | rfl | rfl | rfl | rfl | rfl
  · exact C 7 _ _ _ (off_row 7 (by decide) k.val hk) (off_scale 7 (by decide) k.val hk) _ _ (pay7_at _ _)
      (I 7 (by decide) _ (off_row 7 (by decide) k.val hk))
  · exact C 6 _ _ _ (off_row 6 (by decide) k.val hk) (off_scale 6 (by decide) k.val hk) _ _ (pay6_at _ _)
      (I 6 (by decide) _ (off_row 6 (by decide) k.val hk))
  · exact C 5 _ _ _ (off_row 5 (by decide) k.val hk) (off_scale 5 (by decide) k.val hk) _ _ (pay5_at _ _)
      (I 5 (by decide) _ (off_row 5 (by decide) k.val hk))
  · exact C 4 _ _ _ (off_row 4 (by decide) k.val hk) (off_scale 4 (by decide) k.val hk) _ _ (pay4_at _ _)
      (I 4 (by decide) _ (off_row 4 (by decide) k.val hk))
  · exact C 3 _ _ _ (off_row 3 (by decide) k.val hk) (off_scale 3 (by decide) k.val hk) _ _ (pay3_at _ _)
      (I 3 (by decide) _ (off_row 3 (by decide) k.val hk))
  · exact C 2 _ _ _ (off_row 2 (by decide) k.val hk) (off_scale 2 (by decide) k.val hk) _ _ (pay2_at _ _)
      (I 2 (by decide) _ (off_row 2 (by decide) k.val hk))
  · exact C 1 _ _ _ (off_row 1 (by decide) k.val hk) (off_scale 1 (by decide) k.val hk) _ _ (pay1_at _ _)
      (I 1 (by decide) _ (off_row 1 (by decide) k.val hk))
  · exact C 0 _ _ _ (off_row 0 (by decide) k.val hk) (off_scale 0 (by decide) k.val hk) _ _ (pay0_at _ _)
      (I 0 (by decide) _ (off_row 0 (by decide) k.val hk))

/-- So is every store of the loop before trip `n`. -/
theorem pb_weights (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x512 .i32) (harg3 : arg3.IsWhole) (arg4 : Memref sig .tc .vmem S64x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S8192x512 .bf16) (harg7 : arg7.IsWhole) (arg8 : Memref sig .tc .vmem S64x512 .f32) (harg8 : arg8.IsWhole)
    (x2 : Vec Ideal S1024x512 .i32) (x3 : S64x512.Idx → EReal) (XG : BufTy.Contents (Elt Ideal) arg8.view.ty)
    (hG : arg8.view.read (Elt Ideal) XG = x3) : ∀ n : ℕ,
    ∀ p ∈ pb_k0_t1 (F := Ideal) Variants.none c none i arg1 harg1 arg2 harg2 arg3 harg3 arg4 harg4 arg5 harg5 arg6 harg6 arg7 harg7 arg8 harg8 (harg3.unread x2) XG n,
      ∀ q : p.1.shape.Idx, p.2 q = wts (K := 8192) x2 x3 (p.1.emb q)
  | 0, p, hp, q => absurd hp List.not_mem_nil
  | n + 1, p, hp, q => by
    rw [pb_k0_t1.eq_2] at hp
    unfold pb_k0_t1Step at hp
    split at hp
    · rcases List.mem_append.mp hp with hp | hp
      · exact trip_weights c i arg1 harg1 arg2 harg2 arg3 harg3 arg4 harg4 arg5 harg5 arg6 harg6 arg7 harg7 arg8 harg8 x2 x3 XG hG _ p hp q
      · exact pb_weights c i arg1 harg1 arg2 harg2 arg3 harg3 arg4 harg4 arg5 harg5 arg6 harg6 arg7 harg7 arg8 harg8 x2 x3 XG hG n p hp q
    · exact pb_weights c i arg1 harg1 arg2 harg2 arg3 harg3 arg4 harg4 arg5 harg5 arg6 harg6 arg7 harg7 arg8 harg8 x2 x3 XG hG n p hp q

/-- The weight scratch as the matmul loop finds it. -/
theorem weights_read (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x512 .i32) (harg3 : arg3.IsWhole) (arg4 : Memref sig .tc .vmem S64x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S8192x512 .bf16) (harg7 : arg7.IsWhole) (arg8 : Memref sig .tc .vmem S64x512 .f32) (harg8 : arg8.IsWhole)
    (x0 : Vec Ideal S1536x8192 .fp8e4m3) (x1 : Vec Ideal S1536x1 .f32) (x2 : Vec Ideal S1024x512 .i32) (x3 : Vec Ideal S64x512 .fp8e4m3) (x4 : Vec Ideal S1x512 .f32) (f : BufTy.Contents (Elt Ideal) arg7.view.ty) :
    arg7.view.read (Elt Ideal) (arg7.view.writes (Elt Ideal) f (weightPieces (F := Ideal) c i arg1 harg1 arg2 harg2 arg3 harg3 arg4 harg4 arg5 harg5 arg6 harg6 arg7 harg7 arg8 harg8 x0 x1 x2 x3 x4)) = wts (K := 8192) x2 x3 := by
  funext y
  refine View.read_writes_apply_of_pieces _ _ (wts (K := 8192) x2 x3) _ (fun p hp q => ?_) y (weightPieces_cover c i arg1 harg1 arg2 harg2 arg3 harg3 arg4 harg4 arg5 harg5 arg6 harg6 arg7 harg7 arg8 harg8 x0 x1 x2 x3 x4 y)
  unfold weightPieces at hp
  exact pb_weights c i arg1 harg1 arg2 harg2 arg3 harg3 arg4 harg4 arg5 harg5 arg6 harg6 arg7 harg7 arg8 harg8 x2 x3 _ (scales c i arg1 harg1 arg2 harg2 arg3 harg3 arg4 harg4 arg5 harg5 arg6 harg6 arg7 harg7 arg8 harg8 x3) _ p hp q

end Cert.QkvIdeal.RefValue

end
-- ==== Proof.QkvIdealValue.lean ====
/-
  What `QkvIdeal` leaves in its result array, block by block, over the frame of `QkvIdealFrame`.
-/
module

public import proofs.«01_k».proof.Proof.QkvIdealFrame
public import Idealize.ShloMosaic.Lib.Pipeline.Value

@[expose] public section

noncomputable section

namespace Cert.QkvIdeal.Value

open Cert.QkvIdeal Cert.QkvIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`Gen.outsAt0`), read through the window's block. -/
theorem flushed5 (c : Dev nD) (t : Fin cfg0.N) :
    (dats m 0 c).flushed 5 t = (cfg0.win 5).cut (grid0.coords t) (outsAt0 m c t) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — the kernel's one case, `Gen.outsAt0` by definition. -/
theorem flushed5_A (c : Dev nD) (t : Fin cfg0.N) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t)) := by
  simp only [flushed5, outsAt0]

/-- The index map sends distinct grid points to distinct block indices (decided over the 5 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S1536x2560.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v1) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      kept_main_arg0 m r h c,
      kept_main_arg1 m r h c,
      kept_main_arg2 m r h c,
      kept_main_arg3 m r h c,
      kept_main_arg4 m r h c⟩)
    (run_main m ρ)

end Cert.QkvIdeal.Value

end
-- ==== Proof.QkvIdealOut.lean ====
/-
  What the matmul loop of `QkvIdeal` stores: the layer's elements, each a sum over all of the contracted axis.
-/
module

public import proofs.«01_k».proof.Proof.QkvIdealWeights
public import proofs.«01_k».proof.Proof.QkvIdealValue

@[expose] public section

noncomputable section

namespace Cert.QkvIdeal.RefValue

open Cert.QkvIdeal Cert.QkvIdeal.Gen Cert.W4
open Idealize.ShloMosaic Idealize.ShloMosaic.TcCoe

/-- A stretch of the products of tiles: their sum. -/
theorem k0_pay15_at (a0 : Vec Ideal S512x256 .fp8e4m3) (w0 : Vec Ideal S256x512 .bf16) (a1 : Vec Ideal S512x256 .fp8e4m3) (w1 : Vec Ideal S256x512 .bf16) (a2 : Vec Ideal S512x256 .fp8e4m3) (w2 : Vec Ideal S256x512 .bf16) (a3 : Vec Ideal S512x256 .fp8e4m3) (w3 : Vec Ideal S256x512 .bf16) (a4 : Vec Ideal S512x256 .fp8e4m3) (w4 : Vec Ideal S256x512 .bf16) (r l : Fin 512) :
    k0_pay15 (F := Ideal) a0 w0 a1 w1 a2 w2 a3 w3 a4 w4 (ix2 r l)
      = tdot (M := 512) (K := 256) (N := 512) a0 w0 r.val l.val + tdot (M := 512) (K := 256) (N := 512) a1 w1 r.val l.val + tdot (M := 512) (K := 256) (N := 512) a2 w2 r.val l.val + tdot (M := 512) (K := 256) (N := 512) a3 w3 r.val l.val + tdot (M := 512) (K := 256) (N := 512) a4 w4 r.val l.val := by
  pointwise [k0_pay15]
  simp only [sum_tdot]

/-- A stretch of the products of tiles: their sum, added on. -/
theorem k0_pay17_at (v : FVec Ideal S512x512 .f32) (a5 : Vec Ideal S512x256 .fp8e4m3) (w5 : Vec Ideal S256x512 .bf16) (a6 : Vec Ideal S512x256 .fp8e4m3) (w6 : Vec Ideal S256x512 .bf16) (a7 : Vec Ideal S512x256 .fp8e4m3) (w7 : Vec Ideal S256x512 .bf16) (a8 : Vec Ideal S512x256 .fp8e4m3) (w8 : Vec Ideal S256x512 .bf16) (a9 : Vec Ideal S512x256 .fp8e4m3) (w9 : Vec Ideal S256x512 .bf16) (a10 : Vec Ideal S512x256 .fp8e4m3) (w10 : Vec Ideal S256x512 .bf16) (r l : Fin 512) :
    k0_pay17 (F := Ideal) v (k0_pay16 (F := Ideal) a5) w5 (constant S512x512 FTy.f32 0#32) a6 w6 a7 w7 a8 w8 a9 w9 a10 w10 (ix2 r l)
      = v (ix2 r l) + tdot (M := 512) (K := 256) (N := 512) a5 w5 r.val l.val + tdot (M := 512) (K := 256) (N := 512) a6 w6 r.val l.val + tdot (M := 512) (K := 256) (N := 512) a7 w7 r.val l.val + tdot (M := 512) (K := 256) (N := 512) a8 w8 r.val l.val + tdot (M := 512) (K := 256) (N := 512) a9 w9 r.val l.val + tdot (M := 512) (K := 256) (N := 512) a10 w10 r.val l.val := by
  pointwise [k0_pay17, k0_pay16]
  simp only [sum_tdot]

/-- A stretch of the products of tiles: their sum, added on. -/
theorem k0_pay19_at (v : FVec Ideal S512x512 .f32) (a11 : Vec Ideal S512x256 .fp8e4m3) (w11 : Vec Ideal S256x512 .bf16) (a12 : Vec Ideal S512x256 .fp8e4m3) (w12 : Vec Ideal S256x512 .bf16) (a13 : Vec Ideal S512x256 .fp8e4m3) (w13 : Vec Ideal S256x512 .bf16) (a14 : Vec Ideal S512x256 .fp8e4m3) (w14 : Vec Ideal S256x512 .bf16) (a15 : Vec Ideal S512x256 .fp8e4m3) (w15 : Vec Ideal S256x512 .bf16) (a16 : Vec Ideal S512x256 .fp8e4m3) (w16 : Vec Ideal S256x512 .bf16) (r l : Fin 512) :
    k0_pay19 (F := Ideal) v (k0_pay18 (F := Ideal) a11) w11 (constant S512x512 FTy.f32 0#32) a12 w12 a13 w13 a14 w14 a15 w15 a16 w16 (ix2 r l)
      = v (ix2 r l) + tdot (M := 512) (K := 256) (N := 512) a11 w11 r.val l.val + tdot (M := 512) (K := 256) (N := 512) a12 w12 r.val l.val + tdot (M := 512) (K := 256) (N := 512) a13 w13 r.val l.val + tdot (M := 512) (K := 256) (N := 512) a14 w14 r.val l.val + tdot (M := 512) (K := 256) (N := 512) a15 w15 r.val l.val + tdot (M := 512) (K := 256) (N := 512) a16 w16 r.val l.val := by
  pointwise [k0_pay19, k0_pay18]
  simp only [sum_tdot]

/-- A stretch of the products of tiles: their sum, added on. -/
theorem k0_pay21_at (v : FVec Ideal S512x512 .f32) (a17 : Vec Ideal S512x256 .fp8e4m3) (w17 : Vec Ideal S256x512 .bf16) (a18 : Vec Ideal S512x256 .fp8e4m3) (w18 : Vec Ideal S256x512 .bf16) (a19 : Vec Ideal S512x256 .fp8e4m3) (w19 : Vec Ideal S256x512 .bf16) (a20 : Vec Ideal S512x256 .fp8e4m3) (w20 : Vec Ideal S256x512 .bf16) (a21 : Vec Ideal S512x256 .fp8e4m3) (w21 : Vec Ideal S256x512 .bf16) (a22 : Vec Ideal S512x256 .fp8e4m3) (w22 : Vec Ideal S256x512 .bf16) (r l : Fin 512) :
    k0_pay21 (F := Ideal) v (k0_pay20 (F := Ideal) a17) w17 (constant S512x512 FTy.f32 0#32) a18 w18 a19 w19 a20 w20 a21 w21 a22 w22 (ix2 r l)
      = v (ix2 r l) + tdot (M := 512) (K := 256) (N := 512) a17 w17 r.val l.val + tdot (M := 512) (K := 256) (N := 512) a18 w18 r.val l.val + tdot (M := 512) (K := 256) (N := 512) a19 w19 r.val l.val + tdot (M := 512) (K := 256) (N := 512) a20 w20 r.val l.val + tdot (M := 512) (K := 256) (N := 512) a21 w21 r.val l.val + tdot (M := 512) (K := 256) (N := 512) a22 w22 r.val l.val := by
  pointwise [k0_pay21, k0_pay20]
  simp only [sum_tdot]

/-- A stretch of the products of tiles: their sum, added on. -/
theorem k0_pay23_at (v : FVec Ideal S512x512 .f32) (a23 : Vec Ideal S512x256 .fp8e4m3) (w23 : Vec Ideal S256x512 .bf16) (a24 : Vec Ideal S512x256 .fp8e4m3) (w24 : Vec Ideal S256x512 .bf16) (a25 : Vec Ideal S512x256 .fp8e4m3) (w25 : Vec Ideal S256x512 .bf16) (a26 : Vec Ideal S512x256 .fp8e4m3) (w26 : Vec Ideal S256x512 .bf16) (a27 : Vec Ideal S512x256 .fp8e4m3) (w27 : Vec Ideal S256x512 .bf16) (a28 : Vec Ideal S512x256 .fp8e4m3) (w28 : Vec Ideal S256x512 .bf16) (r l : Fin 512) :
    k0_pay23 (F := Ideal) v (k0_pay22 (F := Ideal) a23) w23 (constant S512x512 FTy.f32 0#32) a24 w24 a25 w25 a26 w26 a27 w27 a28 w28 (ix2 r l)
      = v (ix2 r l) + tdot (M := 512) (K := 256) (N := 512) a23 w23 r.val l.val + tdot (M := 512) (K := 256) (N := 512) a24 w24 r.val l.val + tdot (M := 512) (K := 256) (N := 512) a25 w25 r.val l.val + tdot (M := 512) (K := 256) (N := 512) a26 w26 r.val l.val + tdot (M := 512) (K := 256) (N := 512) a27 w27 r.val l.val + tdot (M := 512) (K := 256) (N := 512) a28 w28 r.val l.val := by
  pointwise [k0_pay23, k0_pay22]
  simp only [sum_tdot]

/-- The last stretch, the scales. -/
theorem last_at (v : FVec Ideal S512x512 .f32) (a29 : Vec Ideal S512x256 .fp8e4m3) (w29 : Vec Ideal S256x512 .bf16) (a30 : Vec Ideal S512x256 .fp8e4m3) (w30 : Vec Ideal S256x512 .bf16) (a31 : Vec Ideal S512x256 .fp8e4m3) (w31 : Vec Ideal S256x512 .bf16) (sc : Vec Ideal S512x1 .f32) (cc : Vec Ideal S1x512 .f32) (r l : Fin 512) :
    k0_pay3 (F := Ideal) v (k0_pay24 (F := Ideal) a29) w29 (constant S512x512 FTy.f32 0#32) a30 w30 a31 w31 sc cc (ix2 r l)
      = (v (ix2 r l) + tdot (M := 512) (K := 256) (N := 512) a29 w29 r.val l.val + tdot (M := 512) (K := 256) (N := 512) a30 w30 r.val l.val + tdot (M := 512) (K := 256) (N := 512) a31 w31 r.val l.val) * sc (ix2 r 0) * cc (ix2 0 l) := by
  pointwise [k0_pay3, k0_pay24]
  simp only [sum_tdot]

set_option maxHeartbeats 2000000 in
/-- The whole payload: where each product of tiles is a stretch of one sum, the sum over all of the contracted axis. -/
theorem tiles_at {a0 : Vec Ideal S512x256 .fp8e4m3} {w0 : Vec Ideal S256x512 .bf16} {a1 : Vec Ideal S512x256 .fp8e4m3} {w1 : Vec Ideal S256x512 .bf16} {a2 : Vec Ideal S512x256 .fp8e4m3} {w2 : Vec Ideal S256x512 .bf16} {a3 : Vec Ideal S512x256 .fp8e4m3} {w3 : Vec Ideal S256x512 .bf16} {a4 : Vec Ideal S512x256 .fp8e4m3} {w4 : Vec Ideal S256x512 .bf16} {a5 : Vec Ideal S512x256 .fp8e4m3} {w5 : Vec Ideal S256x512 .bf16} {a6 : Vec Ideal S512x256 .fp8e4m3} {w6 : Vec Ideal S256x512 .bf16} {a7 : Vec Ideal S512x256 .fp8e4m3} {w7 : Vec Ideal S256x512 .bf16} {a8 : Vec Ideal S512x256 .fp8e4m3} {w8 : Vec Ideal S256x512 .bf16} {a9 : Vec Ideal S512x256 .fp8e4m3} {w9 : Vec Ideal S256x512 .bf16} {a10 : Vec Ideal S512x256 .fp8e4m3} {w10 : Vec Ideal S256x512 .bf16} {a11 : Vec Ideal S512x256 .fp8e4m3} {w11 : Vec Ideal S256x512 .bf16} {a12 : Vec Ideal S512x256 .fp8e4m3} {w12 : Vec Ideal S256x512 .bf16} {a13 : Vec Ideal S512x256 .fp8e4m3} {w13 : Vec Ideal S256x512 .bf16} {a14 : Vec Ideal S512x256 .fp8e4m3} {w14 : Vec Ideal S256x512 .bf16} {a15 : Vec Ideal S512x256 .fp8e4m3} {w15 : Vec Ideal S256x512 .bf16} {a16 : Vec Ideal S512x256 .fp8e4m3} {w16 : Vec Ideal S256x512 .bf16} {a17 : Vec Ideal S512x256 .fp8e4m3} {w17 : Vec Ideal S256x512 .bf16} {a18 : Vec Ideal S512x256 .fp8e4m3} {w18 : Vec Ideal S256x512 .bf16} {a19 : Vec Ideal S512x256 .fp8e4m3} {w19 : Vec Ideal S256x512 .bf16} {a20 : Vec Ideal S512x256 .fp8e4m3} {w20 : Vec Ideal S256x512 .bf16} {a21 : Vec Ideal S512x256 .fp8e4m3} {w21 : Vec Ideal S256x512 .bf16} {a22 : Vec Ideal S512x256 .fp8e4m3} {w22 : Vec Ideal S256x512 .bf16} {a23 : Vec Ideal S512x256 .fp8e4m3} {w23 : Vec Ideal S256x512 .bf16} {a24 : Vec Ideal S512x256 .fp8e4m3} {w24 : Vec Ideal S256x512 .bf16} {a25 : Vec Ideal S512x256 .fp8e4m3} {w25 : Vec Ideal S256x512 .bf16} {a26 : Vec Ideal S512x256 .fp8e4m3} {w26 : Vec Ideal S256x512 .bf16} {a27 : Vec Ideal S512x256 .fp8e4m3} {w27 : Vec Ideal S256x512 .bf16} {a28 : Vec Ideal S512x256 .fp8e4m3} {w28 : Vec Ideal S256x512 .bf16} {a29 : Vec Ideal S512x256 .fp8e4m3} {w29 : Vec Ideal S256x512 .bf16} {a30 : Vec Ideal S512x256 .fp8e4m3} {w30 : Vec Ideal S256x512 .bf16} {a31 : Vec Ideal S512x256 .fp8e4m3} {w31 : Vec Ideal S256x512 .bf16}
    (sc : Vec Ideal S512x1 .f32) (cc : Vec Ideal S1x512 .f32) (f : ℕ → EReal) (r l : Fin 512)
    (h0 : tdot (M := 512) (K := 256) (N := 512) a0 w0 r.val l.val = ∑ q ∈ Finset.range 256, f (0 + q))
    (h1 : tdot (M := 512) (K := 256) (N := 512) a1 w1 r.val l.val = ∑ q ∈ Finset.range 256, f (256 + q))
    (h2 : tdot (M := 512) (K := 256) (N := 512) a2 w2 r.val l.val = ∑ q ∈ Finset.range 256, f (512 + q))
    (h3 : tdot (M := 512) (K := 256) (N := 512) a3 w3 r.val l.val = ∑ q ∈ Finset.range 256, f (768 + q))
    (h4 : tdot (M := 512) (K := 256) (N := 512) a4 w4 r.val l.val = ∑ q ∈ Finset.range 256, f (1024 + q))
    (h5 : tdot (M := 512) (K := 256) (N := 512) a5 w5 r.val l.val = ∑ q ∈ Finset.range 256, f (1280 + q))
    (h6 : tdot (M := 512) (K := 256) (N := 512) a6 w6 r.val l.val = ∑ q ∈ Finset.range 256, f (1536 + q))
    (h7 : tdot (M := 512) (K := 256) (N := 512) a7 w7 r.val l.val = ∑ q ∈ Finset.range 256, f (1792 + q))
    (h8 : tdot (M := 512) (K := 256) (N := 512) a8 w8 r.val l.val = ∑ q ∈ Finset.range 256, f (2048 + q))
    (h9 : tdot (M := 512) (K := 256) (N := 512) a9 w9 r.val l.val = ∑ q ∈ Finset.range 256, f (2304 + q))
    (h10 : tdot (M := 512) (K := 256) (N := 512) a10 w10 r.val l.val = ∑ q ∈ Finset.range 256, f (2560 + q))
    (h11 : tdot (M := 512) (K := 256) (N := 512) a11 w11 r.val l.val = ∑ q ∈ Finset.range 256, f (2816 + q))
    (h12 : tdot (M := 512) (K := 256) (N := 512) a12 w12 r.val l.val = ∑ q ∈ Finset.range 256, f (3072 + q))
    (h13 : tdot (M := 512) (K := 256) (N := 512) a13 w13 r.val l.val = ∑ q ∈ Finset.range 256, f (3328 + q))
    (h14 : tdot (M := 512) (K := 256) (N := 512) a14 w14 r.val l.val = ∑ q ∈ Finset.range 256, f (3584 + q))
    (h15 : tdot (M := 512) (K := 256) (N := 512) a15 w15 r.val l.val = ∑ q ∈ Finset.range 256, f (3840 + q))
    (h16 : tdot (M := 512) (K := 256) (N := 512) a16 w16 r.val l.val = ∑ q ∈ Finset.range 256, f (4096 + q))
    (h17 : tdot (M := 512) (K := 256) (N := 512) a17 w17 r.val l.val = ∑ q ∈ Finset.range 256, f (4352 + q))
    (h18 : tdot (M := 512) (K := 256) (N := 512) a18 w18 r.val l.val = ∑ q ∈ Finset.range 256, f (4608 + q))
    (h19 : tdot (M := 512) (K := 256) (N := 512) a19 w19 r.val l.val = ∑ q ∈ Finset.range 256, f (4864 + q))
    (h20 : tdot (M := 512) (K := 256) (N := 512) a20 w20 r.val l.val = ∑ q ∈ Finset.range 256, f (5120 + q))
    (h21 : tdot (M := 512) (K := 256) (N := 512) a21 w21 r.val l.val = ∑ q ∈ Finset.range 256, f (5376 + q))
    (h22 : tdot (M := 512) (K := 256) (N := 512) a22 w22 r.val l.val = ∑ q ∈ Finset.range 256, f (5632 + q))
    (h23 : tdot (M := 512) (K := 256) (N := 512) a23 w23 r.val l.val = ∑ q ∈ Finset.range 256, f (5888 + q))
    (h24 : tdot (M := 512) (K := 256) (N := 512) a24 w24 r.val l.val = ∑ q ∈ Finset.range 256, f (6144 + q))
    (h25 : tdot (M := 512) (K := 256) (N := 512) a25 w25 r.val l.val = ∑ q ∈ Finset.range 256, f (6400 + q))
    (h26 : tdot (M := 512) (K := 256) (N := 512) a26 w26 r.val l.val = ∑ q ∈ Finset.range 256, f (6656 + q))
    (h27 : tdot (M := 512) (K := 256) (N := 512) a27 w27 r.val l.val = ∑ q ∈ Finset.range 256, f (6912 + q))
    (h28 : tdot (M := 512) (K := 256) (N := 512) a28 w28 r.val l.val = ∑ q ∈ Finset.range 256, f (7168 + q))
    (h29 : tdot (M := 512) (K := 256) (N := 512) a29 w29 r.val l.val = ∑ q ∈ Finset.range 256, f (7424 + q))
    (h30 : tdot (M := 512) (K := 256) (N := 512) a30 w30 r.val l.val = ∑ q ∈ Finset.range 256, f (7680 + q))
    (h31 : tdot (M := 512) (K := 256) (N := 512) a31 w31 r.val l.val = ∑ q ∈ Finset.range 256, f (7936 + q))
    {s c : EReal} (hs : sc (ix2 r 0) = s) (hc : cc (ix2 0 l) = c) :
    k0_pay3 (F := Ideal) (k0_pay23 (F := Ideal) (k0_pay21 (F := Ideal) (k0_pay19 (F := Ideal) (k0_pay17 (F := Ideal) (k0_pay15 (F := Ideal) a0 w0 a1 w1 a2 w2 a3 w3 a4 w4) (k0_pay16 (F := Ideal) a5) w5 (constant S512x512 FTy.f32 0#32) a6 w6 a7 w7 a8 w8 a9 w9 a10 w10) (k0_pay18 (F := Ideal) a11) w11 (constant S512x512 FTy.f32 0#32) a12 w12 a13 w13 a14 w14 a15 w15 a16 w16) (k0_pay20 (F := Ideal) a17) w17 (constant S512x512 FTy.f32 0#32) a18 w18 a19 w19 a20 w20 a21 w21 a22 w22) (k0_pay22 (F := Ideal) a23) w23 (constant S512x512 FTy.f32 0#32) a24 w24 a25 w25 a26 w26 a27 w27 a28 w28) (k0_pay24 (F := Ideal) a29) w29 (constant S512x512 FTy.f32 0#32) a30 w30 a31 w31 sc cc (ix2 r l)
      = (∑ q ∈ Finset.range 8192, f q) * s * c := by
  rw [last_at]
  simp only [k0_pay15_at, k0_pay17_at, k0_pay19_at, k0_pay21_at, k0_pay23_at, hs, hc]
  rw [h0, h1, h2, h3, h4, h5, h6, h7, h8, h9, h10, h11, h12, h13, h14, h15, h16, h17, h18, h19, h20, h21, h22, h23, h24, h25, h26, h27, h28, h29, h30, h31]
  simp only [show ∀ q, f (0 + q) = f q from fun q => by rw [Nat.zero_add], sum_step, Nat.reduceAdd]

/-- Element `(t, n)` of an output block. -/
def outBlk (x0 : Vec Ideal S1536x8192 .fp8e4m3) (x1 : Vec Ideal S1536x1 .f32) (x2 : Vec Ideal S1024x512 .i32) (x3 : Vec Ideal S64x512 .fp8e4m3) (x4 : Vec Ideal S1x512 .f32) (y : S1536x512.Idx) : EReal :=
  layerBlk (K := 8192) (k8 := 1024) (kg := 64) (T := 1536) (W := 512) x0 x1 x2 x3 x4 (y 0).val (y 1).val

set_option maxHeartbeats 2000000 in
/-- Every store of a trip of the matmul loop is the output block where it lies. -/
theorem trip_out (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x512 .i32) (harg3 : arg3.IsWhole) (arg4 : Memref sig .tc .vmem S64x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S8192x512 .bf16) (harg7 : arg7.IsWhole) (arg8 : Memref sig .tc .vmem S64x512 .f32) (harg8 : arg8.IsWhole)
    (x0 : Vec Ideal S1536x8192 .fp8e4m3) (x1 : Vec Ideal S1536x1 .f32) (x2 : Vec Ideal S1024x512 .i32) (x3 : Vec Ideal S64x512 .fp8e4m3) (x4 : Vec Ideal S1x512 .f32) (XW : BufTy.Contents (Elt Ideal) arg7.view.ty)
    (hW : arg7.view.read (Elt Ideal) XW = wts (K := 8192) x2 x3) (k : Fin k0_t2_loop.trips) :
    ∀ p ∈ tripL_k0_t2 (F := Ideal) Variants.none c none i arg1 harg1 arg2 harg2 arg3 harg3 arg4 harg4 arg5 harg5 arg6 harg6 arg7 harg7 arg8 harg8 (harg1.unread x0) (harg2.unread x1) (harg5.unread x4) XW k,
      ∀ q : p.1.shape.Idx, p.2 q = outBlk x0 x1 x2 x3 x4 (p.1.emb q) := by
  unfold tripL_k0_t2 trip_k0_t2
  dsimp only
  sl_unfold_words
  dsimp only
  intro p hp
  rw [List.mem_singleton] at hp
  subst hp
  intro q
  obtain ⟨r, l, rfl⟩ : ∃ (r l : Fin 512), q = ix2 r l := ⟨q 0, q 1, eq_ix2 q⟩
  obtain ⟨f, hf⟩ : ∃ f : ℕ → EReal, f = fun q => at2 (α := EReal) x0 ((BitVec.toNat (Scalar.indexCast (Scalar.muli (Scf.iv 0#32 1#32 k.val) 512#32))) + r.val) q
      * at2 (α := EReal) (m := 8192) (n := 512) (wts (K := 8192) x2 x3) q l.val := ⟨_, rfl⟩
  have T : ∀ (o : ℕ) (h) (h'),
      tdot (M := 512) (K := 256) (N := 512)
        (arg1.view.readAt (Elt Ideal) (Rect.unit (s := S1536x8192) ![(BitVec.toNat (Scalar.indexCast (Scalar.muli (Scf.iv 0#32 1#32 k.val) 512#32))), o] ![512, 256] h).toLoadRect (harg1.unread x0))
        (arg7.view.readAt (Elt Ideal) (Rect.unit (s := S8192x512) ![o, 0] ![256, 512] h').toLoadRect XW) r.val l.val
      = ∑ q ∈ Finset.range 256, f (o + q) := fun o h h' => by
    rw [View.readAt_eq_ld, View.readAt_eq_ld, harg1.read_unread, hW, hf]
    exact tdot_ld (M := 512) (K := 256) (N := 512) x0 _ (BitVec.toNat (Scalar.indexCast (Scalar.muli (Scf.iv 0#32 1#32 k.val) 512#32))) o r.val l.val h h' r.isLt l.isLt
  have hs : ∀ (h), arg2.view.readAt (Elt Ideal) (Rect.unit (s := S1536x1) ![(BitVec.toNat (Scalar.indexCast (Scalar.muli (Scf.iv 0#32 1#32 k.val) 512#32))), 0] ![512, 1] h).toLoadRect (harg2.unread x1) (ix2 r 0)
      = at2 (α := EReal) x1 ((BitVec.toNat (Scalar.indexCast (Scalar.muli (Scf.iv 0#32 1#32 k.val) 512#32))) + r.val) 0 := fun h => by
    rw [View.readAt_eq_ld, harg2.read_unread]
    exact ld_ix2 (Val := fun _ => EReal) (e := .f32) x1 (BitVec.toNat (Scalar.indexCast (Scalar.muli (Scf.iv 0#32 1#32 k.val) 512#32))) 0 512 1 h r 0
  have hc : ∀ (h), arg5.view.readAt (Elt Ideal) (Rect.unit (s := S1x512) ![0, 0] ![1, 512] h).toLoadRect (harg5.unread x4) (ix2 0 l)
      = at2 (α := EReal) x4 0 l.val := fun h => by
    rw [View.readAt_eq_ld, harg5.read_unread]
    exact (ld_ix2 (Val := fun _ => EReal) (e := .f32) x4 0 0 1 512 h 0 l).trans
      (congrArg (fun n => at2 (α := EReal) x4 0 n) (Nat.zero_add l.val))
  refine (tiles_at _ _ f r l (T 0 _ _) (T 256 _ _) (T 512 _ _) (T 768 _ _) (T 1024 _ _) (T 1280 _ _) (T 1536 _ _) (T 1792 _ _) (T 2048 _ _) (T 2304 _ _) (T 2560 _ _) (T 2816 _ _) (T 3072 _ _) (T 3328 _ _) (T 3584 _ _) (T 3840 _ _) (T 4096 _ _) (T 4352 _ _) (T 4608 _ _) (T 4864 _ _) (T 5120 _ _) (T 5376 _ _) (T 5632 _ _) (T 5888 _ _) (T 6144 _ _) (T 6400 _ _) (T 6656 _ _) (T 6912 _ _) (T 7168 _ _) (T 7424 _ _) (T 7680 _ _) (T 7936 _ _) (hs _) (hc _)).trans ?_
  have e : ∑ q ∈ Finset.range 8192, f q
      = ∑ q ∈ Finset.range 8192, at2 (α := EReal) x0 ((BitVec.toNat (Scalar.indexCast (Scalar.muli (Scf.iv 0#32 1#32 k.val) 512#32))) + r.val) q * wt 1024 (at2 (α := BitVec 32) x2) (at2 (α := EReal) x3) q l.val := by
    rw [hf]
    exact sum_wts (fun q => at2 (α := EReal) x0 ((BitVec.toNat (Scalar.indexCast (Scalar.muli (Scf.iv 0#32 1#32 k.val) 512#32))) + r.val) q) x2 x3 l.val l.isLt
  rw [e]
  unfold outBlk layerBlk
  show _ = lin 8192 1024 _ _ _ _ _ ((BitVec.toNat (Scalar.indexCast (Scalar.muli (Scf.iv 0#32 1#32 k.val) 512#32))) + 1 * r.val) (0 + 1 * l.val)
  rw [Nat.one_mul, Nat.one_mul, Nat.zero_add]
  rfl

/-- So is every store of the loop before trip `n`. -/
theorem pb_out (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x512 .i32) (harg3 : arg3.IsWhole) (arg4 : Memref sig .tc .vmem S64x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S8192x512 .bf16) (harg7 : arg7.IsWhole) (arg8 : Memref sig .tc .vmem S64x512 .f32) (harg8 : arg8.IsWhole)
    (x0 : Vec Ideal S1536x8192 .fp8e4m3) (x1 : Vec Ideal S1536x1 .f32) (x2 : Vec Ideal S1024x512 .i32) (x3 : Vec Ideal S64x512 .fp8e4m3) (x4 : Vec Ideal S1x512 .f32) (XW : BufTy.Contents (Elt Ideal) arg7.view.ty)
    (hW : arg7.view.read (Elt Ideal) XW = wts (K := 8192) x2 x3) : ∀ n : ℕ,
    ∀ p ∈ pb_k0_t2 (F := Ideal) Variants.none c none i arg1 harg1 arg2 harg2 arg3 harg3 arg4 harg4 arg5 harg5 arg6 harg6 arg7 harg7 arg8 harg8 (harg1.unread x0) (harg2.unread x1) (harg5.unread x4) XW n,
      ∀ q : p.1.shape.Idx, p.2 q = outBlk x0 x1 x2 x3 x4 (p.1.emb q)
  | 0, p, hp, q => absurd hp List.not_mem_nil
  | n + 1, p, hp, q => by
    rw [pb_k0_t2.eq_2] at hp
    unfold pb_k0_t2Step at hp
    split at hp
    · rcases List.mem_append.mp hp with hp | hp
      · exact trip_out c i arg1 harg1 arg2 harg2 arg3 harg3 arg4 harg4 arg5 harg5 arg6 harg6 arg7 harg7 arg8 harg8 x0 x1 x2 x3 x4 XW hW _ p hp q
      · exact pb_out c i arg1 harg1 arg2 harg2 arg3 harg3 arg4 harg4 arg5 harg5 arg6 harg6 arg7 harg7 arg8 harg8 x0 x1 x2 x3 x4 XW hW n p hp q
    · exact pb_out c i arg1 harg1 arg2 harg2 arg3 harg3 arg4 harg4 arg5 harg5 arg6 harg6 arg7 harg7 arg8 harg8 x0 x1 x2 x3 x4 XW hW n p hp q

/-- The output block after the body. -/
theorem out_read (c : Dev nD) (i : grid0.Coords) (arg1 : Memref sig .tc .vmem S1536x8192 .fp8e4m3) (harg1 : arg1.IsWhole) (arg2 : Memref sig .tc .vmem S1536x1 .f32) (harg2 : arg2.IsWhole) (arg3 : Memref sig .tc .vmem S1024x512 .i32) (harg3 : arg3.IsWhole) (arg4 : Memref sig .tc .vmem S64x512 .fp8e4m3) (harg4 : arg4.IsWhole) (arg5 : Memref sig .tc .vmem S1x512 .f32) (harg5 : arg5.IsWhole) (arg6 : Memref sig .tc .vmem S1536x512 .f32) (harg6 : arg6.IsWhole) (arg7 : Memref sig .tc .vmem S8192x512 .bf16) (harg7 : arg7.IsWhole) (arg8 : Memref sig .tc .vmem S64x512 .f32) (harg8 : arg8.IsWhole)
    (x0 : Vec Ideal S1536x8192 .fp8e4m3) (x1 : Vec Ideal S1536x1 .f32) (x2 : Vec Ideal S1024x512 .i32) (x3 : Vec Ideal S64x512 .fp8e4m3) (x4 : Vec Ideal S1x512 .f32) :
    out0_A_5 (F := Ideal) c i arg1 harg1 arg2 harg2 arg3 harg3 arg4 harg4 arg5 harg5 arg6 harg6 arg7 harg7 arg8 harg8 x0 x1 x2 x3 x4 = outBlk x0 x1 x2 x3 x4 := by
  funext y
  refine View.read_writes_apply_of_pieces _ _ (outBlk x0 x1 x2 x3 x4) _ (fun p hp q => ?_) y (cover0_A_5 c i arg1 harg1 arg2 harg2 arg3 harg3 arg4 harg4 arg5 harg5 arg6 harg6 arg7 harg7 arg8 harg8 x0 x1 x2 x3 x4 y)
  unfold outPieces at hp
  exact pb_out c i arg1 harg1 arg2 harg2 arg3 harg3 arg4 harg4 arg5 harg5 arg6 harg6 arg7 harg7 arg8 harg8 x0 x1 x2 x3 x4 _ (weights_read c i arg1 harg1 arg2 harg2 arg3 harg3 arg4 harg4 arg5 harg5 arg6 harg6 arg7 harg7 arg8 harg8 x0 x1 x2 x3 x4 _) _ p hp q

end Cert.QkvIdeal.RefValue

end
-- ==== Proof.QkvIdealFinal.lean ====
/-
  The array that `QkvIdeal` leaves: at every element the layer of the argument arrays.
-/
module

public import proofs.«01_k».proof.Proof.QkvIdealOut
public import Idealize.ShloMosaic.Lib.Claim
public import Idealize.ShloMosaic.Lib.Pipeline.ValueKit

@[expose] public section

noncomputable section

namespace Cert.QkvIdeal.RefValue

open Cert.QkvIdeal Cert.QkvIdeal.Gen Cert.QkvIdeal.Value Cert.W4
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Where each window's block stands at a grid point. -/
theorem idx : ∀ t : Fin cfg0.N, win0_0.index t = ![0, 0] ∧ win0_1.index t = ![0, 0] ∧ win0_2.index t = ![0, t.val] ∧ win0_3.index t = ![0, t.val] ∧ win0_4.index t = ![0, t.val] ∧ win0_5.index t = ![0, t.val] := by
  decide +kernel

/-- The activations come whole. -/
theorem iblk0 (c : Dev nD) (t : Fin cfg0.N) (i j : ℕ) (hi : i < 1536) (hj : j < 8192) :
    at2 (α := EReal) (m := 1536) (n := 8192) (iblk m c 0 t) i j
      = at2 (α := EReal) (m := 1536) (n := 8192) (m ((c.tc : Thread nD τ).loc main_arg0)) i j := by
  have ht : t.val < 5 := t.isLt
  rw [at2_of _ hi hj, at2_of _ hi (by omega)]
  blk_ext [iblk, V, idx t]

/-- The row scales come whole. -/
theorem iblk1 (c : Dev nD) (t : Fin cfg0.N) (i j : ℕ) (hi : i < 1536) (hj : j < 1) :
    at2 (α := EReal) (m := 1536) (n := 1) (iblk m c 1 t) i j
      = at2 (α := EReal) (m := 1536) (n := 1) (m ((c.tc : Thread nD τ).loc main_arg1)) i j := by
  have ht : t.val < 5 := t.isLt
  rw [at2_of _ hi hj, at2_of _ hi (by omega)]
  blk_ext [iblk, V, idx t]

/-- The word block. -/
theorem iblk2 (c : Dev nD) (t : Fin cfg0.N) (i j : ℕ) (hi : i < 1024) (hj : j < 512) :
    at2 (α := BitVec 32) (m := 1024) (n := 512) (iblk m c 2 t) i j
      = at2 (α := BitVec 32) (m := 1024) (n := 2560) (m ((c.tc : Thread nD τ).loc main_arg2)) i (512 * t.val + j) := by
  have ht : t.val < 5 := t.isLt
  rw [at2_of _ hi hj, at2_of _ hi (by omega)]
  blk_ext [iblk, V, idx t]

/-- The group scales. -/
theorem iblk3 (c : Dev nD) (t : Fin cfg0.N) (i j : ℕ) (hi : i < 64) (hj : j < 512) :
    at2 (α := EReal) (m := 64) (n := 512) (iblk m c 3 t) i j
      = at2 (α := EReal) (m := 64) (n := 2560) (m ((c.tc : Thread nD τ).loc main_arg3)) i (512 * t.val + j) := by
  have ht : t.val < 5 := t.isLt
  rw [at2_of _ hi hj, at2_of _ hi (by omega)]
  blk_ext [iblk, V, idx t]

/-- The column scales. -/
theorem iblk4 (c : Dev nD) (t : Fin cfg0.N) (j : ℕ) (hj : j < 512) :
    at2 (α := EReal) (m := 1) (n := 512) (iblk m c 4 t) 0 j
      = at1 (α := EReal) (n := 2560) (m ((c.tc : Thread nD τ).loc main_arg4)) (512 * t.val + j) := by
  have ht : t.val < 5 := t.isLt
  rw [at2_of _ (by omega) hj, at1_of _ (by omega)]
  blk_ext! [iblk, idx t]

/-- The array the kernel leaves. -/
theorem result (c : Dev nD) :
    (dats m 0 c).arrAt 5 cfg0.N
      = fun y : S1536x2560.Idx => layer (k8 := 1024) (T := 1536) (K := 8192) (kg := 64) (N := 2560)
          (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (y 0).val (y 1).val := by
  refine (dats m 0 c).arrAt_eq_of_covers 5 _ (by decide +kernel) fun t hf y => ?_
  have ht : t.val < 5 := t.isLt
  refine (congrFun (flushed5_A m c t) y).trans ?_
  rw [out_read]
  have h0 : (y 0).val < 1536 := (y 0).isLt
  have h1 : (y 1).val < 512 := (y 1).isLt
  have e0 : (((cfg0.win 5).blk t).view.emb y 0).val = (y 0).val := by blk_simp [idx t]
  have e1 : (((cfg0.win 5).blk t).view.emb y 1).val = 512 * t.val + (y 1).val := by blk_simp [idx t]; omega
  rw [e0, e1]
  show outBlk _ _ _ _ _ y = _
  unfold outBlk layerBlk layer
  exact lin_congr (by omega) (fun k hk => iblk0 m c t _ _ h0 hk) (iblk1 m c t _ _ h0 (by omega))
      (fun k hk => iblk2 m c t _ _ hk h1) (fun k hk => iblk3 m c t _ _ (by omega) h1) (iblk4 m c t _ h1)

end Cert.QkvIdeal.RefValue

end
-- ==== Proof.QkvRefIdealOut.lean ====
/-
  The array that the reference leaves: at every element the layer of the argument arrays.
-/
module

public import proofs.«01_k».proof.Proof.Gen.QkvRefIdeal.Value
public import proofs.«01_k».proof.Proof.RefCode
public import proofs.«01_k».proof.Proof.LinBlock
public import Idealize.ShloMosaic.Lib.Claim
public import Idealize.ShloMosaic.Lib.Pipeline.ValueKit

@[expose] public section

noncomputable section

namespace Cert.QkvRefIdeal.RefValue

open Cert.QkvRefIdeal Cert.QkvRefIdeal.Gen Cert.QkvRefIdeal.Value Cert.W4
open Idealize.ShloMosaic Idealize.ShloMosaic.TcCoe Idealize.SL.Sem

set_option maxHeartbeats 1000000 in
/-- The body's last value at an element. -/
theorem k0_pay1_at (v0 v1 v3 v5 v37 v43 v49 v55 v61 v67 v73 v79) (r : Fin 1536) (l : Fin 2560) :
    k0_pay1 (F := Ideal) v0 v1 v3 v5 v37 v43 v49 v55 v61 v67 v73 v79 (ix2 r l)
      = refLin 8192 1024 (at2 (α := EReal) (m := 1536) (n := 8192) v0) (fun t => at2 (α := EReal) (m := 1536) (n := 1) v1 t 0)
          (stack8 1024 (at2 v43) (at2 v49) (at2 v55) (at2 v61) (at2 v67) (at2 v73) (at2 v79) (fun i n => trunc8 (at2 v37 i n)))
          (at2 (α := EReal) (m := 64) (n := 2560) v3) (fun n => at2 (α := EReal) (m := 1) (n := 2560) v5 0 n) r.val l.val := by
  pointwise [k0_pay1]
  unfold refLin
  refine congrArg₂ (· * ·) (congrArg₂ (· * ·) (Finset.sum_congr rfl fun k _ => ?_) (ix2_at2 (α := EReal) (m := 1536) (n := 1) v1 r 0))
    (ix2_at2 (α := EReal) (m := 1) (n := 2560) v5 0 _)
  rw [ix2_at2 (α := EReal) (m := 1536) (n := 8192) v0 r k, ix2_at2 (α := EReal) (m := 64) (n := 2560) v3]
  refine congrArg (_ * ·) (congrArg (· * _) (congrArg _ ?_))
  unfold stack8
  refine dite_ite (fun _ => ix2_at2 v43 _ _) fun _ => dite_ite (fun _ => ix2_at2 v49 _ _) fun _ =>
    dite_ite (fun _ => ix2_at2 v55 _ _) fun _ => dite_ite (fun _ => ix2_at2 v61 _ _) fun _ =>
    dite_ite (fun _ => ix2_at2 v67 _ _) fun _ => dite_ite (fun _ => ix2_at2 v73 _ _) fun _ =>
    dite_ite (fun _ => ix2_at2 v79 _ _) fun _ => congrArg trunc8 (ix2_at2 v37 _ _)

/-- The eight fields of a word, as the body cuts them out. -/
theorem fields_at (v2 : Vec Ideal S1024x2560 .i32) (i j : ℕ) (hi : i < 1024) (hj : j < 2560) :
    at2 (α := BitVec 8) (k0_pay12 (k0_pay3 (F := Ideal) v2)) i j = code8 (at2 (α := BitVec 32) (m := 1024) (n := 2560) v2 i j) 0#32 ∧
    at2 (α := BitVec 8) (k0_pay13 (k0_pay4 (F := Ideal) v2)) i j = code8 (at2 (α := BitVec 32) (m := 1024) (n := 2560) v2 i j) 4#32 ∧
    at2 (α := BitVec 8) (k0_pay14 (k0_pay5 (F := Ideal) v2)) i j = code8 (at2 (α := BitVec 32) (m := 1024) (n := 2560) v2 i j) 8#32 ∧
    at2 (α := BitVec 8) (k0_pay15 (k0_pay6 (F := Ideal) v2)) i j = code8 (at2 (α := BitVec 32) (m := 1024) (n := 2560) v2 i j) 12#32 ∧
    at2 (α := BitVec 8) (k0_pay16 (k0_pay7 (F := Ideal) v2)) i j = code8 (at2 (α := BitVec 32) (m := 1024) (n := 2560) v2 i j) 16#32 ∧
    at2 (α := BitVec 8) (k0_pay17 (k0_pay8 (F := Ideal) v2)) i j = code8 (at2 (α := BitVec 32) (m := 1024) (n := 2560) v2 i j) 20#32 ∧
    at2 (α := BitVec 8) (k0_pay18 (k0_pay9 (F := Ideal) v2)) i j = code8 (at2 (α := BitVec 32) (m := 1024) (n := 2560) v2 i j) 24#32 ∧
    at2 (α := BitVec 32) (k0_pay11 v2 k0_pay10) i j
      = IntOp.andi (IntOp.shrsi ArithUnit.vector (at2 (α := BitVec 32) (m := 1024) (n := 2560) v2 i j) 28#32) 15#32 := by
  refine ⟨?_, ?_, ?_, ?_, ?_, ?_, ?_, ?_⟩ <;> rw [at2_of _ hi hj, at2_of _ hi hj] <;> (try unfold code8 trunc8) <;>
    pointwise [k0_pay3, k0_pay4, k0_pay5, k0_pay6, k0_pay7, k0_pay8, k0_pay9, k0_pay10, k0_pay11, k0_pay12, k0_pay13, k0_pay14, k0_pay15, k0_pay16, k0_pay17, k0_pay18]

/-- What the body leaves in its output, at an element. -/
theorem out_read (x0 x1 x2 x3 x4) (y : S1536x2560.Idx) :
    out0_5 (F := Ideal) x0 x1 x2 x3 x4 y
      = lin 8192 1024 (at2 (α := EReal) (m := 1536) (n := 8192) x0) (fun t => at2 (α := EReal) (m := 1536) (n := 1) x1 t 0)
          (at2 (α := BitVec 32) (m := 1024) (n := 2560) x2) (at2 (α := EReal) (m := 64) (n := 2560) x3)
          (fun n => at2 (α := EReal) (m := 1) (n := 2560) x4 0 n) (y 0).val (y 1).val := by
  have hy1 : (y 1).val < 2560 := (y 1).isLt
  unfold out0_5
  rw [View.canon_cons_unit_lit _ _ _ (by decide)]
  rw [eq_ix2 y]
  refine (k0_pay1_at _ _ _ _ _ _ _ _ _ _ _ _ (y 0) (y 1)).trans ?_
  have e0 : View.ld x0 r0_0 = x0 := View.ld_unit_lit _ _ (by decide)
  have e1 : View.ld x1 r0_1 = x1 := View.ld_unit_lit _ _ (by decide)
  have e2 : View.ld x2 r0_2 = x2 := View.ld_unit_lit _ _ (by decide)
  have e3 : View.ld x3 r0_3 = x3 := View.ld_unit_lit _ _ (by decide)
  have e4 : k0_pay2 (View.ld x4 r0_4) = x4 := by
    rw [show View.ld x4 r0_4 = x4 from View.ld_unit_lit _ _ (by decide)]
    funext z
    pointwise [k0_pay2]
  rw [e0, e1, e2, e3, e4]
  refine refLin_eq _ _ _ _ _ _ _ _ (stack8_eq (k8 := 1024) _ _ _ _ _ _ _ _ _ _ ?_ ?_ ?_ ?_ ?_ ?_ ?_ ?_)
  · exact fun i hi => (fields_at x2 i _ hi hy1).1
  · exact fun i hi => (fields_at x2 i _ hi hy1).2.1
  · exact fun i hi => (fields_at x2 i _ hi hy1).2.2.1
  · exact fun i hi => (fields_at x2 i _ hi hy1).2.2.2.1
  · exact fun i hi => (fields_at x2 i _ hi hy1).2.2.2.2.1
  · exact fun i hi => (fields_at x2 i _ hi hy1).2.2.2.2.2.1
  · exact fun i hi => (fields_at x2 i _ hi hy1).2.2.2.2.2.2.1
  · exact fun i hi => congrArg trunc8 (fields_at x2 i _ hi hy1).2.2.2.2.2.2.2

/-- Where each window's block stands: at the origin. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] := by
  decide +kernel

variable (m : (ℓ : Loc nD τ sig) → Buf (Elt Ideal) ℓ)

/-- Argument 0 comes whole. -/
theorem iblk0 (c : Dev nD) (t : Fin cfg0.N) : iblk m c 0 t = m ((c.tc : Thread nD τ).loc main_arg0) := by
  funext z
  blk_ext [iblk, V, idx t]

/-- Argument 1 comes whole. -/
theorem iblk1 (c : Dev nD) (t : Fin cfg0.N) : iblk m c 1 t = m ((c.tc : Thread nD τ).loc main_arg1) := by
  funext z
  blk_ext [iblk, V, idx t]

/-- Argument 2 comes whole. -/
theorem iblk2 (c : Dev nD) (t : Fin cfg0.N) : iblk m c 2 t = m ((c.tc : Thread nD τ).loc main_arg2) := by
  funext z
  blk_ext [iblk, V, idx t]

/-- Argument 3 comes whole. -/
theorem iblk3 (c : Dev nD) (t : Fin cfg0.N) : iblk m c 3 t = m ((c.tc : Thread nD τ).loc main_arg3) := by
  funext z
  blk_ext [iblk, V, idx t]

/-- The column scales come whole, as one row. -/
theorem iblk4 (c : Dev nD) (t : Fin cfg0.N) (j : ℕ) (hj : j < 2560) :
    at2 (α := EReal) (m := 1) (n := 2560) (iblk m c 4 t) 0 j
      = at1 (α := EReal) (n := 2560) (m ((c.tc : Thread nD τ).loc main_arg4)) j := by
  rw [at2_of _ (by omega) hj, at1_of _ (by omega)]
  blk_ext! [iblk, idx t]

/-- The array the reference leaves. -/
theorem result (c : Dev nD) :
    (dats m 0 c).arrAt 5 cfg0.N
      = fun y : S1536x2560.Idx => layer (k8 := 1024) (T := 1536) (K := 8192) (kg := 64) (N := 2560)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (y 0).val (y 1).val := by
  refine (dats m 0 c).arrAt_eq_of_covers 5 _ (by decide +kernel) fun t hf y => ?_
  refine (congrFun (flushed5 m c t) y).trans ?_
  have h0 : (y 0).val < 1536 := (y 0).isLt
  have h1 : (y 1).val < 2560 := (y 1).isLt
  have e0 : (((cfg0.win 5).blk t).view.emb y 0).val = (y 0).val := by blk_simp [idx t]
  have e1 : (((cfg0.win 5).blk t).view.emb y 1).val = (y 1).val := by blk_simp [idx t]
  rw [e0, e1]
  refine (out_read _ _ _ _ _ y).trans ?_
  unfold layer
  rw [iblk0, iblk1, iblk2, iblk3]
  exact lin_congr (by omega) (fun k hk => rfl) rfl (fun k hk => rfl) (fun k hk => rfl) (iblk4 m c t _ h1)

end Cert.QkvRefIdeal.RefValue

end
-- ==== Proof.QkvClaim.lean ====
/-
  The gate-up layer: the kernel and the reference leave the same array.
-/
module

public import proofs.«01_k».proof.Defs
public import proofs.«01_k».proof.Proof.QkvIdealFinal
public import proofs.«01_k».proof.Proof.QkvRefIdealOut

@[expose] public section

noncomputable section

namespace Cert.QkvClaim

open Idealize.ShloMosaic Idealize.SL.Sem

/-- From memories that agree on the arguments, kernel and reference both run, end with one result and keep their
    arguments. -/
theorem algebraic : Cert.algebraic_QkvIdeal_QkvRefIdeal (hQkvIdeal := Cert.QkvIdeal.Gen.facts)
    (hQkvRefIdeal := Cert.QkvRefIdeal.Gen.facts) := by
  intro m ρ m' ρ' _ hagree
  refine ⟨fun c => _, Cert.QkvIdeal.Value.run_blocks m ρ, ?_⟩
  refine (θ_run _ _ _).mono (fun _ h c => ⟨(h c).1.trans ?_, (h c).2⟩) (Cert.QkvRefIdeal.Value.run_blocks m' ρ')
  obtain ⟨h0, h1, h2, h3, h4⟩ := hagree c
  refine (Cert.QkvRefIdeal.RefValue.result m' c).trans (Eq.trans ?_ (Cert.QkvIdeal.RefValue.result m c).symm)
  funext y
  rw [h0, h1, h2, h3, h4]

end Cert.QkvClaim

end
-- ==== Proof.RowNorm.lean ====
/-
  Rows: root-mean-square normalisation and quantisation of a row to a scale and codes, as functions of the row.
-/
module

public import proofs.«01_k».proof.Proof.Spec
public import Idealize.ShloMosaic.Lib.Claim
public import Idealize.ShloMosaic.Lib.Pipeline.ValueKit

@[expose] public section

noncomputable section

namespace Cert.RowNorm

open Idealize.ShloMosaic Cert.W4

/-- The largest magnitude of a row of `C` elements. -/
def rowMax (C : ℕ) (f : ℕ → EReal) : EReal :=
  Finset.fold max (Ideal.ofBits FTy.f32 0xFF800000#32) (fun x : Fin C => (FloatOps.absf (F := Ideal) (φ := .f32) (f x.val) : EReal)) Finset.univ

/-- The scale of a row: its largest magnitude over 448, and one where that is zero. -/
def rowScale (C : ℕ) (f : ℕ → EReal) : EReal :=
  if rowMax C f = 0 then 1 else Ideal.div (rowMax C f) (Ideal.ofBits FTy.f32 0x43E00000#32)

/-- The code of an element of a row: the element over the row's scale, kept between -448 and 448. -/
def rowCode (C : ℕ) (f : ℕ → EReal) (k : ℕ) : EReal :=
  min (Ideal.ofBits FTy.f32 0x43E00000#32) (max (Ideal.ofBits FTy.f32 0xC3E00000#32) (Ideal.div (f k) (rowScale C f)))

/-- An element of a normalised row: over the root of the mean square plus a small constant, times the gain. -/
def rms (C : ℕ) (c : EReal) (f g : ℕ → EReal) (k : ℕ) : EReal :=
  Ideal.div (f k) (Ideal.sqrt (Ideal.div (∑ x : Fin C, f x.val * f x.val) c + Ideal.ofBits FTy.f32 0x3727C5AC#32)) * g k

variable {R C : ℕ}

/-- The largest magnitude depends on the row's elements alone. -/
theorem rowMax_congr {f f' : ℕ → EReal} (h : ∀ k < C, f k = f' k) : rowMax C f = rowMax C f' := by
  unfold rowMax
  refine congrArg (fun F : Fin C → EReal => Finset.fold max (Ideal.ofBits FTy.f32 0xFF800000#32) F Finset.univ) ?_
  funext x
  rw [h x.val x.isLt]

/-- So does the scale. -/
theorem rowScale_congr {f f' : ℕ → EReal} (h : ∀ k < C, f k = f' k) : rowScale C f = rowScale C f' := by
  unfold rowScale
  rw [rowMax_congr h]

/-- So do the codes. -/
theorem rowCode_congr {f f' : ℕ → EReal} (h : ∀ k < C, f k = f' k) {k : ℕ} (hk : k < C) : rowCode C f k = rowCode C f' k := by
  unfold rowCode
  rw [rowScale_congr h, h k hk]

/-- So do the normalised elements. -/
theorem rms_congr {c : EReal} {f f' g g' : ℕ → EReal} (h : ∀ k < C, f k = f' k) (hg : ∀ k < C, g k = g' k) {k : ℕ} (hk : k < C) :
    rms C c f g k = rms C c f' g' k := by
  unfold rms
  rw [h k hk, hg k hk, Finset.sum_congr rfl fun (x : Fin C) _ => congrArg₂ (· * ·) (h x.val x.isLt) (h x.val x.isLt)]

/-- Matching the column shape with the vector shape keeps the row. -/
theorem col_row (h : (⟨2, ![R, 1]⟩ : Shape).numel = (⟨1, ![R]⟩ : Shape).numel) (r : Fin R) :
    Shape.reshapeEquiv h (ix2 r (0 : Fin 1)) 0 = r := by
  rw [Shape.reshapeEquiv_eq_of_rowMajor (y := ix1 r) h (by
    rw [Shape.rowMajor_val_one, Shape.rowMajor_val_two]
    show r.val = r.val * 1 + 0
    omega)]
  rfl

/-- A column broadcast along the rows, at an element. -/
theorem col_at {α : Type} (s : (⟨2, ![R, 1]⟩ : Shape).Idx → α) (hb : (⟨2, ![R, 1]⟩ : Shape).Broadcasts ⟨2, ![R, C]⟩) (r : Fin R) (k : Fin C) :
    broadcastTo ⟨2, ![R, C]⟩ s hb (ix2 r k) = s (ix2 r (0 : Fin 1)) := by
  unfold broadcastTo
  refine congrArg s ?_
  funext a
  refine Fin.ext ?_
  match a with
  | ⟨0, _⟩ =>
    dsimp only
    split
    · rename_i h
      have h' : R = 1 := h
      subst h'
      have := r.isLt
      show 0 = r.val
      omega
    · rfl
  | ⟨1, _⟩ => rfl

/-- A row broadcast along the columns, at an element. -/
theorem row_at {α : Type} (s : (⟨2, ![1, C]⟩ : Shape).Idx → α) (hb : (⟨2, ![1, C]⟩ : Shape).Broadcasts ⟨2, ![R, C]⟩) (r : Fin R) (k : Fin C) :
    broadcastTo ⟨2, ![R, C]⟩ s hb (ix2 r k) = s (ix2 (0 : Fin 1) k) := by
  unfold broadcastTo
  refine congrArg s ?_
  funext a
  refine Fin.ext ?_
  match a with
  | ⟨1, _⟩ =>
    dsimp only
    split
    · rename_i h
      have h' : C = 1 := h
      subst h'
      have := k.isLt
      show 0 = k.val
      omega
    · rfl
  | ⟨0, _⟩ => rfl

/-- The row scale, as the printed operations compute it: largest magnitude, over 448, and one for a row of zeros. -/
theorem scale_at (v : FVec Ideal ⟨2, ![R, C]⟩ .f32) (hr : (⟨2, ![R, C]⟩ : Shape).Reduces [1] ⟨1, ![R]⟩)
    (hs : (⟨1, ![R]⟩ : Shape).ShapeCasts ⟨2, ![R, 1]⟩) (r : Fin R) (f : ℕ → EReal) (hf : ∀ k : Fin C, v (ix2 r k) = f k.val) :
    select (cmpf .oeq (shapeCast ⟨2, ![R, 1]⟩ (multiReduction .maximumf [1] ⟨1, ![R]⟩ (absf v) 0xFF800000#32 hr (.inl rfl) rfl) hs)
        (broadcast ⟨2, ![R, 1]⟩ (Scalar.ofBits .f32 0x00000000#32)))
      (broadcast ⟨2, ![R, 1]⟩ (Scalar.ofBits .f32 0x3F800000#32))
      (divf (shapeCast ⟨2, ![R, 1]⟩ (multiReduction .maximumf [1] ⟨1, ![R]⟩ (absf v) 0xFF800000#32 hr (.inl rfl) rfl) hs)
        (broadcast ⟨2, ![R, 1]⟩ (Scalar.ofBits .f32 0x43E00000#32))) (ix2 r (0 : Fin 1))
      = rowScale C f := by
  pointwise []
  rw [col_row]
  unfold rowScale rowMax
  simp only [hf]

/-- The codes, as the printed operations compute them from the elements and the scales. -/
theorem code_at (v : FVec Ideal ⟨2, ![R, C]⟩ .f32) (s : FVec Ideal ⟨2, ![R, 1]⟩ .f32)
    (hb : (⟨2, ![R, 1]⟩ : Shape).Broadcasts ⟨2, ![R, C]⟩) (ht : FTy.bits .fp8e4m3 < FTy.bits .f32) (r : Fin R) (k : Fin C)
    (f : ℕ → EReal) (hf : v (ix2 r k) = f k.val) (hs : s (ix2 r (0 : Fin 1)) = rowScale C f) :
    truncf .fp8e4m3 (minimumf (broadcast ⟨2, ![R, C]⟩ (Scalar.ofBits (F := Ideal) .f32 0x43E00000#32))
        (maximumf (broadcast ⟨2, ![R, C]⟩ (Scalar.ofBits .f32 0xC3E00000#32))
          (divf v (broadcastTo ⟨2, ![R, C]⟩ s hb)))) ht (ix2 r k)
      = rowCode C f k.val := by
  show min (Ideal.ofBits FTy.f32 0x43E00000#32) (max (Ideal.ofBits FTy.f32 0xC3E00000#32)
    (Ideal.div (v (ix2 r k)) (broadcastTo ⟨2, ![R, C]⟩ s hb (ix2 r k)))) = _
  rw [col_at, hf, hs]
  rfl

/-- The normalised elements, as the printed operations compute them. -/
theorem rms_at (c : BitVec 32) (v : FVec Ideal ⟨2, ![R, C]⟩ .f32) (g : FVec Ideal ⟨2, ![1, C]⟩ .f32)
    (hr : (⟨2, ![R, C]⟩ : Shape).Reduces [1] ⟨1, ![R]⟩) (hs : (⟨1, ![R]⟩ : Shape).ShapeCasts ⟨2, ![R, 1]⟩)
    (hb : (⟨2, ![R, 1]⟩ : Shape).Broadcasts ⟨2, ![R, C]⟩) (hg : (⟨2, ![1, C]⟩ : Shape).Broadcasts ⟨2, ![R, C]⟩)
    (hc : (⟨2, ![1, C]⟩ : Shape).ShapeCasts ⟨2, ![1, C]⟩) (r : Fin R) (k : Fin C) (f h : ℕ → EReal)
    (hf : ∀ k : Fin C, v (ix2 r k) = f k.val) (hh : g (ix2 (0 : Fin 1) k) = h k.val) :
    mulf (divf v (broadcastTo ⟨2, ![R, C]⟩ (sqrt (addf (divf (shapeCast ⟨2, ![R, 1]⟩
        (multiReduction .add [1] ⟨1, ![R]⟩ (mulf v v) 0x00000000#32 hr (.inl rfl) rfl) hs)
        (broadcast ⟨2, ![R, 1]⟩ (Scalar.ofBits .f32 c))) (broadcast ⟨2, ![R, 1]⟩ (Scalar.ofBits .f32 0x3727C5AC#32)))) hb))
      (broadcastTo ⟨2, ![R, C]⟩ (shapeCast ⟨2, ![1, C]⟩ g hc) hg) (ix2 r k)
      = rms C (Ideal.ofBits FTy.f32 c) f h k.val := by
  rw [show shapeCast ⟨2, ![1, C]⟩ g hc = g from shapeCast_id g hc]
  refine (congrArg₂ (fun a b : EReal => Ideal.div (v (ix2 r k)) a * b) (col_at _ hb r k) (row_at g hg r k)).trans ?_
  unfold rms
  rw [hh, hf]
  refine congrArg (fun a : EReal => Ideal.div (f k.val) a * h k.val) ?_
  pointwise []
  rw [col_row]
  simp only [hf]

end Cert.RowNorm

end
-- ==== Proof.Norm1IdealOut.lean ====
/-
  The arrays that `Norm1Ideal` leaves: for every row of the normalised argument its codes and its scale.
-/
module

public import proofs.«01_k».proof.Proof.Gen.Norm1Ideal.Value
public import proofs.«01_k».proof.Proof.RowNorm
public import Idealize.ShloMosaic.Lib.Claim
public import Idealize.ShloMosaic.Lib.Pipeline.ValueKit

@[expose] public section

noncomputable section

namespace Cert.Norm1Ideal.RefValue

open Cert.Norm1Ideal Cert.Norm1Ideal.Gen Cert.Norm1Ideal.Value Cert.W4 Cert.RowNorm
open Idealize.ShloMosaic Idealize.ShloMosaic.TcCoe Idealize.SL.Sem

/-- The normalised elements. -/
theorem k0_pay1_at (v0 g) (r : Fin 128) (k : Fin 8192) :
    k0_pay1 (F := Ideal) v0 g (ix2 r k)
      = rms 8192 (Ideal.ofBits FTy.f32 0x46000000#32) (fun k => at2 (α := EReal) (m := 128) (n := 8192) v0 r.val k)
          (fun k => at2 (α := EReal) (m := 1) (n := 8192) g 0 k) k.val :=
  rms_at _ (extf .f32 v0 bitsLt_bf16_f32) g _ _ _ _ _ r k _ _ (fun k => ix2_at2 (α := EReal) (m := 128) (n := 8192) v0 r k)
    (ix2_at2 (α := EReal) (m := 1) (n := 8192) g 0 k)

/-- The row scale. -/
theorem k0_pay2_at (v0 g) (r : Fin 128) (f : ℕ → EReal) (hf : ∀ k : Fin 8192, k0_pay1 (F := Ideal) v0 g (ix2 r k) = f k.val) :
    k0_pay2 (F := Ideal) v0 g (ix2 r (0 : Fin 1)) = rowScale 8192 f :=
  scale_at (k0_pay1 (F := Ideal) v0 g) _ _ r f hf

/-- The codes. -/
theorem k0_pay3_at (v0 g) (r : Fin 128) (k : Fin 8192) (f : ℕ → EReal)
    (hf : ∀ k : Fin 8192, k0_pay1 (F := Ideal) v0 g (ix2 r k) = f k.val) :
    k0_pay3 (F := Ideal) v0 g (ix2 r k) = rowCode 8192 f k.val :=
  code_at (k0_pay1 (F := Ideal) v0 g) (k0_pay2 (F := Ideal) v0 g) _ _ r k f (hf k) (k0_pay2_at v0 g r f hf)

/-- What the body leaves in its codes. -/
theorem codes_read (x0 x1) (y : S128x8192.Idx) :
    out0_2 (F := Ideal) x0 x1 y
      = rowCode 8192 (rms 8192 (Ideal.ofBits FTy.f32 0x46000000#32) (fun k => at2 (α := EReal) (m := 128) (n := 8192) x0 (y 0).val k) (fun k => at2 (α := EReal) (m := 1) (n := 8192) x1 0 k)) (y 1).val := by
  unfold out0_2
  rw [View.canon_cons_unit_lit _ _ _ (by decide)]
  rw [eq_ix2 y]
  rw [show View.ld x0 r0_0 = x0 from View.ld_unit_lit _ _ (by decide), show View.ld x1 r0_1 = x1 from View.ld_unit_lit _ _ (by decide)]
  exact k0_pay3_at x0 x1 (y 0) (y 1) _ fun k => k0_pay1_at x0 x1 (y 0) k

/-- What the body leaves in its scales. -/
theorem scales_read (x0 x1) (y : S128x1.Idx) :
    out0_3 (F := Ideal) x0 x1 y
      = rowScale 8192 (rms 8192 (Ideal.ofBits FTy.f32 0x46000000#32) (fun k => at2 (α := EReal) (m := 128) (n := 8192) x0 (y 0).val k) (fun k => at2 (α := EReal) (m := 1) (n := 8192) x1 0 k)) := by
  unfold out0_3
  rw [View.canon_cons_unit_lit _ _ _ (by decide)]
  rw [eq_ix2 y, show y 1 = (0 : Fin 1) from Subsingleton.elim (α := Fin 1) _ _]
  rw [show View.ld x0 r0_0 = x0 from View.ld_unit_lit _ _ (by decide), show View.ld x1 r0_1 = x1 from View.ld_unit_lit _ _ (by decide)]
  exact k0_pay2_at x0 x1 (y 0) _ fun k => k0_pay1_at x0 x1 (y 0) k

/-- Where each window's block stands at a grid point. -/
theorem idx : ∀ t : Fin cfg0.N, win0_0.index t = ![t.val, 0] ∧ win0_1.index t = ![0, 0] ∧ win0_2.index t = ![t.val, 0] ∧ win0_3.index t = ![t.val, 0] := by
  decide +kernel

variable (m : (ℓ : Loc nD τ sig) → Buf (Elt Ideal) ℓ)

/-- The rows of a block. -/
theorem iblk0 (c : Dev nD) (t : Fin cfg0.N) (i j : ℕ) (hi : i < 128) (hj : j < 8192) :
    at2 (α := EReal) (m := 128) (n := 8192) (iblk m c 0 t) i j
      = at2 (α := EReal) (m := 1536) (n := 8192) (m ((c.tc : Thread nD τ).loc main_arg0)) (128 * t.val + i) j := by
  have ht : t.val < 12 := t.isLt
  rw [at2_of _ hi hj, at2_of _ (by omega) hj]
  blk_ext [iblk, V, idx t]

/-- The gains come whole, as one row. -/
theorem iblk1 (c : Dev nD) (t : Fin cfg0.N) (j : ℕ) (hj : j < 8192) :
    at2 (α := EReal) (m := 1) (n := 8192) (iblk m c 1 t) 0 j
      = at1 (α := EReal) (n := 8192) (m ((c.tc : Thread nD τ).loc main_arg1)) j := by
  rw [at2_of _ (by omega) hj, at1_of _ hj]
  blk_ext! [iblk, idx t]

/-- The codes it leaves. -/
theorem codes_result (c : Dev nD) : (dats m 0 c).arrAt 2 cfg0.N = fun y : S1536x8192.Idx => rowCode 8192 (rms 8192 (Ideal.ofBits FTy.f32 0x46000000#32) (fun k => at2 (α := EReal) (m := 1536) (n := 8192) (m ((c.tc : Thread nD τ).loc main_arg0)) (y 0).val k) (at1 (α := EReal) (n := 8192) (m ((c.tc : Thread nD τ).loc main_arg1)))) (y 1).val := by
  refine (dats m 0 c).arrAt_eq_of_covers 2 _ (by decide +kernel) fun t hf y => ?_
  have ht : t.val < 12 := t.isLt
  refine (congrFun (flushed2 m c t) y).trans ?_
  have h0 : (y 0).val < 128 := (y 0).isLt
  have h1 : (y 1).val < 8192 := (y 1).isLt
  have e0 : (((cfg0.win 2).blk t).view.emb y 0).val = 128 * t.val + (y 0).val := by blk_simp [idx t]; omega
  have e1 : (((cfg0.win 2).blk t).view.emb y 1).val = (y 1).val := by blk_simp [idx t]
  rw [e0, e1]
  refine (codes_read _ _ y).trans ?_
  exact rowCode_congr (fun k hk => rms_congr (fun k hk => iblk0 m c t _ _ h0 hk) (fun k hk => iblk1 m c t _ hk) hk) h1

/-- The scales it leaves. -/
theorem scales_result (c : Dev nD) : (dats m 0 c).arrAt 3 cfg0.N = fun y : S1536x1.Idx => rowScale 8192 (rms 8192 (Ideal.ofBits FTy.f32 0x46000000#32) (fun k => at2 (α := EReal) (m := 1536) (n := 8192) (m ((c.tc : Thread nD τ).loc main_arg0)) (y 0).val k) (at1 (α := EReal) (n := 8192) (m ((c.tc : Thread nD τ).loc main_arg1)))) := by
  refine (dats m 0 c).arrAt_eq_of_covers 3 _ (by decide +kernel) fun t hf y => ?_
  have ht : t.val < 12 := t.isLt
  refine (congrFun (flushed3 m c t) y).trans ?_
  have h0 : (y 0).val < 128 := (y 0).isLt
  have e0 : (((cfg0.win 3).blk t).view.emb y 0).val = 128 * t.val + (y 0).val := by blk_simp [idx t]; omega
  rw [e0]
  refine (scales_read _ _ y).trans ?_
  exact rowScale_congr (fun k hk => rms_congr (fun k hk => iblk0 m c t _ _ h0 hk) (fun k hk => iblk1 m c t _ hk) hk)

end Cert.Norm1Ideal.RefValue

end
-- ==== Proof.Norm1RefIdealOut.lean ====
/-
  The arrays that `Norm1RefIdeal` leaves: for every row of the normalised argument its codes and its scale.
-/
module

public import proofs.«01_k».proof.Proof.Gen.Norm1RefIdeal.Value
public import proofs.«01_k».proof.Proof.RowNorm
public import Idealize.ShloMosaic.Lib.Claim
public import Idealize.ShloMosaic.Lib.Pipeline.ValueKit

@[expose] public section

noncomputable section

namespace Cert.Norm1RefIdeal.RefValue

open Cert.Norm1RefIdeal Cert.Norm1RefIdeal.Gen Cert.Norm1RefIdeal.Value Cert.W4 Cert.RowNorm
open Idealize.ShloMosaic Idealize.ShloMosaic.TcCoe Idealize.SL.Sem

/-- The normalised elements. -/
theorem k0_pay1_at (v0 g) (r : Fin 1536) (k : Fin 8192) :
    k0_pay1 (F := Ideal) v0 g (ix2 r k)
      = rms 8192 (Ideal.ofBits FTy.f32 0x46000000#32) (fun k => at2 (α := EReal) (m := 1536) (n := 8192) v0 r.val k)
          (fun k => at2 (α := EReal) (m := 1) (n := 8192) g 0 k) k.val :=
  rms_at _ (extf .f32 v0 bitsLt_bf16_f32) g _ _ _ _ _ r k _ _ (fun k => ix2_at2 (α := EReal) (m := 1536) (n := 8192) v0 r k)
    (ix2_at2 (α := EReal) (m := 1) (n := 8192) g 0 k)

/-- The row scale. -/
theorem k0_pay2_at (v0 g) (r : Fin 1536) (f : ℕ → EReal) (hf : ∀ k : Fin 8192, k0_pay1 (F := Ideal) v0 g (ix2 r k) = f k.val) :
    k0_pay2 (F := Ideal) v0 g (ix2 r (0 : Fin 1)) = rowScale 8192 f :=
  scale_at (k0_pay1 (F := Ideal) v0 g) _ _ r f hf

/-- The codes. -/
theorem k0_pay3_at (v0 g) (r : Fin 1536) (k : Fin 8192) (f : ℕ → EReal)
    (hf : ∀ k : Fin 8192, k0_pay1 (F := Ideal) v0 g (ix2 r k) = f k.val) :
    k0_pay3 (F := Ideal) v0 g (ix2 r k) = rowCode 8192 f k.val :=
  code_at (k0_pay1 (F := Ideal) v0 g) (k0_pay2 (F := Ideal) v0 g) _ _ r k f (hf k) (k0_pay2_at v0 g r f hf)

/-- What the body leaves in its codes. -/
theorem codes_read (x0 x1) (y : S1536x8192.Idx) :
    out0_2 (F := Ideal) x0 x1 y
      = rowCode 8192 (rms 8192 (Ideal.ofBits FTy.f32 0x46000000#32) (fun k => at2 (α := EReal) (m := 1536) (n := 8192) x0 (y 0).val k) (fun k => at2 (α := EReal) (m := 1) (n := 8192) x1 0 k)) (y 1).val := by
  unfold out0_2
  rw [View.canon_cons_unit_lit _ _ _ (by decide)]
  rw [eq_ix2 y]
  rw [show View.ld x0 r0_0 = x0 from View.ld_unit_lit _ _ (by decide), show View.ld x1 r0_1 = x1 from View.ld_unit_lit _ _ (by decide)]
  exact k0_pay3_at x0 x1 (y 0) (y 1) _ fun k => k0_pay1_at x0 x1 (y 0) k

/-- What the body leaves in its scales. -/
theorem scales_read (x0 x1) (y : S1536x1.Idx) :
    out0_3 (F := Ideal) x0 x1 y
      = rowScale 8192 (rms 8192 (Ideal.ofBits FTy.f32 0x46000000#32) (fun k => at2 (α := EReal) (m := 1536) (n := 8192) x0 (y 0).val k) (fun k => at2 (α := EReal) (m := 1) (n := 8192) x1 0 k)) := by
  unfold out0_3
  rw [View.canon_cons_unit_lit _ _ _ (by decide)]
  rw [eq_ix2 y, show y 1 = (0 : Fin 1) from Subsingleton.elim (α := Fin 1) _ _]
  rw [show View.ld x0 r0_0 = x0 from View.ld_unit_lit _ _ (by decide), show View.ld x1 r0_1 = x1 from View.ld_unit_lit _ _ (by decide)]
  exact k0_pay2_at x0 x1 (y 0) _ fun k => k0_pay1_at x0 x1 (y 0) k

/-- Where each window's block stands at a grid point. -/
theorem idx : ∀ t : Fin cfg0.N, win0_0.index t = ![t.val, 0] ∧ win0_1.index t = ![0, 0] ∧ win0_2.index t = ![t.val, 0] ∧ win0_3.index t = ![t.val, 0] := by
  decide +kernel

variable (m : (ℓ : Loc nD τ sig) → Buf (Elt Ideal) ℓ)

/-- The rows of a block. -/
theorem iblk0 (c : Dev nD) (t : Fin cfg0.N) (i j : ℕ) (hi : i < 1536) (hj : j < 8192) :
    at2 (α := EReal) (m := 1536) (n := 8192) (iblk m c 0 t) i j
      = at2 (α := EReal) (m := 1536) (n := 8192) (m ((c.tc : Thread nD τ).loc main_arg0)) (1536 * t.val + i) j := by
  have ht : t.val < 1 := t.isLt
  rw [at2_of _ hi hj, at2_of _ (by omega) hj]
  blk_ext [iblk, V, idx t]

/-- The gains come whole, as one row. -/
theorem iblk1 (c : Dev nD) (t : Fin cfg0.N) (j : ℕ) (hj : j < 8192) :
    at2 (α := EReal) (m := 1) (n := 8192) (iblk m c 1 t) 0 j
      = at1 (α := EReal) (n := 8192) (m ((c.tc : Thread nD τ).loc main_arg1)) j := by
  rw [at2_of _ (by omega) hj, at1_of _ hj]
  blk_ext! [iblk, idx t]

/-- The codes it leaves. -/
theorem codes_result (c : Dev nD) : (dats m 0 c).arrAt 2 cfg0.N = fun y : S1536x8192.Idx => rowCode 8192 (rms 8192 (Ideal.ofBits FTy.f32 0x46000000#32) (fun k => at2 (α := EReal) (m := 1536) (n := 8192) (m ((c.tc : Thread nD τ).loc main_arg0)) (y 0).val k) (at1 (α := EReal) (n := 8192) (m ((c.tc : Thread nD τ).loc main_arg1)))) (y 1).val := by
  refine (dats m 0 c).arrAt_eq_of_covers 2 _ (by decide +kernel) fun t hf y => ?_
  have ht : t.val < 1 := t.isLt
  refine (congrFun (flushed2 m c t) y).trans ?_
  have h0 : (y 0).val < 1536 := (y 0).isLt
  have h1 : (y 1).val < 8192 := (y 1).isLt
  have e0 : (((cfg0.win 2).blk t).view.emb y 0).val = 1536 * t.val + (y 0).val := by blk_simp [idx t]; omega
  have e1 : (((cfg0.win 2).blk t).view.emb y 1).val = (y 1).val := by blk_simp [idx t]
  rw [e0, e1]
  refine (codes_read _ _ y).trans ?_
  exact rowCode_congr (fun k hk => rms_congr (fun k hk => iblk0 m c t _ _ h0 hk) (fun k hk => iblk1 m c t _ hk) hk) h1

/-- The scales it leaves. -/
theorem scales_result (c : Dev nD) : (dats m 0 c).arrAt 3 cfg0.N = fun y : S1536x1.Idx => rowScale 8192 (rms 8192 (Ideal.ofBits FTy.f32 0x46000000#32) (fun k => at2 (α := EReal) (m := 1536) (n := 8192) (m ((c.tc : Thread nD τ).loc main_arg0)) (y 0).val k) (at1 (α := EReal) (n := 8192) (m ((c.tc : Thread nD τ).loc main_arg1)))) := by
  refine (dats m 0 c).arrAt_eq_of_covers 3 _ (by decide +kernel) fun t hf y => ?_
  have ht : t.val < 1 := t.isLt
  refine (congrFun (flushed3 m c t) y).trans ?_
  have h0 : (y 0).val < 1536 := (y 0).isLt
  have e0 : (((cfg0.win 3).blk t).view.emb y 0).val = 1536 * t.val + (y 0).val := by blk_simp [idx t]; omega
  rw [e0]
  refine (scales_read _ _ y).trans ?_
  exact rowScale_congr (fun k hk => rms_congr (fun k hk => iblk0 m c t _ _ h0 hk) (fun k hk => iblk1 m c t _ hk) hk)

end Cert.Norm1RefIdeal.RefValue

end
-- ==== Proof.Norm1Claim.lean ====
/-
  `Norm1`: the kernel and the reference leave the same codes and the same scales.
-/
module

public import proofs.«01_k».proof.Defs
public import proofs.«01_k».proof.Proof.Norm1IdealOut
public import proofs.«01_k».proof.Proof.Norm1RefIdealOut

@[expose] public section

noncomputable section

namespace Cert.Norm1Claim

open Idealize.ShloMosaic Idealize.SL.Sem

/-- From memories that agree on the arguments, kernel and reference both run, end with the same results and keep their
    arguments. -/
theorem algebraic : Cert.algebraic_Norm1Ideal_Norm1RefIdeal (hNorm1Ideal := Cert.Norm1Ideal.Gen.facts)
    (hNorm1RefIdeal := Cert.Norm1RefIdeal.Gen.facts) := by
  intro m ρ m' ρ' _ hagree
  refine ⟨fun c => _, fun c => _, Cert.Norm1Ideal.Value.run_blocks m ρ, ?_⟩
  refine (θ_run _ _ _).mono (fun _ h c => ⟨(h c).1.trans ?_, (h c).2.1.trans ?_, (h c).2.2⟩)
    (Cert.Norm1RefIdeal.Value.run_blocks m' ρ')
  · obtain ⟨h0, h1⟩ := hagree c
    refine (Cert.Norm1RefIdeal.RefValue.codes_result m' c).trans (Eq.trans ?_ (Cert.Norm1Ideal.RefValue.codes_result m c).symm)
    funext y
    rw [h0, h1]
  · obtain ⟨h0, h1⟩ := hagree c
    refine (Cert.Norm1RefIdeal.RefValue.scales_result m' c).trans (Eq.trans ?_ (Cert.Norm1Ideal.RefValue.scales_result m c).symm)
    funext y
    rw [h0, h1]

end Cert.Norm1Claim

end
-- ==== Proof.Norm2IdealOut.lean ====
/-
  The arrays that `Norm2Ideal` leaves: for every row of the normalised argument its codes and its scale.
-/
module

public import proofs.«01_k».proof.Proof.Gen.Norm2Ideal.Value
public import proofs.«01_k».proof.Proof.RowNorm
public import Idealize.ShloMosaic.Lib.Claim
public import Idealize.ShloMosaic.Lib.Pipeline.ValueKit

@[expose] public section

noncomputable section

namespace Cert.Norm2Ideal.RefValue

open Cert.Norm2Ideal Cert.Norm2Ideal.Gen Cert.Norm2Ideal.Value Cert.W4 Cert.RowNorm
open Idealize.ShloMosaic Idealize.ShloMosaic.TcCoe Idealize.SL.Sem

/-- The normalised elements. -/
theorem k0_pay1_at (v0 g) (r : Fin 128) (k : Fin 8192) :
    k0_pay1 (F := Ideal) v0 g (ix2 r k)
      = rms 8192 (Ideal.ofBits FTy.f32 0x46000000#32) (fun k => at2 (α := EReal) (m := 128) (n := 8192) v0 r.val k)
          (fun k => at2 (α := EReal) (m := 1) (n := 8192) g 0 k) k.val :=
  rms_at _ v0 g _ _ _ _ _ r k _ _ (fun k => ix2_at2 (α := EReal) (m := 128) (n := 8192) v0 r k)
    (ix2_at2 (α := EReal) (m := 1) (n := 8192) g 0 k)

/-- The row scale. -/
theorem k0_pay2_at (v0 g) (r : Fin 128) (f : ℕ → EReal) (hf : ∀ k : Fin 8192, k0_pay1 (F := Ideal) v0 g (ix2 r k) = f k.val) :
    k0_pay2 (F := Ideal) v0 g (ix2 r (0 : Fin 1)) = rowScale 8192 f :=
  scale_at (k0_pay1 (F := Ideal) v0 g) _ _ r f hf

/-- The codes. -/
theorem k0_pay3_at (v0 g) (r : Fin 128) (k : Fin 8192) (f : ℕ → EReal)
    (hf : ∀ k : Fin 8192, k0_pay1 (F := Ideal) v0 g (ix2 r k) = f k.val) :
    k0_pay3 (F := Ideal) v0 g (ix2 r k) = rowCode 8192 f k.val :=
  code_at (k0_pay1 (F := Ideal) v0 g) (k0_pay2 (F := Ideal) v0 g) _ _ r k f (hf k) (k0_pay2_at v0 g r f hf)

/-- What the body leaves in its codes. -/
theorem codes_read (x0 x1) (y : S128x8192.Idx) :
    out0_2 (F := Ideal) x0 x1 y
      = rowCode 8192 (rms 8192 (Ideal.ofBits FTy.f32 0x46000000#32) (fun k => at2 (α := EReal) (m := 128) (n := 8192) x0 (y 0).val k) (fun k => at2 (α := EReal) (m := 1) (n := 8192) x1 0 k)) (y 1).val := by
  unfold out0_2
  rw [View.canon_cons_unit_lit _ _ _ (by decide)]
  rw [eq_ix2 y]
  rw [show View.ld x0 r0_0 = x0 from View.ld_unit_lit _ _ (by decide), show View.ld x1 r0_1 = x1 from View.ld_unit_lit _ _ (by decide)]
  exact k0_pay3_at x0 x1 (y 0) (y 1) _ fun k => k0_pay1_at x0 x1 (y 0) k

/-- What the body leaves in its scales. -/
theorem scales_read (x0 x1) (y : S128x1.Idx) :
    out0_3 (F := Ideal) x0 x1 y
      = rowScale 8192 (rms 8192 (Ideal.ofBits FTy.f32 0x46000000#32) (fun k => at2 (α := EReal) (m := 128) (n := 8192) x0 (y 0).val k) (fun k => at2 (α := EReal) (m := 1) (n := 8192) x1 0 k)) := by
  unfold out0_3
  rw [View.canon_cons_unit_lit _ _ _ (by decide)]
  rw [eq_ix2 y, show y 1 = (0 : Fin 1) from Subsingleton.elim (α := Fin 1) _ _]
  rw [show View.ld x0 r0_0 = x0 from View.ld_unit_lit _ _ (by decide), show View.ld x1 r0_1 = x1 from View.ld_unit_lit _ _ (by decide)]
  exact k0_pay2_at x0 x1 (y 0) _ fun k => k0_pay1_at x0 x1 (y 0) k

/-- Where each window's block stands at a grid point. -/
theorem idx : ∀ t : Fin cfg0.N, win0_0.index t = ![t.val, 0] ∧ win0_1.index t = ![0, 0] ∧ win0_2.index t = ![t.val, 0] ∧ win0_3.index t = ![t.val, 0] := by
  decide +kernel

variable (m : (ℓ : Loc nD τ sig) → Buf (Elt Ideal) ℓ)

/-- The rows of a block. -/
theorem iblk0 (c : Dev nD) (t : Fin cfg0.N) (i j : ℕ) (hi : i < 128) (hj : j < 8192) :
    at2 (α := EReal) (m := 128) (n := 8192) (iblk m c 0 t) i j
      = at2 (α := EReal) (m := 1536) (n := 8192) (m ((c.tc : Thread nD τ).loc main_arg0)) (128 * t.val + i) j := by
  have ht : t.val < 12 := t.isLt
  rw [at2_of _ hi hj, at2_of _ (by omega) hj]
  blk_ext [iblk, V, idx t]

/-- The gains come whole, as one row. -/
theorem iblk1 (c : Dev nD) (t : Fin cfg0.N) (j : ℕ) (hj : j < 8192) :
    at2 (α := EReal) (m := 1) (n := 8192) (iblk m c 1 t) 0 j
      = at1 (α := EReal) (n := 8192) (m ((c.tc : Thread nD τ).loc main_arg1)) j := by
  rw [at2_of _ (by omega) hj, at1_of _ hj]
  blk_ext! [iblk, idx t]

/-- The codes it leaves. -/
theorem codes_result (c : Dev nD) : (dats m 0 c).arrAt 2 cfg0.N = fun y : S1536x8192.Idx => rowCode 8192 (rms 8192 (Ideal.ofBits FTy.f32 0x46000000#32) (fun k => at2 (α := EReal) (m := 1536) (n := 8192) (m ((c.tc : Thread nD τ).loc main_arg0)) (y 0).val k) (at1 (α := EReal) (n := 8192) (m ((c.tc : Thread nD τ).loc main_arg1)))) (y 1).val := by
  refine (dats m 0 c).arrAt_eq_of_covers 2 _ (by decide +kernel) fun t hf y => ?_
  have ht : t.val < 12 := t.isLt
  refine (congrFun (flushed2 m c t) y).trans ?_
  have h0 : (y 0).val < 128 := (y 0).isLt
  have h1 : (y 1).val < 8192 := (y 1).isLt
  have e0 : (((cfg0.win 2).blk t).view.emb y 0).val = 128 * t.val + (y 0).val := by blk_simp [idx t]; omega
  have e1 : (((cfg0.win 2).blk t).view.emb y 1).val = (y 1).val := by blk_simp [idx t]
  rw [e0, e1]
  refine (codes_read _ _ y).trans ?_
  exact rowCode_congr (fun k hk => rms_congr (fun k hk => iblk0 m c t _ _ h0 hk) (fun k hk => iblk1 m c t _ hk) hk) h1

/-- The scales it leaves. -/
theorem scales_result (c : Dev nD) : (dats m 0 c).arrAt 3 cfg0.N = fun y : S1536x1.Idx => rowScale 8192 (rms 8192 (Ideal.ofBits FTy.f32 0x46000000#32) (fun k => at2 (α := EReal) (m := 1536) (n := 8192) (m ((c.tc : Thread nD τ).loc main_arg0)) (y 0).val k) (at1 (α := EReal) (n := 8192) (m ((c.tc : Thread nD τ).loc main_arg1)))) := by
  refine (dats m 0 c).arrAt_eq_of_covers 3 _ (by decide +kernel) fun t hf y => ?_
  have ht : t.val < 12 := t.isLt
  refine (congrFun (flushed3 m c t) y).trans ?_
  have h0 : (y 0).val < 128 := (y 0).isLt
  have e0 : (((cfg0.win 3).blk t).view.emb y 0).val = 128 * t.val + (y 0).val := by blk_simp [idx t]; omega
  rw [e0]
  refine (scales_read _ _ y).trans ?_
  exact rowScale_congr (fun k hk => rms_congr (fun k hk => iblk0 m c t _ _ h0 hk) (fun k hk => iblk1 m c t _ hk) hk)

end Cert.Norm2Ideal.RefValue

end
-- ==== Proof.Norm2RefIdealOut.lean ====
/-
  The arrays that `Norm2RefIdeal` leaves: for every row of the normalised argument its codes and its scale.
-/
module

public import proofs.«01_k».proof.Proof.Gen.Norm2RefIdeal.Value
public import proofs.«01_k».proof.Proof.RowNorm
public import Idealize.ShloMosaic.Lib.Claim
public import Idealize.ShloMosaic.Lib.Pipeline.ValueKit

@[expose] public section

noncomputable section

namespace Cert.Norm2RefIdeal.RefValue

open Cert.Norm2RefIdeal Cert.Norm2RefIdeal.Gen Cert.Norm2RefIdeal.Value Cert.W4 Cert.RowNorm
open Idealize.ShloMosaic Idealize.ShloMosaic.TcCoe Idealize.SL.Sem

/-- The normalised elements. -/
theorem k0_pay1_at (v0 g) (r : Fin 1536) (k : Fin 8192) :
    k0_pay1 (F := Ideal) v0 g (ix2 r k)
      = rms 8192 (Ideal.ofBits FTy.f32 0x46000000#32) (fun k => at2 (α := EReal) (m := 1536) (n := 8192) v0 r.val k)
          (fun k => at2 (α := EReal) (m := 1) (n := 8192) g 0 k) k.val :=
  rms_at _ v0 g _ _ _ _ _ r k _ _ (fun k => ix2_at2 (α := EReal) (m := 1536) (n := 8192) v0 r k)
    (ix2_at2 (α := EReal) (m := 1) (n := 8192) g 0 k)

/-- The row scale. -/
theorem k0_pay2_at (v0 g) (r : Fin 1536) (f : ℕ → EReal) (hf : ∀ k : Fin 8192, k0_pay1 (F := Ideal) v0 g (ix2 r k) = f k.val) :
    k0_pay2 (F := Ideal) v0 g (ix2 r (0 : Fin 1)) = rowScale 8192 f :=
  scale_at (k0_pay1 (F := Ideal) v0 g) _ _ r f hf

/-- The codes. -/
theorem k0_pay3_at (v0 g) (r : Fin 1536) (k : Fin 8192) (f : ℕ → EReal)
    (hf : ∀ k : Fin 8192, k0_pay1 (F := Ideal) v0 g (ix2 r k) = f k.val) :
    k0_pay3 (F := Ideal) v0 g (ix2 r k) = rowCode 8192 f k.val :=
  code_at (k0_pay1 (F := Ideal) v0 g) (k0_pay2 (F := Ideal) v0 g) _ _ r k f (hf k) (k0_pay2_at v0 g r f hf)

/-- What the body leaves in its codes. -/
theorem codes_read (x0 x1) (y : S1536x8192.Idx) :
    out0_2 (F := Ideal) x0 x1 y
      = rowCode 8192 (rms 8192 (Ideal.ofBits FTy.f32 0x46000000#32) (fun k => at2 (α := EReal) (m := 1536) (n := 8192) x0 (y 0).val k) (fun k => at2 (α := EReal) (m := 1) (n := 8192) x1 0 k)) (y 1).val := by
  unfold out0_2
  rw [View.canon_cons_unit_lit _ _ _ (by decide)]
  rw [eq_ix2 y]
  rw [show View.ld x0 r0_0 = x0 from View.ld_unit_lit _ _ (by decide), show View.ld x1 r0_1 = x1 from View.ld_unit_lit _ _ (by decide)]
  exact k0_pay3_at x0 x1 (y 0) (y 1) _ fun k => k0_pay1_at x0 x1 (y 0) k

/-- What the body leaves in its scales. -/
theorem scales_read (x0 x1) (y : S1536x1.Idx) :
    out0_3 (F := Ideal) x0 x1 y
      = rowScale 8192 (rms 8192 (Ideal.ofBits FTy.f32 0x46000000#32) (fun k => at2 (α := EReal) (m := 1536) (n := 8192) x0 (y 0).val k) (fun k => at2 (α := EReal) (m := 1) (n := 8192) x1 0 k)) := by
  unfold out0_3
  rw [View.canon_cons_unit_lit _ _ _ (by decide)]
  rw [eq_ix2 y, show y 1 = (0 : Fin 1) from Subsingleton.elim (α := Fin 1) _ _]
  rw [show View.ld x0 r0_0 = x0 from View.ld_unit_lit _ _ (by decide), show View.ld x1 r0_1 = x1 from View.ld_unit_lit _ _ (by decide)]
  exact k0_pay2_at x0 x1 (y 0) _ fun k => k0_pay1_at x0 x1 (y 0) k

/-- Where each window's block stands at a grid point. -/
theorem idx : ∀ t : Fin cfg0.N, win0_0.index t = ![t.val, 0] ∧ win0_1.index t = ![0, 0] ∧ win0_2.index t = ![t.val, 0] ∧ win0_3.index t = ![t.val, 0] := by
  decide +kernel

variable (m : (ℓ : Loc nD τ sig) → Buf (Elt Ideal) ℓ)

/-- The rows of a block. -/
theorem iblk0 (c : Dev nD) (t : Fin cfg0.N) (i j : ℕ) (hi : i < 1536) (hj : j < 8192) :
    at2 (α := EReal) (m := 1536) (n := 8192) (iblk m c 0 t) i j
      = at2 (α := EReal) (m := 1536) (n := 8192) (m ((c.tc : Thread nD τ).loc main_arg0)) (1536 * t.val + i) j := by
  have ht : t.val < 1 := t.isLt
  rw [at2_of _ hi hj, at2_of _ (by omega) hj]
  blk_ext [iblk, V, idx t]

/-- The gains come whole, as one row. -/
theorem iblk1 (c : Dev nD) (t : Fin cfg0.N) (j : ℕ) (hj : j < 8192) :
    at2 (α := EReal) (m := 1) (n := 8192) (iblk m c 1 t) 0 j
      = at1 (α := EReal) (n := 8192) (m ((c.tc : Thread nD τ).loc main_arg1)) j := by
  rw [at2_of _ (by omega) hj, at1_of _ hj]
  blk_ext! [iblk, idx t]

/-- The codes it leaves. -/
theorem codes_result (c : Dev nD) : (dats m 0 c).arrAt 2 cfg0.N = fun y : S1536x8192.Idx => rowCode 8192 (rms 8192 (Ideal.ofBits FTy.f32 0x46000000#32) (fun k => at2 (α := EReal) (m := 1536) (n := 8192) (m ((c.tc : Thread nD τ).loc main_arg0)) (y 0).val k) (at1 (α := EReal) (n := 8192) (m ((c.tc : Thread nD τ).loc main_arg1)))) (y 1).val := by
  refine (dats m 0 c).arrAt_eq_of_covers 2 _ (by decide +kernel) fun t hf y => ?_
  have ht : t.val < 1 := t.isLt
  refine (congrFun (flushed2 m c t) y).trans ?_
  have h0 : (y 0).val < 1536 := (y 0).isLt
  have h1 : (y 1).val < 8192 := (y 1).isLt
  have e0 : (((cfg0.win 2).blk t).view.emb y 0).val = 1536 * t.val + (y 0).val := by blk_simp [idx t]; omega
  have e1 : (((cfg0.win 2).blk t).view.emb y 1).val = (y 1).val := by blk_simp [idx t]
  rw [e0, e1]
  refine (codes_read _ _ y).trans ?_
  exact rowCode_congr (fun k hk => rms_congr (fun k hk => iblk0 m c t _ _ h0 hk) (fun k hk => iblk1 m c t _ hk) hk) h1

/-- The scales it leaves. -/
theorem scales_result (c : Dev nD) : (dats m 0 c).arrAt 3 cfg0.N = fun y : S1536x1.Idx => rowScale 8192 (rms 8192 (Ideal.ofBits FTy.f32 0x46000000#32) (fun k => at2 (α := EReal) (m := 1536) (n := 8192) (m ((c.tc : Thread nD τ).loc main_arg0)) (y 0).val k) (at1 (α := EReal) (n := 8192) (m ((c.tc : Thread nD τ).loc main_arg1)))) := by
  refine (dats m 0 c).arrAt_eq_of_covers 3 _ (by decide +kernel) fun t hf y => ?_
  have ht : t.val < 1 := t.isLt
  refine (congrFun (flushed3 m c t) y).trans ?_
  have h0 : (y 0).val < 1536 := (y 0).isLt
  have e0 : (((cfg0.win 3).blk t).view.emb y 0).val = 1536 * t.val + (y 0).val := by blk_simp [idx t]; omega
  rw [e0]
  refine (scales_read _ _ y).trans ?_
  exact rowScale_congr (fun k hk => rms_congr (fun k hk => iblk0 m c t _ _ h0 hk) (fun k hk => iblk1 m c t _ hk) hk)

end Cert.Norm2RefIdeal.RefValue

end
-- ==== Proof.Norm2Claim.lean ====
/-
  `Norm2`: the kernel and the reference leave the same codes and the same scales.
-/
module

public import proofs.«01_k».proof.Defs
public import proofs.«01_k».proof.Proof.Norm2IdealOut
public import proofs.«01_k».proof.Proof.Norm2RefIdealOut

@[expose] public section

noncomputable section

namespace Cert.Norm2Claim

open Idealize.ShloMosaic Idealize.SL.Sem

/-- From memories that agree on the arguments, kernel and reference both run, end with the same results and keep their
    arguments. -/
theorem algebraic : Cert.algebraic_Norm2Ideal_Norm2RefIdeal (hNorm2Ideal := Cert.Norm2Ideal.Gen.facts)
    (hNorm2RefIdeal := Cert.Norm2RefIdeal.Gen.facts) := by
  intro m ρ m' ρ' _ hagree
  refine ⟨fun c => _, fun c => _, Cert.Norm2Ideal.Value.run_blocks m ρ, ?_⟩
  refine (θ_run _ _ _).mono (fun _ h c => ⟨(h c).1.trans ?_, (h c).2.1.trans ?_, (h c).2.2⟩)
    (Cert.Norm2RefIdeal.Value.run_blocks m' ρ')
  · obtain ⟨h0, h1⟩ := hagree c
    refine (Cert.Norm2RefIdeal.RefValue.codes_result m' c).trans (Eq.trans ?_ (Cert.Norm2Ideal.RefValue.codes_result m c).symm)
    funext y
    rw [h0, h1]
  · obtain ⟨h0, h1⟩ := hagree c
    refine (Cert.Norm2RefIdeal.RefValue.scales_result m' c).trans (Eq.trans ?_ (Cert.Norm2Ideal.RefValue.scales_result m c).symm)
    funext y
    rw [h0, h1]

end Cert.Norm2Claim

end
-- ==== Proof.QuantAttnIdealOut.lean ====
/-
  The arrays that `QuantAttnIdeal` leaves: for every row its codes and its scale.
-/
module

public import proofs.«01_k».proof.Proof.Gen.QuantAttnIdeal.Value
public import proofs.«01_k».proof.Proof.RowNorm
public import Idealize.ShloMosaic.Lib.Claim
public import Idealize.ShloMosaic.Lib.Pipeline.ValueKit

@[expose] public section

noncomputable section

namespace Cert.QuantAttnIdeal.RefValue

open Cert.QuantAttnIdeal Cert.QuantAttnIdeal.Gen Cert.QuantAttnIdeal.Value Cert.W4 Cert.RowNorm
open Idealize.ShloMosaic Idealize.ShloMosaic.TcCoe Idealize.SL.Sem

/-- The row scale. -/
theorem k0_pay1_at (v0) (r : Fin 128) (f : ℕ → EReal) (hf : ∀ k : Fin 2048, v0 (ix2 r k) = f k.val) :
    k0_pay1 (F := Ideal) v0 (ix2 r (0 : Fin 1)) = rowScale 2048 f :=
  scale_at v0 _ _ r f hf

/-- The codes. -/
theorem k0_pay2_at (v0) (r : Fin 128) (k : Fin 2048) (f : ℕ → EReal) (hf : ∀ k : Fin 2048, v0 (ix2 r k) = f k.val) :
    k0_pay2 (F := Ideal) v0 (ix2 r k) = rowCode 2048 f k.val :=
  code_at v0 (k0_pay1 (F := Ideal) v0) _ _ r k f (hf k) (k0_pay1_at v0 r f hf)

/-- What the body leaves in its codes. -/
theorem codes_read (x0) (y : S128x2048.Idx) :
    out0_1 (F := Ideal) x0 y
      = rowCode 2048 (fun k => at2 (α := EReal) (m := 128) (n := 2048) x0 (y 0).val k) (y 1).val := by
  unfold out0_1
  rw [View.canon_cons_unit_lit _ _ _ (by decide)]
  rw [eq_ix2 y]
  rw [show View.ld x0 r0_0 = x0 from View.ld_unit_lit _ _ (by decide)]
  exact k0_pay2_at x0 (y 0) (y 1) _ fun k => ix2_at2 (α := EReal) (m := 128) (n := 2048) x0 (y 0) k

/-- What the body leaves in its scales. -/
theorem scales_read (x0) (y : S128x1.Idx) :
    out0_2 (F := Ideal) x0 y
      = rowScale 2048 (fun k => at2 (α := EReal) (m := 128) (n := 2048) x0 (y 0).val k) := by
  unfold out0_2
  rw [View.canon_cons_unit_lit _ _ _ (by decide)]
  rw [eq_ix2 y, show y 1 = (0 : Fin 1) from Subsingleton.elim (α := Fin 1) _ _]
  rw [show View.ld x0 r0_0 = x0 from View.ld_unit_lit _ _ (by decide)]
  exact k0_pay1_at x0 (y 0) _ fun k => ix2_at2 (α := EReal) (m := 128) (n := 2048) x0 (y 0) k

/-- Where each window's block stands at a grid point. -/
theorem idx : ∀ t : Fin cfg0.N, win0_0.index t = ![t.val, 0] ∧ win0_1.index t = ![t.val, 0] ∧ win0_2.index t = ![t.val, 0] := by
  decide +kernel

variable (m : (ℓ : Loc nD τ sig) → Buf (Elt Ideal) ℓ)

/-- The rows of a block. -/
theorem iblk0 (c : Dev nD) (t : Fin cfg0.N) (i j : ℕ) (hi : i < 128) (hj : j < 2048) :
    at2 (α := EReal) (m := 128) (n := 2048) (iblk m c 0 t) i j
      = at2 (α := EReal) (m := 1536) (n := 2048) (m ((c.tc : Thread nD τ).loc main_arg0)) (128 * t.val + i) j := by
  have ht : t.val < 12 := t.isLt
  rw [at2_of _ hi hj, at2_of _ (by omega) hj]
  blk_ext [iblk, V, idx t]

/-- The codes it leaves. -/
theorem codes_result (c : Dev nD) : (dats m 0 c).arrAt 1 cfg0.N = fun y : S1536x2048.Idx => rowCode 2048 (fun k => at2 (α := EReal) (m := 1536) (n := 2048) (m ((c.tc : Thread nD τ).loc main_arg0)) (y 0).val k) (y 1).val := by
  refine (dats m 0 c).arrAt_eq_of_covers 1 _ (by decide +kernel) fun t hf y => ?_
  have ht : t.val < 12 := t.isLt
  refine (congrFun (flushed1 m c t) y).trans ?_
  have h0 : (y 0).val < 128 := (y 0).isLt
  have h1 : (y 1).val < 2048 := (y 1).isLt
  have e0 : (((cfg0.win 1).blk t).view.emb y 0).val = 128 * t.val + (y 0).val := by blk_simp [idx t]; omega
  have e1 : (((cfg0.win 1).blk t).view.emb y 1).val = (y 1).val := by blk_simp [idx t]
  rw [e0, e1]
  refine (codes_read _ y).trans ?_
  exact rowCode_congr (fun k hk => iblk0 m c t _ _ h0 hk) h1

/-- The scales it leaves. -/
theorem scales_result (c : Dev nD) : (dats m 0 c).arrAt 2 cfg0.N = fun y : S1536x1.Idx => rowScale 2048 (fun k => at2 (α := EReal) (m := 1536) (n := 2048) (m ((c.tc : Thread nD τ).loc main_arg0)) (y 0).val k) := by
  refine (dats m 0 c).arrAt_eq_of_covers 2 _ (by decide +kernel) fun t hf y => ?_
  have ht : t.val < 12 := t.isLt
  refine (congrFun (flushed2 m c t) y).trans ?_
  have h0 : (y 0).val < 128 := (y 0).isLt
  have e0 : (((cfg0.win 2).blk t).view.emb y 0).val = 128 * t.val + (y 0).val := by blk_simp [idx t]; omega
  rw [e0]
  refine (scales_read _ y).trans ?_
  exact rowScale_congr (fun k hk => iblk0 m c t _ _ h0 hk)

end Cert.QuantAttnIdeal.RefValue

end
-- ==== Proof.QuantAttnRefIdealOut.lean ====
/-
  The arrays that `QuantAttnRefIdeal` leaves: for every row its codes and its scale.
-/
module

public import proofs.«01_k».proof.Proof.Gen.QuantAttnRefIdeal.Value
public import proofs.«01_k».proof.Proof.RowNorm
public import Idealize.ShloMosaic.Lib.Claim
public import Idealize.ShloMosaic.Lib.Pipeline.ValueKit

@[expose] public section

noncomputable section

namespace Cert.QuantAttnRefIdeal.RefValue

open Cert.QuantAttnRefIdeal Cert.QuantAttnRefIdeal.Gen Cert.QuantAttnRefIdeal.Value Cert.W4 Cert.RowNorm
open Idealize.ShloMosaic Idealize.ShloMosaic.TcCoe Idealize.SL.Sem

/-- The row scale. -/
theorem k0_pay1_at (v0) (r : Fin 1536) (f : ℕ → EReal) (hf : ∀ k : Fin 2048, v0 (ix2 r k) = f k.val) :
    k0_pay1 (F := Ideal) v0 (ix2 r (0 : Fin 1)) = rowScale 2048 f :=
  scale_at v0 _ _ r f hf

/-- The codes. -/
theorem k0_pay2_at (v0) (r : Fin 1536) (k : Fin 2048) (f : ℕ → EReal) (hf : ∀ k : Fin 2048, v0 (ix2 r k) = f k.val) :
    k0_pay2 (F := Ideal) v0 (ix2 r k) = rowCode 2048 f k.val :=
  code_at v0 (k0_pay1 (F := Ideal) v0) _ _ r k f (hf k) (k0_pay1_at v0 r f hf)

/-- What the body leaves in its codes. -/
theorem codes_read (x0) (y : S1536x2048.Idx) :
    out0_1 (F := Ideal) x0 y
      = rowCode 2048 (fun k => at2 (α := EReal) (m := 1536) (n := 2048) x0 (y 0).val k) (y 1).val := by
  unfold out0_1
  rw [View.canon_cons_unit_lit _ _ _ (by decide)]
  rw [eq_ix2 y]
  rw [show View.ld x0 r0_0 = x0 from View.ld_unit_lit _ _ (by decide)]
  exact k0_pay2_at x0 (y 0) (y 1) _ fun k => ix2_at2 (α := EReal) (m := 1536) (n := 2048) x0 (y 0) k

/-- What the body leaves in its scales. -/
theorem scales_read (x0) (y : S1536x1.Idx) :
    out0_2 (F := Ideal) x0 y
      = rowScale 2048 (fun k => at2 (α := EReal) (m := 1536) (n := 2048) x0 (y 0).val k) := by
  unfold out0_2
  rw [View.canon_cons_unit_lit _ _ _ (by decide)]
  rw [eq_ix2 y, show y 1 = (0 : Fin 1) from Subsingleton.elim (α := Fin 1) _ _]
  rw [show View.ld x0 r0_0 = x0 from View.ld_unit_lit _ _ (by decide)]
  exact k0_pay1_at x0 (y 0) _ fun k => ix2_at2 (α := EReal) (m := 1536) (n := 2048) x0 (y 0) k

/-- Where each window's block stands at a grid point. -/
theorem idx : ∀ t : Fin cfg0.N, win0_0.index t = ![t.val, 0] ∧ win0_1.index t = ![t.val, 0] ∧ win0_2.index t = ![t.val, 0] := by
  decide +kernel

variable (m : (ℓ : Loc nD τ sig) → Buf (Elt Ideal) ℓ)

/-- The rows of a block. -/
theorem iblk0 (c : Dev nD) (t : Fin cfg0.N) (i j : ℕ) (hi : i < 1536) (hj : j < 2048) :
    at2 (α := EReal) (m := 1536) (n := 2048) (iblk m c 0 t) i j
      = at2 (α := EReal) (m := 1536) (n := 2048) (m ((c.tc : Thread nD τ).loc main_arg0)) (1536 * t.val + i) j := by
  have ht : t.val < 1 := t.isLt
  rw [at2_of _ hi hj, at2_of _ (by omega) hj]
  blk_ext [iblk, V, idx t]

/-- The codes it leaves. -/
theorem codes_result (c : Dev nD) : (dats m 0 c).arrAt 1 cfg0.N = fun y : S1536x2048.Idx => rowCode 2048 (fun k => at2 (α := EReal) (m := 1536) (n := 2048) (m ((c.tc : Thread nD τ).loc main_arg0)) (y 0).val k) (y 1).val := by
  refine (dats m 0 c).arrAt_eq_of_covers 1 _ (by decide +kernel) fun t hf y => ?_
  have ht : t.val < 1 := t.isLt
  refine (congrFun (flushed1 m c t) y).trans ?_
  have h0 : (y 0).val < 1536 := (y 0).isLt
  have h1 : (y 1).val < 2048 := (y 1).isLt
  have e0 : (((cfg0.win 1).blk t).view.emb y 0).val = 1536 * t.val + (y 0).val := by blk_simp [idx t]; omega
  have e1 : (((cfg0.win 1).blk t).view.emb y 1).val = (y 1).val := by blk_simp [idx t]
  rw [e0, e1]
  refine (codes_read _ y).trans ?_
  exact rowCode_congr (fun k hk => iblk0 m c t _ _ h0 hk) h1

/-- The scales it leaves. -/
theorem scales_result (c : Dev nD) : (dats m 0 c).arrAt 2 cfg0.N = fun y : S1536x1.Idx => rowScale 2048 (fun k => at2 (α := EReal) (m := 1536) (n := 2048) (m ((c.tc : Thread nD τ).loc main_arg0)) (y 0).val k) := by
  refine (dats m 0 c).arrAt_eq_of_covers 2 _ (by decide +kernel) fun t hf y => ?_
  have ht : t.val < 1 := t.isLt
  refine (congrFun (flushed2 m c t) y).trans ?_
  have h0 : (y 0).val < 1536 := (y 0).isLt
  have e0 : (((cfg0.win 2).blk t).view.emb y 0).val = 1536 * t.val + (y 0).val := by blk_simp [idx t]; omega
  rw [e0]
  refine (scales_read _ y).trans ?_
  exact rowScale_congr (fun k hk => iblk0 m c t _ _ h0 hk)

end Cert.QuantAttnRefIdeal.RefValue

end
-- ==== Proof.QuantAttnClaim.lean ====
/-
  `QuantAttn`: the kernel and the reference leave the same codes and the same scales.
-/
module

public import proofs.«01_k».proof.Defs
public import proofs.«01_k».proof.Proof.QuantAttnIdealOut
public import proofs.«01_k».proof.Proof.QuantAttnRefIdealOut

@[expose] public section

noncomputable section

namespace Cert.QuantAttnClaim

open Idealize.ShloMosaic Idealize.SL.Sem

/-- From memories that agree on the arguments, kernel and reference both run, end with the same results and keep their
    arguments. -/
theorem algebraic : Cert.algebraic_QuantAttnIdeal_QuantAttnRefIdeal (hQuantAttnIdeal := Cert.QuantAttnIdeal.Gen.facts)
    (hQuantAttnRefIdeal := Cert.QuantAttnRefIdeal.Gen.facts) := by
  intro m ρ m' ρ' _ hagree
  refine ⟨fun c => _, fun c => _, Cert.QuantAttnIdeal.Value.run_blocks m ρ, ?_⟩
  refine (θ_run _ _ _).mono (fun _ h c => ⟨(h c).1.trans ?_, (h c).2.1.trans ?_, (h c).2.2⟩)
    (Cert.QuantAttnRefIdeal.Value.run_blocks m' ρ')
  · have h0 := hagree c
    refine (Cert.QuantAttnRefIdeal.RefValue.codes_result m' c).trans (Eq.trans ?_ (Cert.QuantAttnIdeal.RefValue.codes_result m c).symm)
    funext y
    rw [h0]
  · have h0 := hagree c
    refine (Cert.QuantAttnRefIdeal.RefValue.scales_result m' c).trans (Eq.trans ?_ (Cert.QuantAttnIdeal.RefValue.scales_result m c).symm)
    funext y
    rw [h0]

end Cert.QuantAttnClaim

end
-- ==== Proof.QuantActIdealOut.lean ====
/-
  The arrays that `QuantActIdeal` leaves: for every row its codes and its scale.
-/
module

public import proofs.«01_k».proof.Proof.Gen.QuantActIdeal.Value
public import proofs.«01_k».proof.Proof.RowNorm
public import Idealize.ShloMosaic.Lib.Claim
public import Idealize.ShloMosaic.Lib.Pipeline.ValueKit

@[expose] public section

noncomputable section

namespace Cert.QuantActIdeal.RefValue

open Cert.QuantActIdeal Cert.QuantActIdeal.Gen Cert.QuantActIdeal.Value Cert.W4 Cert.RowNorm
open Idealize.ShloMosaic Idealize.ShloMosaic.TcCoe Idealize.SL.Sem

/-- The row scale. -/
theorem k0_pay1_at (v0) (r : Fin 128) (f : ℕ → EReal) (hf : ∀ k : Fin 7168, v0 (ix2 r k) = f k.val) :
    k0_pay1 (F := Ideal) v0 (ix2 r (0 : Fin 1)) = rowScale 7168 f :=
  scale_at v0 _ _ r f hf

/-- The codes. -/
theorem k0_pay2_at (v0) (r : Fin 128) (k : Fin 7168) (f : ℕ → EReal) (hf : ∀ k : Fin 7168, v0 (ix2 r k) = f k.val) :
    k0_pay2 (F := Ideal) v0 (ix2 r k) = rowCode 7168 f k.val :=
  code_at v0 (k0_pay1 (F := Ideal) v0) _ _ r k f (hf k) (k0_pay1_at v0 r f hf)

/-- What the body leaves in its codes. -/
theorem codes_read (x0) (y : S128x7168.Idx) :
    out0_1 (F := Ideal) x0 y
      = rowCode 7168 (fun k => at2 (α := EReal) (m := 128) (n := 7168) x0 (y 0).val k) (y 1).val := by
  unfold out0_1
  rw [View.canon_cons_unit_lit _ _ _ (by decide)]
  rw [eq_ix2 y]
  rw [show View.ld x0 r0_0 = x0 from View.ld_unit_lit _ _ (by decide)]
  exact k0_pay2_at x0 (y 0) (y 1) _ fun k => ix2_at2 (α := EReal) (m := 128) (n := 7168) x0 (y 0) k

/-- What the body leaves in its scales. -/
theorem scales_read (x0) (y : S128x1.Idx) :
    out0_2 (F := Ideal) x0 y
      = rowScale 7168 (fun k => at2 (α := EReal) (m := 128) (n := 7168) x0 (y 0).val k) := by
  unfold out0_2
  rw [View.canon_cons_unit_lit _ _ _ (by decide)]
  rw [eq_ix2 y, show y 1 = (0 : Fin 1) from Subsingleton.elim (α := Fin 1) _ _]
  rw [show View.ld x0 r0_0 = x0 from View.ld_unit_lit _ _ (by decide)]
  exact k0_pay1_at x0 (y 0) _ fun k => ix2_at2 (α := EReal) (m := 128) (n := 7168) x0 (y 0) k

/-- Where each window's block stands at a grid point. -/
theorem idx : ∀ t : Fin cfg0.N, win0_0.index t = ![t.val, 0] ∧ win0_1.index t = ![t.val, 0] ∧ win0_2.index t = ![t.val, 0] := by
  decide +kernel

variable (m : (ℓ : Loc nD τ sig) → Buf (Elt Ideal) ℓ)

/-- The rows of a block. -/
theorem iblk0 (c : Dev nD) (t : Fin cfg0.N) (i j : ℕ) (hi : i < 128) (hj : j < 7168) :
    at2 (α := EReal) (m := 128) (n := 7168) (iblk m c 0 t) i j
      = at2 (α := EReal) (m := 1536) (n := 7168) (m ((c.tc : Thread nD τ).loc main_arg0)) (128 * t.val + i) j := by
  have ht : t.val < 12 := t.isLt
  rw [at2_of _ hi hj, at2_of _ (by omega) hj]
  blk_ext [iblk, V, idx t]

/-- The codes it leaves. -/
theorem codes_result (c : Dev nD) : (dats m 0 c).arrAt 1 cfg0.N = fun y : S1536x7168.Idx => rowCode 7168 (fun k => at2 (α := EReal) (m := 1536) (n := 7168) (m ((c.tc : Thread nD τ).loc main_arg0)) (y 0).val k) (y 1).val := by
  refine (dats m 0 c).arrAt_eq_of_covers 1 _ (by decide +kernel) fun t hf y => ?_
  have ht : t.val < 12 := t.isLt
  refine (congrFun (flushed1 m c t) y).trans ?_
  have h0 : (y 0).val < 128 := (y 0).isLt
  have h1 : (y 1).val < 7168 := (y 1).isLt
  have e0 : (((cfg0.win 1).blk t).view.emb y 0).val = 128 * t.val + (y 0).val := by blk_simp [idx t]; omega
  have e1 : (((cfg0.win 1).blk t).view.emb y 1).val = (y 1).val := by blk_simp [idx t]
  rw [e0, e1]
  refine (codes_read _ y).trans ?_
  exact rowCode_congr (fun k hk => iblk0 m c t _ _ h0 hk) h1

/-- The scales it leaves. -/
theorem scales_result (c : Dev nD) : (dats m 0 c).arrAt 2 cfg0.N = fun y : S1536x1.Idx => rowScale 7168 (fun k => at2 (α := EReal) (m := 1536) (n := 7168) (m ((c.tc : Thread nD τ).loc main_arg0)) (y 0).val k) := by
  refine (dats m 0 c).arrAt_eq_of_covers 2 _ (by decide +kernel) fun t hf y => ?_
  have ht : t.val < 12 := t.isLt
  refine (congrFun (flushed2 m c t) y).trans ?_
  have h0 : (y 0).val < 128 := (y 0).isLt
  have e0 : (((cfg0.win 2).blk t).view.emb y 0).val = 128 * t.val + (y 0).val := by blk_simp [idx t]; omega
  rw [e0]
  refine (scales_read _ y).trans ?_
  exact rowScale_congr (fun k hk => iblk0 m c t _ _ h0 hk)

end Cert.QuantActIdeal.RefValue

end
-- ==== Proof.QuantActRefIdealOut.lean ====
/-
  The arrays that `QuantActRefIdeal` leaves: for every row its codes and its scale.
-/
module

public import proofs.«01_k».proof.Proof.Gen.QuantActRefIdeal.Value
public import proofs.«01_k».proof.Proof.RowNorm
public import Idealize.ShloMosaic.Lib.Claim
public import Idealize.ShloMosaic.Lib.Pipeline.ValueKit

@[expose] public section

noncomputable section

namespace Cert.QuantActRefIdeal.RefValue

open Cert.QuantActRefIdeal Cert.QuantActRefIdeal.Gen Cert.QuantActRefIdeal.Value Cert.W4 Cert.RowNorm
open Idealize.ShloMosaic Idealize.ShloMosaic.TcCoe Idealize.SL.Sem

/-- The row scale. -/
theorem k0_pay1_at (v0) (r : Fin 1536) (f : ℕ → EReal) (hf : ∀ k : Fin 7168, v0 (ix2 r k) = f k.val) :
    k0_pay1 (F := Ideal) v0 (ix2 r (0 : Fin 1)) = rowScale 7168 f :=
  scale_at v0 _ _ r f hf

/-- The codes. -/
theorem k0_pay2_at (v0) (r : Fin 1536) (k : Fin 7168) (f : ℕ → EReal) (hf : ∀ k : Fin 7168, v0 (ix2 r k) = f k.val) :
    k0_pay2 (F := Ideal) v0 (ix2 r k) = rowCode 7168 f k.val :=
  code_at v0 (k0_pay1 (F := Ideal) v0) _ _ r k f (hf k) (k0_pay1_at v0 r f hf)

/-- What the body leaves in its codes. -/
theorem codes_read (x0) (y : S1536x7168.Idx) :
    out0_1 (F := Ideal) x0 y
      = rowCode 7168 (fun k => at2 (α := EReal) (m := 1536) (n := 7168) x0 (y 0).val k) (y 1).val := by
  unfold out0_1
  rw [View.canon_cons_unit_lit _ _ _ (by decide)]
  rw [eq_ix2 y]
  rw [show View.ld x0 r0_0 = x0 from View.ld_unit_lit _ _ (by decide)]
  exact k0_pay2_at x0 (y 0) (y 1) _ fun k => ix2_at2 (α := EReal) (m := 1536) (n := 7168) x0 (y 0) k

/-- What the body leaves in its scales. -/
theorem scales_read (x0) (y : S1536x1.Idx) :
    out0_2 (F := Ideal) x0 y
      = rowScale 7168 (fun k => at2 (α := EReal) (m := 1536) (n := 7168) x0 (y 0).val k) := by
  unfold out0_2
  rw [View.canon_cons_unit_lit _ _ _ (by decide)]
  rw [eq_ix2 y, show y 1 = (0 : Fin 1) from Subsingleton.elim (α := Fin 1) _ _]
  rw [show View.ld x0 r0_0 = x0 from View.ld_unit_lit _ _ (by decide)]
  exact k0_pay1_at x0 (y 0) _ fun k => ix2_at2 (α := EReal) (m := 1536) (n := 7168) x0 (y 0) k

/-- Where each window's block stands at a grid point. -/
theorem idx : ∀ t : Fin cfg0.N, win0_0.index t = ![t.val, 0] ∧ win0_1.index t = ![t.val, 0] ∧ win0_2.index t = ![t.val, 0] := by
  decide +kernel

variable (m : (ℓ : Loc nD τ sig) → Buf (Elt Ideal) ℓ)

/-- The rows of a block. -/
theorem iblk0 (c : Dev nD) (t : Fin cfg0.N) (i j : ℕ) (hi : i < 1536) (hj : j < 7168) :
    at2 (α := EReal) (m := 1536) (n := 7168) (iblk m c 0 t) i j
      = at2 (α := EReal) (m := 1536) (n := 7168) (m ((c.tc : Thread nD τ).loc main_arg0)) (1536 * t.val + i) j := by
  have ht : t.val < 1 := t.isLt
  rw [at2_of _ hi hj, at2_of _ (by omega) hj]
  blk_ext [iblk, V, idx t]

/-- The codes it leaves. -/
theorem codes_result (c : Dev nD) : (dats m 0 c).arrAt 1 cfg0.N = fun y : S1536x7168.Idx => rowCode 7168 (fun k => at2 (α := EReal) (m := 1536) (n := 7168) (m ((c.tc : Thread nD τ).loc main_arg0)) (y 0).val k) (y 1).val := by
  refine (dats m 0 c).arrAt_eq_of_covers 1 _ (by decide +kernel) fun t hf y => ?_
  have ht : t.val < 1 := t.isLt
  refine (congrFun (flushed1 m c t) y).trans ?_
  have h0 : (y 0).val < 1536 := (y 0).isLt
  have h1 : (y 1).val < 7168 := (y 1).isLt
  have e0 : (((cfg0.win 1).blk t).view.emb y 0).val = 1536 * t.val + (y 0).val := by blk_simp [idx t]; omega
  have e1 : (((cfg0.win 1).blk t).view.emb y 1).val = (y 1).val := by blk_simp [idx t]
  rw [e0, e1]
  refine (codes_read _ y).trans ?_
  exact rowCode_congr (fun k hk => iblk0 m c t _ _ h0 hk) h1

/-- The scales it leaves. -/
theorem scales_result (c : Dev nD) : (dats m 0 c).arrAt 2 cfg0.N = fun y : S1536x1.Idx => rowScale 7168 (fun k => at2 (α := EReal) (m := 1536) (n := 7168) (m ((c.tc : Thread nD τ).loc main_arg0)) (y 0).val k) := by
  refine (dats m 0 c).arrAt_eq_of_covers 2 _ (by decide +kernel) fun t hf y => ?_
  have ht : t.val < 1 := t.isLt
  refine (congrFun (flushed2 m c t) y).trans ?_
  have h0 : (y 0).val < 1536 := (y 0).isLt
  have e0 : (((cfg0.win 2).blk t).view.emb y 0).val = 1536 * t.val + (y 0).val := by blk_simp [idx t]; omega
  rw [e0]
  refine (scales_read _ y).trans ?_
  exact rowScale_congr (fun k hk => iblk0 m c t _ _ h0 hk)

end Cert.QuantActRefIdeal.RefValue

end
-- ==== Proof.QuantActClaim.lean ====
/-
  `QuantAct`: the kernel and the reference leave the same codes and the same scales.
-/
module

public import proofs.«01_k».proof.Defs
public import proofs.«01_k».proof.Proof.QuantActIdealOut
public import proofs.«01_k».proof.Proof.QuantActRefIdealOut

@[expose] public section

noncomputable section

namespace Cert.QuantActClaim

open Idealize.ShloMosaic Idealize.SL.Sem

/-- From memories that agree on the arguments, kernel and reference both run, end with the same results and keep their
    arguments. -/
theorem algebraic : Cert.algebraic_QuantActIdeal_QuantActRefIdeal (hQuantActIdeal := Cert.QuantActIdeal.Gen.facts)
    (hQuantActRefIdeal := Cert.QuantActRefIdeal.Gen.facts) := by
  intro m ρ m' ρ' _ hagree
  refine ⟨fun c => _, fun c => _, Cert.QuantActIdeal.Value.run_blocks m ρ, ?_⟩
  refine (θ_run _ _ _).mono (fun _ h c => ⟨(h c).1.trans ?_, (h c).2.1.trans ?_, (h c).2.2⟩)
    (Cert.QuantActRefIdeal.Value.run_blocks m' ρ')
  · have h0 := hagree c
    refine (Cert.QuantActRefIdeal.RefValue.codes_result m' c).trans (Eq.trans ?_ (Cert.QuantActIdeal.RefValue.codes_result m c).symm)
    funext y
    rw [h0]
  · have h0 := hagree c
    refine (Cert.QuantActRefIdeal.RefValue.scales_result m' c).trans (Eq.trans ?_ (Cert.QuantActIdeal.RefValue.scales_result m c).symm)
    funext y
    rw [h0]

end Cert.QuantActClaim

end
-- ==== Proof.Rotary.lean ====
/-
  Rotary position embedding of a head of 128 lanes, and the scaled codes of keys and values, as functions of the rows.
-/
module

public import proofs.«01_k».proof.Proof.Spec

@[expose] public section

noncomputable section

namespace Cert.Rotary

open Idealize.ShloMosaic Cert.W4

/-- A three-dimensional array at natural-number coordinates; outside, a default. -/
def at3 {α : Type} [Inhabited α] {l m n : ℕ} (x : (⟨3, ![l, m, n]⟩ : Shape).Idx → α) (i j k : ℕ) : α :=
  if h : i < l ∧ j < m ∧ k < n then x (ix3 ⟨i, h.1⟩ ⟨j, h.2.1⟩ ⟨k, h.2.2⟩) else default

/-- Inside the array, `at3` is its entry. -/
theorem at3_of {α : Type} [Inhabited α] {l m n : ℕ} (x : (⟨3, ![l, m, n]⟩ : Shape).Idx → α) {i j k : ℕ} (hi : i < l) (hj : j < m)
    (hk : k < n) : at3 x i j k = x (ix3 ⟨i, hi⟩ ⟨j, hj⟩ ⟨k, hk⟩) := dif_pos ⟨hi, hj, hk⟩

/-- Lane `k` of a rotated head: lanes `k` and `k + 64` turn by the angle of `k`. -/
def rot (f c s : ℕ → EReal) (k : ℕ) : EReal :=
  if k < 64 then f k * c k - f (k + 64) * s k else f k * c (k - 64) + f (k - 64) * s (k - 64)

/-- It depends on the head's lanes and its angles alone. -/
theorem rot_congr {f f' c c' s s' : ℕ → EReal} {k : ℕ} (hk : k < 128) (hf : ∀ k < 128, f k = f' k) (hc : ∀ k < 64, c k = c' k)
    (hs : ∀ k < 64, s k = s' k) : rot f c s k = rot f' c' s' k := by
  unfold rot
  split
  · rename_i h
    rw [hf _ hk, hf _ (by omega), hc _ h, hs _ h]
  · rw [hf _ hk, hf _ (by omega), hc _ (by omega), hs _ (by omega)]

/-- The sum of a lane times its cosine and the lane half a head away times its signed sine is the rotated lane. -/
theorem rot_eq (f c s : ℕ → EReal) {k : ℕ} (hk : k < 128) :
    f k * c (k % 64) + f ((k + 64) % 128) * (if k < 64 then 0 - s (k % 64) else s (k % 64)) = rot f c s k := by
  unfold rot
  split
  · rename_i h
    rw [Nat.mod_eq_of_lt h, Nat.mod_eq_of_lt (by omega : k + 64 < 128), zero_sub, mul_neg, sub_eq_add_neg]
  · rename_i h
    rw [show k % 64 = k - 64 by omega, show (k + 64) % 128 = k - 64 by omega]

/-- The code of an element under a scale: their quotient, kept between -448 and 448. -/
def code (u s : EReal) : EReal :=
  min (Ideal.ofBits FTy.f32 0x43E00000#32) (max (Ideal.ofBits FTy.f32 0xC3E00000#32) (Ideal.div u s))

/-- The rotated queries of tokens `T`, column `n` of all heads, from the projections and the angles of 512 tokens per row. -/
def query (x : (⟨2, ![1536, 2560]⟩ : Shape).Idx → EReal) (c s : (⟨3, ![3, 512, 64]⟩ : Shape).Idx → EReal) (T n : ℕ) : EReal :=
  rot (fun k => at2 x T (128 * (n / 128) + k)) (at3 c (T / 512) (T % 512)) (at3 s (T / 512) (T % 512)) (n % 128)

/-- The codes of the rotated keys: sequence `b`, head `h`, token `t`, lane `k`. -/
def key (x : (⟨2, ![1536, 2560]⟩ : Shape).Idx → EReal) (c s : (⟨3, ![3, 512, 64]⟩ : Shape).Idx → EReal)
    (z : (⟨1, ![2]⟩ : Shape).Idx → EReal) (b h t k : ℕ) : EReal :=
  code (rot (fun k => at2 x (512 * b + t) (2048 + 128 * h + k)) (at3 c b t) (at3 s b t) k) (at1 z h)

/-- The codes of the values. -/
def val (x : (⟨2, ![1536, 2560]⟩ : Shape).Idx → EReal) (z : (⟨1, ![2]⟩ : Shape).Idx → EReal) (b h t k : ℕ) : EReal :=
  code (at2 x (512 * b + t) (2304 + 128 * h + k)) (at1 z h)

end Cert.Rotary

end
-- ==== Proof.RopeKvIdealOut.lean ====
/-
  The arrays that `RopeKvIdeal` leaves: the rotated queries and the codes of the rotated keys and of the values.
-/
module

public import proofs.«01_k».proof.Proof.Gen.RopeKvIdeal.Value
public import proofs.«01_k».proof.Proof.Rotary
public import Idealize.ShloMosaic.Lib.Claim
public import Idealize.ShloMosaic.Lib.Pipeline.ValueKit

@[expose] public section

noncomputable section

namespace Cert.RopeKvIdeal.RefValue

open Cert.RopeKvIdeal Cert.RopeKvIdeal.Gen Cert.RopeKvIdeal.Value Cert.W4 Cert.Rotary
open Idealize.ShloMosaic Idealize.ShloMosaic.TcCoe Idealize.SL.Sem

/-- A head rotated, as the printed operations compute it: the head times the cosines plus its lanes turned by half a head
    times the signed sines. -/
def rotBlk (C S v : FVec Ideal S512x128 .f32) : FVec Ideal S512x128 .f32 :=
  addf (mulf v C) (mulf (dynamicRotate 1 64#32 none v rotates_S512x128_d1) S)

/-- An element of it. -/
theorem rotBlk_at (C S v) (r : Fin 512) (k : Fin 128) : rotBlk C S v (ix2 r k)
    = v (ix2 r k) * C (ix2 r k) + v (ix2 r (⟨(k.val + 64) % 128, by omega⟩ : Fin 128)) * S (ix2 r k) := by
  pointwise [rotBlk]
  have e : (⟨(k.val + 128 - 64) % 128, by omega⟩ : Fin 128) = ⟨(k.val + 64) % 128, by omega⟩ := Fin.ext (by show (_ : ℕ) % 128 = _ % 128; omega)
  rw [e]

/-- The cosines, turned and laid out twice. -/
theorem cos_at (v0) (r : Fin 512) (k : Fin 128) :
    k0_pay3 (F := Ideal) v0 (ix2 r k) = at3 (α := EReal) (l := 1) (m := 64) (n := 512) v0 0 (k.val % 64) r.val := by
  rw [at3_of _ (by omega) (by omega) r.isLt]
  pointwise [k0_pay3]
  split <;> refine congrArg (fun a : Fin 64 => v0 (ix3 (0 : Fin 1) a r)) (Fin.ext ?_) <;> dsimp only <;> omega

/-- The sines, turned and laid out twice, first with their signs changed. -/
theorem sin_at (v0) (r : Fin 512) (k : Fin 128) :
    k0_pay4 (F := Ideal) v0 (ix2 r k) = if k.val < 64 then (0 - at3 (α := EReal) (l := 1) (m := 64) (n := 512) v0 0 (k.val % 64) r.val : EReal)
      else at3 (α := EReal) (l := 1) (m := 64) (n := 512) v0 0 (k.val % 64) r.val := by
  rw [at3_of _ (by omega) (by omega) r.isLt]
  pointwise [k0_pay4]
  split
  · refine congrArg (fun a : Fin 64 => (0 - v0 (ix3 (0 : Fin 1) a r) : EReal)) (Fin.ext ?_)
    dsimp only
    omega
  · refine congrArg (fun a : Fin 64 => v0 (ix3 (0 : Fin 1) a r)) (Fin.ext ?_)
    dsimp only
    omega

/-- A head loaded from the block of projections and rotated. -/
theorem head_at (x0 : Vec Ideal S512x2560 .f32) (x1 x2 : Vec Ideal S1x64x512 .f32) (o : ℕ)
    (h : ∀ a, ![0, o] a + ![512, 128] a ≤ S512x2560.size a) (r : Fin 512) (k : Fin 128) :
    rotBlk (k0_pay3 x1) (k0_pay4 x2) (View.ld x0 (Rect.unit (s := S512x2560) ![0, o] ![512, 128] h)) (ix2 r k)
      = rot (fun k => at2 (α := EReal) (m := 512) (n := 2560) x0 r.val (o + k)) (fun d => at3 (α := EReal) (l := 1) (m := 64) (n := 512) x1 0 d r.val)
          (fun d => at3 (α := EReal) (l := 1) (m := 64) (n := 512) x2 0 d r.val) k.val := by
  rw [rotBlk_at, cos_at, sin_at]
  have e : ∀ k : Fin 128, View.ld x0 (Rect.unit (s := S512x2560) ![0, o] ![512, 128] h) (ix2 r k)
      = at2 (α := EReal) (m := 512) (n := 2560) x0 r.val (o + k.val) := fun k =>
    (ld_ix2 (Val := fun _ => EReal) (e := .f32) (m := 512) (n := 2560) x0 0 o 512 128 h r k).trans (by rw [Nat.zero_add])
  rw [e, e]
  exact rot_eq (fun k => at2 (α := EReal) (m := 512) (n := 2560) x0 r.val (o + k)) (fun d => at3 (α := EReal) (l := 1) (m := 64) (n := 512) x1 0 d r.val)
    (fun d => at3 (α := EReal) (l := 1) (m := 64) (n := 512) x2 0 d r.val) k.isLt

/-- The block of queries a grid point leaves. -/
def qBlk (x0 : Vec Ideal S512x2560 .f32) (x1 x2 : Vec Ideal S1x64x512 .f32) (y : S512x2048.Idx) : EReal :=
  rot (fun k => at2 (α := EReal) (m := 512) (n := 2560) x0 (y 0).val (128 * ((y 1).val / 128) + k)) (fun d => at3 (α := EReal) (l := 1) (m := 64) (n := 512) x1 0 d (y 0).val)
    (fun d => at3 (α := EReal) (l := 1) (m := 64) (n := 512) x2 0 d (y 0).val) ((y 1).val % 128)

/-- The block of key codes it leaves. -/
def kBlk (x0 : Vec Ideal S512x2560 .f32) (x1 x2 : Vec Ideal S1x64x512 .f32) (x3 : Vec Ideal S2 .f32) (y : S1x2x512x128.Idx) : EReal :=
  code (rot (fun k => at2 (α := EReal) (m := 512) (n := 2560) x0 (y 2).val (2048 + 128 * (y 1).val + k))
    (fun d => at3 (α := EReal) (l := 1) (m := 64) (n := 512) x1 0 d (y 2).val)
    (fun d => at3 (α := EReal) (l := 1) (m := 64) (n := 512) x2 0 d (y 2).val) (y 3).val) (at1 (α := EReal) (n := 2) x3 (y 1).val)

/-- The block of value codes it leaves. -/
def vBlk (x0 : Vec Ideal S512x2560 .f32) (x4 : Vec Ideal S2 .f32) (y : S1x2x512x128.Idx) : EReal :=
  code (at2 (α := EReal) (m := 512) (n := 2560) x0 (y 2).val (2304 + 128 * (y 1).val + (y 3).val)) (at1 (α := EReal) (n := 2) x4 (y 1).val)

/-- A store of a head of queries. -/
theorem q_piece (x0 : Vec Ideal S512x2560 .f32) (x1 x2 : Vec Ideal S1x64x512 .f32) (o : ℕ) (h h') (ho : o % 128 = 0) (q : S512x128.Idx) :
    truncf .bf16 (rotBlk (k0_pay3 x1) (k0_pay4 x2) (View.ld x0 (Rect.unit (s := S512x2560) ![0, o] ![512, 128] h))) bitsLt_bf16_f32 q
      = qBlk x0 x1 x2 ((Rect.unit (s := S512x2048) ![0, o] ![512, 128] h').emb q) := by
  obtain ⟨r, k, rfl⟩ : ∃ (r : Fin 512) (k : Fin 128), q = ix2 r k := ⟨q 0, q 1, eq_ix2 q⟩
  refine (head_at x0 x1 x2 o h r k).trans ?_
  have hk := k.isLt
  have e0 : ((Rect.unit (s := S512x2048) ![0, o] ![512, 128] h').emb (ix2 r k) 0).val = r.val := by
    show 0 + 1 * r.val = r.val
    omega
  have e1 : ((Rect.unit (s := S512x2048) ![0, o] ![512, 128] h').emb (ix2 r k) 1).val = o + k.val := by
    show o + 1 * k.val = o + k.val
    omega
  unfold qBlk
  rw [e0, e1, show 128 * ((o + k.val) / 128) = o by omega, show (o + k.val) % 128 = k.val by omega]

/-- Codes of a block under one scale, laid out as one head of one sequence, as the printed operations compute them. -/
def codeBlk (v : FVec Ideal S512x128 .f32) (z : EReal) : FVec Ideal S1x1x512x128 .fp8e4m3 :=
  shapeCast S1x1x512x128 (truncf .fp8e4m3 (minimumf (broadcast S512x128 (Scalar.ofBits (F := Ideal) .f32 0x43E00000#32))
    (maximumf (broadcast S512x128 (Scalar.ofBits (F := Ideal) .f32 0xC3E00000#32)) (divf v (broadcast S512x128 (show Ideal .f32 from z))))) bitsLt_fp8e4m3_f32)
    shapeCasts_S512x128_S1x1x512x128

/-- An element of it. -/
theorem codeBlk_at (v z) (a b : Fin 1) (r : Fin 512) (k : Fin 128) : codeBlk v z (ix4 a b r k) = code (v (ix2 r k)) z := by
  pointwise [codeBlk]
  rfl

/-- A scale loaded by its place. -/
theorem ld1 (x : Vec Ideal S2 .f32) (g : ℕ) (h : ∀ a, ![g] a + ![1] a ≤ S2.size a) (q) (hg : g < 2) :
    View.ld x (Rect.unit (s := S2) ![g] ![1] h) q = at1 (α := EReal) (n := 2) x g := by
  rw [at1_of _ hg]
  refine View.ld_unit_apply_of (S := S2) x _ _ h _ _ fun c => ?_
  have hq : (q 0).val < 1 := (q 0).isLt
  match c with
  | ⟨0, _⟩ =>
    show g = g + (q 0).val
    omega

/-- Where the store of one head of one sequence lands. -/
theorem emb4 (g : ℕ) (h) (q : S1x1x512x128.Idx) :
    ((Rect.unit (s := S1x2x512x128) ![0, g, 0, 0] ![1, 1, 512, 128] h).emb q 1).val = g
      ∧ ((Rect.unit (s := S1x2x512x128) ![0, g, 0, 0] ![1, 1, 512, 128] h).emb q 2).val = (q 2).val
      ∧ ((Rect.unit (s := S1x2x512x128) ![0, g, 0, 0] ![1, 1, 512, 128] h).emb q 3).val = (q 3).val := by
  have h1 : (q 1).val < 1 := (q 1).isLt
  refine ⟨?_, ?_, ?_⟩
  · show g + 1 * (q 1).val = g
    omega
  · show 0 + 1 * (q 2).val = (q 2).val
    omega
  · show 0 + 1 * (q 3).val = (q 3).val
    omega

/-- A store of the key codes of a head. -/
theorem k_piece (x0 : Vec Ideal S512x2560 .f32) (x1 x2 : Vec Ideal S1x64x512 .f32) (x3 : Vec Ideal S2 .f32) (z : EReal) (g o : ℕ) (h h')
    (ho : o = 2048 + 128 * g) (hz : z = at1 (α := EReal) (n := 2) x3 g) (q : S1x1x512x128.Idx) :
    codeBlk (rotBlk (k0_pay3 x1) (k0_pay4 x2) (View.ld x0 (Rect.unit (s := S512x2560) ![0, o] ![512, 128] h))) z q
      = kBlk x0 x1 x2 x3 ((Rect.unit (s := S1x2x512x128) ![0, g, 0, 0] ![1, 1, 512, 128] h').emb q) := by
  subst ho hz
  obtain ⟨e1, e2, e3⟩ := emb4 g h' q
  unfold kBlk
  rw [e1, e2, e3]
  refine (congrArg _ (eq_ix4 q)).trans ((codeBlk_at _ _ (q 0) (q 1) (q 2) (q 3)).trans ?_)
  exact congrArg (code · _) (head_at x0 x1 x2 _ h (q 2) (q 3))

/-- A store of the value codes of a head. -/
theorem v_piece (x0 : Vec Ideal S512x2560 .f32) (x4 : Vec Ideal S2 .f32) (z : EReal) (g o : ℕ) (h h')
    (ho : o = 2304 + 128 * g) (hz : z = at1 (α := EReal) (n := 2) x4 g) (q : S1x1x512x128.Idx) :
    codeBlk (View.ld x0 (Rect.unit (s := S512x2560) ![0, o] ![512, 128] h)) z q
      = vBlk x0 x4 ((Rect.unit (s := S1x2x512x128) ![0, g, 0, 0] ![1, 1, 512, 128] h').emb q) := by
  subst ho hz
  obtain ⟨e1, e2, e3⟩ := emb4 g h' q
  unfold vBlk
  rw [e1, e2, e3]
  refine (congrArg _ (eq_ix4 q)).trans ((codeBlk_at _ _ (q 0) (q 1) (q 2) (q 3)).trans ?_)
  refine congrArg (code · _) ((ld_ix2 (Val := fun _ => EReal) (e := .f32) (m := 512) (n := 2560) x0 0 _ 512 128 h (q 2) (q 3)).trans ?_)
  rw [Nat.zero_add]

/-- What the body leaves in its queries. -/
theorem q_read (c : Dev nD) (i : grid0.Coords) (arg1 : Memref sig .tc .vmem S512x2560 .f32) (harg1 : arg1.IsWhole) (arg2 : Memref sig .tc .vmem S1x64x512 .f32) (harg2 : arg2.IsWhole) (arg3 : Memref sig .tc .vmem S1x64x512 .f32) (harg3 : arg3.IsWhole) (arg4 : Memref sig .tc .smem S2 .f32) (harg4 : arg4.IsWhole) (arg5 : Memref sig .tc .smem S2 .f32) (harg5 : arg5.IsWhole) (arg6 : Memref sig .tc .vmem S512x2048 .bf16) (harg6 : arg6.IsWhole) (arg7 : Memref sig .tc .vmem S1x2x512x128 .fp8e4m3) (harg7 : arg7.IsWhole) (arg8 : Memref sig .tc .vmem S1x2x512x128 .fp8e4m3) (harg8 : arg8.IsWhole)
    (x0 : Vec Ideal S512x2560 .f32) (x1 : Vec Ideal S1x64x512 .f32) (x2 : Vec Ideal S1x64x512 .f32) (x3 : Vec Ideal S2 .f32) (x4 : Vec Ideal S2 .f32) (y : S512x2048.Idx) :
    out0_A_5 (F := Ideal) c i arg1 harg1 arg2 harg2 arg3 harg3 arg4 harg4 arg5 harg5 arg6 harg6 arg7 harg7 arg8 harg8 x0 x1 x2 x3 x4 y = qBlk x0 x1 x2 y := by
  refine View.read_writes_apply_of_pieces _ _ (qBlk x0 x1 x2) _ (fun p hp q => ?_) y (cover0_A_5 c i arg1 harg1 arg2 harg2 arg3 harg3 arg4 harg4 arg5 harg5 arg6 harg6 arg7 harg7 arg8 harg8 x0 x1 x2 x3 x4 y)
  have r1 : arg2.view.readAt (Elt Ideal) (Rect.unit ![0, 0, 0] ![1, 64, 512] inb_S1x64x512_S1x64x512_0_0_0).toLoadRect (harg2.unread x1) = x1 := by
    rw [View.readAt_eq_ld, harg2.read_unread]
    exact View.ld_unit_lit _ _ (by decide)
  have r2 : arg3.view.readAt (Elt Ideal) (Rect.unit ![0, 0, 0] ![1, 64, 512] inb_S1x64x512_S1x64x512_0_0_0).toLoadRect (harg3.unread x2) = x2 := by
    rw [View.readAt_eq_ld, harg3.read_unread]
    exact View.ld_unit_lit _ _ (by decide)
  dsimp only [kernelRun0_A, kernelRun0_A.sl.r, kernelRun0_A.sl.r_1, kernelRun0_A.sl.r_2, kernelRun0_A.sl.r_3, kernelRun0_A.sl.r_4, kernelRun0_A.sl.r_5] at hp
  simp only [r1, r2, View.readAt_eq_ld, harg1.read_unread] at hp
  repeat
    rcases List.mem_cons.mp hp with rfl | hp
    · exact q_piece x0 x1 x2 _ _ (by decide) (by norm_num) q
  exact absurd hp List.not_mem_nil

/-- What it leaves in its key codes. -/
theorem k_read (c : Dev nD) (i : grid0.Coords) (arg1 : Memref sig .tc .vmem S512x2560 .f32) (harg1 : arg1.IsWhole) (arg2 : Memref sig .tc .vmem S1x64x512 .f32) (harg2 : arg2.IsWhole) (arg3 : Memref sig .tc .vmem S1x64x512 .f32) (harg3 : arg3.IsWhole) (arg4 : Memref sig .tc .smem S2 .f32) (harg4 : arg4.IsWhole) (arg5 : Memref sig .tc .smem S2 .f32) (harg5 : arg5.IsWhole) (arg6 : Memref sig .tc .vmem S512x2048 .bf16) (harg6 : arg6.IsWhole) (arg7 : Memref sig .tc .vmem S1x2x512x128 .fp8e4m3) (harg7 : arg7.IsWhole) (arg8 : Memref sig .tc .vmem S1x2x512x128 .fp8e4m3) (harg8 : arg8.IsWhole)
    (x0 : Vec Ideal S512x2560 .f32) (x1 : Vec Ideal S1x64x512 .f32) (x2 : Vec Ideal S1x64x512 .f32) (x3 : Vec Ideal S2 .f32) (x4 : Vec Ideal S2 .f32) (y : S1x2x512x128.Idx) :
    out0_A_6 (F := Ideal) c i arg1 harg1 arg2 harg2 arg3 harg3 arg4 harg4 arg5 harg5 arg6 harg6 arg7 harg7 arg8 harg8 x0 x1 x2 x3 x4 y = kBlk x0 x1 x2 x3 y := by
  refine View.read_writes_apply_of_pieces _ _ (kBlk x0 x1 x2 x3) _ (fun p hp q => ?_) y (cover0_A_6 c i arg1 harg1 arg2 harg2 arg3 harg3 arg4 harg4 arg5 harg5 arg6 harg6 arg7 harg7 arg8 harg8 x0 x1 x2 x3 x4 y)
  have r1 : arg2.view.readAt (Elt Ideal) (Rect.unit ![0, 0, 0] ![1, 64, 512] inb_S1x64x512_S1x64x512_0_0_0).toLoadRect (harg2.unread x1) = x1 := by
    rw [View.readAt_eq_ld, harg2.read_unread]
    exact View.ld_unit_lit _ _ (by decide)
  have r2 : arg3.view.readAt (Elt Ideal) (Rect.unit ![0, 0, 0] ![1, 64, 512] inb_S1x64x512_S1x64x512_0_0_0).toLoadRect (harg3.unread x2) = x2 := by
    rw [View.readAt_eq_ld, harg3.read_unread]
    exact View.ld_unit_lit _ _ (by decide)
  dsimp only [kernelRun0_A, kernelRun0_A.sl.r, kernelRun0_A.sl.r_1, kernelRun0_A.sl.r_6, kernelRun0_A.sl.r_7, kernelRun0_A.sl.r_8] at hp
  simp only [r1, r2, View.readAt_eq_ld, harg1.read_unread, harg4.read_unread] at hp
  rcases List.mem_cons.mp hp with rfl | hp
  · exact k_piece x0 x1 x2 x3 _ 1 _ _ (by decide) rfl (ld1 x3 1 _ _ (by decide)) q
  rcases List.mem_cons.mp hp with rfl | hp
  · exact k_piece x0 x1 x2 x3 _ 0 _ _ (by decide) rfl (ld1 x3 0 _ _ (by decide)) q
  exact absurd hp List.not_mem_nil

/-- What it leaves in its value codes. -/
theorem v_read (c : Dev nD) (i : grid0.Coords) (arg1 : Memref sig .tc .vmem S512x2560 .f32) (harg1 : arg1.IsWhole) (arg2 : Memref sig .tc .vmem S1x64x512 .f32) (harg2 : arg2.IsWhole) (arg3 : Memref sig .tc .vmem S1x64x512 .f32) (harg3 : arg3.IsWhole) (arg4 : Memref sig .tc .smem S2 .f32) (harg4 : arg4.IsWhole) (arg5 : Memref sig .tc .smem S2 .f32) (harg5 : arg5.IsWhole) (arg6 : Memref sig .tc .vmem S512x2048 .bf16) (harg6 : arg6.IsWhole) (arg7 : Memref sig .tc .vmem S1x2x512x128 .fp8e4m3) (harg7 : arg7.IsWhole) (arg8 : Memref sig .tc .vmem S1x2x512x128 .fp8e4m3) (harg8 : arg8.IsWhole)
    (x0 : Vec Ideal S512x2560 .f32) (x1 : Vec Ideal S1x64x512 .f32) (x2 : Vec Ideal S1x64x512 .f32) (x3 : Vec Ideal S2 .f32) (x4 : Vec Ideal S2 .f32) (y : S1x2x512x128.Idx) :
    out0_A_7 (F := Ideal) c i arg1 harg1 arg2 harg2 arg3 harg3 arg4 harg4 arg5 harg5 arg6 harg6 arg7 harg7 arg8 harg8 x0 x1 x2 x3 x4 y = vBlk x0 x4 y := by
  refine View.read_writes_apply_of_pieces _ _ (vBlk x0 x4) _ (fun p hp q => ?_) y (cover0_A_7 c i arg1 harg1 arg2 harg2 arg3 harg3 arg4 harg4 arg5 harg5 arg6 harg6 arg7 harg7 arg8 harg8 x0 x1 x2 x3 x4 y)
  dsimp only [kernelRun0_A, kernelRun0_A.sl.r_9, kernelRun0_A.sl.r_10, kernelRun0_A.sl.r_11] at hp
  simp only [View.readAt_eq_ld, harg1.read_unread, harg5.read_unread] at hp
  rcases List.mem_cons.mp hp with rfl | hp
  · exact v_piece x0 x4 _ 1 _ _ (by decide) rfl (ld1 x4 1 _ _ (by decide)) q
  rcases List.mem_cons.mp hp with rfl | hp
  · exact v_piece x0 x4 _ 0 _ _ (by decide) rfl (ld1 x4 0 _ _ (by decide)) q
  exact absurd hp List.not_mem_nil

/-- Where each window's block stands at a grid point. -/
theorem idx : ∀ t : Fin cfg0.N, win0_0.index t = ![t.val, 0] ∧ win0_1.index t = ![t.val, 0, 0] ∧ win0_2.index t = ![t.val, 0, 0]
    ∧ win0_3.index t = ![0] ∧ win0_4.index t = ![0] ∧ win0_5.index t = ![t.val, 0] ∧ win0_6.index t = ![t.val, 0, 0, 0]
    ∧ win0_7.index t = ![t.val, 0, 0, 0] := by
  decide +kernel

variable (m : (ℓ : Loc nD τ sig) → Buf (Elt Ideal) ℓ)

/-- The projections of a block. -/
theorem iblk0 (c : Dev nD) (t : Fin cfg0.N) (i j : ℕ) (hi : i < 512) (hj : j < 2560) :
    at2 (α := EReal) (m := 512) (n := 2560) (iblk m c 0 t) i j
      = at2 (α := EReal) (m := 1536) (n := 2560) (m ((c.tc : Thread nD τ).loc main_arg0)) (512 * t.val + i) j := by
  have ht : t.val < 3 := t.isLt
  rw [at2_of _ hi hj, at2_of _ (by omega) hj]
  blk_ext [iblk, V, idx t]

/-- Its cosines. -/
theorem iblk1 (c : Dev nD) (t : Fin cfg0.N) (d r : ℕ) (hd : d < 64) (hr : r < 512) :
    at3 (α := EReal) (l := 1) (m := 64) (n := 512) (iblk m c 1 t) 0 d r
      = at3 (α := EReal) (l := 3) (m := 512) (n := 64) (m ((c.tc : Thread nD τ).loc main_arg1)) t.val r d := by
  have ht : t.val < 3 := t.isLt
  rw [at3_of _ (by omega) hd hr, at3_of _ ht hr hd]
  blk_ext! [iblk, idx t]

/-- Its sines. -/
theorem iblk2 (c : Dev nD) (t : Fin cfg0.N) (d r : ℕ) (hd : d < 64) (hr : r < 512) :
    at3 (α := EReal) (l := 1) (m := 64) (n := 512) (iblk m c 2 t) 0 d r
      = at3 (α := EReal) (l := 3) (m := 512) (n := 64) (m ((c.tc : Thread nD τ).loc main_arg2)) t.val r d := by
  have ht : t.val < 3 := t.isLt
  rw [at3_of _ (by omega) hd hr, at3_of _ ht hr hd]
  blk_ext! [iblk, idx t]

/-- The scales of the keys. -/
theorem iblk3 (c : Dev nD) (t : Fin cfg0.N) (h : ℕ) (hh : h < 2) :
    at1 (α := EReal) (n := 2) (iblk m c 3 t) h = at1 (α := EReal) (n := 2) (m ((c.tc : Thread nD τ).loc main_arg3)) h := by
  rw [at1_of _ hh, at1_of _ hh]
  blk_ext [iblk, V, idx t]

/-- The scales of the values. -/
theorem iblk4 (c : Dev nD) (t : Fin cfg0.N) (h : ℕ) (hh : h < 2) :
    at1 (α := EReal) (n := 2) (iblk m c 4 t) h = at1 (α := EReal) (n := 2) (m ((c.tc : Thread nD τ).loc main_arg4)) h := by
  rw [at1_of _ hh, at1_of _ hh]
  blk_ext [iblk, V, idx t]

/-- The queries it leaves. -/
theorem q_result (c : Dev nD) : (dats m 0 c).arrAt 5 cfg0.N = fun y : S1536x2048.Idx =>
    query (m ((c.tc : Thread nD τ).loc main_arg0)) (m ((c.tc : Thread nD τ).loc main_arg1)) (m ((c.tc : Thread nD τ).loc main_arg2)) (y 0).val (y 1).val := by
  refine (dats m 0 c).arrAt_eq_of_covers 5 _ (by decide +kernel) fun t hf y => ?_
  have ht : t.val < 3 := t.isLt
  refine (congrFun (flushed5_A m c t) y).trans ?_
  have h0 : (y 0).val < 512 := (y 0).isLt
  have h1 : (y 1).val < 2048 := (y 1).isLt
  have e0 : (((cfg0.win 5).blk t).view.emb y 0).val = 512 * t.val + (y 0).val := by blk_simp [idx t]; omega
  have e1 : (((cfg0.win 5).blk t).view.emb y 1).val = (y 1).val := by blk_simp [idx t]
  rw [e0, e1]
  refine (q_read _ _ _ _ _ _ _ _ _ _ _ _ _ _ _ _ _ _ _ _ _ _ _ y).trans ?_
  unfold qBlk query
  rw [show (512 * t.val + (y 0).val) / 512 = t.val by omega, show (512 * t.val + (y 0).val) % 512 = (y 0).val by omega]
  exact rot_congr (by omega) (fun k hk => iblk0 m c t _ _ h0 (by omega)) (fun k hk => iblk1 m c t _ _ hk h0) (fun k hk => iblk2 m c t _ _ hk h0)

/-- The key codes it leaves. -/
theorem k_result (c : Dev nD) : (dats m 0 c).arrAt 6 cfg0.N = fun y : S3x2x512x128.Idx =>
    key (m ((c.tc : Thread nD τ).loc main_arg0)) (m ((c.tc : Thread nD τ).loc main_arg1)) (m ((c.tc : Thread nD τ).loc main_arg2))
      (m ((c.tc : Thread nD τ).loc main_arg3)) (y 0).val (y 1).val (y 2).val (y 3).val := by
  refine (dats m 0 c).arrAt_eq_of_covers 6 _ (by decide +kernel) fun t hf y => ?_
  have ht : t.val < 3 := t.isLt
  refine (congrFun (flushed6_A m c t) y).trans ?_
  have h0 : (y 0).val < 1 := (y 0).isLt
  have h1 : (y 1).val < 2 := (y 1).isLt
  have h2 : (y 2).val < 512 := (y 2).isLt
  have h3 : (y 3).val < 128 := (y 3).isLt
  have e0 : (((cfg0.win 6).blk t).view.emb y 0).val = t.val := by blk_simp [idx t]
  have e1 : (((cfg0.win 6).blk t).view.emb y 1).val = (y 1).val := by blk_simp [idx t]
  have e2 : (((cfg0.win 6).blk t).view.emb y 2).val = (y 2).val := by blk_simp [idx t]
  have e3 : (((cfg0.win 6).blk t).view.emb y 3).val = (y 3).val := by blk_simp [idx t]
  rw [e0, e1, e2, e3]
  refine (k_read _ _ _ _ _ _ _ _ _ _ _ _ _ _ _ _ _ _ _ _ _ _ _ y).trans ?_
  unfold kBlk key
  exact congrArg₂ code (rot_congr h3 (fun k hk => iblk0 m c t _ _ h2 (by omega)) (fun k hk => iblk1 m c t _ _ hk h2) (fun k hk => iblk2 m c t _ _ hk h2))
    (iblk3 m c t _ h1)

/-- The value codes it leaves. -/
theorem v_result (c : Dev nD) : (dats m 0 c).arrAt 7 cfg0.N = fun y : S3x2x512x128.Idx =>
    val (m ((c.tc : Thread nD τ).loc main_arg0)) (m ((c.tc : Thread nD τ).loc main_arg4)) (y 0).val (y 1).val (y 2).val (y 3).val := by
  refine (dats m 0 c).arrAt_eq_of_covers 7 _ (by decide +kernel) fun t hf y => ?_
  have ht : t.val < 3 := t.isLt
  refine (congrFun (flushed7_A m c t) y).trans ?_
  have h0 : (y 0).val < 1 := (y 0).isLt
  have h1 : (y 1).val < 2 := (y 1).isLt
  have h2 : (y 2).val < 512 := (y 2).isLt
  have h3 : (y 3).val < 128 := (y 3).isLt
  have e0 : (((cfg0.win 7).blk t).view.emb y 0).val = t.val := by blk_simp [idx t]
  have e1 : (((cfg0.win 7).blk t).view.emb y 1).val = (y 1).val := by blk_simp [idx t]
  have e2 : (((cfg0.win 7).blk t).view.emb y 2).val = (y 2).val := by blk_simp [idx t]
  have e3 : (((cfg0.win 7).blk t).view.emb y 3).val = (y 3).val := by blk_simp [idx t]
  rw [e0, e1, e2, e3]
  refine (v_read _ _ _ _ _ _ _ _ _ _ _ _ _ _ _ _ _ _ _ _ _ _ _ y).trans ?_
  unfold vBlk val
  exact congrArg₂ code (iblk0 m c t _ _ h2 (by omega)) (iblk4 m c t _ h1)

end Cert.RopeKvIdeal.RefValue

end
-- ==== Proof.RopeKvRefIdealOut.lean ====
/-
  The arrays that `RopeKvRefIdeal` leaves: the rotated queries and the codes of the rotated keys and of the values.
-/
module

public import proofs.«01_k».proof.Proof.Gen.RopeKvRefIdeal.Run
public import proofs.«01_k».proof.Proof.Rotary
public import Idealize.ShloMosaic.Lib.Claim

@[expose] public section

noncomputable section

namespace Cert.RopeKvRefIdeal.RefValue

open Cert.RopeKvRefIdeal Cert.RopeKvRefIdeal.Gen Cert.RopeKvRefIdeal.Value Cert.W4 Cert.Rotary
open Idealize.ShloMosaic Idealize.ShloMosaic.TcCoe Idealize.SL.Sem

/-- The projections as heads, at an element. -/
theorem heads_at (x0 : Vec Ideal S1536x2560 .f32) (b : Fin 3) (t : Fin 512) (h : Fin 20) (k : Fin 128) :
    shapeCast S3x512x20x128 x0 shapeCasts_S1536x2560_S3x512x20x128 (ix4 b t h k)
      = at2 (α := EReal) (m := 1536) (n := 2560) x0 (512 * b.val + t.val) (128 * h.val + k.val) := by
  have hb := b.isLt
  have ht := t.isLt
  have hh := h.isLt
  have hk := k.isLt
  rw [at2_of _ (by omega) (by omega)]
  refine congrArg x0 (Shape.reshapeEquiv_eq_of_rowMajor _ ?_)
  rw [Shape.rowMajor_val_two, Shape.rowMajor_val_four]
  show (512 * b.val + t.val) * 2560 + (128 * h.val + k.val) = ((b.val * 512 + t.val) * 20 + h.val) * 128 + k.val
  omega

/-- A row of angles laid out for every head, at an element. -/
theorem angle_at {H : ℕ} (x : FVec Ideal S3x512x64 .f32)
    (h1 : S3x512x1x64.BroadcastsInDim ⟨4, ![3, 512, H, 64]⟩ ![0, 1, 2, 3]) (b : Fin 3) (t : Fin 512) (h : Fin H) (k : Fin 64) :
    broadcastInDim ⟨4, ![3, 512, H, 64]⟩ ![0, 1, 2, 3] h1 (broadcastInDim S3x512x1x64 ![0, 1, 3] bcast_S3x512x64_S3x512x1x64_0_1_3 x) (ix4 b t h k)
      = at3 (α := EReal) (l := 3) (m := 512) (n := 64) x b.val t.val k.val := by
  rw [at3_of _ b.isLt t.isLt k.isLt]
  pointwise []

/-- Half a head, at an element. -/
theorem half_at {H : ℕ} (u : FVec Ideal ⟨4, ![3, 512, H, 128]⟩ .f32) (o : ℕ) (s : (⟨4, ![3, 512, H, 128]⟩ : Shape).Slices ![0, 0, 0, o] ⟨4, ![3, 512, H, 64]⟩)
    (b : Fin 3) (t : Fin 512) (h : Fin H) (d : Fin 64) (ho : o ≤ 64) (f : ℕ → EReal) (hf : ∀ k : Fin 128, u (ix4 b t h k) = f k.val) :
    extractStridedSlice ⟨4, ![3, 512, H, 64]⟩ ![0, 0, 0, o] u s (ix4 b t h d) = f (o + d.val) := by
  have hd := d.isLt
  refine (congrArg u (funext fun a => Fin.ext ?_ : _ = ix4 b t h (⟨o + d.val, by omega⟩ : Fin 128))).trans (hf _)
  match a with
  | ⟨0, _⟩ => exact Nat.zero_add _
  | ⟨1, _⟩ => exact Nat.zero_add _
  | ⟨2, _⟩ => exact Nat.zero_add _
  | ⟨3, _⟩ => rfl

/-- The heads of the reference rotated, as printed. -/
def rotHeads {H : ℕ} (u : FVec Ideal ⟨4, ![3, 512, H, 128]⟩ .f32) (x1 x2 : FVec Ideal S3x512x64 .f32)
    (s0 : (⟨4, ![3, 512, H, 128]⟩ : Shape).Slices ![0, 0, 0, 0] ⟨4, ![3, 512, H, 64]⟩)
    (s1 : (⟨4, ![3, 512, H, 128]⟩ : Shape).Slices ![0, 0, 0, 64] ⟨4, ![3, 512, H, 64]⟩)
    (h1 : S3x512x1x64.BroadcastsInDim ⟨4, ![3, 512, H, 64]⟩ ![0, 1, 2, 3])
    (hc : Shape.Concatenates [⟨4, ![3, 512, H, 64]⟩, ⟨4, ![3, 512, H, 64]⟩] ⟨4, ![3, 512, H, 128]⟩ 3) :
    FVec Ideal ⟨4, ![3, 512, H, 128]⟩ .f32 :=
  let c := broadcastInDim ⟨4, ![3, 512, H, 64]⟩ ![0, 1, 2, 3] h1 (broadcastInDim S3x512x1x64 ![0, 1, 3] bcast_S3x512x64_S3x512x1x64_0_1_3 x1)
  let s := broadcastInDim ⟨4, ![3, 512, H, 64]⟩ ![0, 1, 2, 3] h1 (broadcastInDim S3x512x1x64 ![0, 1, 3] bcast_S3x512x64_S3x512x1x64_0_1_3 x2)
  let u0 := extractStridedSlice ⟨4, ![3, 512, H, 64]⟩ ![0, 0, 0, 0] u s0
  let u1 := extractStridedSlice ⟨4, ![3, 512, H, 64]⟩ ![0, 0, 0, 64] u s1
  concatenate ⟨4, ![3, 512, H, 128]⟩ 3 [⟨⟨4, ![3, 512, H, 64]⟩, subf (mulf u0 c) (mulf u1 s)⟩, ⟨⟨4, ![3, 512, H, 64]⟩, addf (mulf u1 c) (mulf u0 s)⟩] hc

/-- An element of them. -/
theorem rotHeads_at {H : ℕ} (u : FVec Ideal ⟨4, ![3, 512, H, 128]⟩ .f32) (x1 x2 : FVec Ideal S3x512x64 .f32) (s0 s1 h1 hc)
    (b : Fin 3) (t : Fin 512) (h : Fin H) (k : Fin 128) (f : ℕ → EReal) (hf : ∀ k : Fin 128, u (ix4 b t h k) = f k.val) :
    rotHeads u x1 x2 s0 s1 h1 hc (ix4 b t h k)
      = rot f (at3 (α := EReal) (l := 3) (m := 512) (n := 64) x1 b.val t.val) (at3 (α := EReal) (l := 3) (m := 512) (n := 64) x2 b.val t.val) k.val := by
  unfold rot rotHeads
  have hk := k.isLt
  split
  · rename_i hlt
    refine (concatenate_pair_apply_left 3 _ _ hc (ix4 b t h k) rfl (ix4 b t h (⟨k.val, hlt⟩ : Fin 64)) fun a => ?_).trans ?_
    · match a with
      | ⟨0, _⟩ => rfl
      | ⟨1, _⟩ => rfl
      | ⟨2, _⟩ => rfl
      | ⟨3, _⟩ => rfl
    refine congrArg₂ (fun a b : EReal => a - b) (congrArg₂ (fun a b : EReal => a * b) ?_ (angle_at x1 h1 b t h _)) (congrArg₂ (fun a b : EReal => a * b) ?_ (angle_at x2 h1 b t h _))
    · exact (half_at u 0 s0 b t h _ (by omega) f hf).trans (by rw [Nat.zero_add])
    · exact (half_at u 64 s1 b t h _ (by omega) f hf).trans (by rw [Nat.add_comm])
  · rename_i hlt
    refine (concatenate_pair_apply_right 3 _ _ hc (ix4 b t h k) rfl rfl (ix4 b t h (⟨k.val - 64, by omega⟩ : Fin 64)) (fun a ha => ?_) ?_).trans ?_
    · match a with
      | ⟨0, _⟩ => rfl
      | ⟨1, _⟩ => rfl
      | ⟨2, _⟩ => rfl
      | ⟨3, _⟩ => exact absurd rfl ha
    · show k.val - 64 + 64 = k.val
      omega
    refine congrArg₂ (fun a b : EReal => a + b) (congrArg₂ (fun a b : EReal => a * b) ?_ (angle_at x1 h1 b t h _)) (congrArg₂ (fun a b : EReal => a * b) ?_ (angle_at x2 h1 b t h _))
    · exact (half_at u 64 s1 b t h _ (by omega) f hf).trans (congrArg f (by dsimp only; omega))
    · exact (half_at u 0 s0 b t h _ (by omega) f hf).trans (by rw [Nat.zero_add])

/-- The queries the reference computes. -/
theorem q_value (x0 : Vec Ideal S1536x2560 .f32) (x1 x2 : Vec Ideal S3x512x64 .f32) (y : S1536x2048.Idx) :
    (shapeCast S1536x2048 (truncf .bf16 (rotHeads (H := 16) (extractStridedSlice S3x512x16x128 ![0, 0, 0, 0] (shapeCast _ x0 shapeCasts_S1536x2560_S3x512x20x128) slices_S3x512x20x128_S3x512x16x128_0_0_0_0) x1 x2
      slices_S3x512x16x128_S3x512x16x64_0_0_0_0 slices_S3x512x16x128_S3x512x16x64_0_0_0_64 bcast_S3x512x1x64_S3x512x16x64_0_1_2_3 concatenates_S3x512x16x64_S3x512x16x64_S3x512x16x128_d3) bitsLt_bf16_f32) shapeCasts_S3x512x16x128_S1536x2048
      : Vec Ideal S1536x2048 .bf16) y = query x0 x1 x2 (y 0).val (y 1).val := by
  have h0 : (y 0).val < 1536 := (y 0).isLt
  have h1 : (y 1).val < 2048 := (y 1).isLt
  refine (congrArg _ (Shape.reshapeEquiv_eq_of_rowMajor (y := ix4 (⟨(y 0).val / 512, by omega⟩ : Fin 3) (⟨(y 0).val % 512, by omega⟩ : Fin 512)
    (⟨(y 1).val / 128, by omega⟩ : Fin 16) (⟨(y 1).val % 128, by omega⟩ : Fin 128)) _ ?_)).trans ?_
  · rw [Shape.rowMajor_val_two, Shape.rowMajor_val_four]
    show (((y 0).val / 512 * 512 + (y 0).val % 512) * 16 + (y 1).val / 128) * 128 + (y 1).val % 128 = (y 0).val * 2048 + (y 1).val
    omega
  refine (rotHeads_at (H := 16) _ x1 x2 slices_S3x512x16x128_S3x512x16x64_0_0_0_0 slices_S3x512x16x128_S3x512x16x64_0_0_0_64 bcast_S3x512x1x64_S3x512x16x64_0_1_2_3
    concatenates_S3x512x16x64_S3x512x16x64_S3x512x16x128_d3 _ _ _ _ (fun k => at2 (α := EReal) (m := 1536) (n := 2560) x0 (y 0).val (128 * ((y 1).val / 128) + k)) fun k => ?_)
  pointwise []
  rw [at2_of _ h0 (by omega)]
  refine congrArg x0 (congrArg₂ ix2 (Fin.ext ?_) (Fin.ext ?_))
  · dsimp only
  · dsimp only
    omega

/-- Codes under one scale per head, as printed. -/
def codes (u : FVec Ideal S3x512x2x128 .f32) (x : FVec Ideal S2 .f32) : FVec Ideal S3x2x512x128 .fp8e4m3 :=
  transpose S3x2x512x128 [0, 2, 1, 3] (Host.convertf .fp8e4m3 (minimumf (broadcastInDim S3x512x2x128 ![] bcast_S_S3x512x2x128 (id (constant S_ .f32 0x43E00000#32))) (maximumf (broadcastInDim S3x512x2x128 ![] bcast_S_S3x512x2x128 (id (constant S_ .f32 0xC3E00000#32))) (Host.divf u (broadcastInDim S3x512x2x128 ![0, 1, 2, 3] bcast_S1x1x2x1_S3x512x2x128_0_1_2_3 (broadcastInDim S1x1x2x1 ![2, 3] bcast_S2x1_S1x1x2x1_2_3 (broadcastInDim S2x1 ![0] bcast_S2_S2x1_0 x))))))) transposes_S3x512x2x128_S3x2x512x128_0_2_1_3

/-- An element of them. -/
theorem codes_at (u x) (b : Fin 3) (h : Fin 2) (t : Fin 512) (k : Fin 128) :
    codes u x (ix4 b h t k) = code (u (ix4 b t h k)) (at1 (α := EReal) (n := 2) x h.val) := by
  rw [at1_of _ h.isLt]
  pointwise [codes]
  rfl

/-- The key codes the reference computes. -/
theorem k_value (x0 : Vec Ideal S1536x2560 .f32) (x1 x2 : Vec Ideal S3x512x64 .f32) (x3 : Vec Ideal S2 .f32) (y : S3x2x512x128.Idx) :
    codes (rotHeads (H := 2) (extractStridedSlice S3x512x2x128 ![0, 0, 16, 0] (shapeCast _ x0 shapeCasts_S1536x2560_S3x512x20x128) slices_S3x512x20x128_S3x512x2x128_0_0_16_0) x1 x2
      slices_S3x512x2x128_S3x512x2x64_0_0_0_0 slices_S3x512x2x128_S3x512x2x64_0_0_0_64 bcast_S3x512x1x64_S3x512x2x64_0_1_2_3 concatenates_S3x512x2x64_S3x512x2x64_S3x512x2x128_d3) x3 y
      = key x0 x1 x2 x3 (y 0).val (y 1).val (y 2).val (y 3).val := by
  refine (congrArg _ (eq_ix4 y)).trans ((codes_at _ _ (y 0) (y 1) (y 2) (y 3)).trans ?_)
  refine congrArg (code · _) (rotHeads_at (H := 2) _ x1 x2 _ _ _ _ (y 0) (y 2) (y 1) (y 3) (fun k => at2 (α := EReal) (m := 1536) (n := 2560) x0 (512 * (y 0).val + (y 2).val) (2048 + 128 * (y 1).val + k)) fun k => ?_)
  pointwise []
  have h0 : (y 0).val < 3 := (y 0).isLt
  have h1 : (y 1).val < 2 := (y 1).isLt
  have h2 : (y 2).val < 512 := (y 2).isLt
  rw [at2_of _ (by omega) (by omega)]
  refine congrArg x0 (congrArg₂ ix2 (Fin.ext ?_) (Fin.ext ?_))
  · dsimp only
    omega
  · dsimp only
    omega

/-- The value codes the reference computes. -/
theorem v_value (x0 : Vec Ideal S1536x2560 .f32) (x4 : Vec Ideal S2 .f32) (y : S3x2x512x128.Idx) :
    codes (extractStridedSlice S3x512x2x128 ![0, 0, 18, 0] (shapeCast _ x0 shapeCasts_S1536x2560_S3x512x20x128) slices_S3x512x20x128_S3x512x2x128_0_0_18_0) x4 y
      = val x0 x4 (y 0).val (y 1).val (y 2).val (y 3).val := by
  refine (congrArg _ (eq_ix4 y)).trans ((codes_at _ _ (y 0) (y 1) (y 2) (y 3)).trans ?_)
  refine congrArg (code · _) ?_
  pointwise []
  have h0 : (y 0).val < 3 := (y 0).isLt
  have h1 : (y 1).val < 2 := (y 1).isLt
  have h2 : (y 2).val < 512 := (y 2).isLt
  have h3 : (y 3).val < 128 := (y 3).isLt
  rw [at2_of _ (by omega) (by omega)]
  refine congrArg x0 (congrArg₂ ix2 (Fin.ext ?_) (Fin.ext ?_))
  · dsimp only
    omega
  · dsimp only
    omega

variable (m : (ℓ : Loc nD τ sig) → Buf (Elt Ideal) ℓ) (ρ : Dev nD → PrngReg)

/-- The reference's run, its results as functions of the arguments. -/
theorem run_value : θ_run defs (onTc (τ := τ) (main (F := Ideal))) ⟨m, fun _ => 0, ρ⟩ fun r => ∀ c : Dev nD,
    r.2.mem ((c.tc : Thread nD τ).loc main_v35) = (fun y : S1536x2048.Idx =>
        query (m ((c.tc : Thread nD τ).loc main_arg0)) (m ((c.tc : Thread nD τ).loc main_arg1)) (m ((c.tc : Thread nD τ).loc main_arg2)) (y 0).val (y 1).val)
      ∧ r.2.mem ((c.tc : Thread nD τ).loc main_v42) = (fun y : S3x2x512x128.Idx =>
        key (m ((c.tc : Thread nD τ).loc main_arg0)) (m ((c.tc : Thread nD τ).loc main_arg1)) (m ((c.tc : Thread nD τ).loc main_arg2))
          (m ((c.tc : Thread nD τ).loc main_arg3)) (y 0).val (y 1).val (y 2).val (y 3).val)
      ∧ r.2.mem ((c.tc : Thread nD τ).loc main_v49) = (fun y : S3x2x512x128.Idx =>
        val (m ((c.tc : Thread nD τ).loc main_arg0)) (m ((c.tc : Thread nD τ).loc main_arg4)) (y 0).val (y 1).val (y 2).val (y 3).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨(h c).1.trans (funext fun y => q_value _ _ _ y), (h c).2.1.trans (funext fun y => k_value _ _ _ _ y),
    (h c).2.2.1.trans (funext fun y => v_value _ _ y), (h c).2.2.2⟩) (run m ρ)

/-- The reference declares no counters, so any two settings of them are the same. -/
theorem sem_eq (f g : GSem nD τ sig → Int) : f = g := by
  funext x
  obtain ⟨_, b⟩ := x
  cases b with
  | reg s => exact Fin.elim0 s
  | dma s => exact Fin.elim0 s

/-- The frame of the reference: its arguments are kept and every counter reads zero. -/
theorem frame : θ_run defs (onTc (τ := τ) (main (F := Ideal))) ⟨m, fun _ => 0, ρ⟩ fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run _ _ _).mono (fun _ h => ⟨fun c => (h c).2.2.2, sem_eq _ _⟩) (run m ρ)

end Cert.RopeKvRefIdeal.RefValue

end
-- ==== Proof.RopeKvClaim.lean ====
/-
  `RopeKv`: the kernel and the reference leave the same queries and the same codes of keys and values.
-/
module

public import proofs.«01_k».proof.Defs
public import proofs.«01_k».proof.Proof.RopeKvIdealOut
public import proofs.«01_k».proof.Proof.RopeKvRefIdealOut

@[expose] public section

noncomputable section

namespace Cert.RopeKvClaim

open Idealize.ShloMosaic Idealize.SL.Sem

/-- From memories that agree on the arguments, kernel and reference both run, end with the same results and keep their
    arguments. -/
theorem algebraic : Cert.algebraic_RopeKvIdeal_RopeKvRefIdeal (hRopeKvIdeal := Cert.RopeKvIdeal.Gen.facts)
    (hRopeKvRefIdeal := Cert.RopeKvRefIdeal.Gen.facts) := by
  intro m ρ m' ρ' _ hagree
  refine ⟨fun c => _, fun c => _, fun c => _, Cert.RopeKvIdeal.Value.run_blocks m ρ, ?_⟩
  refine (θ_run _ _ _).mono (fun _ h c => ⟨(h c).1.trans ?_, (h c).2.1.trans ?_, (h c).2.2.1.trans ?_, (h c).2.2.2⟩)
    (Cert.RopeKvRefIdeal.RefValue.run_value m' ρ')
  · obtain ⟨h0, h1, h2, h3, h4⟩ := hagree c
    refine Eq.trans ?_ (Cert.RopeKvIdeal.RefValue.q_result m c).symm
    funext y
    rw [h0, h1, h2]
  · obtain ⟨h0, h1, h2, h3, h4⟩ := hagree c
    refine Eq.trans ?_ (Cert.RopeKvIdeal.RefValue.k_result m c).symm
    funext y
    rw [h0, h1, h2, h3]
  · obtain ⟨h0, h1, h2, h3, h4⟩ := hagree c
    refine Eq.trans ?_ (Cert.RopeKvIdeal.RefValue.v_result m c).symm
    funext y
    rw [h0, h4]

end Cert.RopeKvClaim

end
-- ==== Proof.lean ====
module

public import proofs.«01_k».proof.Defs
public import proofs.«01_k».proof.Proof.AttnPre
public import proofs.«01_k».proof.Proof.Gen.AttnRefIdeal.Value
public import proofs.«01_k».proof.Proof.GateUpFrame
public import proofs.«01_k».proof.Proof.GateUpClaim
public import proofs.«01_k».proof.Proof.DownFrame
public import proofs.«01_k».proof.Proof.DownClaim
public import proofs.«01_k».proof.Proof.OProjFrame
public import proofs.«01_k».proof.Proof.OProjClaim
public import proofs.«01_k».proof.Proof.QkvFrame
public import proofs.«01_k».proof.Proof.QkvClaim
public import proofs.«01_k».proof.Proof.Gen.Norm1.Frame
public import proofs.«01_k».proof.Proof.Norm1Claim
public import proofs.«01_k».proof.Proof.Gen.Norm2.Frame
public import proofs.«01_k».proof.Proof.Norm2Claim
public import proofs.«01_k».proof.Proof.Gen.QuantAttn.Frame
public import proofs.«01_k».proof.Proof.QuantAttnClaim
public import proofs.«01_k».proof.Proof.Gen.QuantAct.Frame
public import proofs.«01_k».proof.Proof.QuantActClaim
public import proofs.«01_k».proof.Proof.Gen.RopeKv.Frame
public import proofs.«01_k».proof.Proof.RopeKvClaim

@[expose] public section

noncomputable section

namespace Cert.Proof

open Idealize.ShloMosaic Idealize.SL.Sem

/-- Every claim. -/
theorem claim : Cert.Claim := ⟨Cert.GateUp.Gen.facts, Cert.GateUpIdeal.Gen.facts, Cert.GateUpRefIdeal.Gen.facts,
  Cert.Down.Gen.facts, Cert.DownIdeal.Gen.facts, Cert.DownRefIdeal.Gen.facts,
  Cert.OProj.Gen.facts, Cert.OProjIdeal.Gen.facts, Cert.OProjRefIdeal.Gen.facts,
  Cert.Qkv.Gen.facts, Cert.QkvIdeal.Gen.facts, Cert.QkvRefIdeal.Gen.facts,
  Cert.Norm1.Gen.facts, Cert.Norm1Ideal.Gen.facts, Cert.Norm1RefIdeal.Gen.facts,
  Cert.Norm2.Gen.facts, Cert.Norm2Ideal.Gen.facts, Cert.Norm2RefIdeal.Gen.facts,
  Cert.QuantAttn.Gen.facts, Cert.QuantAttnIdeal.Gen.facts, Cert.QuantAttnRefIdeal.Gen.facts,
  Cert.QuantAct.Gen.facts, Cert.QuantActIdeal.Gen.facts, Cert.QuantActRefIdeal.Gen.facts,
  Cert.RopeKv.Gen.facts, Cert.RopeKvIdeal.Gen.facts, Cert.RopeKvRefIdeal.Gen.facts,
  Cert.Attn.Gen.facts, Cert.AttnIdeal.Gen.facts, Cert.AttnRefIdeal.Gen.facts, Cert.AttnIdeal.Pre.facts,
  Cert.GateUpFrame.frame,
  fun m ρ _ => Cert.GateUpIdeal.Gen.frame m ρ,
  fun m ρ _ => Cert.GateUpRefIdeal.Gen.frame m ρ,
  Cert.DownFrame.frame,
  fun m ρ _ => Cert.DownIdeal.Gen.frame m ρ,
  fun m ρ _ => Cert.DownRefIdeal.Gen.frame m ρ,
  Cert.OProjFrame.frame,
  fun m ρ _ => Cert.OProjIdeal.Gen.frame m ρ,
  fun m ρ _ => Cert.OProjRefIdeal.Gen.frame m ρ,
  Cert.QkvFrame.frame,
  fun m ρ _ => Cert.QkvIdeal.Gen.frame m ρ,
  fun m ρ _ => Cert.QkvRefIdeal.Gen.frame m ρ,
  fun m ρ _ => Cert.Norm1.Gen.frame m ρ,
  fun m ρ _ => Cert.Norm1Ideal.Gen.frame m ρ,
  fun m ρ _ => Cert.Norm1RefIdeal.Gen.frame m ρ,
  fun m ρ _ => Cert.Norm2.Gen.frame m ρ,
  fun m ρ _ => Cert.Norm2Ideal.Gen.frame m ρ,
  fun m ρ _ => Cert.Norm2RefIdeal.Gen.frame m ρ,
  fun m ρ _ => Cert.QuantAttn.Gen.frame m ρ,
  fun m ρ _ => Cert.QuantAttnIdeal.Gen.frame m ρ,
  fun m ρ _ => Cert.QuantAttnRefIdeal.Gen.frame m ρ,
  fun m ρ _ => Cert.QuantAct.Gen.frame m ρ,
  fun m ρ _ => Cert.QuantActIdeal.Gen.frame m ρ,
  fun m ρ _ => Cert.QuantActRefIdeal.Gen.frame m ρ,
  fun m ρ _ => Cert.RopeKv.Gen.frame m ρ,
  fun m ρ _ => Cert.RopeKvIdeal.Gen.frame m ρ,
  fun m ρ _ => Cert.RopeKvRefIdeal.RefValue.frame m ρ,
  fun m ρ h => haveI := Cert.AttnIdeal.Pre.facts; Cert.Attn.Gen.frame m ρ (Cert.AttnIdeal.Pre.ok_bits m) (Cert.AttnIdeal.Pre.hyps_bits m h),
  fun m ρ h => haveI := Cert.AttnIdeal.Pre.facts; Cert.AttnIdeal.Gen.frame m ρ (Cert.AttnIdeal.Pre.ok m) (Cert.AttnIdeal.Pre.hyps m h),
  fun m ρ _ => Cert.AttnRefIdeal.Gen.frame m ρ,
  trivial, Cert.GateUpClaim.algebraic,
  trivial, Cert.DownClaim.algebraic,
  trivial, Cert.OProjClaim.algebraic,
  trivial, Cert.QkvClaim.algebraic,
  trivial, Cert.Norm1Claim.algebraic,
  trivial, Cert.Norm2Claim.algebraic,
  trivial, Cert.QuantAttnClaim.algebraic,
  trivial, Cert.QuantActClaim.algebraic,
  trivial, Cert.RopeKvClaim.algebraic,
  trivial⟩

end Cert.Proof

end
